-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "qscale" .f32 0x3E0293EE#32 ((((Real.sqrt 128) * (Real.log 2))⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_logits.lean ====
abbrev S8192x1024 : Shape := ⟨2, ![8192, 1024]⟩
abbrev S8x8192 : Shape := ⟨2, ![8, 8192]⟩
abbrev S8192x7168 : Shape := ⟨2, ![8192, 7168]⟩
abbrev S_ : Shape := ⟨0, ![]⟩

class Facts : Prop where
  bcast_S_S8192x1024 : S_.BroadcastsInDim S8192x1024 (![] : Fin 0 → Fin S8192x1024.rank)
  bcast_S_S8x8192 : S_.BroadcastsInDim S8x8192 (![] : Fin 0 → Fin S8x8192.rank)

variable [Facts]

def fn {F : FTy → Type} [FloatOps F] (main_arg0 : FVec F S8192x1024 .f32) (main_arg1 : FVec F S8192x1024 .f32) (main_arg2 : FVec F S8192x1024 .f32) (main_arg3 : FVec F S8x8192 .f32) (main_arg4 : FVec F S8192x7168 .f32) : IVec S8192x1024 1 × IVec S8192x1024 1 × IVec S8x8192 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8x8192 .f32 := Host.absf main_arg3
  let main_cst_1 : FVec F S_ .f32 := constant S_ .f32 0x7F800000#32
  let main_v7 : FVec F S8x8192 .f32 := broadcastInDim S8x8192 ![] bcast_S_S8x8192 main_cst_1
  let main_v8 : IVec S8x8192 1 := cmpf .olt main_v6 main_v7
  (main_v2, main_v5, main_v8)
-- ==== Kernel.lean ====
abbrev S8192x1024 : Shape := ⟨2, ![8192, 1024]⟩
abbrev S8x8192 : Shape := ⟨2, ![8, 8192]⟩
abbrev S8192x7168 : Shape := ⟨2, ![8192, 7168]⟩
abbrev S2x80 : Shape := ⟨2, ![2, 80]⟩
abbrev S_ : Shape := ⟨0, ![]⟩
abbrev S8192x3072 : Shape := ⟨2, ![8192, 3072]⟩
abbrev S8x1x8192 : Shape := ⟨3, ![8, 1, 8192]⟩
abbrev S1x1x8192 : Shape := ⟨3, ![1, 1, 8192]⟩
abbrev S8192x128 : Shape := ⟨2, ![8192, 128]⟩
abbrev S8192x256 : Shape := ⟨2, ![8192, 256]⟩
abbrev S128x8192 : Shape := ⟨2, ![128, 8192]⟩
abbrev S512x1024 : Shape := ⟨2, ![512, 1024]⟩
abbrev S512x1 : Shape := ⟨2, ![512, 1]⟩
abbrev S8192x1 : Shape := ⟨2, ![8192, 1]⟩
abbrev S512x128 : Shape := ⟨2, ![512, 128]⟩
abbrev S128x512 : Shape := ⟨2, ![128, 512]⟩
abbrev S1x1x512 : Shape := ⟨3, ![1, 1, 512]⟩
abbrev S1x512 : Shape := ⟨2, ![1, 512]⟩
abbrev S8x512 : Shape := ⟨2, ![8, 512]⟩
abbrev S512x8 : Shape := ⟨2, ![512, 8]⟩
abbrev S1x1 : Shape := ⟨2, ![1, 1]⟩
abbrev S512x512 : Shape := ⟨2, ![512, 512]⟩
abbrev S32x512 : Shape := ⟨2, ![32, 512]⟩
abbrev S32x1 : Shape := ⟨2, ![32, 1]⟩
abbrev S32 : Shape := ⟨1, ![32]⟩
abbrev S512x256 : Shape := ⟨2, ![512, 256]⟩
abbrev S128x1024 : Shape := ⟨2, ![128, 1024]⟩
abbrev S1x1x1024 : Shape := ⟨3, ![1, 1, 1024]⟩
abbrev S1x1024 : Shape := ⟨2, ![1, 1024]⟩
abbrev S32x1024 : Shape := ⟨2, ![32, 1024]⟩
abbrev S1024x256 : Shape := ⟨2, ![1024, 256]⟩

abbrev nBuf : Space → Nat
  | .hbm => 16
  | .vmem => 19
  | .smem => 1
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x8192, .f32⟩
  | .hbm, ⟨4, _⟩ => ⟨S8192x7168, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x3072, .f32⟩
  | .hbm, ⟨13, _⟩ => ⟨S8192x3072, .bf16⟩
  | .hbm, ⟨14, _⟩ => ⟨S8x1x8192, .f32⟩
  | .hbm, ⟨15, _⟩ => ⟨S8192x1024, .bf16⟩
  | .local _ .vmem, ⟨0, _⟩ => ⟨S1x1x8192, .f32⟩
  | .local _ .vmem, ⟨1, _⟩ => ⟨S1x1x8192, .f32⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .f32⟩
  | .local _ .vmem, ⟨6, _⟩ => ⟨S8192x128, .bf16⟩
  | .local _ .vmem, ⟨7, _⟩ => ⟨S8192x128, .bf16⟩
  | .local _ .vmem, ⟨8, _⟩ => ⟨S8192x256, .bf16⟩
  | .local _ .vmem, ⟨9, _⟩ => ⟨S128x8192, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1, .f32⟩
  | .local _ .vmem, ⟨15, _⟩ => ⟨S512x1, .f32⟩
  | .local _ .vmem, ⟨16, _⟩ => ⟨S8192x256, .f32⟩
  | .local _ .vmem, ⟨17, _⟩ => ⟨S8192x1, .f32⟩
  | .local _ .vmem, ⟨18, _⟩ => ⟨S8192x1, .f32⟩
  | .local _ .smem, ⟨0, _⟩ => ⟨S2x80, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_mult1 (v312 : BitVec 32) : BitVec 32 :=
  let c512_i32 : BitVec 32 := 512#32
  let v313 : BitVec 32 := Scalar.muli v312 c512_i32
  v313

def k0_mult2 (v315 : BitVec 32) : BitVec 32 :=
  let c512_i32_151 : BitVec 32 := 512#32
  let v316 : BitVec 32 := Scalar.muli v315 c512_i32_151
  v316

def k0_off1 (v312 : BitVec 32) : Fin 2 → Nat :=
  let c512_i32 : BitVec 32 := 512#32
  let v313 : BitVec 32 := Scalar.muli v312 c512_i32
  let v314 : BitVec 32 := v313
  let v318 : Index := Scalar.indexCast v314
  let c0_152 : Index := 0#32
  ![v318.toNat, 0]

def k0_chk1 (v312 : BitVec 32) : Prop :=
  (512 ∣ (k0_mult1 v312).toNat) ∧
  (∀ a, (k0_off1 v312) a + S512x128.size a ≤ S8192x128.size a)
theorem k0_mult1_dvd : ∀ (v312 : BitVec 32) (k0_hw1 : k0_chk1 v312), 512 ∣ (k0_mult1 v312).toNat := fun v312 k0_hw1 => k0_hw1.1
theorem k0_off1_inb : ∀ (v312 : BitVec 32) (k0_hw1 : k0_chk1 v312), ∀ a, (k0_off1 v312) a + S512x128.size a ≤ S8192x128.size a := fun v312 k0_hw1 => k0_hw1.2

def k0_off2 (v315 : BitVec 32) : Fin 2 → Nat :=
  let c0_153 : Index := 0#32
  let c512_i32_151 : BitVec 32 := 512#32
  let v316 : BitVec 32 := Scalar.muli v315 c512_i32_151
  let v317 : BitVec 32 := v316
  let v321 : Index := Scalar.indexCast v317
  ![0, v321.toNat]

def k0_chk2 (v315 : BitVec 32) : Prop :=
  (512 ∣ (k0_mult2 v315).toNat) ∧
  (∀ a, (k0_off2 v315) a + S128x512.size a ≤ S128x8192.size a)
theorem k0_mult2_dvd : ∀ (v315 : BitVec 32) (k0_hw2 : k0_chk2 v315), 512 ∣ (k0_mult2 v315).toNat := fun v315 k0_hw2 => k0_hw2.1
theorem k0_off2_inb : ∀ (v315 : BitVec 32) (k0_hw2 : k0_chk2 v315), ∀ a, (k0_off2 v315) a + S128x512.size a ≤ S128x8192.size a := fun v315 k0_hw2 => k0_hw2.2

def k0_mult3 (v327 : BitVec 32) : BitVec 32 :=
  let c512_i32_159 : BitVec 32 := 512#32
  let v328 : BitVec 32 := Scalar.muli v327 c512_i32_159
  v328

def k0_mult4 (v330 : BitVec 32) : BitVec 32 :=
  let c512_i32_162 : BitVec 32 := 512#32
  let v331 : BitVec 32 := Scalar.muli v330 c512_i32_162
  v331

def k0_off3 (v330 : BitVec 32) : Fin 3 → Nat :=
  let c0_163 : Index := 0#32
  let c0_164 : Index := 0#32
  let c512_i32_162 : BitVec 32 := 512#32
  let v331 : BitVec 32 := Scalar.muli v330 c512_i32_162
  let v332 : BitVec 32 := v331
  let v333 : Index := Scalar.indexCast v332
  ![0, 0, v333.toNat]

def k0_chk4 (v330 : BitVec 32) : Prop :=
  (512 ∣ (k0_mult4 v330).toNat) ∧
  (∀ a, (k0_off3 v330) a + S1x1x512.size a ≤ S1x1x8192.size a)
theorem k0_mult4_dvd : ∀ (v330 : BitVec 32) (k0_hw4 : k0_chk4 v330), 512 ∣ (k0_mult4 v330).toNat := fun v330 k0_hw4 => k0_hw4.1
theorem k0_off3_inb : ∀ (v330 : BitVec 32) (k0_hw4 : k0_chk4 v330), ∀ a, (k0_off3 v330) a + S1x1x512.size a ≤ S1x1x8192.size a := fun v330 k0_hw4 => k0_hw4.2

def k0_off4 (v327 : BitVec 32) (c0_i32_166 : BitVec 32) : Fin 2 → Nat :=
  let c512_i32_159 : BitVec 32 := 512#32
  let v328 : BitVec 32 := Scalar.muli v327 c512_i32_159
  let v329 : BitVec 32 := v328
  let v338 : BitVec 32 := Scalar.addi v329 c0_i32_166
  let v349 : Index := Scalar.indexCast v338
  let c0_171 : Index := 0#32
  ![v349.toNat, 0]

def k0_chk3 (v327 : BitVec 32) : Prop :=
  (512 ∣ (k0_mult3 v327).toNat) ∧
  (∀ (r : Fin 16), ∀ a, (k0_off4 v327 (BitVec.ofNat 32 (32 * r.val))) a + S32x1.size a ≤ S8192x1.size a)
theorem k0_mult3_dvd : ∀ (v327 : BitVec 32) (k0_hw3 : k0_chk3 v327), 512 ∣ (k0_mult3 v327).toNat := fun v327 k0_hw3 => k0_hw3.1
theorem k0_off4_inb : ∀ (v327 : BitVec 32) (k0_hw3 : k0_chk3 v327), ∀ (r : Fin 16), ∀ a, (k0_off4 v327 (BitVec.ofNat 32 (32 * r.val))) a + S32x1.size a ≤ S8192x1.size a := fun v327 k0_hw3 r => k0_hw3.2 r

def k0_off5 : Fin 2 → Nat :=
  let c0_296 : Index := 0#32
  let c1_i32 : BitVec 32 := 1#32
  let c15_i32 : BitVec 32 := 15#32
  let v786 : BitVec 32 := Scalar.minsi c1_i32 c15_i32
  let v787 : Index := Scalar.indexCast v786
  ![0, v787.toNat]
def k0_mult5 (v788 : BitVec 32) : BitVec 32 :=
  let c512_i32_297 : BitVec 32 := 512#32
  let v789 : BitVec 32 := Scalar.muli v788 c512_i32_297
  v789

def k0_off6 : Fin 2 → Nat :=
  let c1_298 : Index := 1#32
  let c1_i32 : BitVec 32 := 1#32
  let c15_i32 : BitVec 32 := 15#32
  let v786 : BitVec 32 := Scalar.minsi c1_i32 c15_i32
  let v791 : Index := Scalar.indexCast v786
  ![1, v791.toNat]
def k0_mult6 (v792 : BitVec 32) : BitVec 32 :=
  let c512_i32_299 : BitVec 32 := 512#32
  let v793 : BitVec 32 := Scalar.muli v792 c512_i32_299
  v793

def k0_off7 (v788 : BitVec 32) : Fin 2 → Nat :=
  let c512_i32_297 : BitVec 32 := 512#32
  let v789 : BitVec 32 := Scalar.muli v788 c512_i32_297
  let v790 : BitVec 32 := v789
  let v795 : Index := Scalar.indexCast v790
  let c0_300 : Index := 0#32
  ![v795.toNat, 0]

def k0_chk5 (v788 : BitVec 32) : Prop :=
  (512 ∣ (k0_mult5 v788).toNat) ∧
  (∀ a, (k0_off7 v788) a + S512x128.size a ≤ S8192x128.size a)
theorem k0_mult5_dvd : ∀ (v788 : BitVec 32) (k0_hw5 : k0_chk5 v788), 512 ∣ (k0_mult5 v788).toNat := fun v788 k0_hw5 => k0_hw5.1
theorem k0_off7_inb : ∀ (v788 : BitVec 32) (k0_hw5 : k0_chk5 v788), ∀ a, (k0_off7 v788) a + S512x128.size a ≤ S8192x128.size a := fun v788 k0_hw5 => k0_hw5.2

def k0_off8 (v792 : BitVec 32) : Fin 2 → Nat :=
  let c0_301 : Index := 0#32
  let c512_i32_299 : BitVec 32 := 512#32
  let v793 : BitVec 32 := Scalar.muli v792 c512_i32_299
  let v794 : BitVec 32 := v793
  let v798 : Index := Scalar.indexCast v794
  ![0, v798.toNat]

def k0_chk6 (v792 : BitVec 32) : Prop :=
  (512 ∣ (k0_mult6 v792).toNat) ∧
  (∀ a, (k0_off8 v792) a + S128x512.size a ≤ S128x8192.size a)
theorem k0_mult6_dvd : ∀ (v792 : BitVec 32) (k0_hw6 : k0_chk6 v792), 512 ∣ (k0_mult6 v792).toNat := fun v792 k0_hw6 => k0_hw6.1
theorem k0_off8_inb : ∀ (v792 : BitVec 32) (k0_hw6 : k0_chk6 v792), ∀ a, (k0_off8 v792) a + S128x512.size a ≤ S128x8192.size a := fun v792 k0_hw6 => k0_hw6.2

@[reducible] def k0_t1_loop : Scf.Loop 32 :=
  let c0_i32_305 : BitVec 32 := 0#32
  let c3_i32 : BitVec 32 := 3#32
  let v804 : BitVec 32 := Scalar.addi c0_i32_305 c3_i32
  let c1_i32_306 : BitVec 32 := 1#32
  ⟨c0_i32_305, v804, c1_i32_306⟩
def k0_off9 (k0_t1 : Fin k0_t1_loop.trips) : Fin 2 → Nat :=
  let c0_3399 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c0_i32_3398 : BitVec 32 := 0#32
  let v8463 : BitVec 32 := Scalar.addi v8462 c0_i32_3398
  let v8464 : Index := Scalar.indexCast v8463
  ![0, v8464.toNat]
def k0_mult7 (v8465 : BitVec 32) : BitVec 32 :=
  let c512_i32_3400 : BitVec 32 := 512#32
  let v8466 : BitVec 32 := Scalar.muli v8465 c512_i32_3400
  v8466

def k0_off10 (k0_t1 : Fin k0_t1_loop.trips) : Fin 2 → Nat :=
  let c1_3401 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c0_i32_3398 : BitVec 32 := 0#32
  let v8463 : BitVec 32 := Scalar.addi v8462 c0_i32_3398
  let v8468 : Index := Scalar.indexCast v8463
  ![1, v8468.toNat]
def k0_mult8 (v8469 : BitVec 32) : BitVec 32 :=
  let c512_i32_3402 : BitVec 32 := 512#32
  let v8470 : BitVec 32 := Scalar.muli v8469 c512_i32_3402
  v8470

def k0_off11 (v8469 : BitVec 32) : Fin 2 → Nat :=
  let c512_i32_3402 : BitVec 32 := 512#32
  let v8470 : BitVec 32 := Scalar.muli v8469 c512_i32_3402
  let v8471 : BitVec 32 := v8470
  let v8473 : Index := Scalar.indexCast v8471
  let c0_3405 : Index := 0#32
  ![v8473.toNat, 0]

def k0_chk8 (v8469 : BitVec 32) : Prop :=
  (512 ∣ (k0_mult8 v8469).toNat) ∧
  (∀ a, (k0_off11 v8469) a + S512x256.size a ≤ S8192x256.size a)
theorem k0_mult8_dvd : ∀ (v8469 : BitVec 32) (k0_hw8 : k0_chk8 v8469), 512 ∣ (k0_mult8 v8469).toNat := fun v8469 k0_hw8 => k0_hw8.1
theorem k0_off11_inb : ∀ (v8469 : BitVec 32) (k0_hw8 : k0_chk8 v8469), ∀ a, (k0_off11 v8469) a + S512x256.size a ≤ S8192x256.size a := fun v8469 k0_hw8 => k0_hw8.2

def k0_off12 (v8465 : BitVec 32) : Fin 2 → Nat :=
  let c512_i32_3400 : BitVec 32 := 512#32
  let v8466 : BitVec 32 := Scalar.muli v8465 c512_i32_3400
  let v8467 : BitVec 32 := v8466
  let v8476 : Index := Scalar.indexCast v8467
  let c0_3407 : Index := 0#32
  ![v8476.toNat, 0]

def k0_chk7 (v8465 : BitVec 32) : Prop :=
  (512 ∣ (k0_mult7 v8465).toNat) ∧
  (∀ a, (k0_off12 v8465) a + S512x256.size a ≤ S8192x256.size a)
theorem k0_mult7_dvd : ∀ (v8465 : BitVec 32) (k0_hw7 : k0_chk7 v8465), 512 ∣ (k0_mult7 v8465).toNat := fun v8465 k0_hw7 => k0_hw7.1
theorem k0_off12_inb : ∀ (v8465 : BitVec 32) (k0_hw7 : k0_chk7 v8465), ∀ a, (k0_off12 v8465) a + S512x256.size a ≤ S8192x256.size a := fun v8465 k0_hw7 => k0_hw7.2

def k0_off13 (k0_t1 : Fin k0_t1_loop.trips) : Fin 2 → Nat :=
  let c0_3410 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c0_i32_3408 : BitVec 32 := 0#32
  let v8480 : BitVec 32 := Scalar.addi v8462 c0_i32_3408
  let c1_i32_3409 : BitVec 32 := 1#32
  let v8481 : BitVec 32 := Scalar.addi v8480 c1_i32_3409
  let v8482 : Index := Scalar.indexCast v8481
  ![0, v8482.toNat]
def k0_mult9 (v8483 : BitVec 32) : BitVec 32 :=
  let c512_i32_3411 : BitVec 32 := 512#32
  let v8484 : BitVec 32 := Scalar.muli v8483 c512_i32_3411
  v8484

def k0_off14 (k0_t1 : Fin k0_t1_loop.trips) : Fin 2 → Nat :=
  let c1_3412 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c0_i32_3408 : BitVec 32 := 0#32
  let v8480 : BitVec 32 := Scalar.addi v8462 c0_i32_3408
  let c1_i32_3409 : BitVec 32 := 1#32
  let v8481 : BitVec 32 := Scalar.addi v8480 c1_i32_3409
  let v8486 : Index := Scalar.indexCast v8481
  ![1, v8486.toNat]
def k0_mult10 (v8487 : BitVec 32) : BitVec 32 :=
  let c512_i32_3413 : BitVec 32 := 512#32
  let v8488 : BitVec 32 := Scalar.muli v8487 c512_i32_3413
  v8488

def k0_off15 (v8487 : BitVec 32) : Fin 3 → Nat :=
  let c0_3414 : Index := 0#32
  let c0_3415 : Index := 0#32
  let c512_i32_3413 : BitVec 32 := 512#32
  let v8488 : BitVec 32 := Scalar.muli v8487 c512_i32_3413
  let v8489 : BitVec 32 := v8488
  let v8490 : Index := Scalar.indexCast v8489
  ![0, 0, v8490.toNat]

def k0_chk10 (v8487 : BitVec 32) : Prop :=
  (512 ∣ (k0_mult10 v8487).toNat) ∧
  (∀ a, (k0_off15 v8487) a + S1x1x512.size a ≤ S1x1x8192.size a)
theorem k0_mult10_dvd : ∀ (v8487 : BitVec 32) (k0_hw10 : k0_chk10 v8487), 512 ∣ (k0_mult10 v8487).toNat := fun v8487 k0_hw10 => k0_hw10.1
theorem k0_off15_inb : ∀ (v8487 : BitVec 32) (k0_hw10 : k0_chk10 v8487), ∀ a, (k0_off15 v8487) a + S1x1x512.size a ≤ S1x1x8192.size a := fun v8487 k0_hw10 => k0_hw10.2

def k0_off16 (v8483 : BitVec 32) (c0_i32_3417 : BitVec 32) : Fin 2 → Nat :=
  let c512_i32_3411 : BitVec 32 := 512#32
  let v8484 : BitVec 32 := Scalar.muli v8483 c512_i32_3411
  let v8485 : BitVec 32 := v8484
  let v8495 : BitVec 32 := Scalar.addi v8485 c0_i32_3417
  let v8506 : Index := Scalar.indexCast v8495
  let c0_3422 : Index := 0#32
  ![v8506.toNat, 0]

def k0_chk9 (v8483 : BitVec 32) : Prop :=
  (512 ∣ (k0_mult9 v8483).toNat) ∧
  (∀ (r : Fin 16), ∀ a, (k0_off16 v8483 (BitVec.ofNat 32 (32 * r.val))) a + S32x1.size a ≤ S8192x1.size a)
theorem k0_mult9_dvd : ∀ (v8483 : BitVec 32) (k0_hw9 : k0_chk9 v8483), 512 ∣ (k0_mult9 v8483).toNat := fun v8483 k0_hw9 => k0_hw9.1
theorem k0_off16_inb : ∀ (v8483 : BitVec 32) (k0_hw9 : k0_chk9 v8483), ∀ (r : Fin 16), ∀ a, (k0_off16 v8483 (BitVec.ofNat 32 (32 * r.val))) a + S32x1.size a ≤ S8192x1.size a := fun v8483 k0_hw9 r => k0_hw9.2 r

def k0_off17 (k0_t1 : Fin k0_t1_loop.trips) : Fin 2 → Nat :=
  let c0_3580 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c0_i32_3577 : BitVec 32 := 0#32
  let v8943 : BitVec 32 := Scalar.addi v8462 c0_i32_3577
  let c2_i32_3578 : BitVec 32 := 2#32
  let v8944 : BitVec 32 := Scalar.addi v8943 c2_i32_3578
  let c15_i32_3579 : BitVec 32 := 15#32
  let v8945 : BitVec 32 := Scalar.minsi v8944 c15_i32_3579
  let v8946 : Index := Scalar.indexCast v8945
  ![0, v8946.toNat]
def k0_mult11 (v8947 : BitVec 32) : BitVec 32 :=
  let c512_i32_3581 : BitVec 32 := 512#32
  let v8948 : BitVec 32 := Scalar.muli v8947 c512_i32_3581
  v8948

def k0_off18 (k0_t1 : Fin k0_t1_loop.trips) : Fin 2 → Nat :=
  let c1_3582 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c0_i32_3577 : BitVec 32 := 0#32
  let v8943 : BitVec 32 := Scalar.addi v8462 c0_i32_3577
  let c2_i32_3578 : BitVec 32 := 2#32
  let v8944 : BitVec 32 := Scalar.addi v8943 c2_i32_3578
  let c15_i32_3579 : BitVec 32 := 15#32
  let v8945 : BitVec 32 := Scalar.minsi v8944 c15_i32_3579
  let v8950 : Index := Scalar.indexCast v8945
  ![1, v8950.toNat]
def k0_mult12 (v8951 : BitVec 32) : BitVec 32 :=
  let c512_i32_3583 : BitVec 32 := 512#32
  let v8952 : BitVec 32 := Scalar.muli v8951 c512_i32_3583
  v8952

def k0_off19 (v8947 : BitVec 32) : Fin 2 → Nat :=
  let c512_i32_3581 : BitVec 32 := 512#32
  let v8948 : BitVec 32 := Scalar.muli v8947 c512_i32_3581
  let v8949 : BitVec 32 := v8948
  let v8954 : Index := Scalar.indexCast v8949
  let c0_3584 : Index := 0#32
  ![v8954.toNat, 0]

def k0_chk11 (v8947 : BitVec 32) : Prop :=
  (512 ∣ (k0_mult11 v8947).toNat) ∧
  (∀ a, (k0_off19 v8947) a + S512x128.size a ≤ S8192x128.size a)
theorem k0_mult11_dvd : ∀ (v8947 : BitVec 32) (k0_hw11 : k0_chk11 v8947), 512 ∣ (k0_mult11 v8947).toNat := fun v8947 k0_hw11 => k0_hw11.1
theorem k0_off19_inb : ∀ (v8947 : BitVec 32) (k0_hw11 : k0_chk11 v8947), ∀ a, (k0_off19 v8947) a + S512x128.size a ≤ S8192x128.size a := fun v8947 k0_hw11 => k0_hw11.2

def k0_off20 (v8951 : BitVec 32) : Fin 2 → Nat :=
  let c0_3585 : Index := 0#32
  let c512_i32_3583 : BitVec 32 := 512#32
  let v8952 : BitVec 32 := Scalar.muli v8951 c512_i32_3583
  let v8953 : BitVec 32 := v8952
  let v8957 : Index := Scalar.indexCast v8953
  ![0, v8957.toNat]

def k0_chk12 (v8951 : BitVec 32) : Prop :=
  (512 ∣ (k0_mult12 v8951).toNat) ∧
  (∀ a, (k0_off20 v8951) a + S128x512.size a ≤ S128x8192.size a)
theorem k0_mult12_dvd : ∀ (v8951 : BitVec 32) (k0_hw12 : k0_chk12 v8951), 512 ∣ (k0_mult12 v8951).toNat := fun v8951 k0_hw12 => k0_hw12.1
theorem k0_off20_inb : ∀ (v8951 : BitVec 32) (k0_hw12 : k0_chk12 v8951), ∀ a, (k0_off20 v8951) a + S128x512.size a ≤ S128x8192.size a := fun v8951 k0_hw12 => k0_hw12.2

def k0_off21 (k0_t1 : Fin k0_t1_loop.trips) : Fin 2 → Nat :=
  let c0_3590 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c1_i32_3589 : BitVec 32 := 1#32
  let v8963 : BitVec 32 := Scalar.addi v8462 c1_i32_3589
  let v8964 : Index := Scalar.indexCast v8963
  ![0, v8964.toNat]
def k0_mult13 (v8965 : BitVec 32) : BitVec 32 :=
  let c512_i32_3591 : BitVec 32 := 512#32
  let v8966 : BitVec 32 := Scalar.muli v8965 c512_i32_3591
  v8966

def k0_off22 (k0_t1 : Fin k0_t1_loop.trips) : Fin 2 → Nat :=
  let c1_3592 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c1_i32_3589 : BitVec 32 := 1#32
  let v8963 : BitVec 32 := Scalar.addi v8462 c1_i32_3589
  let v8968 : Index := Scalar.indexCast v8963
  ![1, v8968.toNat]
def k0_mult14 (v8969 : BitVec 32) : BitVec 32 :=
  let c512_i32_3593 : BitVec 32 := 512#32
  let v8970 : BitVec 32 := Scalar.muli v8969 c512_i32_3593
  v8970

def k0_off23 (v8969 : BitVec 32) : Fin 2 → Nat :=
  let c512_i32_3593 : BitVec 32 := 512#32
  let v8970 : BitVec 32 := Scalar.muli v8969 c512_i32_3593
  let v8971 : BitVec 32 := v8970
  let v8973 : Index := Scalar.indexCast v8971
  let c0_3596 : Index := 0#32
  ![v8973.toNat, 0]

def k0_chk14 (v8969 : BitVec 32) : Prop :=
  (512 ∣ (k0_mult14 v8969).toNat) ∧
  (∀ a, (k0_off23 v8969) a + S512x256.size a ≤ S8192x256.size a)
theorem k0_mult14_dvd : ∀ (v8969 : BitVec 32) (k0_hw14 : k0_chk14 v8969), 512 ∣ (k0_mult14 v8969).toNat := fun v8969 k0_hw14 => k0_hw14.1
theorem k0_off23_inb : ∀ (v8969 : BitVec 32) (k0_hw14 : k0_chk14 v8969), ∀ a, (k0_off23 v8969) a + S512x256.size a ≤ S8192x256.size a := fun v8969 k0_hw14 => k0_hw14.2

def k0_off24 (v8965 : BitVec 32) : Fin 2 → Nat :=
  let c512_i32_3591 : BitVec 32 := 512#32
  let v8966 : BitVec 32 := Scalar.muli v8965 c512_i32_3591
  let v8967 : BitVec 32 := v8966
  let v8976 : Index := Scalar.indexCast v8967
  let c0_3598 : Index := 0#32
  ![v8976.toNat, 0]

def k0_chk13 (v8965 : BitVec 32) : Prop :=
  (512 ∣ (k0_mult13 v8965).toNat) ∧
  (∀ a, (k0_off24 v8965) a + S512x256.size a ≤ S8192x256.size a)
theorem k0_mult13_dvd : ∀ (v8965 : BitVec 32) (k0_hw13 : k0_chk13 v8965), 512 ∣ (k0_mult13 v8965).toNat := fun v8965 k0_hw13 => k0_hw13.1
theorem k0_off24_inb : ∀ (v8965 : BitVec 32) (k0_hw13 : k0_chk13 v8965), ∀ a, (k0_off24 v8965) a + S512x256.size a ≤ S8192x256.size a := fun v8965 k0_hw13 => k0_hw13.2

def k0_off25 (k0_t1 : Fin k0_t1_loop.trips) : Fin 2 → Nat :=
  let c0_3601 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c1_i32_3599 : BitVec 32 := 1#32
  let v8980 : BitVec 32 := Scalar.addi v8462 c1_i32_3599
  let c1_i32_3600 : BitVec 32 := 1#32
  let v8981 : BitVec 32 := Scalar.addi v8980 c1_i32_3600
  let v8982 : Index := Scalar.indexCast v8981
  ![0, v8982.toNat]
def k0_mult15 (v8983 : BitVec 32) : BitVec 32 :=
  let c512_i32_3602 : BitVec 32 := 512#32
  let v8984 : BitVec 32 := Scalar.muli v8983 c512_i32_3602
  v8984

def k0_off26 (k0_t1 : Fin k0_t1_loop.trips) : Fin 2 → Nat :=
  let c1_3603 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c1_i32_3599 : BitVec 32 := 1#32
  let v8980 : BitVec 32 := Scalar.addi v8462 c1_i32_3599
  let c1_i32_3600 : BitVec 32 := 1#32
  let v8981 : BitVec 32 := Scalar.addi v8980 c1_i32_3600
  let v8986 : Index := Scalar.indexCast v8981
  ![1, v8986.toNat]
def k0_mult16 (v8987 : BitVec 32) : BitVec 32 :=
  let c512_i32_3604 : BitVec 32 := 512#32
  let v8988 : BitVec 32 := Scalar.muli v8987 c512_i32_3604
  v8988

def k0_off27 (v8987 : BitVec 32) : Fin 3 → Nat :=
  let c0_3605 : Index := 0#32
  let c0_3606 : Index := 0#32
  let c512_i32_3604 : BitVec 32 := 512#32
  let v8988 : BitVec 32 := Scalar.muli v8987 c512_i32_3604
  let v8989 : BitVec 32 := v8988
  let v8990 : Index := Scalar.indexCast v8989
  ![0, 0, v8990.toNat]

def k0_chk16 (v8987 : BitVec 32) : Prop :=
  (512 ∣ (k0_mult16 v8987).toNat) ∧
  (∀ a, (k0_off27 v8987) a + S1x1x512.size a ≤ S1x1x8192.size a)
theorem k0_mult16_dvd : ∀ (v8987 : BitVec 32) (k0_hw16 : k0_chk16 v8987), 512 ∣ (k0_mult16 v8987).toNat := fun v8987 k0_hw16 => k0_hw16.1
theorem k0_off27_inb : ∀ (v8987 : BitVec 32) (k0_hw16 : k0_chk16 v8987), ∀ a, (k0_off27 v8987) a + S1x1x512.size a ≤ S1x1x8192.size a := fun v8987 k0_hw16 => k0_hw16.2

def k0_off28 (v8983 : BitVec 32) (c0_i32_3608 : BitVec 32) : Fin 2 → Nat :=
  let c512_i32_3602 : BitVec 32 := 512#32
  let v8984 : BitVec 32 := Scalar.muli v8983 c512_i32_3602
  let v8985 : BitVec 32 := v8984
  let v8995 : BitVec 32 := Scalar.addi v8985 c0_i32_3608
  let v9006 : Index := Scalar.indexCast v8995
  let c0_3613 : Index := 0#32
  ![v9006.toNat, 0]

def k0_chk15 (v8983 : BitVec 32) : Prop :=
  (512 ∣ (k0_mult15 v8983).toNat) ∧
  (∀ (r : Fin 16), ∀ a, (k0_off28 v8983 (BitVec.ofNat 32 (32 * r.val))) a + S32x1.size a ≤ S8192x1.size a)
theorem k0_mult15_dvd : ∀ (v8983 : BitVec 32) (k0_hw15 : k0_chk15 v8983), 512 ∣ (k0_mult15 v8983).toNat := fun v8983 k0_hw15 => k0_hw15.1
theorem k0_off28_inb : ∀ (v8983 : BitVec 32) (k0_hw15 : k0_chk15 v8983), ∀ (r : Fin 16), ∀ a, (k0_off28 v8983 (BitVec.ofNat 32 (32 * r.val))) a + S32x1.size a ≤ S8192x1.size a := fun v8983 k0_hw15 r => k0_hw15.2 r

def k0_off29 (k0_t1 : Fin k0_t1_loop.trips) : Fin 2 → Nat :=
  let c0_3771 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c1_i32_3768 : BitVec 32 := 1#32
  let v9443 : BitVec 32 := Scalar.addi v8462 c1_i32_3768
  let c2_i32_3769 : BitVec 32 := 2#32
  let v9444 : BitVec 32 := Scalar.addi v9443 c2_i32_3769
  let c15_i32_3770 : BitVec 32 := 15#32
  let v9445 : BitVec 32 := Scalar.minsi v9444 c15_i32_3770
  let v9446 : Index := Scalar.indexCast v9445
  ![0, v9446.toNat]
def k0_mult17 (v9447 : BitVec 32) : BitVec 32 :=
  let c512_i32_3772 : BitVec 32 := 512#32
  let v9448 : BitVec 32 := Scalar.muli v9447 c512_i32_3772
  v9448

def k0_off30 (k0_t1 : Fin k0_t1_loop.trips) : Fin 2 → Nat :=
  let c1_3773 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c1_i32_3768 : BitVec 32 := 1#32
  let v9443 : BitVec 32 := Scalar.addi v8462 c1_i32_3768
  let c2_i32_3769 : BitVec 32 := 2#32
  let v9444 : BitVec 32 := Scalar.addi v9443 c2_i32_3769
  let c15_i32_3770 : BitVec 32 := 15#32
  let v9445 : BitVec 32 := Scalar.minsi v9444 c15_i32_3770
  let v9450 : Index := Scalar.indexCast v9445
  ![1, v9450.toNat]
def k0_mult18 (v9451 : BitVec 32) : BitVec 32 :=
  let c512_i32_3774 : BitVec 32 := 512#32
  let v9452 : BitVec 32 := Scalar.muli v9451 c512_i32_3774
  v9452

def k0_off31 (v9447 : BitVec 32) : Fin 2 → Nat :=
  let c512_i32_3772 : BitVec 32 := 512#32
  let v9448 : BitVec 32 := Scalar.muli v9447 c512_i32_3772
  let v9449 : BitVec 32 := v9448
  let v9454 : Index := Scalar.indexCast v9449
  let c0_3775 : Index := 0#32
  ![v9454.toNat, 0]

def k0_chk17 (v9447 : BitVec 32) : Prop :=
  (512 ∣ (k0_mult17 v9447).toNat) ∧
  (∀ a, (k0_off31 v9447) a + S512x128.size a ≤ S8192x128.size a)
theorem k0_mult17_dvd : ∀ (v9447 : BitVec 32) (k0_hw17 : k0_chk17 v9447), 512 ∣ (k0_mult17 v9447).toNat := fun v9447 k0_hw17 => k0_hw17.1
theorem k0_off31_inb : ∀ (v9447 : BitVec 32) (k0_hw17 : k0_chk17 v9447), ∀ a, (k0_off31 v9447) a + S512x128.size a ≤ S8192x128.size a := fun v9447 k0_hw17 => k0_hw17.2

def k0_off32 (v9451 : BitVec 32) : Fin 2 → Nat :=
  let c0_3776 : Index := 0#32
  let c512_i32_3774 : BitVec 32 := 512#32
  let v9452 : BitVec 32 := Scalar.muli v9451 c512_i32_3774
  let v9453 : BitVec 32 := v9452
  let v9457 : Index := Scalar.indexCast v9453
  ![0, v9457.toNat]

def k0_chk18 (v9451 : BitVec 32) : Prop :=
  (512 ∣ (k0_mult18 v9451).toNat) ∧
  (∀ a, (k0_off32 v9451) a + S128x512.size a ≤ S128x8192.size a)
theorem k0_mult18_dvd : ∀ (v9451 : BitVec 32) (k0_hw18 : k0_chk18 v9451), 512 ∣ (k0_mult18 v9451).toNat := fun v9451 k0_hw18 => k0_hw18.1
theorem k0_off32_inb : ∀ (v9451 : BitVec 32) (k0_hw18 : k0_chk18 v9451), ∀ a, (k0_off32 v9451) a + S128x512.size a ≤ S128x8192.size a := fun v9451 k0_hw18 => k0_hw18.2

def k0_off33 (k0_t1 : Fin k0_t1_loop.trips) : Fin 2 → Nat :=
  let c0_3781 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c2_i32_3780 : BitVec 32 := 2#32
  let v9463 : BitVec 32 := Scalar.addi v8462 c2_i32_3780
  let v9464 : Index := Scalar.indexCast v9463
  ![0, v9464.toNat]
def k0_mult19 (v9465 : BitVec 32) : BitVec 32 :=
  let c512_i32_3782 : BitVec 32 := 512#32
  let v9466 : BitVec 32 := Scalar.muli v9465 c512_i32_3782
  v9466

def k0_off34 (k0_t1 : Fin k0_t1_loop.trips) : Fin 2 → Nat :=
  let c1_3783 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c2_i32_3780 : BitVec 32 := 2#32
  let v9463 : BitVec 32 := Scalar.addi v8462 c2_i32_3780
  let v9468 : Index := Scalar.indexCast v9463
  ![1, v9468.toNat]
def k0_mult20 (v9469 : BitVec 32) : BitVec 32 :=
  let c512_i32_3784 : BitVec 32 := 512#32
  let v9470 : BitVec 32 := Scalar.muli v9469 c512_i32_3784
  v9470

def k0_off35 (v9469 : BitVec 32) : Fin 2 → Nat :=
  let c512_i32_3784 : BitVec 32 := 512#32
  let v9470 : BitVec 32 := Scalar.muli v9469 c512_i32_3784
  let v9471 : BitVec 32 := v9470
  let v9473 : Index := Scalar.indexCast v9471
  let c0_3787 : Index := 0#32
  ![v9473.toNat, 0]

def k0_chk20 (v9469 : BitVec 32) : Prop :=
  (512 ∣ (k0_mult20 v9469).toNat) ∧
  (∀ a, (k0_off35 v9469) a + S512x256.size a ≤ S8192x256.size a)
theorem k0_mult20_dvd : ∀ (v9469 : BitVec 32) (k0_hw20 : k0_chk20 v9469), 512 ∣ (k0_mult20 v9469).toNat := fun v9469 k0_hw20 => k0_hw20.1
theorem k0_off35_inb : ∀ (v9469 : BitVec 32) (k0_hw20 : k0_chk20 v9469), ∀ a, (k0_off35 v9469) a + S512x256.size a ≤ S8192x256.size a := fun v9469 k0_hw20 => k0_hw20.2

def k0_off36 (v9465 : BitVec 32) : Fin 2 → Nat :=
  let c512_i32_3782 : BitVec 32 := 512#32
  let v9466 : BitVec 32 := Scalar.muli v9465 c512_i32_3782
  let v9467 : BitVec 32 := v9466
  let v9476 : Index := Scalar.indexCast v9467
  let c0_3789 : Index := 0#32
  ![v9476.toNat, 0]

def k0_chk19 (v9465 : BitVec 32) : Prop :=
  (512 ∣ (k0_mult19 v9465).toNat) ∧
  (∀ a, (k0_off36 v9465) a + S512x256.size a ≤ S8192x256.size a)
theorem k0_mult19_dvd : ∀ (v9465 : BitVec 32) (k0_hw19 : k0_chk19 v9465), 512 ∣ (k0_mult19 v9465).toNat := fun v9465 k0_hw19 => k0_hw19.1
theorem k0_off36_inb : ∀ (v9465 : BitVec 32) (k0_hw19 : k0_chk19 v9465), ∀ a, (k0_off36 v9465) a + S512x256.size a ≤ S8192x256.size a := fun v9465 k0_hw19 => k0_hw19.2

def k0_off37 (k0_t1 : Fin k0_t1_loop.trips) : Fin 2 → Nat :=
  let c0_3792 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c2_i32_3790 : BitVec 32 := 2#32
  let v9480 : BitVec 32 := Scalar.addi v8462 c2_i32_3790
  let c1_i32_3791 : BitVec 32 := 1#32
  let v9481 : BitVec 32 := Scalar.addi v9480 c1_i32_3791
  let v9482 : Index := Scalar.indexCast v9481
  ![0, v9482.toNat]
def k0_mult21 (v9483 : BitVec 32) : BitVec 32 :=
  let c512_i32_3793 : BitVec 32 := 512#32
  let v9484 : BitVec 32 := Scalar.muli v9483 c512_i32_3793
  v9484

def k0_off38 (k0_t1 : Fin k0_t1_loop.trips) : Fin 2 → Nat :=
  let c1_3794 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c2_i32_3790 : BitVec 32 := 2#32
  let v9480 : BitVec 32 := Scalar.addi v8462 c2_i32_3790
  let c1_i32_3791 : BitVec 32 := 1#32
  let v9481 : BitVec 32 := Scalar.addi v9480 c1_i32_3791
  let v9486 : Index := Scalar.indexCast v9481
  ![1, v9486.toNat]
def k0_mult22 (v9487 : BitVec 32) : BitVec 32 :=
  let c512_i32_3795 : BitVec 32 := 512#32
  let v9488 : BitVec 32 := Scalar.muli v9487 c512_i32_3795
  v9488

def k0_off39 (v9487 : BitVec 32) : Fin 3 → Nat :=
  let c0_3796 : Index := 0#32
  let c0_3797 : Index := 0#32
  let c512_i32_3795 : BitVec 32 := 512#32
  let v9488 : BitVec 32 := Scalar.muli v9487 c512_i32_3795
  let v9489 : BitVec 32 := v9488
  let v9490 : Index := Scalar.indexCast v9489
  ![0, 0, v9490.toNat]

def k0_chk22 (v9487 : BitVec 32) : Prop :=
  (512 ∣ (k0_mult22 v9487).toNat) ∧
  (∀ a, (k0_off39 v9487) a + S1x1x512.size a ≤ S1x1x8192.size a)
theorem k0_mult22_dvd : ∀ (v9487 : BitVec 32) (k0_hw22 : k0_chk22 v9487), 512 ∣ (k0_mult22 v9487).toNat := fun v9487 k0_hw22 => k0_hw22.1
theorem k0_off39_inb : ∀ (v9487 : BitVec 32) (k0_hw22 : k0_chk22 v9487), ∀ a, (k0_off39 v9487) a + S1x1x512.size a ≤ S1x1x8192.size a := fun v9487 k0_hw22 => k0_hw22.2

def k0_off40 (v9483 : BitVec 32) (c0_i32_3799 : BitVec 32) : Fin 2 → Nat :=
  let c512_i32_3793 : BitVec 32 := 512#32
  let v9484 : BitVec 32 := Scalar.muli v9483 c512_i32_3793
  let v9485 : BitVec 32 := v9484
  let v9495 : BitVec 32 := Scalar.addi v9485 c0_i32_3799
  let v9506 : Index := Scalar.indexCast v9495
  let c0_3804 : Index := 0#32
  ![v9506.toNat, 0]

def k0_chk21 (v9483 : BitVec 32) : Prop :=
  (512 ∣ (k0_mult21 v9483).toNat) ∧
  (∀ (r : Fin 16), ∀ a, (k0_off40 v9483 (BitVec.ofNat 32 (32 * r.val))) a + S32x1.size a ≤ S8192x1.size a)
theorem k0_mult21_dvd : ∀ (v9483 : BitVec 32) (k0_hw21 : k0_chk21 v9483), 512 ∣ (k0_mult21 v9483).toNat := fun v9483 k0_hw21 => k0_hw21.1
theorem k0_off40_inb : ∀ (v9483 : BitVec 32) (k0_hw21 : k0_chk21 v9483), ∀ (r : Fin 16), ∀ a, (k0_off40 v9483 (BitVec.ofNat 32 (32 * r.val))) a + S32x1.size a ≤ S8192x1.size a := fun v9483 k0_hw21 r => k0_hw21.2 r

def k0_off41 (k0_t1 : Fin k0_t1_loop.trips) : Fin 2 → Nat :=
  let c0_3962 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c2_i32_3959 : BitVec 32 := 2#32
  let v9943 : BitVec 32 := Scalar.addi v8462 c2_i32_3959
  let c2_i32_3960 : BitVec 32 := 2#32
  let v9944 : BitVec 32 := Scalar.addi v9943 c2_i32_3960
  let c15_i32_3961 : BitVec 32 := 15#32
  let v9945 : BitVec 32 := Scalar.minsi v9944 c15_i32_3961
  let v9946 : Index := Scalar.indexCast v9945
  ![0, v9946.toNat]
def k0_mult23 (v9947 : BitVec 32) : BitVec 32 :=
  let c512_i32_3963 : BitVec 32 := 512#32
  let v9948 : BitVec 32 := Scalar.muli v9947 c512_i32_3963
  v9948

def k0_off42 (k0_t1 : Fin k0_t1_loop.trips) : Fin 2 → Nat :=
  let c1_3964 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c2_i32_3959 : BitVec 32 := 2#32
  let v9943 : BitVec 32 := Scalar.addi v8462 c2_i32_3959
  let c2_i32_3960 : BitVec 32 := 2#32
  let v9944 : BitVec 32 := Scalar.addi v9943 c2_i32_3960
  let c15_i32_3961 : BitVec 32 := 15#32
  let v9945 : BitVec 32 := Scalar.minsi v9944 c15_i32_3961
  let v9950 : Index := Scalar.indexCast v9945
  ![1, v9950.toNat]
def k0_mult24 (v9951 : BitVec 32) : BitVec 32 :=
  let c512_i32_3965 : BitVec 32 := 512#32
  let v9952 : BitVec 32 := Scalar.muli v9951 c512_i32_3965
  v9952

def k0_off43 (v9947 : BitVec 32) : Fin 2 → Nat :=
  let c512_i32_3963 : BitVec 32 := 512#32
  let v9948 : BitVec 32 := Scalar.muli v9947 c512_i32_3963
  let v9949 : BitVec 32 := v9948
  let v9954 : Index := Scalar.indexCast v9949
  let c0_3966 : Index := 0#32
  ![v9954.toNat, 0]

def k0_chk23 (v9947 : BitVec 32) : Prop :=
  (512 ∣ (k0_mult23 v9947).toNat) ∧
  (∀ a, (k0_off43 v9947) a + S512x128.size a ≤ S8192x128.size a)
theorem k0_mult23_dvd : ∀ (v9947 : BitVec 32) (k0_hw23 : k0_chk23 v9947), 512 ∣ (k0_mult23 v9947).toNat := fun v9947 k0_hw23 => k0_hw23.1
theorem k0_off43_inb : ∀ (v9947 : BitVec 32) (k0_hw23 : k0_chk23 v9947), ∀ a, (k0_off43 v9947) a + S512x128.size a ≤ S8192x128.size a := fun v9947 k0_hw23 => k0_hw23.2

def k0_off44 (v9951 : BitVec 32) : Fin 2 → Nat :=
  let c0_3967 : Index := 0#32
  let c512_i32_3965 : BitVec 32 := 512#32
  let v9952 : BitVec 32 := Scalar.muli v9951 c512_i32_3965
  let v9953 : BitVec 32 := v9952
  let v9957 : Index := Scalar.indexCast v9953
  ![0, v9957.toNat]

def k0_chk24 (v9951 : BitVec 32) : Prop :=
  (512 ∣ (k0_mult24 v9951).toNat) ∧
  (∀ a, (k0_off44 v9951) a + S128x512.size a ≤ S128x8192.size a)
theorem k0_mult24_dvd : ∀ (v9951 : BitVec 32) (k0_hw24 : k0_chk24 v9951), 512 ∣ (k0_mult24 v9951).toNat := fun v9951 k0_hw24 => k0_hw24.1
theorem k0_off44_inb : ∀ (v9951 : BitVec 32) (k0_hw24 : k0_chk24 v9951), ∀ a, (k0_off44 v9951) a + S128x512.size a ≤ S128x8192.size a := fun v9951 k0_hw24 => k0_hw24.2

def k0_off45 (k0_t1 : Fin k0_t1_loop.trips) : Fin 2 → Nat :=
  let c0_3972 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c3_i32_3971 : BitVec 32 := 3#32
  let v9963 : BitVec 32 := Scalar.addi v8462 c3_i32_3971
  let v9964 : Index := Scalar.indexCast v9963
  ![0, v9964.toNat]
def k0_mult25 (v9965 : BitVec 32) : BitVec 32 :=
  let c512_i32_3973 : BitVec 32 := 512#32
  let v9966 : BitVec 32 := Scalar.muli v9965 c512_i32_3973
  v9966

def k0_off46 (k0_t1 : Fin k0_t1_loop.trips) : Fin 2 → Nat :=
  let c1_3974 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c3_i32_3971 : BitVec 32 := 3#32
  let v9963 : BitVec 32 := Scalar.addi v8462 c3_i32_3971
  let v9968 : Index := Scalar.indexCast v9963
  ![1, v9968.toNat]
def k0_mult26 (v9969 : BitVec 32) : BitVec 32 :=
  let c512_i32_3975 : BitVec 32 := 512#32
  let v9970 : BitVec 32 := Scalar.muli v9969 c512_i32_3975
  v9970

def k0_off47 (v9969 : BitVec 32) : Fin 2 → Nat :=
  let c512_i32_3975 : BitVec 32 := 512#32
  let v9970 : BitVec 32 := Scalar.muli v9969 c512_i32_3975
  let v9971 : BitVec 32 := v9970
  let v9973 : Index := Scalar.indexCast v9971
  let c0_3978 : Index := 0#32
  ![v9973.toNat, 0]

def k0_chk26 (v9969 : BitVec 32) : Prop :=
  (512 ∣ (k0_mult26 v9969).toNat) ∧
  (∀ a, (k0_off47 v9969) a + S512x256.size a ≤ S8192x256.size a)
theorem k0_mult26_dvd : ∀ (v9969 : BitVec 32) (k0_hw26 : k0_chk26 v9969), 512 ∣ (k0_mult26 v9969).toNat := fun v9969 k0_hw26 => k0_hw26.1
theorem k0_off47_inb : ∀ (v9969 : BitVec 32) (k0_hw26 : k0_chk26 v9969), ∀ a, (k0_off47 v9969) a + S512x256.size a ≤ S8192x256.size a := fun v9969 k0_hw26 => k0_hw26.2

def k0_off48 (v9965 : BitVec 32) : Fin 2 → Nat :=
  let c512_i32_3973 : BitVec 32 := 512#32
  let v9966 : BitVec 32 := Scalar.muli v9965 c512_i32_3973
  let v9967 : BitVec 32 := v9966
  let v9976 : Index := Scalar.indexCast v9967
  let c0_3980 : Index := 0#32
  ![v9976.toNat, 0]

def k0_chk25 (v9965 : BitVec 32) : Prop :=
  (512 ∣ (k0_mult25 v9965).toNat) ∧
  (∀ a, (k0_off48 v9965) a + S512x256.size a ≤ S8192x256.size a)
theorem k0_mult25_dvd : ∀ (v9965 : BitVec 32) (k0_hw25 : k0_chk25 v9965), 512 ∣ (k0_mult25 v9965).toNat := fun v9965 k0_hw25 => k0_hw25.1
theorem k0_off48_inb : ∀ (v9965 : BitVec 32) (k0_hw25 : k0_chk25 v9965), ∀ a, (k0_off48 v9965) a + S512x256.size a ≤ S8192x256.size a := fun v9965 k0_hw25 => k0_hw25.2

def k0_off49 (k0_t1 : Fin k0_t1_loop.trips) : Fin 2 → Nat :=
  let c0_3983 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c3_i32_3981 : BitVec 32 := 3#32
  let v9980 : BitVec 32 := Scalar.addi v8462 c3_i32_3981
  let c1_i32_3982 : BitVec 32 := 1#32
  let v9981 : BitVec 32 := Scalar.addi v9980 c1_i32_3982
  let v9982 : Index := Scalar.indexCast v9981
  ![0, v9982.toNat]
def k0_mult27 (v9983 : BitVec 32) : BitVec 32 :=
  let c512_i32_3984 : BitVec 32 := 512#32
  let v9984 : BitVec 32 := Scalar.muli v9983 c512_i32_3984
  v9984

def k0_off50 (k0_t1 : Fin k0_t1_loop.trips) : Fin 2 → Nat :=
  let c1_3985 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c3_i32_3981 : BitVec 32 := 3#32
  let v9980 : BitVec 32 := Scalar.addi v8462 c3_i32_3981
  let c1_i32_3982 : BitVec 32 := 1#32
  let v9981 : BitVec 32 := Scalar.addi v9980 c1_i32_3982
  let v9986 : Index := Scalar.indexCast v9981
  ![1, v9986.toNat]
def k0_mult28 (v9987 : BitVec 32) : BitVec 32 :=
  let c512_i32_3986 : BitVec 32 := 512#32
  let v9988 : BitVec 32 := Scalar.muli v9987 c512_i32_3986
  v9988

def k0_off51 (v9987 : BitVec 32) : Fin 3 → Nat :=
  let c0_3987 : Index := 0#32
  let c0_3988 : Index := 0#32
  let c512_i32_3986 : BitVec 32 := 512#32
  let v9988 : BitVec 32 := Scalar.muli v9987 c512_i32_3986
  let v9989 : BitVec 32 := v9988
  let v9990 : Index := Scalar.indexCast v9989
  ![0, 0, v9990.toNat]

def k0_chk28 (v9987 : BitVec 32) : Prop :=
  (512 ∣ (k0_mult28 v9987).toNat) ∧
  (∀ a, (k0_off51 v9987) a + S1x1x512.size a ≤ S1x1x8192.size a)
theorem k0_mult28_dvd : ∀ (v9987 : BitVec 32) (k0_hw28 : k0_chk28 v9987), 512 ∣ (k0_mult28 v9987).toNat := fun v9987 k0_hw28 => k0_hw28.1
theorem k0_off51_inb : ∀ (v9987 : BitVec 32) (k0_hw28 : k0_chk28 v9987), ∀ a, (k0_off51 v9987) a + S1x1x512.size a ≤ S1x1x8192.size a := fun v9987 k0_hw28 => k0_hw28.2

def k0_off52 (v9983 : BitVec 32) (c0_i32_3990 : BitVec 32) : Fin 2 → Nat :=
  let c512_i32_3984 : BitVec 32 := 512#32
  let v9984 : BitVec 32 := Scalar.muli v9983 c512_i32_3984
  let v9985 : BitVec 32 := v9984
  let v9995 : BitVec 32 := Scalar.addi v9985 c0_i32_3990
  let v10006 : Index := Scalar.indexCast v9995
  let c0_3995 : Index := 0#32
  ![v10006.toNat, 0]

def k0_chk27 (v9983 : BitVec 32) : Prop :=
  (512 ∣ (k0_mult27 v9983).toNat) ∧
  (∀ (r : Fin 16), ∀ a, (k0_off52 v9983 (BitVec.ofNat 32 (32 * r.val))) a + S32x1.size a ≤ S8192x1.size a)
theorem k0_mult27_dvd : ∀ (v9983 : BitVec 32) (k0_hw27 : k0_chk27 v9983), 512 ∣ (k0_mult27 v9983).toNat := fun v9983 k0_hw27 => k0_hw27.1
theorem k0_off52_inb : ∀ (v9983 : BitVec 32) (k0_hw27 : k0_chk27 v9983), ∀ (r : Fin 16), ∀ a, (k0_off52 v9983 (BitVec.ofNat 32 (32 * r.val))) a + S32x1.size a ≤ S8192x1.size a := fun v9983 k0_hw27 r => k0_hw27.2 r

def k0_off53 (k0_t1 : Fin k0_t1_loop.trips) : Fin 2 → Nat :=
  let c0_4153 : Index := 0#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c3_i32_4150 : BitVec 32 := 3#32
  let v10443 : BitVec 32 := Scalar.addi v8462 c3_i32_4150
  let c2_i32_4151 : BitVec 32 := 2#32
  let v10444 : BitVec 32 := Scalar.addi v10443 c2_i32_4151
  let c15_i32_4152 : BitVec 32 := 15#32
  let v10445 : BitVec 32 := Scalar.minsi v10444 c15_i32_4152
  let v10446 : Index := Scalar.indexCast v10445
  ![0, v10446.toNat]
def k0_mult29 (v10447 : BitVec 32) : BitVec 32 :=
  let c512_i32_4154 : BitVec 32 := 512#32
  let v10448 : BitVec 32 := Scalar.muli v10447 c512_i32_4154
  v10448

def k0_off54 (k0_t1 : Fin k0_t1_loop.trips) : Fin 2 → Nat :=
  let c1_4155 : Index := 1#32
  let c0_i32_3397 : BitVec 32 := 0#32
  let c4_i32_3396 : BitVec 32 := 4#32
  let c0_i32_305 : BitVec 32 := 0#32
  let c1_i32_306 : BitVec 32 := 1#32
  let arg19 : BitVec 32 := Scf.iv c0_i32_305 c1_i32_306 k0_t1
  let v8461 : BitVec 32 := Scalar.muli c4_i32_3396 arg19
  let v8462 : BitVec 32 := Scalar.addi c0_i32_3397 v8461
  let c3_i32_4150 : BitVec 32 := 3#32
  let v10443 : BitVec 32 := Scalar.addi v8462 c3_i32_4150
  let c2_i32_4151 : BitVec 32 := 2#32
  let v10444 : BitVec 32 := Scalar.addi v10443 c2_i32_4151
  let c15_i32_4152 : BitVec 32 := 15#32
  let v10445 : BitVec 32 := Scalar.minsi v10444 c15_i32_4152
  let v10450 : Index := Scalar.indexCast v10445
  ![1, v10450.toNat]
def k0_mult30 (v10451 : BitVec 32) : BitVec 32 :=
  let c512_i32_4156 : BitVec 32 := 512#32
  let v10452 : BitVec 32 := Scalar.muli v10451 c512_i32_4156
  v10452

def k0_off55 (v10447 : BitVec 32) : Fin 2 → Nat :=
  let c512_i32_4154 : BitVec 32 := 512#32
  let v10448 : BitVec 32 := Scalar.muli v10447 c512_i32_4154
  let v10449 : BitVec 32 := v10448
  let v10454 : Index := Scalar.indexCast v10449
  let c0_4157 : Index := 0#32
  ![v10454.toNat, 0]

def k0_chk29 (v10447 : BitVec 32) : Prop :=
  (512 ∣ (k0_mult29 v10447).toNat) ∧
  (∀ a, (k0_off55 v10447) a + S512x128.size a ≤ S8192x128.size a)
theorem k0_mult29_dvd : ∀ (v10447 : BitVec 32) (k0_hw29 : k0_chk29 v10447), 512 ∣ (k0_mult29 v10447).toNat := fun v10447 k0_hw29 => k0_hw29.1
theorem k0_off55_inb : ∀ (v10447 : BitVec 32) (k0_hw29 : k0_chk29 v10447), ∀ a, (k0_off55 v10447) a + S512x128.size a ≤ S8192x128.size a := fun v10447 k0_hw29 => k0_hw29.2

def k0_off56 (v10451 : BitVec 32) : Fin 2 → Nat :=
  let c0_4158 : Index := 0#32
  let c512_i32_4156 : BitVec 32 := 512#32
  let v10452 : BitVec 32 := Scalar.muli v10451 c512_i32_4156
  let v10453 : BitVec 32 := v10452
  let v10457 : Index := Scalar.indexCast v10453
  ![0, v10457.toNat]

def k0_chk30 (v10451 : BitVec 32) : Prop :=
  (512 ∣ (k0_mult30 v10451).toNat) ∧
  (∀ a, (k0_off56 v10451) a + S128x512.size a ≤ S128x8192.size a)
theorem k0_mult30_dvd : ∀ (v10451 : BitVec 32) (k0_hw30 : k0_chk30 v10451), 512 ∣ (k0_mult30 v10451).toNat := fun v10451 k0_hw30 => k0_hw30.1
theorem k0_off56_inb : ∀ (v10451 : BitVec 32) (k0_hw30 : k0_chk30 v10451), ∀ a, (k0_off56 v10451) a + S128x512.size a ≤ S128x8192.size a := fun v10451 k0_hw30 => k0_hw30.2

def k0_mult31 (v805 : BitVec 32) : BitVec 32 :=
  let c512_i32_309 : BitVec 32 := 512#32
  let v806 : BitVec 32 := Scalar.muli v805 c512_i32_309
  v806

def k0_mult32 (v808 : BitVec 32) : BitVec 32 :=
  let c512_i32_312 : BitVec 32 := 512#32
  let v809 : BitVec 32 := Scalar.muli v808 c512_i32_312
  v809

def k0_off57 (v808 : BitVec 32) : Fin 2 → Nat :=
  let c512_i32_312 : BitVec 32 := 512#32
  let v809 : BitVec 32 := Scalar.muli v808 c512_i32_312
  let v810 : BitVec 32 := v809
  let v812 : Index := Scalar.indexCast v810
  let c0_315 : Index := 0#32
  ![v812.toNat, 0]

def k0_chk32 (v808 : BitVec 32) : Prop :=
  (512 ∣ (k0_mult32 v808).toNat) ∧
  (∀ a, (k0_off57 v808) a + S512x256.size a ≤ S8192x256.size a)
theorem k0_mult32_dvd : ∀ (v808 : BitVec 32) (k0_hw32 : k0_chk32 v808), 512 ∣ (k0_mult32 v808).toNat := fun v808 k0_hw32 => k0_hw32.1
theorem k0_off57_inb : ∀ (v808 : BitVec 32) (k0_hw32 : k0_chk32 v808), ∀ a, (k0_off57 v808) a + S512x256.size a ≤ S8192x256.size a := fun v808 k0_hw32 => k0_hw32.2

def k0_off58 (v805 : BitVec 32) : Fin 2 → Nat :=
  let c512_i32_309 : BitVec 32 := 512#32
  let v806 : BitVec 32 := Scalar.muli v805 c512_i32_309
  let v807 : BitVec 32 := v806
  let v815 : Index := Scalar.indexCast v807
  let c0_317 : Index := 0#32
  ![v815.toNat, 0]

def k0_chk31 (v805 : BitVec 32) : Prop :=
  (512 ∣ (k0_mult31 v805).toNat) ∧
  (∀ a, (k0_off58 v805) a + S512x256.size a ≤ S8192x256.size a)
theorem k0_mult31_dvd : ∀ (v805 : BitVec 32) (k0_hw31 : k0_chk31 v805), 512 ∣ (k0_mult31 v805).toNat := fun v805 k0_hw31 => k0_hw31.1
theorem k0_off58_inb : ∀ (v805 : BitVec 32) (k0_hw31 : k0_chk31 v805), ∀ a, (k0_off58 v805) a + S512x256.size a ≤ S8192x256.size a := fun v805 k0_hw31 => k0_hw31.2

def k0_mult33 (v819 : BitVec 32) : BitVec 32 :=
  let c512_i32_319 : BitVec 32 := 512#32
  let v820 : BitVec 32 := Scalar.muli v819 c512_i32_319
  v820

def k0_mult34 (v822 : BitVec 32) : BitVec 32 :=
  let c512_i32_322 : BitVec 32 := 512#32
  let v823 : BitVec 32 := Scalar.muli v822 c512_i32_322
  v823

def k0_off59 (v822 : BitVec 32) : Fin 3 → Nat :=
  let c0_323 : Index := 0#32
  let c0_324 : Index := 0#32
  let c512_i32_322 : BitVec 32 := 512#32
  let v823 : BitVec 32 := Scalar.muli v822 c512_i32_322
  let v824 : BitVec 32 := v823
  let v825 : Index := Scalar.indexCast v824
  ![0, 0, v825.toNat]

def k0_chk34 (v822 : BitVec 32) : Prop :=
  (512 ∣ (k0_mult34 v822).toNat) ∧
  (∀ a, (k0_off59 v822) a + S1x1x512.size a ≤ S1x1x8192.size a)
theorem k0_mult34_dvd : ∀ (v822 : BitVec 32) (k0_hw34 : k0_chk34 v822), 512 ∣ (k0_mult34 v822).toNat := fun v822 k0_hw34 => k0_hw34.1
theorem k0_off59_inb : ∀ (v822 : BitVec 32) (k0_hw34 : k0_chk34 v822), ∀ a, (k0_off59 v822) a + S1x1x512.size a ≤ S1x1x8192.size a := fun v822 k0_hw34 => k0_hw34.2

def k0_off60 (v819 : BitVec 32) (c0_i32_326 : BitVec 32) : Fin 2 → Nat :=
  let c512_i32_319 : BitVec 32 := 512#32
  let v820 : BitVec 32 := Scalar.muli v819 c512_i32_319
  let v821 : BitVec 32 := v820
  let v830 : BitVec 32 := Scalar.addi v821 c0_i32_326
  let v841 : Index := Scalar.indexCast v830
  let c0_331 : Index := 0#32
  ![v841.toNat, 0]

def k0_chk33 (v819 : BitVec 32) : Prop :=
  (512 ∣ (k0_mult33 v819).toNat) ∧
  (∀ (r : Fin 16), ∀ a, (k0_off60 v819 (BitVec.ofNat 32 (32 * r.val))) a + S32x1.size a ≤ S8192x1.size a)
theorem k0_mult33_dvd : ∀ (v819 : BitVec 32) (k0_hw33 : k0_chk33 v819), 512 ∣ (k0_mult33 v819).toNat := fun v819 k0_hw33 => k0_hw33.1
theorem k0_off60_inb : ∀ (v819 : BitVec 32) (k0_hw33 : k0_chk33 v819), ∀ (r : Fin 16), ∀ a, (k0_off60 v819 (BitVec.ofNat 32 (32 * r.val))) a + S32x1.size a ≤ S8192x1.size a := fun v819 k0_hw33 r => k0_hw33.2 r

def k0_mult35 (v1278 : BitVec 32) : BitVec 32 :=
  let c512_i32_487 : BitVec 32 := 512#32
  let v1279 : BitVec 32 := Scalar.muli v1278 c512_i32_487
  v1279

def k0_mult36 (v1281 : BitVec 32) : BitVec 32 :=
  let c512_i32_490 : BitVec 32 := 512#32
  let v1282 : BitVec 32 := Scalar.muli v1281 c512_i32_490
  v1282

def k0_off61 (v1278 : BitVec 32) : Fin 2 → Nat :=
  let c512_i32_487 : BitVec 32 := 512#32
  let v1279 : BitVec 32 := Scalar.muli v1278 c512_i32_487
  let v1280 : BitVec 32 := v1279
  let v1284 : Index := Scalar.indexCast v1280
  let c0_491 : Index := 0#32
  ![v1284.toNat, 0]

def k0_chk35 (v1278 : BitVec 32) : Prop :=
  (512 ∣ (k0_mult35 v1278).toNat) ∧
  (∀ a, (k0_off61 v1278) a + S512x128.size a ≤ S8192x128.size a)
theorem k0_mult35_dvd : ∀ (v1278 : BitVec 32) (k0_hw35 : k0_chk35 v1278), 512 ∣ (k0_mult35 v1278).toNat := fun v1278 k0_hw35 => k0_hw35.1
theorem k0_off61_inb : ∀ (v1278 : BitVec 32) (k0_hw35 : k0_chk35 v1278), ∀ a, (k0_off61 v1278) a + S512x128.size a ≤ S8192x128.size a := fun v1278 k0_hw35 => k0_hw35.2

def k0_off62 (v1281 : BitVec 32) : Fin 2 → Nat :=
  let c0_492 : Index := 0#32
  let c512_i32_490 : BitVec 32 := 512#32
  let v1282 : BitVec 32 := Scalar.muli v1281 c512_i32_490
  let v1283 : BitVec 32 := v1282
  let v1287 : Index := Scalar.indexCast v1283
  ![0, v1287.toNat]

def k0_chk36 (v1281 : BitVec 32) : Prop :=
  (512 ∣ (k0_mult36 v1281).toNat) ∧
  (∀ a, (k0_off62 v1281) a + S128x512.size a ≤ S128x8192.size a)
theorem k0_mult36_dvd : ∀ (v1281 : BitVec 32) (k0_hw36 : k0_chk36 v1281), 512 ∣ (k0_mult36 v1281).toNat := fun v1281 k0_hw36 => k0_hw36.1
theorem k0_off62_inb : ∀ (v1281 : BitVec 32) (k0_hw36 : k0_chk36 v1281), ∀ a, (k0_off62 v1281) a + S128x512.size a ≤ S128x8192.size a := fun v1281 k0_hw36 => k0_hw36.2

def k0_mult37 (v1293 : BitVec 32) : BitVec 32 :=
  let c512_i32_498 : BitVec 32 := 512#32
  let v1294 : BitVec 32 := Scalar.muli v1293 c512_i32_498
  v1294

def k0_mult38 (v1296 : BitVec 32) : BitVec 32 :=
  let c512_i32_501 : BitVec 32 := 512#32
  let v1297 : BitVec 32 := Scalar.muli v1296 c512_i32_501
  v1297

def k0_off63 (v1296 : BitVec 32) : Fin 2 → Nat :=
  let c512_i32_501 : BitVec 32 := 512#32
  let v1297 : BitVec 32 := Scalar.muli v1296 c512_i32_501
  let v1298 : BitVec 32 := v1297
  let v1300 : Index := Scalar.indexCast v1298
  let c0_504 : Index := 0#32
  ![v1300.toNat, 0]

def k0_chk38 (v1296 : BitVec 32) : Prop :=
  (512 ∣ (k0_mult38 v1296).toNat) ∧
  (∀ a, (k0_off63 v1296) a + S512x256.size a ≤ S8192x256.size a)
theorem k0_mult38_dvd : ∀ (v1296 : BitVec 32) (k0_hw38 : k0_chk38 v1296), 512 ∣ (k0_mult38 v1296).toNat := fun v1296 k0_hw38 => k0_hw38.1
theorem k0_off63_inb : ∀ (v1296 : BitVec 32) (k0_hw38 : k0_chk38 v1296), ∀ a, (k0_off63 v1296) a + S512x256.size a ≤ S8192x256.size a := fun v1296 k0_hw38 => k0_hw38.2

def k0_off64 (v1293 : BitVec 32) : Fin 2 → Nat :=
  let c512_i32_498 : BitVec 32 := 512#32
  let v1294 : BitVec 32 := Scalar.muli v1293 c512_i32_498
  let v1295 : BitVec 32 := v1294
  let v1303 : Index := Scalar.indexCast v1295
  let c0_506 : Index := 0#32
  ![v1303.toNat, 0]

def k0_chk37 (v1293 : BitVec 32) : Prop :=
  (512 ∣ (k0_mult37 v1293).toNat) ∧
  (∀ a, (k0_off64 v1293) a + S512x256.size a ≤ S8192x256.size a)
theorem k0_mult37_dvd : ∀ (v1293 : BitVec 32) (k0_hw37 : k0_chk37 v1293), 512 ∣ (k0_mult37 v1293).toNat := fun v1293 k0_hw37 => k0_hw37.1
theorem k0_off64_inb : ∀ (v1293 : BitVec 32) (k0_hw37 : k0_chk37 v1293), ∀ a, (k0_off64 v1293) a + S512x256.size a ≤ S8192x256.size a := fun v1293 k0_hw37 => k0_hw37.2

def k0_mult39 (v1307 : BitVec 32) : BitVec 32 :=
  let c512_i32_509 : BitVec 32 := 512#32
  let v1308 : BitVec 32 := Scalar.muli v1307 c512_i32_509
  v1308

def k0_mult40 (v1310 : BitVec 32) : BitVec 32 :=
  let c512_i32_512 : BitVec 32 := 512#32
  let v1311 : BitVec 32 := Scalar.muli v1310 c512_i32_512
  v1311

def k0_off65 (v1310 : BitVec 32) : Fin 3 → Nat :=
  let c0_513 : Index := 0#32
  let c0_514 : Index := 0#32
  let c512_i32_512 : BitVec 32 := 512#32
  let v1311 : BitVec 32 := Scalar.muli v1310 c512_i32_512
  let v1312 : BitVec 32 := v1311
  let v1313 : Index := Scalar.indexCast v1312
  ![0, 0, v1313.toNat]

def k0_chk40 (v1310 : BitVec 32) : Prop :=
  (512 ∣ (k0_mult40 v1310).toNat) ∧
  (∀ a, (k0_off65 v1310) a + S1x1x512.size a ≤ S1x1x8192.size a)
theorem k0_mult40_dvd : ∀ (v1310 : BitVec 32) (k0_hw40 : k0_chk40 v1310), 512 ∣ (k0_mult40 v1310).toNat := fun v1310 k0_hw40 => k0_hw40.1
theorem k0_off65_inb : ∀ (v1310 : BitVec 32) (k0_hw40 : k0_chk40 v1310), ∀ a, (k0_off65 v1310) a + S1x1x512.size a ≤ S1x1x8192.size a := fun v1310 k0_hw40 => k0_hw40.2

def k0_off66 (v1307 : BitVec 32) (c0_i32_516 : BitVec 32) : Fin 2 → Nat :=
  let c512_i32_509 : BitVec 32 := 512#32
  let v1308 : BitVec 32 := Scalar.muli v1307 c512_i32_509
  let v1309 : BitVec 32 := v1308
  let v1318 : BitVec 32 := Scalar.addi v1309 c0_i32_516
  let v1329 : Index := Scalar.indexCast v1318
  let c0_521 : Index := 0#32
  ![v1329.toNat, 0]

def k0_chk39 (v1307 : BitVec 32) : Prop :=
  (512 ∣ (k0_mult39 v1307).toNat) ∧
  (∀ (r : Fin 16), ∀ a, (k0_off66 v1307 (BitVec.ofNat 32 (32 * r.val))) a + S32x1.size a ≤ S8192x1.size a)
theorem k0_mult39_dvd : ∀ (v1307 : BitVec 32) (k0_hw39 : k0_chk39 v1307), 512 ∣ (k0_mult39 v1307).toNat := fun v1307 k0_hw39 => k0_hw39.1
theorem k0_off66_inb : ∀ (v1307 : BitVec 32) (k0_hw39 : k0_chk39 v1307), ∀ (r : Fin 16), ∀ a, (k0_off66 v1307 (BitVec.ofNat 32 (32 * r.val))) a + S32x1.size a ≤ S8192x1.size a := fun v1307 k0_hw39 r => k0_hw39.2 r

def k0_mult41 (v1766 : BitVec 32) : BitVec 32 :=
  let c512_i32_677 : BitVec 32 := 512#32
  let v1767 : BitVec 32 := Scalar.muli v1766 c512_i32_677
  v1767

def k0_mult42 (v1769 : BitVec 32) : BitVec 32 :=
  let c512_i32_680 : BitVec 32 := 512#32
  let v1770 : BitVec 32 := Scalar.muli v1769 c512_i32_680
  v1770

def k0_off67 (v1766 : BitVec 32) : Fin 2 → Nat :=
  let c512_i32_677 : BitVec 32 := 512#32
  let v1767 : BitVec 32 := Scalar.muli v1766 c512_i32_677
  let v1768 : BitVec 32 := v1767
  let v1772 : Index := Scalar.indexCast v1768
  let c0_681 : Index := 0#32
  ![v1772.toNat, 0]

def k0_chk41 (v1766 : BitVec 32) : Prop :=
  (512 ∣ (k0_mult41 v1766).toNat) ∧
  (∀ a, (k0_off67 v1766) a + S512x128.size a ≤ S8192x128.size a)
theorem k0_mult41_dvd : ∀ (v1766 : BitVec 32) (k0_hw41 : k0_chk41 v1766), 512 ∣ (k0_mult41 v1766).toNat := fun v1766 k0_hw41 => k0_hw41.1
theorem k0_off67_inb : ∀ (v1766 : BitVec 32) (k0_hw41 : k0_chk41 v1766), ∀ a, (k0_off67 v1766) a + S512x128.size a ≤ S8192x128.size a := fun v1766 k0_hw41 => k0_hw41.2

def k0_off68 (v1769 : BitVec 32) : Fin 2 → Nat :=
  let c0_682 : Index := 0#32
  let c512_i32_680 : BitVec 32 := 512#32
  let v1770 : BitVec 32 := Scalar.muli v1769 c512_i32_680
  let v1771 : BitVec 32 := v1770
  let v1775 : Index := Scalar.indexCast v1771
  ![0, v1775.toNat]

def k0_chk42 (v1769 : BitVec 32) : Prop :=
  (512 ∣ (k0_mult42 v1769).toNat) ∧
  (∀ a, (k0_off68 v1769) a + S128x512.size a ≤ S128x8192.size a)
theorem k0_mult42_dvd : ∀ (v1769 : BitVec 32) (k0_hw42 : k0_chk42 v1769), 512 ∣ (k0_mult42 v1769).toNat := fun v1769 k0_hw42 => k0_hw42.1
theorem k0_off68_inb : ∀ (v1769 : BitVec 32) (k0_hw42 : k0_chk42 v1769), ∀ a, (k0_off68 v1769) a + S128x512.size a ≤ S128x8192.size a := fun v1769 k0_hw42 => k0_hw42.2

def k0_mult43 (v1781 : BitVec 32) : BitVec 32 :=
  let c512_i32_688 : BitVec 32 := 512#32
  let v1782 : BitVec 32 := Scalar.muli v1781 c512_i32_688
  v1782

def k0_mult44 (v1784 : BitVec 32) : BitVec 32 :=
  let c512_i32_691 : BitVec 32 := 512#32
  let v1785 : BitVec 32 := Scalar.muli v1784 c512_i32_691
  v1785

def k0_off69 (v1784 : BitVec 32) : Fin 2 → Nat :=
  let c512_i32_691 : BitVec 32 := 512#32
  let v1785 : BitVec 32 := Scalar.muli v1784 c512_i32_691
  let v1786 : BitVec 32 := v1785
  let v1788 : Index := Scalar.indexCast v1786
  let c0_694 : Index := 0#32
  ![v1788.toNat, 0]

def k0_chk44 (v1784 : BitVec 32) : Prop :=
  (512 ∣ (k0_mult44 v1784).toNat) ∧
  (∀ a, (k0_off69 v1784) a + S512x256.size a ≤ S8192x256.size a)
theorem k0_mult44_dvd : ∀ (v1784 : BitVec 32) (k0_hw44 : k0_chk44 v1784), 512 ∣ (k0_mult44 v1784).toNat := fun v1784 k0_hw44 => k0_hw44.1
theorem k0_off69_inb : ∀ (v1784 : BitVec 32) (k0_hw44 : k0_chk44 v1784), ∀ a, (k0_off69 v1784) a + S512x256.size a ≤ S8192x256.size a := fun v1784 k0_hw44 => k0_hw44.2

def k0_off70 (v1781 : BitVec 32) : Fin 2 → Nat :=
  let c512_i32_688 : BitVec 32 := 512#32
  let v1782 : BitVec 32 := Scalar.muli v1781 c512_i32_688
  let v1783 : BitVec 32 := v1782
  let v1791 : Index := Scalar.indexCast v1783
  let c0_696 : Index := 0#32
  ![v1791.toNat, 0]

def k0_chk43 (v1781 : BitVec 32) : Prop :=
  (512 ∣ (k0_mult43 v1781).toNat) ∧
  (∀ a, (k0_off70 v1781) a + S512x256.size a ≤ S8192x256.size a)
theorem k0_mult43_dvd : ∀ (v1781 : BitVec 32) (k0_hw43 : k0_chk43 v1781), 512 ∣ (k0_mult43 v1781).toNat := fun v1781 k0_hw43 => k0_hw43.1
theorem k0_off70_inb : ∀ (v1781 : BitVec 32) (k0_hw43 : k0_chk43 v1781), ∀ a, (k0_off70 v1781) a + S512x256.size a ≤ S8192x256.size a := fun v1781 k0_hw43 => k0_hw43.2

def k0_mult45 (v1795 : BitVec 32) : BitVec 32 :=
  let c512_i32_699 : BitVec 32 := 512#32
  let v1796 : BitVec 32 := Scalar.muli v1795 c512_i32_699
  v1796

def k0_mult46 (v1798 : BitVec 32) : BitVec 32 :=
  let c512_i32_702 : BitVec 32 := 512#32
  let v1799 : BitVec 32 := Scalar.muli v1798 c512_i32_702
  v1799

def k0_off71 (v1798 : BitVec 32) : Fin 3 → Nat :=
  let c0_703 : Index := 0#32
  let c0_704 : Index := 0#32
  let c512_i32_702 : BitVec 32 := 512#32
  let v1799 : BitVec 32 := Scalar.muli v1798 c512_i32_702
  let v1800 : BitVec 32 := v1799
  let v1801 : Index := Scalar.indexCast v1800
  ![0, 0, v1801.toNat]

def k0_chk46 (v1798 : BitVec 32) : Prop :=
  (512 ∣ (k0_mult46 v1798).toNat) ∧
  (∀ a, (k0_off71 v1798) a + S1x1x512.size a ≤ S1x1x8192.size a)
theorem k0_mult46_dvd : ∀ (v1798 : BitVec 32) (k0_hw46 : k0_chk46 v1798), 512 ∣ (k0_mult46 v1798).toNat := fun v1798 k0_hw46 => k0_hw46.1
theorem k0_off71_inb : ∀ (v1798 : BitVec 32) (k0_hw46 : k0_chk46 v1798), ∀ a, (k0_off71 v1798) a + S1x1x512.size a ≤ S1x1x8192.size a := fun v1798 k0_hw46 => k0_hw46.2

def k0_off72 (v1795 : BitVec 32) (c0_i32_706 : BitVec 32) : Fin 2 → Nat :=
  let c512_i32_699 : BitVec 32 := 512#32
  let v1796 : BitVec 32 := Scalar.muli v1795 c512_i32_699
  let v1797 : BitVec 32 := v1796
  let v1806 : BitVec 32 := Scalar.addi v1797 c0_i32_706
  let v1817 : Index := Scalar.indexCast v1806
  let c0_711 : Index := 0#32
  ![v1817.toNat, 0]

def k0_chk45 (v1795 : BitVec 32) : Prop :=
  (512 ∣ (k0_mult45 v1795).toNat) ∧
  (∀ (r : Fin 16), ∀ a, (k0_off72 v1795 (BitVec.ofNat 32 (32 * r.val))) a + S32x1.size a ≤ S8192x1.size a)
theorem k0_mult45_dvd : ∀ (v1795 : BitVec 32) (k0_hw45 : k0_chk45 v1795), 512 ∣ (k0_mult45 v1795).toNat := fun v1795 k0_hw45 => k0_hw45.1
theorem k0_off72_inb : ∀ (v1795 : BitVec 32) (k0_hw45 : k0_chk45 v1795), ∀ (r : Fin 16), ∀ a, (k0_off72 v1795 (BitVec.ofNat 32 (32 * r.val))) a + S32x1.size a ≤ S8192x1.size a := fun v1795 k0_hw45 r => k0_hw45.2 r

def k0_mult47 (v2254 : BitVec 32) : BitVec 32 :=
  let c512_i32_868 : BitVec 32 := 512#32
  let v2255 : BitVec 32 := Scalar.muli v2254 c512_i32_868
  v2255

def k0_mult48 (v2257 : BitVec 32) : BitVec 32 :=
  let c512_i32_871 : BitVec 32 := 512#32
  let v2258 : BitVec 32 := Scalar.muli v2257 c512_i32_871
  v2258

def k0_off73 (v2257 : BitVec 32) : Fin 2 → Nat :=
  let c512_i32_871 : BitVec 32 := 512#32
  let v2258 : BitVec 32 := Scalar.muli v2257 c512_i32_871
  let v2259 : BitVec 32 := v2258
  let v2261 : Index := Scalar.indexCast v2259
  let c0_874 : Index := 0#32
  ![v2261.toNat, 0]

def k0_chk48 (v2257 : BitVec 32) : Prop :=
  (512 ∣ (k0_mult48 v2257).toNat) ∧
  (∀ a, (k0_off73 v2257) a + S512x256.size a ≤ S8192x256.size a)
theorem k0_mult48_dvd : ∀ (v2257 : BitVec 32) (k0_hw48 : k0_chk48 v2257), 512 ∣ (k0_mult48 v2257).toNat := fun v2257 k0_hw48 => k0_hw48.1
theorem k0_off73_inb : ∀ (v2257 : BitVec 32) (k0_hw48 : k0_chk48 v2257), ∀ a, (k0_off73 v2257) a + S512x256.size a ≤ S8192x256.size a := fun v2257 k0_hw48 => k0_hw48.2

def k0_off74 (v2254 : BitVec 32) : Fin 2 → Nat :=
  let c512_i32_868 : BitVec 32 := 512#32
  let v2255 : BitVec 32 := Scalar.muli v2254 c512_i32_868
  let v2256 : BitVec 32 := v2255
  let v2264 : Index := Scalar.indexCast v2256
  let c0_876 : Index := 0#32
  ![v2264.toNat, 0]

def k0_chk47 (v2254 : BitVec 32) : Prop :=
  (512 ∣ (k0_mult47 v2254).toNat) ∧
  (∀ a, (k0_off74 v2254) a + S512x256.size a ≤ S8192x256.size a)
theorem k0_mult47_dvd : ∀ (v2254 : BitVec 32) (k0_hw47 : k0_chk47 v2254), 512 ∣ (k0_mult47 v2254).toNat := fun v2254 k0_hw47 => k0_hw47.1
theorem k0_off74_inb : ∀ (v2254 : BitVec 32) (k0_hw47 : k0_chk47 v2254), ∀ a, (k0_off74 v2254) a + S512x256.size a ≤ S8192x256.size a := fun v2254 k0_hw47 => k0_hw47.2

def k0_mult49 (v2268 : BitVec 32) : BitVec 32 :=
  let c512_i32_878 : BitVec 32 := 512#32
  let v2269 : BitVec 32 := Scalar.muli v2268 c512_i32_878
  v2269

def k0_mult50 (v2271 : BitVec 32) : BitVec 32 :=
  let c512_i32_881 : BitVec 32 := 512#32
  let v2272 : BitVec 32 := Scalar.muli v2271 c512_i32_881
  v2272

def k0_off75 (v2268 : BitVec 32) : Fin 2 → Nat :=
  let c512_i32_878 : BitVec 32 := 512#32
  let v2269 : BitVec 32 := Scalar.muli v2268 c512_i32_878
  let v2270 : BitVec 32 := v2269
  let v2274 : Index := Scalar.indexCast v2270
  let c0_882 : Index := 0#32
  ![v2274.toNat, 0]

def k0_chk49 (v2268 : BitVec 32) : Prop :=
  (512 ∣ (k0_mult49 v2268).toNat) ∧
  (∀ a, (k0_off75 v2268) a + S512x128.size a ≤ S8192x128.size a)
theorem k0_mult49_dvd : ∀ (v2268 : BitVec 32) (k0_hw49 : k0_chk49 v2268), 512 ∣ (k0_mult49 v2268).toNat := fun v2268 k0_hw49 => k0_hw49.1
theorem k0_off75_inb : ∀ (v2268 : BitVec 32) (k0_hw49 : k0_chk49 v2268), ∀ a, (k0_off75 v2268) a + S512x128.size a ≤ S8192x128.size a := fun v2268 k0_hw49 => k0_hw49.2

def k0_off76 (v2271 : BitVec 32) : Fin 2 → Nat :=
  let c0_883 : Index := 0#32
  let c512_i32_881 : BitVec 32 := 512#32
  let v2272 : BitVec 32 := Scalar.muli v2271 c512_i32_881
  let v2273 : BitVec 32 := v2272
  let v2277 : Index := Scalar.indexCast v2273
  ![0, v2277.toNat]

def k0_chk50 (v2271 : BitVec 32) : Prop :=
  (512 ∣ (k0_mult50 v2271).toNat) ∧
  (∀ a, (k0_off76 v2271) a + S128x1024.size a ≤ S128x8192.size a)
theorem k0_mult50_dvd : ∀ (v2271 : BitVec 32) (k0_hw50 : k0_chk50 v2271), 512 ∣ (k0_mult50 v2271).toNat := fun v2271 k0_hw50 => k0_hw50.1
theorem k0_off76_inb : ∀ (v2271 : BitVec 32) (k0_hw50 : k0_chk50 v2271), ∀ a, (k0_off76 v2271) a + S128x1024.size a ≤ S128x8192.size a := fun v2271 k0_hw50 => k0_hw50.2

def k0_mult51 (v2283 : BitVec 32) : BitVec 32 :=
  let c512_i32_889 : BitVec 32 := 512#32
  let v2284 : BitVec 32 := Scalar.muli v2283 c512_i32_889
  v2284

def k0_mult52 (v2286 : BitVec 32) : BitVec 32 :=
  let c512_i32_892 : BitVec 32 := 512#32
  let v2287 : BitVec 32 := Scalar.muli v2286 c512_i32_892
  v2287

def k0_off77 (v2286 : BitVec 32) : Fin 3 → Nat :=
  let c0_893 : Index := 0#32
  let c0_894 : Index := 0#32
  let c512_i32_892 : BitVec 32 := 512#32
  let v2287 : BitVec 32 := Scalar.muli v2286 c512_i32_892
  let v2288 : BitVec 32 := v2287
  let v2289 : Index := Scalar.indexCast v2288
  ![0, 0, v2289.toNat]

def k0_chk52 (v2286 : BitVec 32) : Prop :=
  (512 ∣ (k0_mult52 v2286).toNat) ∧
  (∀ a, (k0_off77 v2286) a + S1x1x1024.size a ≤ S1x1x8192.size a)
theorem k0_mult52_dvd : ∀ (v2286 : BitVec 32) (k0_hw52 : k0_chk52 v2286), 512 ∣ (k0_mult52 v2286).toNat := fun v2286 k0_hw52 => k0_hw52.1
theorem k0_off77_inb : ∀ (v2286 : BitVec 32) (k0_hw52 : k0_chk52 v2286), ∀ a, (k0_off77 v2286) a + S1x1x1024.size a ≤ S1x1x8192.size a := fun v2286 k0_hw52 => k0_hw52.2

def k0_off78 (v2283 : BitVec 32) (c0_i32_896 : BitVec 32) : Fin 2 → Nat :=
  let c512_i32_889 : BitVec 32 := 512#32
  let v2284 : BitVec 32 := Scalar.muli v2283 c512_i32_889
  let v2285 : BitVec 32 := v2284
  let v2294 : BitVec 32 := Scalar.addi v2285 c0_i32_896
  let v2298 : Index := Scalar.indexCast v2294
  let c0_899 : Index := 0#32
  ![v2298.toNat, 0]

def k0_chk51 (v2283 : BitVec 32) : Prop :=
  (512 ∣ (k0_mult51 v2283).toNat) ∧
  (∀ (r : Fin 16), ∀ a, (k0_off78 v2283 (BitVec.ofNat 32 (32 * r.val))) a + S32x1.size a ≤ S8192x1.size a)
theorem k0_mult51_dvd : ∀ (v2283 : BitVec 32) (k0_hw51 : k0_chk51 v2283), 512 ∣ (k0_mult51 v2283).toNat := fun v2283 k0_hw51 => k0_hw51.1
theorem k0_off78_inb : ∀ (v2283 : BitVec 32) (k0_hw51 : k0_chk51 v2283), ∀ (r : Fin 16), ∀ a, (k0_off78 v2283 (BitVec.ofNat 32 (32 * r.val))) a + S32x1.size a ≤ S8192x1.size a := fun v2283 k0_hw51 r => k0_hw51.2 r

def k0_off79 : Fin 2 → Nat :=
  let c0_1072 : Index := 0#32
  let c17_i32 : BitVec 32 := 17#32
  let c71_i32 : BitVec 32 := 71#32
  let v2758 : BitVec 32 := Scalar.minsi c17_i32 c71_i32
  let v2759 : Index := Scalar.indexCast v2758
  ![0, v2759.toNat]
def k0_mult53 (v2760 : BitVec 32) : BitVec 32 :=
  let c512_i32_1073 : BitVec 32 := 512#32
  let v2761 : BitVec 32 := Scalar.muli v2760 c512_i32_1073
  v2761

def k0_off80 : Fin 2 → Nat :=
  let c1_1074 : Index := 1#32
  let c17_i32 : BitVec 32 := 17#32
  let c71_i32 : BitVec 32 := 71#32
  let v2758 : BitVec 32 := Scalar.minsi c17_i32 c71_i32
  let v2763 : Index := Scalar.indexCast v2758
  ![1, v2763.toNat]
def k0_mult54 (v2764 : BitVec 32) : BitVec 32 :=
  let c512_i32_1075 : BitVec 32 := 512#32
  let v2765 : BitVec 32 := Scalar.muli v2764 c512_i32_1075
  v2765

def k0_off81 (v2760 : BitVec 32) : Fin 2 → Nat :=
  let c512_i32_1073 : BitVec 32 := 512#32
  let v2761 : BitVec 32 := Scalar.muli v2760 c512_i32_1073
  let v2762 : BitVec 32 := v2761
  let v2767 : Index := Scalar.indexCast v2762
  let c0_1076 : Index := 0#32
  ![v2767.toNat, 0]

def k0_chk53 (v2760 : BitVec 32) : Prop :=
  (512 ∣ (k0_mult53 v2760).toNat) ∧
  (∀ a, (k0_off81 v2760) a + S512x128.size a ≤ S8192x128.size a)
theorem k0_mult53_dvd : ∀ (v2760 : BitVec 32) (k0_hw53 : k0_chk53 v2760), 512 ∣ (k0_mult53 v2760).toNat := fun v2760 k0_hw53 => k0_hw53.1
theorem k0_off81_inb : ∀ (v2760 : BitVec 32) (k0_hw53 : k0_chk53 v2760), ∀ a, (k0_off81 v2760) a + S512x128.size a ≤ S8192x128.size a := fun v2760 k0_hw53 => k0_hw53.2

def k0_off82 (v2764 : BitVec 32) : Fin 2 → Nat :=
  let c0_1077 : Index := 0#32
  let c512_i32_1075 : BitVec 32 := 512#32
  let v2765 : BitVec 32 := Scalar.muli v2764 c512_i32_1075
  let v2766 : BitVec 32 := v2765
  let v2770 : Index := Scalar.indexCast v2766
  ![0, v2770.toNat]

def k0_chk54 (v2764 : BitVec 32) : Prop :=
  (512 ∣ (k0_mult54 v2764).toNat) ∧
  (∀ a, (k0_off82 v2764) a + S128x1024.size a ≤ S128x8192.size a)
theorem k0_mult54_dvd : ∀ (v2764 : BitVec 32) (k0_hw54 : k0_chk54 v2764), 512 ∣ (k0_mult54 v2764).toNat := fun v2764 k0_hw54 => k0_hw54.1
theorem k0_off82_inb : ∀ (v2764 : BitVec 32) (k0_hw54 : k0_chk54 v2764), ∀ a, (k0_off82 v2764) a + S128x1024.size a ≤ S128x8192.size a := fun v2764 k0_hw54 => k0_hw54.2

@[reducible] def k0_t2_loop : Scf.Loop 32 :=
  let c0_i32_1081 : BitVec 32 := 0#32
  let c13_i32 : BitVec 32 := 13#32
  let v2776 : BitVec 32 := Scalar.addi c0_i32_1081 c13_i32
  let c1_i32_1082 : BitVec 32 := 1#32
  ⟨c0_i32_1081, v2776, c1_i32_1082⟩
def k0_off83 (k0_t2 : Fin k0_t2_loop.trips) : Fin 2 → Nat :=
  let c0_3398 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c0_i32_3397 : BitVec 32 := 0#32
  let v8463 : BitVec 32 := Scalar.addi v8462 c0_i32_3397
  let v8464 : Index := Scalar.indexCast v8463
  ![0, v8464.toNat]
def k0_mult55 (v8465 : BitVec 32) : BitVec 32 :=
  let c512_i32_3399 : BitVec 32 := 512#32
  let v8466 : BitVec 32 := Scalar.muli v8465 c512_i32_3399
  v8466

def k0_off84 (k0_t2 : Fin k0_t2_loop.trips) : Fin 2 → Nat :=
  let c1_3400 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c0_i32_3397 : BitVec 32 := 0#32
  let v8463 : BitVec 32 := Scalar.addi v8462 c0_i32_3397
  let v8468 : Index := Scalar.indexCast v8463
  ![1, v8468.toNat]
def k0_mult56 (v8469 : BitVec 32) : BitVec 32 :=
  let c512_i32_3401 : BitVec 32 := 512#32
  let v8470 : BitVec 32 := Scalar.muli v8469 c512_i32_3401
  v8470

def k0_off85 (v8469 : BitVec 32) : Fin 2 → Nat :=
  let c512_i32_3401 : BitVec 32 := 512#32
  let v8470 : BitVec 32 := Scalar.muli v8469 c512_i32_3401
  let v8471 : BitVec 32 := v8470
  let v8473 : Index := Scalar.indexCast v8471
  let c0_3404 : Index := 0#32
  ![v8473.toNat, 0]

def k0_chk56 (v8469 : BitVec 32) : Prop :=
  (512 ∣ (k0_mult56 v8469).toNat) ∧
  (∀ a, (k0_off85 v8469) a + S1024x256.size a ≤ S8192x256.size a)
theorem k0_mult56_dvd : ∀ (v8469 : BitVec 32) (k0_hw56 : k0_chk56 v8469), 512 ∣ (k0_mult56 v8469).toNat := fun v8469 k0_hw56 => k0_hw56.1
theorem k0_off85_inb : ∀ (v8469 : BitVec 32) (k0_hw56 : k0_chk56 v8469), ∀ a, (k0_off85 v8469) a + S1024x256.size a ≤ S8192x256.size a := fun v8469 k0_hw56 => k0_hw56.2

def k0_off86 (v8465 : BitVec 32) : Fin 2 → Nat :=
  let c512_i32_3399 : BitVec 32 := 512#32
  let v8466 : BitVec 32 := Scalar.muli v8465 c512_i32_3399
  let v8467 : BitVec 32 := v8466
  let v8477 : Index := Scalar.indexCast v8467
  let c0_3408 : Index := 0#32
  ![v8477.toNat, 0]

def k0_chk55 (v8465 : BitVec 32) : Prop :=
  (512 ∣ (k0_mult55 v8465).toNat) ∧
  (∀ a, (k0_off86 v8465) a + S512x256.size a ≤ S8192x256.size a)
theorem k0_mult55_dvd : ∀ (v8465 : BitVec 32) (k0_hw55 : k0_chk55 v8465), 512 ∣ (k0_mult55 v8465).toNat := fun v8465 k0_hw55 => k0_hw55.1
theorem k0_off86_inb : ∀ (v8465 : BitVec 32) (k0_hw55 : k0_chk55 v8465), ∀ a, (k0_off86 v8465) a + S512x256.size a ≤ S8192x256.size a := fun v8465 k0_hw55 => k0_hw55.2

def k0_off87 (k0_t2 : Fin k0_t2_loop.trips) : Fin 2 → Nat :=
  let c0_3412 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c0_i32_3410 : BitVec 32 := 0#32
  let v8486 : BitVec 32 := Scalar.addi v8462 c0_i32_3410
  let c1_i32_3411 : BitVec 32 := 1#32
  let v8487 : BitVec 32 := Scalar.addi v8486 c1_i32_3411
  let v8488 : Index := Scalar.indexCast v8487
  ![0, v8488.toNat]
def k0_mult57 (v8489 : BitVec 32) : BitVec 32 :=
  let c512_i32_3413 : BitVec 32 := 512#32
  let v8490 : BitVec 32 := Scalar.muli v8489 c512_i32_3413
  v8490

def k0_off88 (k0_t2 : Fin k0_t2_loop.trips) : Fin 2 → Nat :=
  let c1_3414 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c0_i32_3410 : BitVec 32 := 0#32
  let v8486 : BitVec 32 := Scalar.addi v8462 c0_i32_3410
  let c1_i32_3411 : BitVec 32 := 1#32
  let v8487 : BitVec 32 := Scalar.addi v8486 c1_i32_3411
  let v8492 : Index := Scalar.indexCast v8487
  ![1, v8492.toNat]
def k0_mult58 (v8493 : BitVec 32) : BitVec 32 :=
  let c512_i32_3415 : BitVec 32 := 512#32
  let v8494 : BitVec 32 := Scalar.muli v8493 c512_i32_3415
  v8494

def k0_off89 (v8493 : BitVec 32) : Fin 3 → Nat :=
  let c0_3416 : Index := 0#32
  let c0_3417 : Index := 0#32
  let c512_i32_3415 : BitVec 32 := 512#32
  let v8494 : BitVec 32 := Scalar.muli v8493 c512_i32_3415
  let v8495 : BitVec 32 := v8494
  let v8496 : Index := Scalar.indexCast v8495
  ![0, 0, v8496.toNat]

def k0_chk58 (v8493 : BitVec 32) : Prop :=
  (512 ∣ (k0_mult58 v8493).toNat) ∧
  (∀ a, (k0_off89 v8493) a + S1x1x1024.size a ≤ S1x1x8192.size a)
theorem k0_mult58_dvd : ∀ (v8493 : BitVec 32) (k0_hw58 : k0_chk58 v8493), 512 ∣ (k0_mult58 v8493).toNat := fun v8493 k0_hw58 => k0_hw58.1
theorem k0_off89_inb : ∀ (v8493 : BitVec 32) (k0_hw58 : k0_chk58 v8493), ∀ a, (k0_off89 v8493) a + S1x1x1024.size a ≤ S1x1x8192.size a := fun v8493 k0_hw58 => k0_hw58.2

def k0_off90 (v8489 : BitVec 32) (c0_i32_3419 : BitVec 32) : Fin 2 → Nat :=
  let c512_i32_3413 : BitVec 32 := 512#32
  let v8490 : BitVec 32 := Scalar.muli v8489 c512_i32_3413
  let v8491 : BitVec 32 := v8490
  let v8501 : BitVec 32 := Scalar.addi v8491 c0_i32_3419
  let v8505 : Index := Scalar.indexCast v8501
  let c0_3422 : Index := 0#32
  ![v8505.toNat, 0]

def k0_chk57 (v8489 : BitVec 32) : Prop :=
  (512 ∣ (k0_mult57 v8489).toNat) ∧
  (∀ (r : Fin 16), ∀ a, (k0_off90 v8489 (BitVec.ofNat 32 (32 * r.val))) a + S32x1.size a ≤ S8192x1.size a)
theorem k0_mult57_dvd : ∀ (v8489 : BitVec 32) (k0_hw57 : k0_chk57 v8489), 512 ∣ (k0_mult57 v8489).toNat := fun v8489 k0_hw57 => k0_hw57.1
theorem k0_off90_inb : ∀ (v8489 : BitVec 32) (k0_hw57 : k0_chk57 v8489), ∀ (r : Fin 16), ∀ a, (k0_off90 v8489 (BitVec.ofNat 32 (32 * r.val))) a + S32x1.size a ≤ S8192x1.size a := fun v8489 k0_hw57 r => k0_hw57.2 r

def k0_off91 (k0_t2 : Fin k0_t2_loop.trips) : Fin 2 → Nat :=
  let c0_3598 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c0_i32_3595 : BitVec 32 := 0#32
  let v8965 : BitVec 32 := Scalar.addi v8462 c0_i32_3595
  let c2_i32_3596 : BitVec 32 := 2#32
  let v8966 : BitVec 32 := Scalar.addi v8965 c2_i32_3596
  let c71_i32_3597 : BitVec 32 := 71#32
  let v8967 : BitVec 32 := Scalar.minsi v8966 c71_i32_3597
  let v8968 : Index := Scalar.indexCast v8967
  ![0, v8968.toNat]
def k0_mult59 (v8969 : BitVec 32) : BitVec 32 :=
  let c512_i32_3599 : BitVec 32 := 512#32
  let v8970 : BitVec 32 := Scalar.muli v8969 c512_i32_3599
  v8970

def k0_off92 (k0_t2 : Fin k0_t2_loop.trips) : Fin 2 → Nat :=
  let c1_3600 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c0_i32_3595 : BitVec 32 := 0#32
  let v8965 : BitVec 32 := Scalar.addi v8462 c0_i32_3595
  let c2_i32_3596 : BitVec 32 := 2#32
  let v8966 : BitVec 32 := Scalar.addi v8965 c2_i32_3596
  let c71_i32_3597 : BitVec 32 := 71#32
  let v8967 : BitVec 32 := Scalar.minsi v8966 c71_i32_3597
  let v8972 : Index := Scalar.indexCast v8967
  ![1, v8972.toNat]
def k0_mult60 (v8973 : BitVec 32) : BitVec 32 :=
  let c512_i32_3601 : BitVec 32 := 512#32
  let v8974 : BitVec 32 := Scalar.muli v8973 c512_i32_3601
  v8974

def k0_off93 (v8969 : BitVec 32) : Fin 2 → Nat :=
  let c512_i32_3599 : BitVec 32 := 512#32
  let v8970 : BitVec 32 := Scalar.muli v8969 c512_i32_3599
  let v8971 : BitVec 32 := v8970
  let v8976 : Index := Scalar.indexCast v8971
  let c0_3602 : Index := 0#32
  ![v8976.toNat, 0]

def k0_chk59 (v8969 : BitVec 32) : Prop :=
  (512 ∣ (k0_mult59 v8969).toNat) ∧
  (∀ a, (k0_off93 v8969) a + S512x128.size a ≤ S8192x128.size a)
theorem k0_mult59_dvd : ∀ (v8969 : BitVec 32) (k0_hw59 : k0_chk59 v8969), 512 ∣ (k0_mult59 v8969).toNat := fun v8969 k0_hw59 => k0_hw59.1
theorem k0_off93_inb : ∀ (v8969 : BitVec 32) (k0_hw59 : k0_chk59 v8969), ∀ a, (k0_off93 v8969) a + S512x128.size a ≤ S8192x128.size a := fun v8969 k0_hw59 => k0_hw59.2

def k0_off94 (v8973 : BitVec 32) : Fin 2 → Nat :=
  let c0_3603 : Index := 0#32
  let c512_i32_3601 : BitVec 32 := 512#32
  let v8974 : BitVec 32 := Scalar.muli v8973 c512_i32_3601
  let v8975 : BitVec 32 := v8974
  let v8979 : Index := Scalar.indexCast v8975
  ![0, v8979.toNat]

def k0_chk60 (v8973 : BitVec 32) : Prop :=
  (512 ∣ (k0_mult60 v8973).toNat) ∧
  (∀ a, (k0_off94 v8973) a + S128x1024.size a ≤ S128x8192.size a)
theorem k0_mult60_dvd : ∀ (v8973 : BitVec 32) (k0_hw60 : k0_chk60 v8973), 512 ∣ (k0_mult60 v8973).toNat := fun v8973 k0_hw60 => k0_hw60.1
theorem k0_off94_inb : ∀ (v8973 : BitVec 32) (k0_hw60 : k0_chk60 v8973), ∀ a, (k0_off94 v8973) a + S128x1024.size a ≤ S128x8192.size a := fun v8973 k0_hw60 => k0_hw60.2

def k0_off95 (k0_t2 : Fin k0_t2_loop.trips) : Fin 2 → Nat :=
  let c0_3608 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c1_i32_3607 : BitVec 32 := 1#32
  let v8985 : BitVec 32 := Scalar.addi v8462 c1_i32_3607
  let v8986 : Index := Scalar.indexCast v8985
  ![0, v8986.toNat]
def k0_mult61 (v8987 : BitVec 32) : BitVec 32 :=
  let c512_i32_3609 : BitVec 32 := 512#32
  let v8988 : BitVec 32 := Scalar.muli v8987 c512_i32_3609
  v8988

def k0_off96 (k0_t2 : Fin k0_t2_loop.trips) : Fin 2 → Nat :=
  let c1_3610 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c1_i32_3607 : BitVec 32 := 1#32
  let v8985 : BitVec 32 := Scalar.addi v8462 c1_i32_3607
  let v8990 : Index := Scalar.indexCast v8985
  ![1, v8990.toNat]
def k0_mult62 (v8991 : BitVec 32) : BitVec 32 :=
  let c512_i32_3611 : BitVec 32 := 512#32
  let v8992 : BitVec 32 := Scalar.muli v8991 c512_i32_3611
  v8992

def k0_off97 (v8991 : BitVec 32) : Fin 2 → Nat :=
  let c512_i32_3611 : BitVec 32 := 512#32
  let v8992 : BitVec 32 := Scalar.muli v8991 c512_i32_3611
  let v8993 : BitVec 32 := v8992
  let v8995 : Index := Scalar.indexCast v8993
  let c0_3614 : Index := 0#32
  ![v8995.toNat, 0]

def k0_chk62 (v8991 : BitVec 32) : Prop :=
  (512 ∣ (k0_mult62 v8991).toNat) ∧
  (∀ a, (k0_off97 v8991) a + S1024x256.size a ≤ S8192x256.size a)
theorem k0_mult62_dvd : ∀ (v8991 : BitVec 32) (k0_hw62 : k0_chk62 v8991), 512 ∣ (k0_mult62 v8991).toNat := fun v8991 k0_hw62 => k0_hw62.1
theorem k0_off97_inb : ∀ (v8991 : BitVec 32) (k0_hw62 : k0_chk62 v8991), ∀ a, (k0_off97 v8991) a + S1024x256.size a ≤ S8192x256.size a := fun v8991 k0_hw62 => k0_hw62.2

def k0_off98 (v8987 : BitVec 32) : Fin 2 → Nat :=
  let c512_i32_3609 : BitVec 32 := 512#32
  let v8988 : BitVec 32 := Scalar.muli v8987 c512_i32_3609
  let v8989 : BitVec 32 := v8988
  let v8999 : Index := Scalar.indexCast v8989
  let c0_3618 : Index := 0#32
  ![v8999.toNat, 0]

def k0_chk61 (v8987 : BitVec 32) : Prop :=
  (512 ∣ (k0_mult61 v8987).toNat) ∧
  (∀ a, (k0_off98 v8987) a + S512x256.size a ≤ S8192x256.size a)
theorem k0_mult61_dvd : ∀ (v8987 : BitVec 32) (k0_hw61 : k0_chk61 v8987), 512 ∣ (k0_mult61 v8987).toNat := fun v8987 k0_hw61 => k0_hw61.1
theorem k0_off98_inb : ∀ (v8987 : BitVec 32) (k0_hw61 : k0_chk61 v8987), ∀ a, (k0_off98 v8987) a + S512x256.size a ≤ S8192x256.size a := fun v8987 k0_hw61 => k0_hw61.2

def k0_off99 (k0_t2 : Fin k0_t2_loop.trips) : Fin 2 → Nat :=
  let c0_3622 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c1_i32_3620 : BitVec 32 := 1#32
  let v9008 : BitVec 32 := Scalar.addi v8462 c1_i32_3620
  let c1_i32_3621 : BitVec 32 := 1#32
  let v9009 : BitVec 32 := Scalar.addi v9008 c1_i32_3621
  let v9010 : Index := Scalar.indexCast v9009
  ![0, v9010.toNat]
def k0_mult63 (v9011 : BitVec 32) : BitVec 32 :=
  let c512_i32_3623 : BitVec 32 := 512#32
  let v9012 : BitVec 32 := Scalar.muli v9011 c512_i32_3623
  v9012

def k0_off100 (k0_t2 : Fin k0_t2_loop.trips) : Fin 2 → Nat :=
  let c1_3624 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c1_i32_3620 : BitVec 32 := 1#32
  let v9008 : BitVec 32 := Scalar.addi v8462 c1_i32_3620
  let c1_i32_3621 : BitVec 32 := 1#32
  let v9009 : BitVec 32 := Scalar.addi v9008 c1_i32_3621
  let v9014 : Index := Scalar.indexCast v9009
  ![1, v9014.toNat]
def k0_mult64 (v9015 : BitVec 32) : BitVec 32 :=
  let c512_i32_3625 : BitVec 32 := 512#32
  let v9016 : BitVec 32 := Scalar.muli v9015 c512_i32_3625
  v9016

def k0_off101 (v9015 : BitVec 32) : Fin 3 → Nat :=
  let c0_3626 : Index := 0#32
  let c0_3627 : Index := 0#32
  let c512_i32_3625 : BitVec 32 := 512#32
  let v9016 : BitVec 32 := Scalar.muli v9015 c512_i32_3625
  let v9017 : BitVec 32 := v9016
  let v9018 : Index := Scalar.indexCast v9017
  ![0, 0, v9018.toNat]

def k0_chk64 (v9015 : BitVec 32) : Prop :=
  (512 ∣ (k0_mult64 v9015).toNat) ∧
  (∀ a, (k0_off101 v9015) a + S1x1x1024.size a ≤ S1x1x8192.size a)
theorem k0_mult64_dvd : ∀ (v9015 : BitVec 32) (k0_hw64 : k0_chk64 v9015), 512 ∣ (k0_mult64 v9015).toNat := fun v9015 k0_hw64 => k0_hw64.1
theorem k0_off101_inb : ∀ (v9015 : BitVec 32) (k0_hw64 : k0_chk64 v9015), ∀ a, (k0_off101 v9015) a + S1x1x1024.size a ≤ S1x1x8192.size a := fun v9015 k0_hw64 => k0_hw64.2

def k0_off102 (v9011 : BitVec 32) (c0_i32_3629 : BitVec 32) : Fin 2 → Nat :=
  let c512_i32_3623 : BitVec 32 := 512#32
  let v9012 : BitVec 32 := Scalar.muli v9011 c512_i32_3623
  let v9013 : BitVec 32 := v9012
  let v9023 : BitVec 32 := Scalar.addi v9013 c0_i32_3629
  let v9027 : Index := Scalar.indexCast v9023
  let c0_3632 : Index := 0#32
  ![v9027.toNat, 0]

def k0_chk63 (v9011 : BitVec 32) : Prop :=
  (512 ∣ (k0_mult63 v9011).toNat) ∧
  (∀ (r : Fin 16), ∀ a, (k0_off102 v9011 (BitVec.ofNat 32 (32 * r.val))) a + S32x1.size a ≤ S8192x1.size a)
theorem k0_mult63_dvd : ∀ (v9011 : BitVec 32) (k0_hw63 : k0_chk63 v9011), 512 ∣ (k0_mult63 v9011).toNat := fun v9011 k0_hw63 => k0_hw63.1
theorem k0_off102_inb : ∀ (v9011 : BitVec 32) (k0_hw63 : k0_chk63 v9011), ∀ (r : Fin 16), ∀ a, (k0_off102 v9011 (BitVec.ofNat 32 (32 * r.val))) a + S32x1.size a ≤ S8192x1.size a := fun v9011 k0_hw63 r => k0_hw63.2 r

def k0_off103 (k0_t2 : Fin k0_t2_loop.trips) : Fin 2 → Nat :=
  let c0_3808 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c1_i32_3805 : BitVec 32 := 1#32
  let v9487 : BitVec 32 := Scalar.addi v8462 c1_i32_3805
  let c2_i32_3806 : BitVec 32 := 2#32
  let v9488 : BitVec 32 := Scalar.addi v9487 c2_i32_3806
  let c71_i32_3807 : BitVec 32 := 71#32
  let v9489 : BitVec 32 := Scalar.minsi v9488 c71_i32_3807
  let v9490 : Index := Scalar.indexCast v9489
  ![0, v9490.toNat]
def k0_mult65 (v9491 : BitVec 32) : BitVec 32 :=
  let c512_i32_3809 : BitVec 32 := 512#32
  let v9492 : BitVec 32 := Scalar.muli v9491 c512_i32_3809
  v9492

def k0_off104 (k0_t2 : Fin k0_t2_loop.trips) : Fin 2 → Nat :=
  let c1_3810 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c1_i32_3805 : BitVec 32 := 1#32
  let v9487 : BitVec 32 := Scalar.addi v8462 c1_i32_3805
  let c2_i32_3806 : BitVec 32 := 2#32
  let v9488 : BitVec 32 := Scalar.addi v9487 c2_i32_3806
  let c71_i32_3807 : BitVec 32 := 71#32
  let v9489 : BitVec 32 := Scalar.minsi v9488 c71_i32_3807
  let v9494 : Index := Scalar.indexCast v9489
  ![1, v9494.toNat]
def k0_mult66 (v9495 : BitVec 32) : BitVec 32 :=
  let c512_i32_3811 : BitVec 32 := 512#32
  let v9496 : BitVec 32 := Scalar.muli v9495 c512_i32_3811
  v9496

def k0_off105 (v9491 : BitVec 32) : Fin 2 → Nat :=
  let c512_i32_3809 : BitVec 32 := 512#32
  let v9492 : BitVec 32 := Scalar.muli v9491 c512_i32_3809
  let v9493 : BitVec 32 := v9492
  let v9498 : Index := Scalar.indexCast v9493
  let c0_3812 : Index := 0#32
  ![v9498.toNat, 0]

def k0_chk65 (v9491 : BitVec 32) : Prop :=
  (512 ∣ (k0_mult65 v9491).toNat) ∧
  (∀ a, (k0_off105 v9491) a + S512x128.size a ≤ S8192x128.size a)
theorem k0_mult65_dvd : ∀ (v9491 : BitVec 32) (k0_hw65 : k0_chk65 v9491), 512 ∣ (k0_mult65 v9491).toNat := fun v9491 k0_hw65 => k0_hw65.1
theorem k0_off105_inb : ∀ (v9491 : BitVec 32) (k0_hw65 : k0_chk65 v9491), ∀ a, (k0_off105 v9491) a + S512x128.size a ≤ S8192x128.size a := fun v9491 k0_hw65 => k0_hw65.2

def k0_off106 (v9495 : BitVec 32) : Fin 2 → Nat :=
  let c0_3813 : Index := 0#32
  let c512_i32_3811 : BitVec 32 := 512#32
  let v9496 : BitVec 32 := Scalar.muli v9495 c512_i32_3811
  let v9497 : BitVec 32 := v9496
  let v9501 : Index := Scalar.indexCast v9497
  ![0, v9501.toNat]

def k0_chk66 (v9495 : BitVec 32) : Prop :=
  (512 ∣ (k0_mult66 v9495).toNat) ∧
  (∀ a, (k0_off106 v9495) a + S128x1024.size a ≤ S128x8192.size a)
theorem k0_mult66_dvd : ∀ (v9495 : BitVec 32) (k0_hw66 : k0_chk66 v9495), 512 ∣ (k0_mult66 v9495).toNat := fun v9495 k0_hw66 => k0_hw66.1
theorem k0_off106_inb : ∀ (v9495 : BitVec 32) (k0_hw66 : k0_chk66 v9495), ∀ a, (k0_off106 v9495) a + S128x1024.size a ≤ S128x8192.size a := fun v9495 k0_hw66 => k0_hw66.2

def k0_off107 (k0_t2 : Fin k0_t2_loop.trips) : Fin 2 → Nat :=
  let c0_3818 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c2_i32_3817 : BitVec 32 := 2#32
  let v9507 : BitVec 32 := Scalar.addi v8462 c2_i32_3817
  let v9508 : Index := Scalar.indexCast v9507
  ![0, v9508.toNat]
def k0_mult67 (v9509 : BitVec 32) : BitVec 32 :=
  let c512_i32_3819 : BitVec 32 := 512#32
  let v9510 : BitVec 32 := Scalar.muli v9509 c512_i32_3819
  v9510

def k0_off108 (k0_t2 : Fin k0_t2_loop.trips) : Fin 2 → Nat :=
  let c1_3820 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c2_i32_3817 : BitVec 32 := 2#32
  let v9507 : BitVec 32 := Scalar.addi v8462 c2_i32_3817
  let v9512 : Index := Scalar.indexCast v9507
  ![1, v9512.toNat]
def k0_mult68 (v9513 : BitVec 32) : BitVec 32 :=
  let c512_i32_3821 : BitVec 32 := 512#32
  let v9514 : BitVec 32 := Scalar.muli v9513 c512_i32_3821
  v9514

def k0_off109 (v9513 : BitVec 32) : Fin 2 → Nat :=
  let c512_i32_3821 : BitVec 32 := 512#32
  let v9514 : BitVec 32 := Scalar.muli v9513 c512_i32_3821
  let v9515 : BitVec 32 := v9514
  let v9517 : Index := Scalar.indexCast v9515
  let c0_3824 : Index := 0#32
  ![v9517.toNat, 0]

def k0_chk68 (v9513 : BitVec 32) : Prop :=
  (512 ∣ (k0_mult68 v9513).toNat) ∧
  (∀ a, (k0_off109 v9513) a + S1024x256.size a ≤ S8192x256.size a)
theorem k0_mult68_dvd : ∀ (v9513 : BitVec 32) (k0_hw68 : k0_chk68 v9513), 512 ∣ (k0_mult68 v9513).toNat := fun v9513 k0_hw68 => k0_hw68.1
theorem k0_off109_inb : ∀ (v9513 : BitVec 32) (k0_hw68 : k0_chk68 v9513), ∀ a, (k0_off109 v9513) a + S1024x256.size a ≤ S8192x256.size a := fun v9513 k0_hw68 => k0_hw68.2

def k0_off110 (v9509 : BitVec 32) : Fin 2 → Nat :=
  let c512_i32_3819 : BitVec 32 := 512#32
  let v9510 : BitVec 32 := Scalar.muli v9509 c512_i32_3819
  let v9511 : BitVec 32 := v9510
  let v9521 : Index := Scalar.indexCast v9511
  let c0_3828 : Index := 0#32
  ![v9521.toNat, 0]

def k0_chk67 (v9509 : BitVec 32) : Prop :=
  (512 ∣ (k0_mult67 v9509).toNat) ∧
  (∀ a, (k0_off110 v9509) a + S512x256.size a ≤ S8192x256.size a)
theorem k0_mult67_dvd : ∀ (v9509 : BitVec 32) (k0_hw67 : k0_chk67 v9509), 512 ∣ (k0_mult67 v9509).toNat := fun v9509 k0_hw67 => k0_hw67.1
theorem k0_off110_inb : ∀ (v9509 : BitVec 32) (k0_hw67 : k0_chk67 v9509), ∀ a, (k0_off110 v9509) a + S512x256.size a ≤ S8192x256.size a := fun v9509 k0_hw67 => k0_hw67.2

def k0_off111 (k0_t2 : Fin k0_t2_loop.trips) : Fin 2 → Nat :=
  let c0_3832 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c2_i32_3830 : BitVec 32 := 2#32
  let v9530 : BitVec 32 := Scalar.addi v8462 c2_i32_3830
  let c1_i32_3831 : BitVec 32 := 1#32
  let v9531 : BitVec 32 := Scalar.addi v9530 c1_i32_3831
  let v9532 : Index := Scalar.indexCast v9531
  ![0, v9532.toNat]
def k0_mult69 (v9533 : BitVec 32) : BitVec 32 :=
  let c512_i32_3833 : BitVec 32 := 512#32
  let v9534 : BitVec 32 := Scalar.muli v9533 c512_i32_3833
  v9534

def k0_off112 (k0_t2 : Fin k0_t2_loop.trips) : Fin 2 → Nat :=
  let c1_3834 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c2_i32_3830 : BitVec 32 := 2#32
  let v9530 : BitVec 32 := Scalar.addi v8462 c2_i32_3830
  let c1_i32_3831 : BitVec 32 := 1#32
  let v9531 : BitVec 32 := Scalar.addi v9530 c1_i32_3831
  let v9536 : Index := Scalar.indexCast v9531
  ![1, v9536.toNat]
def k0_mult70 (v9537 : BitVec 32) : BitVec 32 :=
  let c512_i32_3835 : BitVec 32 := 512#32
  let v9538 : BitVec 32 := Scalar.muli v9537 c512_i32_3835
  v9538

def k0_off113 (v9537 : BitVec 32) : Fin 3 → Nat :=
  let c0_3836 : Index := 0#32
  let c0_3837 : Index := 0#32
  let c512_i32_3835 : BitVec 32 := 512#32
  let v9538 : BitVec 32 := Scalar.muli v9537 c512_i32_3835
  let v9539 : BitVec 32 := v9538
  let v9540 : Index := Scalar.indexCast v9539
  ![0, 0, v9540.toNat]

def k0_chk70 (v9537 : BitVec 32) : Prop :=
  (512 ∣ (k0_mult70 v9537).toNat) ∧
  (∀ a, (k0_off113 v9537) a + S1x1x1024.size a ≤ S1x1x8192.size a)
theorem k0_mult70_dvd : ∀ (v9537 : BitVec 32) (k0_hw70 : k0_chk70 v9537), 512 ∣ (k0_mult70 v9537).toNat := fun v9537 k0_hw70 => k0_hw70.1
theorem k0_off113_inb : ∀ (v9537 : BitVec 32) (k0_hw70 : k0_chk70 v9537), ∀ a, (k0_off113 v9537) a + S1x1x1024.size a ≤ S1x1x8192.size a := fun v9537 k0_hw70 => k0_hw70.2

def k0_off114 (v9533 : BitVec 32) (c0_i32_3839 : BitVec 32) : Fin 2 → Nat :=
  let c512_i32_3833 : BitVec 32 := 512#32
  let v9534 : BitVec 32 := Scalar.muli v9533 c512_i32_3833
  let v9535 : BitVec 32 := v9534
  let v9545 : BitVec 32 := Scalar.addi v9535 c0_i32_3839
  let v9549 : Index := Scalar.indexCast v9545
  let c0_3842 : Index := 0#32
  ![v9549.toNat, 0]

def k0_chk69 (v9533 : BitVec 32) : Prop :=
  (512 ∣ (k0_mult69 v9533).toNat) ∧
  (∀ (r : Fin 16), ∀ a, (k0_off114 v9533 (BitVec.ofNat 32 (32 * r.val))) a + S32x1.size a ≤ S8192x1.size a)
theorem k0_mult69_dvd : ∀ (v9533 : BitVec 32) (k0_hw69 : k0_chk69 v9533), 512 ∣ (k0_mult69 v9533).toNat := fun v9533 k0_hw69 => k0_hw69.1
theorem k0_off114_inb : ∀ (v9533 : BitVec 32) (k0_hw69 : k0_chk69 v9533), ∀ (r : Fin 16), ∀ a, (k0_off114 v9533 (BitVec.ofNat 32 (32 * r.val))) a + S32x1.size a ≤ S8192x1.size a := fun v9533 k0_hw69 r => k0_hw69.2 r

def k0_off115 (k0_t2 : Fin k0_t2_loop.trips) : Fin 2 → Nat :=
  let c0_4018 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c2_i32_4015 : BitVec 32 := 2#32
  let v10009 : BitVec 32 := Scalar.addi v8462 c2_i32_4015
  let c2_i32_4016 : BitVec 32 := 2#32
  let v10010 : BitVec 32 := Scalar.addi v10009 c2_i32_4016
  let c71_i32_4017 : BitVec 32 := 71#32
  let v10011 : BitVec 32 := Scalar.minsi v10010 c71_i32_4017
  let v10012 : Index := Scalar.indexCast v10011
  ![0, v10012.toNat]
def k0_mult71 (v10013 : BitVec 32) : BitVec 32 :=
  let c512_i32_4019 : BitVec 32 := 512#32
  let v10014 : BitVec 32 := Scalar.muli v10013 c512_i32_4019
  v10014

def k0_off116 (k0_t2 : Fin k0_t2_loop.trips) : Fin 2 → Nat :=
  let c1_4020 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c2_i32_4015 : BitVec 32 := 2#32
  let v10009 : BitVec 32 := Scalar.addi v8462 c2_i32_4015
  let c2_i32_4016 : BitVec 32 := 2#32
  let v10010 : BitVec 32 := Scalar.addi v10009 c2_i32_4016
  let c71_i32_4017 : BitVec 32 := 71#32
  let v10011 : BitVec 32 := Scalar.minsi v10010 c71_i32_4017
  let v10016 : Index := Scalar.indexCast v10011
  ![1, v10016.toNat]
def k0_mult72 (v10017 : BitVec 32) : BitVec 32 :=
  let c512_i32_4021 : BitVec 32 := 512#32
  let v10018 : BitVec 32 := Scalar.muli v10017 c512_i32_4021
  v10018

def k0_off117 (v10013 : BitVec 32) : Fin 2 → Nat :=
  let c512_i32_4019 : BitVec 32 := 512#32
  let v10014 : BitVec 32 := Scalar.muli v10013 c512_i32_4019
  let v10015 : BitVec 32 := v10014
  let v10020 : Index := Scalar.indexCast v10015
  let c0_4022 : Index := 0#32
  ![v10020.toNat, 0]

def k0_chk71 (v10013 : BitVec 32) : Prop :=
  (512 ∣ (k0_mult71 v10013).toNat) ∧
  (∀ a, (k0_off117 v10013) a + S512x128.size a ≤ S8192x128.size a)
theorem k0_mult71_dvd : ∀ (v10013 : BitVec 32) (k0_hw71 : k0_chk71 v10013), 512 ∣ (k0_mult71 v10013).toNat := fun v10013 k0_hw71 => k0_hw71.1
theorem k0_off117_inb : ∀ (v10013 : BitVec 32) (k0_hw71 : k0_chk71 v10013), ∀ a, (k0_off117 v10013) a + S512x128.size a ≤ S8192x128.size a := fun v10013 k0_hw71 => k0_hw71.2

def k0_off118 (v10017 : BitVec 32) : Fin 2 → Nat :=
  let c0_4023 : Index := 0#32
  let c512_i32_4021 : BitVec 32 := 512#32
  let v10018 : BitVec 32 := Scalar.muli v10017 c512_i32_4021
  let v10019 : BitVec 32 := v10018
  let v10023 : Index := Scalar.indexCast v10019
  ![0, v10023.toNat]

def k0_chk72 (v10017 : BitVec 32) : Prop :=
  (512 ∣ (k0_mult72 v10017).toNat) ∧
  (∀ a, (k0_off118 v10017) a + S128x1024.size a ≤ S128x8192.size a)
theorem k0_mult72_dvd : ∀ (v10017 : BitVec 32) (k0_hw72 : k0_chk72 v10017), 512 ∣ (k0_mult72 v10017).toNat := fun v10017 k0_hw72 => k0_hw72.1
theorem k0_off118_inb : ∀ (v10017 : BitVec 32) (k0_hw72 : k0_chk72 v10017), ∀ a, (k0_off118 v10017) a + S128x1024.size a ≤ S128x8192.size a := fun v10017 k0_hw72 => k0_hw72.2

def k0_off119 (k0_t2 : Fin k0_t2_loop.trips) : Fin 2 → Nat :=
  let c0_4028 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c3_i32_4027 : BitVec 32 := 3#32
  let v10029 : BitVec 32 := Scalar.addi v8462 c3_i32_4027
  let v10030 : Index := Scalar.indexCast v10029
  ![0, v10030.toNat]
def k0_mult73 (v10031 : BitVec 32) : BitVec 32 :=
  let c512_i32_4029 : BitVec 32 := 512#32
  let v10032 : BitVec 32 := Scalar.muli v10031 c512_i32_4029
  v10032

def k0_off120 (k0_t2 : Fin k0_t2_loop.trips) : Fin 2 → Nat :=
  let c1_4030 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c3_i32_4027 : BitVec 32 := 3#32
  let v10029 : BitVec 32 := Scalar.addi v8462 c3_i32_4027
  let v10034 : Index := Scalar.indexCast v10029
  ![1, v10034.toNat]
def k0_mult74 (v10035 : BitVec 32) : BitVec 32 :=
  let c512_i32_4031 : BitVec 32 := 512#32
  let v10036 : BitVec 32 := Scalar.muli v10035 c512_i32_4031
  v10036

def k0_off121 (v10035 : BitVec 32) : Fin 2 → Nat :=
  let c512_i32_4031 : BitVec 32 := 512#32
  let v10036 : BitVec 32 := Scalar.muli v10035 c512_i32_4031
  let v10037 : BitVec 32 := v10036
  let v10039 : Index := Scalar.indexCast v10037
  let c0_4034 : Index := 0#32
  ![v10039.toNat, 0]

def k0_chk74 (v10035 : BitVec 32) : Prop :=
  (512 ∣ (k0_mult74 v10035).toNat) ∧
  (∀ a, (k0_off121 v10035) a + S1024x256.size a ≤ S8192x256.size a)
theorem k0_mult74_dvd : ∀ (v10035 : BitVec 32) (k0_hw74 : k0_chk74 v10035), 512 ∣ (k0_mult74 v10035).toNat := fun v10035 k0_hw74 => k0_hw74.1
theorem k0_off121_inb : ∀ (v10035 : BitVec 32) (k0_hw74 : k0_chk74 v10035), ∀ a, (k0_off121 v10035) a + S1024x256.size a ≤ S8192x256.size a := fun v10035 k0_hw74 => k0_hw74.2

def k0_off122 (v10031 : BitVec 32) : Fin 2 → Nat :=
  let c512_i32_4029 : BitVec 32 := 512#32
  let v10032 : BitVec 32 := Scalar.muli v10031 c512_i32_4029
  let v10033 : BitVec 32 := v10032
  let v10043 : Index := Scalar.indexCast v10033
  let c0_4038 : Index := 0#32
  ![v10043.toNat, 0]

def k0_chk73 (v10031 : BitVec 32) : Prop :=
  (512 ∣ (k0_mult73 v10031).toNat) ∧
  (∀ a, (k0_off122 v10031) a + S512x256.size a ≤ S8192x256.size a)
theorem k0_mult73_dvd : ∀ (v10031 : BitVec 32) (k0_hw73 : k0_chk73 v10031), 512 ∣ (k0_mult73 v10031).toNat := fun v10031 k0_hw73 => k0_hw73.1
theorem k0_off122_inb : ∀ (v10031 : BitVec 32) (k0_hw73 : k0_chk73 v10031), ∀ a, (k0_off122 v10031) a + S512x256.size a ≤ S8192x256.size a := fun v10031 k0_hw73 => k0_hw73.2

def k0_off123 (k0_t2 : Fin k0_t2_loop.trips) : Fin 2 → Nat :=
  let c0_4042 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c3_i32_4040 : BitVec 32 := 3#32
  let v10052 : BitVec 32 := Scalar.addi v8462 c3_i32_4040
  let c1_i32_4041 : BitVec 32 := 1#32
  let v10053 : BitVec 32 := Scalar.addi v10052 c1_i32_4041
  let v10054 : Index := Scalar.indexCast v10053
  ![0, v10054.toNat]
def k0_mult75 (v10055 : BitVec 32) : BitVec 32 :=
  let c512_i32_4043 : BitVec 32 := 512#32
  let v10056 : BitVec 32 := Scalar.muli v10055 c512_i32_4043
  v10056

def k0_off124 (k0_t2 : Fin k0_t2_loop.trips) : Fin 2 → Nat :=
  let c1_4044 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c3_i32_4040 : BitVec 32 := 3#32
  let v10052 : BitVec 32 := Scalar.addi v8462 c3_i32_4040
  let c1_i32_4041 : BitVec 32 := 1#32
  let v10053 : BitVec 32 := Scalar.addi v10052 c1_i32_4041
  let v10058 : Index := Scalar.indexCast v10053
  ![1, v10058.toNat]
def k0_mult76 (v10059 : BitVec 32) : BitVec 32 :=
  let c512_i32_4045 : BitVec 32 := 512#32
  let v10060 : BitVec 32 := Scalar.muli v10059 c512_i32_4045
  v10060

def k0_off125 (v10059 : BitVec 32) : Fin 3 → Nat :=
  let c0_4046 : Index := 0#32
  let c0_4047 : Index := 0#32
  let c512_i32_4045 : BitVec 32 := 512#32
  let v10060 : BitVec 32 := Scalar.muli v10059 c512_i32_4045
  let v10061 : BitVec 32 := v10060
  let v10062 : Index := Scalar.indexCast v10061
  ![0, 0, v10062.toNat]

def k0_chk76 (v10059 : BitVec 32) : Prop :=
  (512 ∣ (k0_mult76 v10059).toNat) ∧
  (∀ a, (k0_off125 v10059) a + S1x1x1024.size a ≤ S1x1x8192.size a)
theorem k0_mult76_dvd : ∀ (v10059 : BitVec 32) (k0_hw76 : k0_chk76 v10059), 512 ∣ (k0_mult76 v10059).toNat := fun v10059 k0_hw76 => k0_hw76.1
theorem k0_off125_inb : ∀ (v10059 : BitVec 32) (k0_hw76 : k0_chk76 v10059), ∀ a, (k0_off125 v10059) a + S1x1x1024.size a ≤ S1x1x8192.size a := fun v10059 k0_hw76 => k0_hw76.2

def k0_off126 (v10055 : BitVec 32) (c0_i32_4049 : BitVec 32) : Fin 2 → Nat :=
  let c512_i32_4043 : BitVec 32 := 512#32
  let v10056 : BitVec 32 := Scalar.muli v10055 c512_i32_4043
  let v10057 : BitVec 32 := v10056
  let v10067 : BitVec 32 := Scalar.addi v10057 c0_i32_4049
  let v10071 : Index := Scalar.indexCast v10067
  let c0_4052 : Index := 0#32
  ![v10071.toNat, 0]

def k0_chk75 (v10055 : BitVec 32) : Prop :=
  (512 ∣ (k0_mult75 v10055).toNat) ∧
  (∀ (r : Fin 16), ∀ a, (k0_off126 v10055 (BitVec.ofNat 32 (32 * r.val))) a + S32x1.size a ≤ S8192x1.size a)
theorem k0_mult75_dvd : ∀ (v10055 : BitVec 32) (k0_hw75 : k0_chk75 v10055), 512 ∣ (k0_mult75 v10055).toNat := fun v10055 k0_hw75 => k0_hw75.1
theorem k0_off126_inb : ∀ (v10055 : BitVec 32) (k0_hw75 : k0_chk75 v10055), ∀ (r : Fin 16), ∀ a, (k0_off126 v10055 (BitVec.ofNat 32 (32 * r.val))) a + S32x1.size a ≤ S8192x1.size a := fun v10055 k0_hw75 r => k0_hw75.2 r

def k0_off127 (k0_t2 : Fin k0_t2_loop.trips) : Fin 2 → Nat :=
  let c0_4228 : Index := 0#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c3_i32_4225 : BitVec 32 := 3#32
  let v10531 : BitVec 32 := Scalar.addi v8462 c3_i32_4225
  let c2_i32_4226 : BitVec 32 := 2#32
  let v10532 : BitVec 32 := Scalar.addi v10531 c2_i32_4226
  let c71_i32_4227 : BitVec 32 := 71#32
  let v10533 : BitVec 32 := Scalar.minsi v10532 c71_i32_4227
  let v10534 : Index := Scalar.indexCast v10533
  ![0, v10534.toNat]
def k0_mult77 (v10535 : BitVec 32) : BitVec 32 :=
  let c512_i32_4229 : BitVec 32 := 512#32
  let v10536 : BitVec 32 := Scalar.muli v10535 c512_i32_4229
  v10536

def k0_off128 (k0_t2 : Fin k0_t2_loop.trips) : Fin 2 → Nat :=
  let c1_4230 : Index := 1#32
  let c16_i32 : BitVec 32 := 16#32
  let c4_i32_3396 : BitVec 32 := 4#32
  let c0_i32_1081 : BitVec 32 := 0#32
  let c1_i32_1082 : BitVec 32 := 1#32
  let arg19 : BitVec 32 := Scf.iv c0_i32_1081 c1_i32_1082 k0_t2
  let v8461 : BitVec 32 := Scalar.muli c4_i32_3396 arg19
  let v8462 : BitVec 32 := Scalar.addi c16_i32 v8461
  let c3_i32_4225 : BitVec 32 := 3#32
  let v10531 : BitVec 32 := Scalar.addi v8462 c3_i32_4225
  let c2_i32_4226 : BitVec 32 := 2#32
  let v10532 : BitVec 32 := Scalar.addi v10531 c2_i32_4226
  let c71_i32_4227 : BitVec 32 := 71#32
  let v10533 : BitVec 32 := Scalar.minsi v10532 c71_i32_4227
  let v10538 : Index := Scalar.indexCast v10533
  ![1, v10538.toNat]
def k0_mult78 (v10539 : BitVec 32) : BitVec 32 :=
  let c512_i32_4231 : BitVec 32 := 512#32
  let v10540 : BitVec 32 := Scalar.muli v10539 c512_i32_4231
  v10540

def k0_off129 (v10535 : BitVec 32) : Fin 2 → Nat :=
  let c512_i32_4229 : BitVec 32 := 512#32
  let v10536 : BitVec 32 := Scalar.muli v10535 c512_i32_4229
  let v10537 : BitVec 32 := v10536
  let v10542 : Index := Scalar.indexCast v10537
  let c0_4232 : Index := 0#32
  ![v10542.toNat, 0]

def k0_chk77 (v10535 : BitVec 32) : Prop :=
  (512 ∣ (k0_mult77 v10535).toNat) ∧
  (∀ a, (k0_off129 v10535) a + S512x128.size a ≤ S8192x128.size a)
theorem k0_mult77_dvd : ∀ (v10535 : BitVec 32) (k0_hw77 : k0_chk77 v10535), 512 ∣ (k0_mult77 v10535).toNat := fun v10535 k0_hw77 => k0_hw77.1
theorem k0_off129_inb : ∀ (v10535 : BitVec 32) (k0_hw77 : k0_chk77 v10535), ∀ a, (k0_off129 v10535) a + S512x128.size a ≤ S8192x128.size a := fun v10535 k0_hw77 => k0_hw77.2

def k0_off130 (v10539 : BitVec 32) : Fin 2 → Nat :=
  let c0_4233 : Index := 0#32
  let c512_i32_4231 : BitVec 32 := 512#32
  let v10540 : BitVec 32 := Scalar.muli v10539 c512_i32_4231
  let v10541 : BitVec 32 := v10540
  let v10545 : Index := Scalar.indexCast v10541
  ![0, v10545.toNat]

def k0_chk78 (v10539 : BitVec 32) : Prop :=
  (512 ∣ (k0_mult78 v10539).toNat) ∧
  (∀ a, (k0_off130 v10539) a + S128x1024.size a ≤ S128x8192.size a)
theorem k0_mult78_dvd : ∀ (v10539 : BitVec 32) (k0_hw78 : k0_chk78 v10539), 512 ∣ (k0_mult78 v10539).toNat := fun v10539 k0_hw78 => k0_hw78.1
theorem k0_off130_inb : ∀ (v10539 : BitVec 32) (k0_hw78 : k0_chk78 v10539), ∀ a, (k0_off130 v10539) a + S128x1024.size a ≤ S128x8192.size a := fun v10539 k0_hw78 => k0_hw78.2

def k0_mult79 (v2777 : BitVec 32) : BitVec 32 :=
  let c512_i32_1085 : BitVec 32 := 512#32
  let v2778 : BitVec 32 := Scalar.muli v2777 c512_i32_1085
  v2778

def k0_mult80 (v2780 : BitVec 32) : BitVec 32 :=
  let c512_i32_1088 : BitVec 32 := 512#32
  let v2781 : BitVec 32 := Scalar.muli v2780 c512_i32_1088
  v2781

def k0_off131 (v2780 : BitVec 32) : Fin 2 → Nat :=
  let c512_i32_1088 : BitVec 32 := 512#32
  let v2781 : BitVec 32 := Scalar.muli v2780 c512_i32_1088
  let v2782 : BitVec 32 := v2781
  let v2784 : Index := Scalar.indexCast v2782
  let c0_1091 : Index := 0#32
  ![v2784.toNat, 0]

def k0_chk80 (v2780 : BitVec 32) : Prop :=
  (512 ∣ (k0_mult80 v2780).toNat) ∧
  (∀ a, (k0_off131 v2780) a + S1024x256.size a ≤ S8192x256.size a)
theorem k0_mult80_dvd : ∀ (v2780 : BitVec 32) (k0_hw80 : k0_chk80 v2780), 512 ∣ (k0_mult80 v2780).toNat := fun v2780 k0_hw80 => k0_hw80.1
theorem k0_off131_inb : ∀ (v2780 : BitVec 32) (k0_hw80 : k0_chk80 v2780), ∀ a, (k0_off131 v2780) a + S1024x256.size a ≤ S8192x256.size a := fun v2780 k0_hw80 => k0_hw80.2

def k0_off132 (v2777 : BitVec 32) : Fin 2 → Nat :=
  let c512_i32_1085 : BitVec 32 := 512#32
  let v2778 : BitVec 32 := Scalar.muli v2777 c512_i32_1085
  let v2779 : BitVec 32 := v2778
  let v2788 : Index := Scalar.indexCast v2779
  let c0_1095 : Index := 0#32
  ![v2788.toNat, 0]

def k0_chk79 (v2777 : BitVec 32) : Prop :=
  (512 ∣ (k0_mult79 v2777).toNat) ∧
  (∀ a, (k0_off132 v2777) a + S512x256.size a ≤ S8192x256.size a)
theorem k0_mult79_dvd : ∀ (v2777 : BitVec 32) (k0_hw79 : k0_chk79 v2777), 512 ∣ (k0_mult79 v2777).toNat := fun v2777 k0_hw79 => k0_hw79.1
theorem k0_off132_inb : ∀ (v2777 : BitVec 32) (k0_hw79 : k0_chk79 v2777), ∀ a, (k0_off132 v2777) a + S512x256.size a ≤ S8192x256.size a := fun v2777 k0_hw79 => k0_hw79.2

def k0_mult81 (v2797 : BitVec 32) : BitVec 32 :=
  let c512_i32_1098 : BitVec 32 := 512#32
  let v2798 : BitVec 32 := Scalar.muli v2797 c512_i32_1098
  v2798

def k0_mult82 (v2800 : BitVec 32) : BitVec 32 :=
  let c512_i32_1101 : BitVec 32 := 512#32
  let v2801 : BitVec 32 := Scalar.muli v2800 c512_i32_1101
  v2801

def k0_off133 (v2800 : BitVec 32) : Fin 3 → Nat :=
  let c0_1102 : Index := 0#32
  let c0_1103 : Index := 0#32
  let c512_i32_1101 : BitVec 32 := 512#32
  let v2801 : BitVec 32 := Scalar.muli v2800 c512_i32_1101
  let v2802 : BitVec 32 := v2801
  let v2803 : Index := Scalar.indexCast v2802
  ![0, 0, v2803.toNat]

def k0_chk82 (v2800 : BitVec 32) : Prop :=
  (512 ∣ (k0_mult82 v2800).toNat) ∧
  (∀ a, (k0_off133 v2800) a + S1x1x1024.size a ≤ S1x1x8192.size a)
theorem k0_mult82_dvd : ∀ (v2800 : BitVec 32) (k0_hw82 : k0_chk82 v2800), 512 ∣ (k0_mult82 v2800).toNat := fun v2800 k0_hw82 => k0_hw82.1
theorem k0_off133_inb : ∀ (v2800 : BitVec 32) (k0_hw82 : k0_chk82 v2800), ∀ a, (k0_off133 v2800) a + S1x1x1024.size a ≤ S1x1x8192.size a := fun v2800 k0_hw82 => k0_hw82.2

def k0_off134 (v2797 : BitVec 32) (c0_i32_1105 : BitVec 32) : Fin 2 → Nat :=
  let c512_i32_1098 : BitVec 32 := 512#32
  let v2798 : BitVec 32 := Scalar.muli v2797 c512_i32_1098
  let v2799 : BitVec 32 := v2798
  let v2808 : BitVec 32 := Scalar.addi v2799 c0_i32_1105
  let v2812 : Index := Scalar.indexCast v2808
  let c0_1108 : Index := 0#32
  ![v2812.toNat, 0]

def k0_chk81 (v2797 : BitVec 32) : Prop :=
  (512 ∣ (k0_mult81 v2797).toNat) ∧
  (∀ (r : Fin 16), ∀ a, (k0_off134 v2797 (BitVec.ofNat 32 (32 * r.val))) a + S32x1.size a ≤ S8192x1.size a)
theorem k0_mult81_dvd : ∀ (v2797 : BitVec 32) (k0_hw81 : k0_chk81 v2797), 512 ∣ (k0_mult81 v2797).toNat := fun v2797 k0_hw81 => k0_hw81.1
theorem k0_off134_inb : ∀ (v2797 : BitVec 32) (k0_hw81 : k0_chk81 v2797), ∀ (r : Fin 16), ∀ a, (k0_off134 v2797 (BitVec.ofNat 32 (32 * r.val))) a + S32x1.size a ≤ S8192x1.size a := fun v2797 k0_hw81 r => k0_hw81.2 r

def k0_mult83 (v3272 : BitVec 32) : BitVec 32 :=
  let c512_i32_1282 : BitVec 32 := 512#32
  let v3273 : BitVec 32 := Scalar.muli v3272 c512_i32_1282
  v3273

def k0_mult84 (v3275 : BitVec 32) : BitVec 32 :=
  let c512_i32_1285 : BitVec 32 := 512#32
  let v3276 : BitVec 32 := Scalar.muli v3275 c512_i32_1285
  v3276

def k0_off135 (v3272 : BitVec 32) : Fin 2 → Nat :=
  let c512_i32_1282 : BitVec 32 := 512#32
  let v3273 : BitVec 32 := Scalar.muli v3272 c512_i32_1282
  let v3274 : BitVec 32 := v3273
  let v3278 : Index := Scalar.indexCast v3274
  let c0_1286 : Index := 0#32
  ![v3278.toNat, 0]

def k0_chk83 (v3272 : BitVec 32) : Prop :=
  (512 ∣ (k0_mult83 v3272).toNat) ∧
  (∀ a, (k0_off135 v3272) a + S512x128.size a ≤ S8192x128.size a)
theorem k0_mult83_dvd : ∀ (v3272 : BitVec 32) (k0_hw83 : k0_chk83 v3272), 512 ∣ (k0_mult83 v3272).toNat := fun v3272 k0_hw83 => k0_hw83.1
theorem k0_off135_inb : ∀ (v3272 : BitVec 32) (k0_hw83 : k0_chk83 v3272), ∀ a, (k0_off135 v3272) a + S512x128.size a ≤ S8192x128.size a := fun v3272 k0_hw83 => k0_hw83.2

def k0_off136 (v3275 : BitVec 32) : Fin 2 → Nat :=
  let c0_1287 : Index := 0#32
  let c512_i32_1285 : BitVec 32 := 512#32
  let v3276 : BitVec 32 := Scalar.muli v3275 c512_i32_1285
  let v3277 : BitVec 32 := v3276
  let v3281 : Index := Scalar.indexCast v3277
  ![0, v3281.toNat]

def k0_chk84 (v3275 : BitVec 32) : Prop :=
  (512 ∣ (k0_mult84 v3275).toNat) ∧
  (∀ a, (k0_off136 v3275) a + S128x1024.size a ≤ S128x8192.size a)
theorem k0_mult84_dvd : ∀ (v3275 : BitVec 32) (k0_hw84 : k0_chk84 v3275), 512 ∣ (k0_mult84 v3275).toNat := fun v3275 k0_hw84 => k0_hw84.1
theorem k0_off136_inb : ∀ (v3275 : BitVec 32) (k0_hw84 : k0_chk84 v3275), ∀ a, (k0_off136 v3275) a + S128x1024.size a ≤ S128x8192.size a := fun v3275 k0_hw84 => k0_hw84.2

def k0_mult85 (v3287 : BitVec 32) : BitVec 32 :=
  let c512_i32_1293 : BitVec 32 := 512#32
  let v3288 : BitVec 32 := Scalar.muli v3287 c512_i32_1293
  v3288

def k0_mult86 (v3290 : BitVec 32) : BitVec 32 :=
  let c512_i32_1296 : BitVec 32 := 512#32
  let v3291 : BitVec 32 := Scalar.muli v3290 c512_i32_1296
  v3291

def k0_off137 (v3290 : BitVec 32) : Fin 2 → Nat :=
  let c512_i32_1296 : BitVec 32 := 512#32
  let v3291 : BitVec 32 := Scalar.muli v3290 c512_i32_1296
  let v3292 : BitVec 32 := v3291
  let v3294 : Index := Scalar.indexCast v3292
  let c0_1299 : Index := 0#32
  ![v3294.toNat, 0]

def k0_chk86 (v3290 : BitVec 32) : Prop :=
  (512 ∣ (k0_mult86 v3290).toNat) ∧
  (∀ a, (k0_off137 v3290) a + S1024x256.size a ≤ S8192x256.size a)
theorem k0_mult86_dvd : ∀ (v3290 : BitVec 32) (k0_hw86 : k0_chk86 v3290), 512 ∣ (k0_mult86 v3290).toNat := fun v3290 k0_hw86 => k0_hw86.1
theorem k0_off137_inb : ∀ (v3290 : BitVec 32) (k0_hw86 : k0_chk86 v3290), ∀ a, (k0_off137 v3290) a + S1024x256.size a ≤ S8192x256.size a := fun v3290 k0_hw86 => k0_hw86.2

def k0_off138 (v3287 : BitVec 32) : Fin 2 → Nat :=
  let c512_i32_1293 : BitVec 32 := 512#32
  let v3288 : BitVec 32 := Scalar.muli v3287 c512_i32_1293
  let v3289 : BitVec 32 := v3288
  let v3298 : Index := Scalar.indexCast v3289
  let c0_1303 : Index := 0#32
  ![v3298.toNat, 0]

def k0_chk85 (v3287 : BitVec 32) : Prop :=
  (512 ∣ (k0_mult85 v3287).toNat) ∧
  (∀ a, (k0_off138 v3287) a + S512x256.size a ≤ S8192x256.size a)
theorem k0_mult85_dvd : ∀ (v3287 : BitVec 32) (k0_hw85 : k0_chk85 v3287), 512 ∣ (k0_mult85 v3287).toNat := fun v3287 k0_hw85 => k0_hw85.1
theorem k0_off138_inb : ∀ (v3287 : BitVec 32) (k0_hw85 : k0_chk85 v3287), ∀ a, (k0_off138 v3287) a + S512x256.size a ≤ S8192x256.size a := fun v3287 k0_hw85 => k0_hw85.2

def k0_mult87 (v3307 : BitVec 32) : BitVec 32 :=
  let c512_i32_1307 : BitVec 32 := 512#32
  let v3308 : BitVec 32 := Scalar.muli v3307 c512_i32_1307
  v3308

def k0_mult88 (v3310 : BitVec 32) : BitVec 32 :=
  let c512_i32_1310 : BitVec 32 := 512#32
  let v3311 : BitVec 32 := Scalar.muli v3310 c512_i32_1310
  v3311

def k0_off139 (v3310 : BitVec 32) : Fin 3 → Nat :=
  let c0_1311 : Index := 0#32
  let c0_1312 : Index := 0#32
  let c512_i32_1310 : BitVec 32 := 512#32
  let v3311 : BitVec 32 := Scalar.muli v3310 c512_i32_1310
  let v3312 : BitVec 32 := v3311
  let v3313 : Index := Scalar.indexCast v3312
  ![0, 0, v3313.toNat]

def k0_chk88 (v3310 : BitVec 32) : Prop :=
  (512 ∣ (k0_mult88 v3310).toNat) ∧
  (∀ a, (k0_off139 v3310) a + S1x1x1024.size a ≤ S1x1x8192.size a)
theorem k0_mult88_dvd : ∀ (v3310 : BitVec 32) (k0_hw88 : k0_chk88 v3310), 512 ∣ (k0_mult88 v3310).toNat := fun v3310 k0_hw88 => k0_hw88.1
theorem k0_off139_inb : ∀ (v3310 : BitVec 32) (k0_hw88 : k0_chk88 v3310), ∀ a, (k0_off139 v3310) a + S1x1x1024.size a ≤ S1x1x8192.size a := fun v3310 k0_hw88 => k0_hw88.2

def k0_off140 (v3307 : BitVec 32) (c0_i32_1314 : BitVec 32) : Fin 2 → Nat :=
  let c512_i32_1307 : BitVec 32 := 512#32
  let v3308 : BitVec 32 := Scalar.muli v3307 c512_i32_1307
  let v3309 : BitVec 32 := v3308
  let v3318 : BitVec 32 := Scalar.addi v3309 c0_i32_1314
  let v3322 : Index := Scalar.indexCast v3318
  let c0_1317 : Index := 0#32
  ![v3322.toNat, 0]

def k0_chk87 (v3307 : BitVec 32) : Prop :=
  (512 ∣ (k0_mult87 v3307).toNat) ∧
  (∀ (r : Fin 16), ∀ a, (k0_off140 v3307 (BitVec.ofNat 32 (32 * r.val))) a + S32x1.size a ≤ S8192x1.size a)
theorem k0_mult87_dvd : ∀ (v3307 : BitVec 32) (k0_hw87 : k0_chk87 v3307), 512 ∣ (k0_mult87 v3307).toNat := fun v3307 k0_hw87 => k0_hw87.1
theorem k0_off140_inb : ∀ (v3307 : BitVec 32) (k0_hw87 : k0_chk87 v3307), ∀ (r : Fin 16), ∀ a, (k0_off140 v3307 (BitVec.ofNat 32 (32 * r.val))) a + S32x1.size a ≤ S8192x1.size a := fun v3307 k0_hw87 r => k0_hw87.2 r

def k0_mult89 (v3782 : BitVec 32) : BitVec 32 :=
  let c512_i32_1491 : BitVec 32 := 512#32
  let v3783 : BitVec 32 := Scalar.muli v3782 c512_i32_1491
  v3783

def k0_mult90 (v3785 : BitVec 32) : BitVec 32 :=
  let c512_i32_1494 : BitVec 32 := 512#32
  let v3786 : BitVec 32 := Scalar.muli v3785 c512_i32_1494
  v3786

def k0_off141 (v3782 : BitVec 32) : Fin 2 → Nat :=
  let c512_i32_1491 : BitVec 32 := 512#32
  let v3783 : BitVec 32 := Scalar.muli v3782 c512_i32_1491
  let v3784 : BitVec 32 := v3783
  let v3788 : Index := Scalar.indexCast v3784
  let c0_1495 : Index := 0#32
  ![v3788.toNat, 0]

def k0_chk89 (v3782 : BitVec 32) : Prop :=
  (512 ∣ (k0_mult89 v3782).toNat) ∧
  (∀ a, (k0_off141 v3782) a + S512x128.size a ≤ S8192x128.size a)
theorem k0_mult89_dvd : ∀ (v3782 : BitVec 32) (k0_hw89 : k0_chk89 v3782), 512 ∣ (k0_mult89 v3782).toNat := fun v3782 k0_hw89 => k0_hw89.1
theorem k0_off141_inb : ∀ (v3782 : BitVec 32) (k0_hw89 : k0_chk89 v3782), ∀ a, (k0_off141 v3782) a + S512x128.size a ≤ S8192x128.size a := fun v3782 k0_hw89 => k0_hw89.2

def k0_off142 (v3785 : BitVec 32) : Fin 2 → Nat :=
  let c0_1496 : Index := 0#32
  let c512_i32_1494 : BitVec 32 := 512#32
  let v3786 : BitVec 32 := Scalar.muli v3785 c512_i32_1494
  let v3787 : BitVec 32 := v3786
  let v3791 : Index := Scalar.indexCast v3787
  ![0, v3791.toNat]

def k0_chk90 (v3785 : BitVec 32) : Prop :=
  (512 ∣ (k0_mult90 v3785).toNat) ∧
  (∀ a, (k0_off142 v3785) a + S128x1024.size a ≤ S128x8192.size a)
theorem k0_mult90_dvd : ∀ (v3785 : BitVec 32) (k0_hw90 : k0_chk90 v3785), 512 ∣ (k0_mult90 v3785).toNat := fun v3785 k0_hw90 => k0_hw90.1
theorem k0_off142_inb : ∀ (v3785 : BitVec 32) (k0_hw90 : k0_chk90 v3785), ∀ a, (k0_off142 v3785) a + S128x1024.size a ≤ S128x8192.size a := fun v3785 k0_hw90 => k0_hw90.2

def k0_mult91 (v3797 : BitVec 32) : BitVec 32 :=
  let c512_i32_1502 : BitVec 32 := 512#32
  let v3798 : BitVec 32 := Scalar.muli v3797 c512_i32_1502
  v3798

def k0_mult92 (v3800 : BitVec 32) : BitVec 32 :=
  let c512_i32_1505 : BitVec 32 := 512#32
  let v3801 : BitVec 32 := Scalar.muli v3800 c512_i32_1505
  v3801

def k0_off143 (v3800 : BitVec 32) : Fin 2 → Nat :=
  let c512_i32_1505 : BitVec 32 := 512#32
  let v3801 : BitVec 32 := Scalar.muli v3800 c512_i32_1505
  let v3802 : BitVec 32 := v3801
  let v3804 : Index := Scalar.indexCast v3802
  let c0_1508 : Index := 0#32
  ![v3804.toNat, 0]

def k0_chk92 (v3800 : BitVec 32) : Prop :=
  (512 ∣ (k0_mult92 v3800).toNat) ∧
  (∀ a, (k0_off143 v3800) a + S1024x256.size a ≤ S8192x256.size a)
theorem k0_mult92_dvd : ∀ (v3800 : BitVec 32) (k0_hw92 : k0_chk92 v3800), 512 ∣ (k0_mult92 v3800).toNat := fun v3800 k0_hw92 => k0_hw92.1
theorem k0_off143_inb : ∀ (v3800 : BitVec 32) (k0_hw92 : k0_chk92 v3800), ∀ a, (k0_off143 v3800) a + S1024x256.size a ≤ S8192x256.size a := fun v3800 k0_hw92 => k0_hw92.2

def k0_off144 (v3797 : BitVec 32) : Fin 2 → Nat :=
  let c512_i32_1502 : BitVec 32 := 512#32
  let v3798 : BitVec 32 := Scalar.muli v3797 c512_i32_1502
  let v3799 : BitVec 32 := v3798
  let v3808 : Index := Scalar.indexCast v3799
  let c0_1512 : Index := 0#32
  ![v3808.toNat, 0]

def k0_chk91 (v3797 : BitVec 32) : Prop :=
  (512 ∣ (k0_mult91 v3797).toNat) ∧
  (∀ a, (k0_off144 v3797) a + S512x256.size a ≤ S8192x256.size a)
theorem k0_mult91_dvd : ∀ (v3797 : BitVec 32) (k0_hw91 : k0_chk91 v3797), 512 ∣ (k0_mult91 v3797).toNat := fun v3797 k0_hw91 => k0_hw91.1
theorem k0_off144_inb : ∀ (v3797 : BitVec 32) (k0_hw91 : k0_chk91 v3797), ∀ a, (k0_off144 v3797) a + S512x256.size a ≤ S8192x256.size a := fun v3797 k0_hw91 => k0_hw91.2

def k0_mult93 (v3817 : BitVec 32) : BitVec 32 :=
  let c512_i32_1516 : BitVec 32 := 512#32
  let v3818 : BitVec 32 := Scalar.muli v3817 c512_i32_1516
  v3818

def k0_mult94 (v3820 : BitVec 32) : BitVec 32 :=
  let c512_i32_1519 : BitVec 32 := 512#32
  let v3821 : BitVec 32 := Scalar.muli v3820 c512_i32_1519
  v3821

def k0_off145 (v3820 : BitVec 32) : Fin 3 → Nat :=
  let c0_1520 : Index := 0#32
  let c0_1521 : Index := 0#32
  let c512_i32_1519 : BitVec 32 := 512#32
  let v3821 : BitVec 32 := Scalar.muli v3820 c512_i32_1519
  let v3822 : BitVec 32 := v3821
  let v3823 : Index := Scalar.indexCast v3822
  ![0, 0, v3823.toNat]

def k0_chk94 (v3820 : BitVec 32) : Prop :=
  (512 ∣ (k0_mult94 v3820).toNat) ∧
  (∀ a, (k0_off145 v3820) a + S1x1x1024.size a ≤ S1x1x8192.size a)
theorem k0_mult94_dvd : ∀ (v3820 : BitVec 32) (k0_hw94 : k0_chk94 v3820), 512 ∣ (k0_mult94 v3820).toNat := fun v3820 k0_hw94 => k0_hw94.1
theorem k0_off145_inb : ∀ (v3820 : BitVec 32) (k0_hw94 : k0_chk94 v3820), ∀ a, (k0_off145 v3820) a + S1x1x1024.size a ≤ S1x1x8192.size a := fun v3820 k0_hw94 => k0_hw94.2

def k0_off146 (v3817 : BitVec 32) (c0_i32_1523 : BitVec 32) : Fin 2 → Nat :=
  let c512_i32_1516 : BitVec 32 := 512#32
  let v3818 : BitVec 32 := Scalar.muli v3817 c512_i32_1516
  let v3819 : BitVec 32 := v3818
  let v3828 : BitVec 32 := Scalar.addi v3819 c0_i32_1523
  let v3832 : Index := Scalar.indexCast v3828
  let c0_1526 : Index := 0#32
  ![v3832.toNat, 0]

def k0_chk93 (v3817 : BitVec 32) : Prop :=
  (512 ∣ (k0_mult93 v3817).toNat) ∧
  (∀ (r : Fin 16), ∀ a, (k0_off146 v3817 (BitVec.ofNat 32 (32 * r.val))) a + S32x1.size a ≤ S8192x1.size a)
theorem k0_mult93_dvd : ∀ (v3817 : BitVec 32) (k0_hw93 : k0_chk93 v3817), 512 ∣ (k0_mult93 v3817).toNat := fun v3817 k0_hw93 => k0_hw93.1
theorem k0_off146_inb : ∀ (v3817 : BitVec 32) (k0_hw93 : k0_chk93 v3817), ∀ (r : Fin 16), ∀ a, (k0_off146 v3817 (BitVec.ofNat 32 (32 * r.val))) a + S32x1.size a ≤ S8192x1.size a := fun v3817 k0_hw93 r => k0_hw93.2 r

def k0_mult95 (v4292 : BitVec 32) : BitVec 32 :=
  let c512_i32_1701 : BitVec 32 := 512#32
  let v4293 : BitVec 32 := Scalar.muli v4292 c512_i32_1701
  v4293

def k0_mult96 (v4295 : BitVec 32) : BitVec 32 :=
  let c512_i32_1704 : BitVec 32 := 512#32
  let v4296 : BitVec 32 := Scalar.muli v4295 c512_i32_1704
  v4296

def k0_off147 (v4295 : BitVec 32) : Fin 2 → Nat :=
  let c512_i32_1704 : BitVec 32 := 512#32
  let v4296 : BitVec 32 := Scalar.muli v4295 c512_i32_1704
  let v4297 : BitVec 32 := v4296
  let v4299 : Index := Scalar.indexCast v4297
  let c0_1707 : Index := 0#32
  ![v4299.toNat, 0]

def k0_chk96 (v4295 : BitVec 32) : Prop :=
  (512 ∣ (k0_mult96 v4295).toNat) ∧
  (∀ a, (k0_off147 v4295) a + S1024x256.size a ≤ S8192x256.size a)
theorem k0_mult96_dvd : ∀ (v4295 : BitVec 32) (k0_hw96 : k0_chk96 v4295), 512 ∣ (k0_mult96 v4295).toNat := fun v4295 k0_hw96 => k0_hw96.1
theorem k0_off147_inb : ∀ (v4295 : BitVec 32) (k0_hw96 : k0_chk96 v4295), ∀ a, (k0_off147 v4295) a + S1024x256.size a ≤ S8192x256.size a := fun v4295 k0_hw96 => k0_hw96.2

def k0_off148 (v4292 : BitVec 32) : Fin 2 → Nat :=
  let c512_i32_1701 : BitVec 32 := 512#32
  let v4293 : BitVec 32 := Scalar.muli v4292 c512_i32_1701
  let v4294 : BitVec 32 := v4293
  let v4303 : Index := Scalar.indexCast v4294
  let c0_1711 : Index := 0#32
  ![v4303.toNat, 0]

def k0_chk95 (v4292 : BitVec 32) : Prop :=
  (512 ∣ (k0_mult95 v4292).toNat) ∧
  (∀ a, (k0_off148 v4292) a + S512x256.size a ≤ S8192x256.size a)
theorem k0_mult95_dvd : ∀ (v4292 : BitVec 32) (k0_hw95 : k0_chk95 v4292), 512 ∣ (k0_mult95 v4292).toNat := fun v4292 k0_hw95 => k0_hw95.1
theorem k0_off148_inb : ∀ (v4292 : BitVec 32) (k0_hw95 : k0_chk95 v4292), ∀ a, (k0_off148 v4292) a + S512x256.size a ≤ S8192x256.size a := fun v4292 k0_hw95 => k0_hw95.2

def k0_mult97 (v4312 : BitVec 32) : BitVec 32 :=
  let c512_i32_1714 : BitVec 32 := 512#32
  let v4313 : BitVec 32 := Scalar.muli v4312 c512_i32_1714
  v4313

def k0_mult98 (v4315 : BitVec 32) : BitVec 32 :=
  let c512_i32_1717 : BitVec 32 := 512#32
  let v4316 : BitVec 32 := Scalar.muli v4315 c512_i32_1717
  v4316

def k0_off149 (v4312 : BitVec 32) : Fin 2 → Nat :=
  let c512_i32_1714 : BitVec 32 := 512#32
  let v4313 : BitVec 32 := Scalar.muli v4312 c512_i32_1714
  let v4314 : BitVec 32 := v4313
  let v4318 : Index := Scalar.indexCast v4314
  let c0_1718 : Index := 0#32
  ![v4318.toNat, 0]

def k0_chk97 (v4312 : BitVec 32) : Prop :=
  (512 ∣ (k0_mult97 v4312).toNat) ∧
  (∀ a, (k0_off149 v4312) a + S512x128.size a ≤ S8192x128.size a)
theorem k0_mult97_dvd : ∀ (v4312 : BitVec 32) (k0_hw97 : k0_chk97 v4312), 512 ∣ (k0_mult97 v4312).toNat := fun v4312 k0_hw97 => k0_hw97.1
theorem k0_off149_inb : ∀ (v4312 : BitVec 32) (k0_hw97 : k0_chk97 v4312), ∀ a, (k0_off149 v4312) a + S512x128.size a ≤ S8192x128.size a := fun v4312 k0_hw97 => k0_hw97.2

def k0_off150 (v4315 : BitVec 32) : Fin 2 → Nat :=
  let c0_1719 : Index := 0#32
  let c512_i32_1717 : BitVec 32 := 512#32
  let v4316 : BitVec 32 := Scalar.muli v4315 c512_i32_1717
  let v4317 : BitVec 32 := v4316
  let v4321 : Index := Scalar.indexCast v4317
  ![0, v4321.toNat]

def k0_chk98 (v4315 : BitVec 32) : Prop :=
  (512 ∣ (k0_mult98 v4315).toNat) ∧
  (∀ a, (k0_off150 v4315) a + S128x512.size a ≤ S128x8192.size a)
theorem k0_mult98_dvd : ∀ (v4315 : BitVec 32) (k0_hw98 : k0_chk98 v4315), 512 ∣ (k0_mult98 v4315).toNat := fun v4315 k0_hw98 => k0_hw98.1
theorem k0_off150_inb : ∀ (v4315 : BitVec 32) (k0_hw98 : k0_chk98 v4315), ∀ a, (k0_off150 v4315) a + S128x512.size a ≤ S128x8192.size a := fun v4315 k0_hw98 => k0_hw98.2

def k0_mult99 (v4327 : BitVec 32) : BitVec 32 :=
  let c512_i32_1725 : BitVec 32 := 512#32
  let v4328 : BitVec 32 := Scalar.muli v4327 c512_i32_1725
  v4328

def k0_mult100 (v4330 : BitVec 32) : BitVec 32 :=
  let c512_i32_1728 : BitVec 32 := 512#32
  let v4331 : BitVec 32 := Scalar.muli v4330 c512_i32_1728
  v4331

def k0_off151 (v4330 : BitVec 32) : Fin 3 → Nat :=
  let c0_1729 : Index := 0#32
  let c0_1730 : Index := 0#32
  let c512_i32_1728 : BitVec 32 := 512#32
  let v4331 : BitVec 32 := Scalar.muli v4330 c512_i32_1728
  let v4332 : BitVec 32 := v4331
  let v4333 : Index := Scalar.indexCast v4332
  ![0, 0, v4333.toNat]

def k0_chk100 (v4330 : BitVec 32) : Prop :=
  (512 ∣ (k0_mult100 v4330).toNat) ∧
  (∀ a, (k0_off151 v4330) a + S1x1x512.size a ≤ S1x1x8192.size a)
theorem k0_mult100_dvd : ∀ (v4330 : BitVec 32) (k0_hw100 : k0_chk100 v4330), 512 ∣ (k0_mult100 v4330).toNat := fun v4330 k0_hw100 => k0_hw100.1
theorem k0_off151_inb : ∀ (v4330 : BitVec 32) (k0_hw100 : k0_chk100 v4330), ∀ a, (k0_off151 v4330) a + S1x1x512.size a ≤ S1x1x8192.size a := fun v4330 k0_hw100 => k0_hw100.2

def k0_off152 (v4327 : BitVec 32) (c0_i32_1732 : BitVec 32) : Fin 2 → Nat :=
  let c512_i32_1725 : BitVec 32 := 512#32
  let v4328 : BitVec 32 := Scalar.muli v4327 c512_i32_1725
  let v4329 : BitVec 32 := v4328
  let v4338 : BitVec 32 := Scalar.addi v4329 c0_i32_1732
  let v4342 : Index := Scalar.indexCast v4338
  let c0_1735 : Index := 0#32
  ![v4342.toNat, 0]

def k0_chk99 (v4327 : BitVec 32) : Prop :=
  (512 ∣ (k0_mult99 v4327).toNat) ∧
  (∀ (r : Fin 16), ∀ a, (k0_off152 v4327 (BitVec.ofNat 32 (32 * r.val))) a + S32x1.size a ≤ S8192x1.size a)
theorem k0_mult99_dvd : ∀ (v4327 : BitVec 32) (k0_hw99 : k0_chk99 v4327), 512 ∣ (k0_mult99 v4327).toNat := fun v4327 k0_hw99 => k0_hw99.1
theorem k0_off152_inb : ∀ (v4327 : BitVec 32) (k0_hw99 : k0_chk99 v4327), ∀ (r : Fin 16), ∀ a, (k0_off152 v4327 (BitVec.ofNat 32 (32 * r.val))) a + S32x1.size a ≤ S8192x1.size a := fun v4327 k0_hw99 r => k0_hw99.2 r

def k0_off153 : Fin 2 → Nat :=
  let c0_1908 : Index := 0#32
  let c73_i32 : BitVec 32 := 73#32
  let c79_i32 : BitVec 32 := 79#32
  let v4802 : BitVec 32 := Scalar.minsi c73_i32 c79_i32
  let v4803 : Index := Scalar.indexCast v4802
  ![0, v4803.toNat]
def k0_mult101 (v4804 : BitVec 32) : BitVec 32 :=
  let c512_i32_1909 : BitVec 32 := 512#32
  let v4805 : BitVec 32 := Scalar.muli v4804 c512_i32_1909
  v4805

def k0_off154 : Fin 2 → Nat :=
  let c1_1910 : Index := 1#32
  let c73_i32 : BitVec 32 := 73#32
  let c79_i32 : BitVec 32 := 79#32
  let v4802 : BitVec 32 := Scalar.minsi c73_i32 c79_i32
  let v4807 : Index := Scalar.indexCast v4802
  ![1, v4807.toNat]
def k0_mult102 (v4808 : BitVec 32) : BitVec 32 :=
  let c512_i32_1911 : BitVec 32 := 512#32
  let v4809 : BitVec 32 := Scalar.muli v4808 c512_i32_1911
  v4809

def k0_off155 (v4804 : BitVec 32) : Fin 2 → Nat :=
  let c512_i32_1909 : BitVec 32 := 512#32
  let v4805 : BitVec 32 := Scalar.muli v4804 c512_i32_1909
  let v4806 : BitVec 32 := v4805
  let v4811 : Index := Scalar.indexCast v4806
  let c0_1912 : Index := 0#32
  ![v4811.toNat, 0]

def k0_chk101 (v4804 : BitVec 32) : Prop :=
  (512 ∣ (k0_mult101 v4804).toNat) ∧
  (∀ a, (k0_off155 v4804) a + S512x128.size a ≤ S8192x128.size a)
theorem k0_mult101_dvd : ∀ (v4804 : BitVec 32) (k0_hw101 : k0_chk101 v4804), 512 ∣ (k0_mult101 v4804).toNat := fun v4804 k0_hw101 => k0_hw101.1
theorem k0_off155_inb : ∀ (v4804 : BitVec 32) (k0_hw101 : k0_chk101 v4804), ∀ a, (k0_off155 v4804) a + S512x128.size a ≤ S8192x128.size a := fun v4804 k0_hw101 => k0_hw101.2

def k0_off156 (v4808 : BitVec 32) : Fin 2 → Nat :=
  let c0_1913 : Index := 0#32
  let c512_i32_1911 : BitVec 32 := 512#32
  let v4809 : BitVec 32 := Scalar.muli v4808 c512_i32_1911
  let v4810 : BitVec 32 := v4809
  let v4814 : Index := Scalar.indexCast v4810
  ![0, v4814.toNat]

def k0_chk102 (v4808 : BitVec 32) : Prop :=
  (512 ∣ (k0_mult102 v4808).toNat) ∧
  (∀ a, (k0_off156 v4808) a + S128x512.size a ≤ S128x8192.size a)
theorem k0_mult102_dvd : ∀ (v4808 : BitVec 32) (k0_hw102 : k0_chk102 v4808), 512 ∣ (k0_mult102 v4808).toNat := fun v4808 k0_hw102 => k0_hw102.1
theorem k0_off156_inb : ∀ (v4808 : BitVec 32) (k0_hw102 : k0_chk102 v4808), ∀ a, (k0_off156 v4808) a + S128x512.size a ≤ S128x8192.size a := fun v4808 k0_hw102 => k0_hw102.2

def k0_off157 : Fin 2 → Nat :=
  let c0_1919 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c0_i32_1918 : BitVec 32 := 0#32
  let v4822 : BitVec 32 := Scalar.addi v4821 c0_i32_1918
  let v4823 : Index := Scalar.indexCast v4822
  ![0, v4823.toNat]
def k0_mult103 (v4824 : BitVec 32) : BitVec 32 :=
  let c512_i32_1920 : BitVec 32 := 512#32
  let v4825 : BitVec 32 := Scalar.muli v4824 c512_i32_1920
  v4825

def k0_off158 : Fin 2 → Nat :=
  let c1_1921 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c0_i32_1918 : BitVec 32 := 0#32
  let v4822 : BitVec 32 := Scalar.addi v4821 c0_i32_1918
  let v4827 : Index := Scalar.indexCast v4822
  ![1, v4827.toNat]
def k0_mult104 (v4828 : BitVec 32) : BitVec 32 :=
  let c512_i32_1922 : BitVec 32 := 512#32
  let v4829 : BitVec 32 := Scalar.muli v4828 c512_i32_1922
  v4829

def k0_off159 (v4828 : BitVec 32) : Fin 2 → Nat :=
  let c512_i32_1922 : BitVec 32 := 512#32
  let v4829 : BitVec 32 := Scalar.muli v4828 c512_i32_1922
  let v4830 : BitVec 32 := v4829
  let v4832 : Index := Scalar.indexCast v4830
  let c0_1925 : Index := 0#32
  ![v4832.toNat, 0]

def k0_chk104 (v4828 : BitVec 32) : Prop :=
  (512 ∣ (k0_mult104 v4828).toNat) ∧
  (∀ a, (k0_off159 v4828) a + S512x256.size a ≤ S8192x256.size a)
theorem k0_mult104_dvd : ∀ (v4828 : BitVec 32) (k0_hw104 : k0_chk104 v4828), 512 ∣ (k0_mult104 v4828).toNat := fun v4828 k0_hw104 => k0_hw104.1
theorem k0_off159_inb : ∀ (v4828 : BitVec 32) (k0_hw104 : k0_chk104 v4828), ∀ a, (k0_off159 v4828) a + S512x256.size a ≤ S8192x256.size a := fun v4828 k0_hw104 => k0_hw104.2

def k0_off160 (v4824 : BitVec 32) : Fin 2 → Nat :=
  let c512_i32_1920 : BitVec 32 := 512#32
  let v4825 : BitVec 32 := Scalar.muli v4824 c512_i32_1920
  let v4826 : BitVec 32 := v4825
  let v4836 : Index := Scalar.indexCast v4826
  let c0_1929 : Index := 0#32
  ![v4836.toNat, 0]

def k0_chk103 (v4824 : BitVec 32) : Prop :=
  (512 ∣ (k0_mult103 v4824).toNat) ∧
  (∀ a, (k0_off160 v4824) a + S512x256.size a ≤ S8192x256.size a)
theorem k0_mult103_dvd : ∀ (v4824 : BitVec 32) (k0_hw103 : k0_chk103 v4824), 512 ∣ (k0_mult103 v4824).toNat := fun v4824 k0_hw103 => k0_hw103.1
theorem k0_off160_inb : ∀ (v4824 : BitVec 32) (k0_hw103 : k0_chk103 v4824), ∀ a, (k0_off160 v4824) a + S512x256.size a ≤ S8192x256.size a := fun v4824 k0_hw103 => k0_hw103.2

def k0_off161 : Fin 2 → Nat :=
  let c0_1933 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c0_i32_1931 : BitVec 32 := 0#32
  let v4845 : BitVec 32 := Scalar.addi v4821 c0_i32_1931
  let c1_i32_1932 : BitVec 32 := 1#32
  let v4846 : BitVec 32 := Scalar.addi v4845 c1_i32_1932
  let v4847 : Index := Scalar.indexCast v4846
  ![0, v4847.toNat]
def k0_mult105 (v4848 : BitVec 32) : BitVec 32 :=
  let c512_i32_1934 : BitVec 32 := 512#32
  let v4849 : BitVec 32 := Scalar.muli v4848 c512_i32_1934
  v4849

def k0_off162 : Fin 2 → Nat :=
  let c1_1935 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c0_i32_1931 : BitVec 32 := 0#32
  let v4845 : BitVec 32 := Scalar.addi v4821 c0_i32_1931
  let c1_i32_1932 : BitVec 32 := 1#32
  let v4846 : BitVec 32 := Scalar.addi v4845 c1_i32_1932
  let v4851 : Index := Scalar.indexCast v4846
  ![1, v4851.toNat]
def k0_mult106 (v4852 : BitVec 32) : BitVec 32 :=
  let c512_i32_1936 : BitVec 32 := 512#32
  let v4853 : BitVec 32 := Scalar.muli v4852 c512_i32_1936
  v4853

def k0_off163 (v4852 : BitVec 32) : Fin 3 → Nat :=
  let c0_1937 : Index := 0#32
  let c0_1938 : Index := 0#32
  let c512_i32_1936 : BitVec 32 := 512#32
  let v4853 : BitVec 32 := Scalar.muli v4852 c512_i32_1936
  let v4854 : BitVec 32 := v4853
  let v4855 : Index := Scalar.indexCast v4854
  ![0, 0, v4855.toNat]

def k0_chk106 (v4852 : BitVec 32) : Prop :=
  (512 ∣ (k0_mult106 v4852).toNat) ∧
  (∀ a, (k0_off163 v4852) a + S1x1x512.size a ≤ S1x1x8192.size a)
theorem k0_mult106_dvd : ∀ (v4852 : BitVec 32) (k0_hw106 : k0_chk106 v4852), 512 ∣ (k0_mult106 v4852).toNat := fun v4852 k0_hw106 => k0_hw106.1
theorem k0_off163_inb : ∀ (v4852 : BitVec 32) (k0_hw106 : k0_chk106 v4852), ∀ a, (k0_off163 v4852) a + S1x1x512.size a ≤ S1x1x8192.size a := fun v4852 k0_hw106 => k0_hw106.2

def k0_off164 (v4848 : BitVec 32) (c0_i32_1940 : BitVec 32) : Fin 2 → Nat :=
  let c512_i32_1934 : BitVec 32 := 512#32
  let v4849 : BitVec 32 := Scalar.muli v4848 c512_i32_1934
  let v4850 : BitVec 32 := v4849
  let v4860 : BitVec 32 := Scalar.addi v4850 c0_i32_1940
  let v4864 : Index := Scalar.indexCast v4860
  let c0_1943 : Index := 0#32
  ![v4864.toNat, 0]

def k0_chk105 (v4848 : BitVec 32) : Prop :=
  (512 ∣ (k0_mult105 v4848).toNat) ∧
  (∀ (r : Fin 16), ∀ a, (k0_off164 v4848 (BitVec.ofNat 32 (32 * r.val))) a + S32x1.size a ≤ S8192x1.size a)
theorem k0_mult105_dvd : ∀ (v4848 : BitVec 32) (k0_hw105 : k0_chk105 v4848), 512 ∣ (k0_mult105 v4848).toNat := fun v4848 k0_hw105 => k0_hw105.1
theorem k0_off164_inb : ∀ (v4848 : BitVec 32) (k0_hw105 : k0_chk105 v4848), ∀ (r : Fin 16), ∀ a, (k0_off164 v4848 (BitVec.ofNat 32 (32 * r.val))) a + S32x1.size a ≤ S8192x1.size a := fun v4848 k0_hw105 r => k0_hw105.2 r

def k0_off165 : Fin 2 → Nat :=
  let c0_2118 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c0_i32_2116 : BitVec 32 := 0#32
  let v5324 : BitVec 32 := Scalar.addi v4821 c0_i32_2116
  let c2_i32 : BitVec 32 := 2#32
  let v5325 : BitVec 32 := Scalar.addi v5324 c2_i32
  let c79_i32_2117 : BitVec 32 := 79#32
  let v5326 : BitVec 32 := Scalar.minsi v5325 c79_i32_2117
  let v5327 : Index := Scalar.indexCast v5326
  ![0, v5327.toNat]
def k0_mult107 (v5328 : BitVec 32) : BitVec 32 :=
  let c512_i32_2119 : BitVec 32 := 512#32
  let v5329 : BitVec 32 := Scalar.muli v5328 c512_i32_2119
  v5329

def k0_off166 : Fin 2 → Nat :=
  let c1_2120 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c0_i32_2116 : BitVec 32 := 0#32
  let v5324 : BitVec 32 := Scalar.addi v4821 c0_i32_2116
  let c2_i32 : BitVec 32 := 2#32
  let v5325 : BitVec 32 := Scalar.addi v5324 c2_i32
  let c79_i32_2117 : BitVec 32 := 79#32
  let v5326 : BitVec 32 := Scalar.minsi v5325 c79_i32_2117
  let v5331 : Index := Scalar.indexCast v5326
  ![1, v5331.toNat]
def k0_mult108 (v5332 : BitVec 32) : BitVec 32 :=
  let c512_i32_2121 : BitVec 32 := 512#32
  let v5333 : BitVec 32 := Scalar.muli v5332 c512_i32_2121
  v5333

def k0_off167 (v5328 : BitVec 32) : Fin 2 → Nat :=
  let c512_i32_2119 : BitVec 32 := 512#32
  let v5329 : BitVec 32 := Scalar.muli v5328 c512_i32_2119
  let v5330 : BitVec 32 := v5329
  let v5335 : Index := Scalar.indexCast v5330
  let c0_2122 : Index := 0#32
  ![v5335.toNat, 0]

def k0_chk107 (v5328 : BitVec 32) : Prop :=
  (512 ∣ (k0_mult107 v5328).toNat) ∧
  (∀ a, (k0_off167 v5328) a + S512x128.size a ≤ S8192x128.size a)
theorem k0_mult107_dvd : ∀ (v5328 : BitVec 32) (k0_hw107 : k0_chk107 v5328), 512 ∣ (k0_mult107 v5328).toNat := fun v5328 k0_hw107 => k0_hw107.1
theorem k0_off167_inb : ∀ (v5328 : BitVec 32) (k0_hw107 : k0_chk107 v5328), ∀ a, (k0_off167 v5328) a + S512x128.size a ≤ S8192x128.size a := fun v5328 k0_hw107 => k0_hw107.2

def k0_off168 (v5332 : BitVec 32) : Fin 2 → Nat :=
  let c0_2123 : Index := 0#32
  let c512_i32_2121 : BitVec 32 := 512#32
  let v5333 : BitVec 32 := Scalar.muli v5332 c512_i32_2121
  let v5334 : BitVec 32 := v5333
  let v5338 : Index := Scalar.indexCast v5334
  ![0, v5338.toNat]

def k0_chk108 (v5332 : BitVec 32) : Prop :=
  (512 ∣ (k0_mult108 v5332).toNat) ∧
  (∀ a, (k0_off168 v5332) a + S128x512.size a ≤ S128x8192.size a)
theorem k0_mult108_dvd : ∀ (v5332 : BitVec 32) (k0_hw108 : k0_chk108 v5332), 512 ∣ (k0_mult108 v5332).toNat := fun v5332 k0_hw108 => k0_hw108.1
theorem k0_off168_inb : ∀ (v5332 : BitVec 32) (k0_hw108 : k0_chk108 v5332), ∀ a, (k0_off168 v5332) a + S128x512.size a ≤ S128x8192.size a := fun v5332 k0_hw108 => k0_hw108.2

def k0_off169 : Fin 2 → Nat :=
  let c0_2128 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c1_i32_2127 : BitVec 32 := 1#32
  let v5344 : BitVec 32 := Scalar.addi v4821 c1_i32_2127
  let v5345 : Index := Scalar.indexCast v5344
  ![0, v5345.toNat]
def k0_mult109 (v5346 : BitVec 32) : BitVec 32 :=
  let c512_i32_2129 : BitVec 32 := 512#32
  let v5347 : BitVec 32 := Scalar.muli v5346 c512_i32_2129
  v5347

def k0_off170 : Fin 2 → Nat :=
  let c1_2130 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c1_i32_2127 : BitVec 32 := 1#32
  let v5344 : BitVec 32 := Scalar.addi v4821 c1_i32_2127
  let v5349 : Index := Scalar.indexCast v5344
  ![1, v5349.toNat]
def k0_mult110 (v5350 : BitVec 32) : BitVec 32 :=
  let c512_i32_2131 : BitVec 32 := 512#32
  let v5351 : BitVec 32 := Scalar.muli v5350 c512_i32_2131
  v5351

def k0_off171 (v5350 : BitVec 32) : Fin 2 → Nat :=
  let c512_i32_2131 : BitVec 32 := 512#32
  let v5351 : BitVec 32 := Scalar.muli v5350 c512_i32_2131
  let v5352 : BitVec 32 := v5351
  let v5354 : Index := Scalar.indexCast v5352
  let c0_2134 : Index := 0#32
  ![v5354.toNat, 0]

def k0_chk110 (v5350 : BitVec 32) : Prop :=
  (512 ∣ (k0_mult110 v5350).toNat) ∧
  (∀ a, (k0_off171 v5350) a + S512x256.size a ≤ S8192x256.size a)
theorem k0_mult110_dvd : ∀ (v5350 : BitVec 32) (k0_hw110 : k0_chk110 v5350), 512 ∣ (k0_mult110 v5350).toNat := fun v5350 k0_hw110 => k0_hw110.1
theorem k0_off171_inb : ∀ (v5350 : BitVec 32) (k0_hw110 : k0_chk110 v5350), ∀ a, (k0_off171 v5350) a + S512x256.size a ≤ S8192x256.size a := fun v5350 k0_hw110 => k0_hw110.2

def k0_off172 (v5346 : BitVec 32) : Fin 2 → Nat :=
  let c512_i32_2129 : BitVec 32 := 512#32
  let v5347 : BitVec 32 := Scalar.muli v5346 c512_i32_2129
  let v5348 : BitVec 32 := v5347
  let v5358 : Index := Scalar.indexCast v5348
  let c0_2138 : Index := 0#32
  ![v5358.toNat, 0]

def k0_chk109 (v5346 : BitVec 32) : Prop :=
  (512 ∣ (k0_mult109 v5346).toNat) ∧
  (∀ a, (k0_off172 v5346) a + S512x256.size a ≤ S8192x256.size a)
theorem k0_mult109_dvd : ∀ (v5346 : BitVec 32) (k0_hw109 : k0_chk109 v5346), 512 ∣ (k0_mult109 v5346).toNat := fun v5346 k0_hw109 => k0_hw109.1
theorem k0_off172_inb : ∀ (v5346 : BitVec 32) (k0_hw109 : k0_chk109 v5346), ∀ a, (k0_off172 v5346) a + S512x256.size a ≤ S8192x256.size a := fun v5346 k0_hw109 => k0_hw109.2

def k0_off173 : Fin 2 → Nat :=
  let c0_2142 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c1_i32_2140 : BitVec 32 := 1#32
  let v5367 : BitVec 32 := Scalar.addi v4821 c1_i32_2140
  let c1_i32_2141 : BitVec 32 := 1#32
  let v5368 : BitVec 32 := Scalar.addi v5367 c1_i32_2141
  let v5369 : Index := Scalar.indexCast v5368
  ![0, v5369.toNat]
def k0_mult111 (v5370 : BitVec 32) : BitVec 32 :=
  let c512_i32_2143 : BitVec 32 := 512#32
  let v5371 : BitVec 32 := Scalar.muli v5370 c512_i32_2143
  v5371

def k0_off174 : Fin 2 → Nat :=
  let c1_2144 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c1_i32_2140 : BitVec 32 := 1#32
  let v5367 : BitVec 32 := Scalar.addi v4821 c1_i32_2140
  let c1_i32_2141 : BitVec 32 := 1#32
  let v5368 : BitVec 32 := Scalar.addi v5367 c1_i32_2141
  let v5373 : Index := Scalar.indexCast v5368
  ![1, v5373.toNat]
def k0_mult112 (v5374 : BitVec 32) : BitVec 32 :=
  let c512_i32_2145 : BitVec 32 := 512#32
  let v5375 : BitVec 32 := Scalar.muli v5374 c512_i32_2145
  v5375

def k0_off175 (v5374 : BitVec 32) : Fin 3 → Nat :=
  let c0_2146 : Index := 0#32
  let c0_2147 : Index := 0#32
  let c512_i32_2145 : BitVec 32 := 512#32
  let v5375 : BitVec 32 := Scalar.muli v5374 c512_i32_2145
  let v5376 : BitVec 32 := v5375
  let v5377 : Index := Scalar.indexCast v5376
  ![0, 0, v5377.toNat]

def k0_chk112 (v5374 : BitVec 32) : Prop :=
  (512 ∣ (k0_mult112 v5374).toNat) ∧
  (∀ a, (k0_off175 v5374) a + S1x1x512.size a ≤ S1x1x8192.size a)
theorem k0_mult112_dvd : ∀ (v5374 : BitVec 32) (k0_hw112 : k0_chk112 v5374), 512 ∣ (k0_mult112 v5374).toNat := fun v5374 k0_hw112 => k0_hw112.1
theorem k0_off175_inb : ∀ (v5374 : BitVec 32) (k0_hw112 : k0_chk112 v5374), ∀ a, (k0_off175 v5374) a + S1x1x512.size a ≤ S1x1x8192.size a := fun v5374 k0_hw112 => k0_hw112.2

def k0_off176 (v5370 : BitVec 32) (c0_i32_2149 : BitVec 32) : Fin 2 → Nat :=
  let c512_i32_2143 : BitVec 32 := 512#32
  let v5371 : BitVec 32 := Scalar.muli v5370 c512_i32_2143
  let v5372 : BitVec 32 := v5371
  let v5382 : BitVec 32 := Scalar.addi v5372 c0_i32_2149
  let v5386 : Index := Scalar.indexCast v5382
  let c0_2152 : Index := 0#32
  ![v5386.toNat, 0]

def k0_chk111 (v5370 : BitVec 32) : Prop :=
  (512 ∣ (k0_mult111 v5370).toNat) ∧
  (∀ (r : Fin 16), ∀ a, (k0_off176 v5370 (BitVec.ofNat 32 (32 * r.val))) a + S32x1.size a ≤ S8192x1.size a)
theorem k0_mult111_dvd : ∀ (v5370 : BitVec 32) (k0_hw111 : k0_chk111 v5370), 512 ∣ (k0_mult111 v5370).toNat := fun v5370 k0_hw111 => k0_hw111.1
theorem k0_off176_inb : ∀ (v5370 : BitVec 32) (k0_hw111 : k0_chk111 v5370), ∀ (r : Fin 16), ∀ a, (k0_off176 v5370 (BitVec.ofNat 32 (32 * r.val))) a + S32x1.size a ≤ S8192x1.size a := fun v5370 k0_hw111 r => k0_hw111.2 r

def k0_off177 : Fin 2 → Nat :=
  let c0_2328 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c1_i32_2325 : BitVec 32 := 1#32
  let v5846 : BitVec 32 := Scalar.addi v4821 c1_i32_2325
  let c2_i32_2326 : BitVec 32 := 2#32
  let v5847 : BitVec 32 := Scalar.addi v5846 c2_i32_2326
  let c79_i32_2327 : BitVec 32 := 79#32
  let v5848 : BitVec 32 := Scalar.minsi v5847 c79_i32_2327
  let v5849 : Index := Scalar.indexCast v5848
  ![0, v5849.toNat]
def k0_mult113 (v5850 : BitVec 32) : BitVec 32 :=
  let c512_i32_2329 : BitVec 32 := 512#32
  let v5851 : BitVec 32 := Scalar.muli v5850 c512_i32_2329
  v5851

def k0_off178 : Fin 2 → Nat :=
  let c1_2330 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c1_i32_2325 : BitVec 32 := 1#32
  let v5846 : BitVec 32 := Scalar.addi v4821 c1_i32_2325
  let c2_i32_2326 : BitVec 32 := 2#32
  let v5847 : BitVec 32 := Scalar.addi v5846 c2_i32_2326
  let c79_i32_2327 : BitVec 32 := 79#32
  let v5848 : BitVec 32 := Scalar.minsi v5847 c79_i32_2327
  let v5853 : Index := Scalar.indexCast v5848
  ![1, v5853.toNat]
def k0_mult114 (v5854 : BitVec 32) : BitVec 32 :=
  let c512_i32_2331 : BitVec 32 := 512#32
  let v5855 : BitVec 32 := Scalar.muli v5854 c512_i32_2331
  v5855

def k0_off179 (v5850 : BitVec 32) : Fin 2 → Nat :=
  let c512_i32_2329 : BitVec 32 := 512#32
  let v5851 : BitVec 32 := Scalar.muli v5850 c512_i32_2329
  let v5852 : BitVec 32 := v5851
  let v5857 : Index := Scalar.indexCast v5852
  let c0_2332 : Index := 0#32
  ![v5857.toNat, 0]

def k0_chk113 (v5850 : BitVec 32) : Prop :=
  (512 ∣ (k0_mult113 v5850).toNat) ∧
  (∀ a, (k0_off179 v5850) a + S512x128.size a ≤ S8192x128.size a)
theorem k0_mult113_dvd : ∀ (v5850 : BitVec 32) (k0_hw113 : k0_chk113 v5850), 512 ∣ (k0_mult113 v5850).toNat := fun v5850 k0_hw113 => k0_hw113.1
theorem k0_off179_inb : ∀ (v5850 : BitVec 32) (k0_hw113 : k0_chk113 v5850), ∀ a, (k0_off179 v5850) a + S512x128.size a ≤ S8192x128.size a := fun v5850 k0_hw113 => k0_hw113.2

def k0_off180 (v5854 : BitVec 32) : Fin 2 → Nat :=
  let c0_2333 : Index := 0#32
  let c512_i32_2331 : BitVec 32 := 512#32
  let v5855 : BitVec 32 := Scalar.muli v5854 c512_i32_2331
  let v5856 : BitVec 32 := v5855
  let v5860 : Index := Scalar.indexCast v5856
  ![0, v5860.toNat]

def k0_chk114 (v5854 : BitVec 32) : Prop :=
  (512 ∣ (k0_mult114 v5854).toNat) ∧
  (∀ a, (k0_off180 v5854) a + S128x512.size a ≤ S128x8192.size a)
theorem k0_mult114_dvd : ∀ (v5854 : BitVec 32) (k0_hw114 : k0_chk114 v5854), 512 ∣ (k0_mult114 v5854).toNat := fun v5854 k0_hw114 => k0_hw114.1
theorem k0_off180_inb : ∀ (v5854 : BitVec 32) (k0_hw114 : k0_chk114 v5854), ∀ a, (k0_off180 v5854) a + S128x512.size a ≤ S128x8192.size a := fun v5854 k0_hw114 => k0_hw114.2

def k0_off181 : Fin 2 → Nat :=
  let c0_2338 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c2_i32_2337 : BitVec 32 := 2#32
  let v5866 : BitVec 32 := Scalar.addi v4821 c2_i32_2337
  let v5867 : Index := Scalar.indexCast v5866
  ![0, v5867.toNat]
def k0_mult115 (v5868 : BitVec 32) : BitVec 32 :=
  let c512_i32_2339 : BitVec 32 := 512#32
  let v5869 : BitVec 32 := Scalar.muli v5868 c512_i32_2339
  v5869

def k0_off182 : Fin 2 → Nat :=
  let c1_2340 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c2_i32_2337 : BitVec 32 := 2#32
  let v5866 : BitVec 32 := Scalar.addi v4821 c2_i32_2337
  let v5871 : Index := Scalar.indexCast v5866
  ![1, v5871.toNat]
def k0_mult116 (v5872 : BitVec 32) : BitVec 32 :=
  let c512_i32_2341 : BitVec 32 := 512#32
  let v5873 : BitVec 32 := Scalar.muli v5872 c512_i32_2341
  v5873

def k0_off183 (v5872 : BitVec 32) : Fin 2 → Nat :=
  let c512_i32_2341 : BitVec 32 := 512#32
  let v5873 : BitVec 32 := Scalar.muli v5872 c512_i32_2341
  let v5874 : BitVec 32 := v5873
  let v5876 : Index := Scalar.indexCast v5874
  let c0_2344 : Index := 0#32
  ![v5876.toNat, 0]

def k0_chk116 (v5872 : BitVec 32) : Prop :=
  (512 ∣ (k0_mult116 v5872).toNat) ∧
  (∀ a, (k0_off183 v5872) a + S512x256.size a ≤ S8192x256.size a)
theorem k0_mult116_dvd : ∀ (v5872 : BitVec 32) (k0_hw116 : k0_chk116 v5872), 512 ∣ (k0_mult116 v5872).toNat := fun v5872 k0_hw116 => k0_hw116.1
theorem k0_off183_inb : ∀ (v5872 : BitVec 32) (k0_hw116 : k0_chk116 v5872), ∀ a, (k0_off183 v5872) a + S512x256.size a ≤ S8192x256.size a := fun v5872 k0_hw116 => k0_hw116.2

def k0_off184 (v5868 : BitVec 32) : Fin 2 → Nat :=
  let c512_i32_2339 : BitVec 32 := 512#32
  let v5869 : BitVec 32 := Scalar.muli v5868 c512_i32_2339
  let v5870 : BitVec 32 := v5869
  let v5880 : Index := Scalar.indexCast v5870
  let c0_2348 : Index := 0#32
  ![v5880.toNat, 0]

def k0_chk115 (v5868 : BitVec 32) : Prop :=
  (512 ∣ (k0_mult115 v5868).toNat) ∧
  (∀ a, (k0_off184 v5868) a + S512x256.size a ≤ S8192x256.size a)
theorem k0_mult115_dvd : ∀ (v5868 : BitVec 32) (k0_hw115 : k0_chk115 v5868), 512 ∣ (k0_mult115 v5868).toNat := fun v5868 k0_hw115 => k0_hw115.1
theorem k0_off184_inb : ∀ (v5868 : BitVec 32) (k0_hw115 : k0_chk115 v5868), ∀ a, (k0_off184 v5868) a + S512x256.size a ≤ S8192x256.size a := fun v5868 k0_hw115 => k0_hw115.2

def k0_off185 : Fin 2 → Nat :=
  let c0_2352 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c2_i32_2350 : BitVec 32 := 2#32
  let v5889 : BitVec 32 := Scalar.addi v4821 c2_i32_2350
  let c1_i32_2351 : BitVec 32 := 1#32
  let v5890 : BitVec 32 := Scalar.addi v5889 c1_i32_2351
  let v5891 : Index := Scalar.indexCast v5890
  ![0, v5891.toNat]
def k0_mult117 (v5892 : BitVec 32) : BitVec 32 :=
  let c512_i32_2353 : BitVec 32 := 512#32
  let v5893 : BitVec 32 := Scalar.muli v5892 c512_i32_2353
  v5893

def k0_off186 : Fin 2 → Nat :=
  let c1_2354 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c2_i32_2350 : BitVec 32 := 2#32
  let v5889 : BitVec 32 := Scalar.addi v4821 c2_i32_2350
  let c1_i32_2351 : BitVec 32 := 1#32
  let v5890 : BitVec 32 := Scalar.addi v5889 c1_i32_2351
  let v5895 : Index := Scalar.indexCast v5890
  ![1, v5895.toNat]
def k0_mult118 (v5896 : BitVec 32) : BitVec 32 :=
  let c512_i32_2355 : BitVec 32 := 512#32
  let v5897 : BitVec 32 := Scalar.muli v5896 c512_i32_2355
  v5897

def k0_off187 (v5896 : BitVec 32) : Fin 3 → Nat :=
  let c0_2356 : Index := 0#32
  let c0_2357 : Index := 0#32
  let c512_i32_2355 : BitVec 32 := 512#32
  let v5897 : BitVec 32 := Scalar.muli v5896 c512_i32_2355
  let v5898 : BitVec 32 := v5897
  let v5899 : Index := Scalar.indexCast v5898
  ![0, 0, v5899.toNat]

def k0_chk118 (v5896 : BitVec 32) : Prop :=
  (512 ∣ (k0_mult118 v5896).toNat) ∧
  (∀ a, (k0_off187 v5896) a + S1x1x512.size a ≤ S1x1x8192.size a)
theorem k0_mult118_dvd : ∀ (v5896 : BitVec 32) (k0_hw118 : k0_chk118 v5896), 512 ∣ (k0_mult118 v5896).toNat := fun v5896 k0_hw118 => k0_hw118.1
theorem k0_off187_inb : ∀ (v5896 : BitVec 32) (k0_hw118 : k0_chk118 v5896), ∀ a, (k0_off187 v5896) a + S1x1x512.size a ≤ S1x1x8192.size a := fun v5896 k0_hw118 => k0_hw118.2

def k0_off188 (v5892 : BitVec 32) (c0_i32_2359 : BitVec 32) : Fin 2 → Nat :=
  let c512_i32_2353 : BitVec 32 := 512#32
  let v5893 : BitVec 32 := Scalar.muli v5892 c512_i32_2353
  let v5894 : BitVec 32 := v5893
  let v5904 : BitVec 32 := Scalar.addi v5894 c0_i32_2359
  let v5908 : Index := Scalar.indexCast v5904
  let c0_2362 : Index := 0#32
  ![v5908.toNat, 0]

def k0_chk117 (v5892 : BitVec 32) : Prop :=
  (512 ∣ (k0_mult117 v5892).toNat) ∧
  (∀ (r : Fin 16), ∀ a, (k0_off188 v5892 (BitVec.ofNat 32 (32 * r.val))) a + S32x1.size a ≤ S8192x1.size a)
theorem k0_mult117_dvd : ∀ (v5892 : BitVec 32) (k0_hw117 : k0_chk117 v5892), 512 ∣ (k0_mult117 v5892).toNat := fun v5892 k0_hw117 => k0_hw117.1
theorem k0_off188_inb : ∀ (v5892 : BitVec 32) (k0_hw117 : k0_chk117 v5892), ∀ (r : Fin 16), ∀ a, (k0_off188 v5892 (BitVec.ofNat 32 (32 * r.val))) a + S32x1.size a ≤ S8192x1.size a := fun v5892 k0_hw117 r => k0_hw117.2 r

def k0_off189 : Fin 2 → Nat :=
  let c0_2538 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c2_i32_2535 : BitVec 32 := 2#32
  let v6368 : BitVec 32 := Scalar.addi v4821 c2_i32_2535
  let c2_i32_2536 : BitVec 32 := 2#32
  let v6369 : BitVec 32 := Scalar.addi v6368 c2_i32_2536
  let c79_i32_2537 : BitVec 32 := 79#32
  let v6370 : BitVec 32 := Scalar.minsi v6369 c79_i32_2537
  let v6371 : Index := Scalar.indexCast v6370
  ![0, v6371.toNat]
def k0_mult119 (v6372 : BitVec 32) : BitVec 32 :=
  let c512_i32_2539 : BitVec 32 := 512#32
  let v6373 : BitVec 32 := Scalar.muli v6372 c512_i32_2539
  v6373

def k0_off190 : Fin 2 → Nat :=
  let c1_2540 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c2_i32_2535 : BitVec 32 := 2#32
  let v6368 : BitVec 32 := Scalar.addi v4821 c2_i32_2535
  let c2_i32_2536 : BitVec 32 := 2#32
  let v6369 : BitVec 32 := Scalar.addi v6368 c2_i32_2536
  let c79_i32_2537 : BitVec 32 := 79#32
  let v6370 : BitVec 32 := Scalar.minsi v6369 c79_i32_2537
  let v6375 : Index := Scalar.indexCast v6370
  ![1, v6375.toNat]
def k0_mult120 (v6376 : BitVec 32) : BitVec 32 :=
  let c512_i32_2541 : BitVec 32 := 512#32
  let v6377 : BitVec 32 := Scalar.muli v6376 c512_i32_2541
  v6377

def k0_off191 (v6372 : BitVec 32) : Fin 2 → Nat :=
  let c512_i32_2539 : BitVec 32 := 512#32
  let v6373 : BitVec 32 := Scalar.muli v6372 c512_i32_2539
  let v6374 : BitVec 32 := v6373
  let v6379 : Index := Scalar.indexCast v6374
  let c0_2542 : Index := 0#32
  ![v6379.toNat, 0]

def k0_chk119 (v6372 : BitVec 32) : Prop :=
  (512 ∣ (k0_mult119 v6372).toNat) ∧
  (∀ a, (k0_off191 v6372) a + S512x128.size a ≤ S8192x128.size a)
theorem k0_mult119_dvd : ∀ (v6372 : BitVec 32) (k0_hw119 : k0_chk119 v6372), 512 ∣ (k0_mult119 v6372).toNat := fun v6372 k0_hw119 => k0_hw119.1
theorem k0_off191_inb : ∀ (v6372 : BitVec 32) (k0_hw119 : k0_chk119 v6372), ∀ a, (k0_off191 v6372) a + S512x128.size a ≤ S8192x128.size a := fun v6372 k0_hw119 => k0_hw119.2

def k0_off192 (v6376 : BitVec 32) : Fin 2 → Nat :=
  let c0_2543 : Index := 0#32
  let c512_i32_2541 : BitVec 32 := 512#32
  let v6377 : BitVec 32 := Scalar.muli v6376 c512_i32_2541
  let v6378 : BitVec 32 := v6377
  let v6382 : Index := Scalar.indexCast v6378
  ![0, v6382.toNat]

def k0_chk120 (v6376 : BitVec 32) : Prop :=
  (512 ∣ (k0_mult120 v6376).toNat) ∧
  (∀ a, (k0_off192 v6376) a + S128x512.size a ≤ S128x8192.size a)
theorem k0_mult120_dvd : ∀ (v6376 : BitVec 32) (k0_hw120 : k0_chk120 v6376), 512 ∣ (k0_mult120 v6376).toNat := fun v6376 k0_hw120 => k0_hw120.1
theorem k0_off192_inb : ∀ (v6376 : BitVec 32) (k0_hw120 : k0_chk120 v6376), ∀ a, (k0_off192 v6376) a + S128x512.size a ≤ S128x8192.size a := fun v6376 k0_hw120 => k0_hw120.2

def k0_off193 : Fin 2 → Nat :=
  let c0_2548 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c3_i32_2547 : BitVec 32 := 3#32
  let v6388 : BitVec 32 := Scalar.addi v4821 c3_i32_2547
  let v6389 : Index := Scalar.indexCast v6388
  ![0, v6389.toNat]
def k0_mult121 (v6390 : BitVec 32) : BitVec 32 :=
  let c512_i32_2549 : BitVec 32 := 512#32
  let v6391 : BitVec 32 := Scalar.muli v6390 c512_i32_2549
  v6391

def k0_off194 : Fin 2 → Nat :=
  let c1_2550 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c3_i32_2547 : BitVec 32 := 3#32
  let v6388 : BitVec 32 := Scalar.addi v4821 c3_i32_2547
  let v6393 : Index := Scalar.indexCast v6388
  ![1, v6393.toNat]
def k0_mult122 (v6394 : BitVec 32) : BitVec 32 :=
  let c512_i32_2551 : BitVec 32 := 512#32
  let v6395 : BitVec 32 := Scalar.muli v6394 c512_i32_2551
  v6395

def k0_off195 (v6394 : BitVec 32) : Fin 2 → Nat :=
  let c512_i32_2551 : BitVec 32 := 512#32
  let v6395 : BitVec 32 := Scalar.muli v6394 c512_i32_2551
  let v6396 : BitVec 32 := v6395
  let v6398 : Index := Scalar.indexCast v6396
  let c0_2554 : Index := 0#32
  ![v6398.toNat, 0]

def k0_chk122 (v6394 : BitVec 32) : Prop :=
  (512 ∣ (k0_mult122 v6394).toNat) ∧
  (∀ a, (k0_off195 v6394) a + S512x256.size a ≤ S8192x256.size a)
theorem k0_mult122_dvd : ∀ (v6394 : BitVec 32) (k0_hw122 : k0_chk122 v6394), 512 ∣ (k0_mult122 v6394).toNat := fun v6394 k0_hw122 => k0_hw122.1
theorem k0_off195_inb : ∀ (v6394 : BitVec 32) (k0_hw122 : k0_chk122 v6394), ∀ a, (k0_off195 v6394) a + S512x256.size a ≤ S8192x256.size a := fun v6394 k0_hw122 => k0_hw122.2

def k0_off196 (v6390 : BitVec 32) : Fin 2 → Nat :=
  let c512_i32_2549 : BitVec 32 := 512#32
  let v6391 : BitVec 32 := Scalar.muli v6390 c512_i32_2549
  let v6392 : BitVec 32 := v6391
  let v6402 : Index := Scalar.indexCast v6392
  let c0_2558 : Index := 0#32
  ![v6402.toNat, 0]

def k0_chk121 (v6390 : BitVec 32) : Prop :=
  (512 ∣ (k0_mult121 v6390).toNat) ∧
  (∀ a, (k0_off196 v6390) a + S512x256.size a ≤ S8192x256.size a)
theorem k0_mult121_dvd : ∀ (v6390 : BitVec 32) (k0_hw121 : k0_chk121 v6390), 512 ∣ (k0_mult121 v6390).toNat := fun v6390 k0_hw121 => k0_hw121.1
theorem k0_off196_inb : ∀ (v6390 : BitVec 32) (k0_hw121 : k0_chk121 v6390), ∀ a, (k0_off196 v6390) a + S512x256.size a ≤ S8192x256.size a := fun v6390 k0_hw121 => k0_hw121.2

def k0_off197 : Fin 2 → Nat :=
  let c0_2562 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c3_i32_2560 : BitVec 32 := 3#32
  let v6411 : BitVec 32 := Scalar.addi v4821 c3_i32_2560
  let c1_i32_2561 : BitVec 32 := 1#32
  let v6412 : BitVec 32 := Scalar.addi v6411 c1_i32_2561
  let v6413 : Index := Scalar.indexCast v6412
  ![0, v6413.toNat]
def k0_mult123 (v6414 : BitVec 32) : BitVec 32 :=
  let c512_i32_2563 : BitVec 32 := 512#32
  let v6415 : BitVec 32 := Scalar.muli v6414 c512_i32_2563
  v6415

def k0_off198 : Fin 2 → Nat :=
  let c1_2564 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c3_i32_2560 : BitVec 32 := 3#32
  let v6411 : BitVec 32 := Scalar.addi v4821 c3_i32_2560
  let c1_i32_2561 : BitVec 32 := 1#32
  let v6412 : BitVec 32 := Scalar.addi v6411 c1_i32_2561
  let v6417 : Index := Scalar.indexCast v6412
  ![1, v6417.toNat]
def k0_mult124 (v6418 : BitVec 32) : BitVec 32 :=
  let c512_i32_2565 : BitVec 32 := 512#32
  let v6419 : BitVec 32 := Scalar.muli v6418 c512_i32_2565
  v6419

def k0_off199 (v6418 : BitVec 32) : Fin 3 → Nat :=
  let c0_2566 : Index := 0#32
  let c0_2567 : Index := 0#32
  let c512_i32_2565 : BitVec 32 := 512#32
  let v6419 : BitVec 32 := Scalar.muli v6418 c512_i32_2565
  let v6420 : BitVec 32 := v6419
  let v6421 : Index := Scalar.indexCast v6420
  ![0, 0, v6421.toNat]

def k0_chk124 (v6418 : BitVec 32) : Prop :=
  (512 ∣ (k0_mult124 v6418).toNat) ∧
  (∀ a, (k0_off199 v6418) a + S1x1x512.size a ≤ S1x1x8192.size a)
theorem k0_mult124_dvd : ∀ (v6418 : BitVec 32) (k0_hw124 : k0_chk124 v6418), 512 ∣ (k0_mult124 v6418).toNat := fun v6418 k0_hw124 => k0_hw124.1
theorem k0_off199_inb : ∀ (v6418 : BitVec 32) (k0_hw124 : k0_chk124 v6418), ∀ a, (k0_off199 v6418) a + S1x1x512.size a ≤ S1x1x8192.size a := fun v6418 k0_hw124 => k0_hw124.2

def k0_off200 (v6414 : BitVec 32) (c0_i32_2569 : BitVec 32) : Fin 2 → Nat :=
  let c512_i32_2563 : BitVec 32 := 512#32
  let v6415 : BitVec 32 := Scalar.muli v6414 c512_i32_2563
  let v6416 : BitVec 32 := v6415
  let v6426 : BitVec 32 := Scalar.addi v6416 c0_i32_2569
  let v6430 : Index := Scalar.indexCast v6426
  let c0_2572 : Index := 0#32
  ![v6430.toNat, 0]

def k0_chk123 (v6414 : BitVec 32) : Prop :=
  (512 ∣ (k0_mult123 v6414).toNat) ∧
  (∀ (r : Fin 16), ∀ a, (k0_off200 v6414 (BitVec.ofNat 32 (32 * r.val))) a + S32x1.size a ≤ S8192x1.size a)
theorem k0_mult123_dvd : ∀ (v6414 : BitVec 32) (k0_hw123 : k0_chk123 v6414), 512 ∣ (k0_mult123 v6414).toNat := fun v6414 k0_hw123 => k0_hw123.1
theorem k0_off200_inb : ∀ (v6414 : BitVec 32) (k0_hw123 : k0_chk123 v6414), ∀ (r : Fin 16), ∀ a, (k0_off200 v6414 (BitVec.ofNat 32 (32 * r.val))) a + S32x1.size a ≤ S8192x1.size a := fun v6414 k0_hw123 r => k0_hw123.2 r

def k0_off201 : Fin 2 → Nat :=
  let c0_2748 : Index := 0#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c3_i32_2745 : BitVec 32 := 3#32
  let v6890 : BitVec 32 := Scalar.addi v4821 c3_i32_2745
  let c2_i32_2746 : BitVec 32 := 2#32
  let v6891 : BitVec 32 := Scalar.addi v6890 c2_i32_2746
  let c79_i32_2747 : BitVec 32 := 79#32
  let v6892 : BitVec 32 := Scalar.minsi v6891 c79_i32_2747
  let v6893 : Index := Scalar.indexCast v6892
  ![0, v6893.toNat]
def k0_mult125 (v6894 : BitVec 32) : BitVec 32 :=
  let c512_i32_2749 : BitVec 32 := 512#32
  let v6895 : BitVec 32 := Scalar.muli v6894 c512_i32_2749
  v6895

def k0_off202 : Fin 2 → Nat :=
  let c1_2750 : Index := 1#32
  let c72_i32 : BitVec 32 := 72#32
  let c4_i32 : BitVec 32 := 4#32
  let c0_i32_1917 : BitVec 32 := 0#32
  let v4820 : BitVec 32 := Scalar.muli c4_i32 c0_i32_1917
  let v4821 : BitVec 32 := Scalar.addi c72_i32 v4820
  let c3_i32_2745 : BitVec 32 := 3#32
  let v6890 : BitVec 32 := Scalar.addi v4821 c3_i32_2745
  let c2_i32_2746 : BitVec 32 := 2#32
  let v6891 : BitVec 32 := Scalar.addi v6890 c2_i32_2746
  let c79_i32_2747 : BitVec 32 := 79#32
  let v6892 : BitVec 32 := Scalar.minsi v6891 c79_i32_2747
  let v6897 : Index := Scalar.indexCast v6892
  ![1, v6897.toNat]
def k0_mult126 (v6898 : BitVec 32) : BitVec 32 :=
  let c512_i32_2751 : BitVec 32 := 512#32
  let v6899 : BitVec 32 := Scalar.muli v6898 c512_i32_2751
  v6899

def k0_off203 (v6894 : BitVec 32) : Fin 2 → Nat :=
  let c512_i32_2749 : BitVec 32 := 512#32
  let v6895 : BitVec 32 := Scalar.muli v6894 c512_i32_2749
  let v6896 : BitVec 32 := v6895
  let v6901 : Index := Scalar.indexCast v6896
  let c0_2752 : Index := 0#32
  ![v6901.toNat, 0]

def k0_chk125 (v6894 : BitVec 32) : Prop :=
  (512 ∣ (k0_mult125 v6894).toNat) ∧
  (∀ a, (k0_off203 v6894) a + S512x128.size a ≤ S8192x128.size a)
theorem k0_mult125_dvd : ∀ (v6894 : BitVec 32) (k0_hw125 : k0_chk125 v6894), 512 ∣ (k0_mult125 v6894).toNat := fun v6894 k0_hw125 => k0_hw125.1
theorem k0_off203_inb : ∀ (v6894 : BitVec 32) (k0_hw125 : k0_chk125 v6894), ∀ a, (k0_off203 v6894) a + S512x128.size a ≤ S8192x128.size a := fun v6894 k0_hw125 => k0_hw125.2

def k0_off204 (v6898 : BitVec 32) : Fin 2 → Nat :=
  let c0_2753 : Index := 0#32
  let c512_i32_2751 : BitVec 32 := 512#32
  let v6899 : BitVec 32 := Scalar.muli v6898 c512_i32_2751
  let v6900 : BitVec 32 := v6899
  let v6904 : Index := Scalar.indexCast v6900
  ![0, v6904.toNat]

def k0_chk126 (v6898 : BitVec 32) : Prop :=
  (512 ∣ (k0_mult126 v6898).toNat) ∧
  (∀ a, (k0_off204 v6898) a + S128x512.size a ≤ S128x8192.size a)
theorem k0_mult126_dvd : ∀ (v6898 : BitVec 32) (k0_hw126 : k0_chk126 v6898), 512 ∣ (k0_mult126 v6898).toNat := fun v6898 k0_hw126 => k0_hw126.1
theorem k0_off204_inb : ∀ (v6898 : BitVec 32) (k0_hw126 : k0_chk126 v6898), ∀ a, (k0_off204 v6898) a + S128x512.size a ≤ S128x8192.size a := fun v6898 k0_hw126 => k0_hw126.2

def k0_mult127 (v6910 : BitVec 32) : BitVec 32 :=
  let c512_i32_2759 : BitVec 32 := 512#32
  let v6911 : BitVec 32 := Scalar.muli v6910 c512_i32_2759
  v6911

def k0_mult128 (v6913 : BitVec 32) : BitVec 32 :=
  let c512_i32_2762 : BitVec 32 := 512#32
  let v6914 : BitVec 32 := Scalar.muli v6913 c512_i32_2762
  v6914

def k0_off205 (v6913 : BitVec 32) : Fin 2 → Nat :=
  let c512_i32_2762 : BitVec 32 := 512#32
  let v6914 : BitVec 32 := Scalar.muli v6913 c512_i32_2762
  let v6915 : BitVec 32 := v6914
  let v6917 : Index := Scalar.indexCast v6915
  let c0_2765 : Index := 0#32
  ![v6917.toNat, 0]

def k0_chk128 (v6913 : BitVec 32) : Prop :=
  (512 ∣ (k0_mult128 v6913).toNat) ∧
  (∀ a, (k0_off205 v6913) a + S512x256.size a ≤ S8192x256.size a)
theorem k0_mult128_dvd : ∀ (v6913 : BitVec 32) (k0_hw128 : k0_chk128 v6913), 512 ∣ (k0_mult128 v6913).toNat := fun v6913 k0_hw128 => k0_hw128.1
theorem k0_off205_inb : ∀ (v6913 : BitVec 32) (k0_hw128 : k0_chk128 v6913), ∀ a, (k0_off205 v6913) a + S512x256.size a ≤ S8192x256.size a := fun v6913 k0_hw128 => k0_hw128.2

def k0_off206 (v6910 : BitVec 32) : Fin 2 → Nat :=
  let c512_i32_2759 : BitVec 32 := 512#32
  let v6911 : BitVec 32 := Scalar.muli v6910 c512_i32_2759
  let v6912 : BitVec 32 := v6911
  let v6921 : Index := Scalar.indexCast v6912
  let c0_2769 : Index := 0#32
  ![v6921.toNat, 0]

def k0_chk127 (v6910 : BitVec 32) : Prop :=
  (512 ∣ (k0_mult127 v6910).toNat) ∧
  (∀ a, (k0_off206 v6910) a + S512x256.size a ≤ S8192x256.size a)
theorem k0_mult127_dvd : ∀ (v6910 : BitVec 32) (k0_hw127 : k0_chk127 v6910), 512 ∣ (k0_mult127 v6910).toNat := fun v6910 k0_hw127 => k0_hw127.1
theorem k0_off206_inb : ∀ (v6910 : BitVec 32) (k0_hw127 : k0_chk127 v6910), ∀ a, (k0_off206 v6910) a + S512x256.size a ≤ S8192x256.size a := fun v6910 k0_hw127 => k0_hw127.2

def k0_mult129 (v6930 : BitVec 32) : BitVec 32 :=
  let c512_i32_2772 : BitVec 32 := 512#32
  let v6931 : BitVec 32 := Scalar.muli v6930 c512_i32_2772
  v6931

def k0_mult130 (v6933 : BitVec 32) : BitVec 32 :=
  let c512_i32_2775 : BitVec 32 := 512#32
  let v6934 : BitVec 32 := Scalar.muli v6933 c512_i32_2775
  v6934

def k0_off207 (v6933 : BitVec 32) : Fin 3 → Nat :=
  let c0_2776 : Index := 0#32
  let c0_2777 : Index := 0#32
  let c512_i32_2775 : BitVec 32 := 512#32
  let v6934 : BitVec 32 := Scalar.muli v6933 c512_i32_2775
  let v6935 : BitVec 32 := v6934
  let v6936 : Index := Scalar.indexCast v6935
  ![0, 0, v6936.toNat]

def k0_chk130 (v6933 : BitVec 32) : Prop :=
  (512 ∣ (k0_mult130 v6933).toNat) ∧
  (∀ a, (k0_off207 v6933) a + S1x1x512.size a ≤ S1x1x8192.size a)
theorem k0_mult130_dvd : ∀ (v6933 : BitVec 32) (k0_hw130 : k0_chk130 v6933), 512 ∣ (k0_mult130 v6933).toNat := fun v6933 k0_hw130 => k0_hw130.1
theorem k0_off207_inb : ∀ (v6933 : BitVec 32) (k0_hw130 : k0_chk130 v6933), ∀ a, (k0_off207 v6933) a + S1x1x512.size a ≤ S1x1x8192.size a := fun v6933 k0_hw130 => k0_hw130.2

def k0_off208 (v6930 : BitVec 32) (c0_i32_2779 : BitVec 32) : Fin 2 → Nat :=
  let c512_i32_2772 : BitVec 32 := 512#32
  let v6931 : BitVec 32 := Scalar.muli v6930 c512_i32_2772
  let v6932 : BitVec 32 := v6931
  let v6941 : BitVec 32 := Scalar.addi v6932 c0_i32_2779
  let v6945 : Index := Scalar.indexCast v6941
  let c0_2782 : Index := 0#32
  ![v6945.toNat, 0]

def k0_chk129 (v6930 : BitVec 32) : Prop :=
  (512 ∣ (k0_mult129 v6930).toNat) ∧
  (∀ (r : Fin 16), ∀ a, (k0_off208 v6930 (BitVec.ofNat 32 (32 * r.val))) a + S32x1.size a ≤ S8192x1.size a)
theorem k0_mult129_dvd : ∀ (v6930 : BitVec 32) (k0_hw129 : k0_chk129 v6930), 512 ∣ (k0_mult129 v6930).toNat := fun v6930 k0_hw129 => k0_hw129.1
theorem k0_off208_inb : ∀ (v6930 : BitVec 32) (k0_hw129 : k0_chk129 v6930), ∀ (r : Fin 16), ∀ a, (k0_off208 v6930 (BitVec.ofNat 32 (32 * r.val))) a + S32x1.size a ≤ S8192x1.size a := fun v6930 k0_hw129 r => k0_hw129.2 r

def k0_mult131 (v7405 : BitVec 32) : BitVec 32 :=
  let c512_i32_2956 : BitVec 32 := 512#32
  let v7406 : BitVec 32 := Scalar.muli v7405 c512_i32_2956
  v7406

def k0_mult132 (v7408 : BitVec 32) : BitVec 32 :=
  let c512_i32_2959 : BitVec 32 := 512#32
  let v7409 : BitVec 32 := Scalar.muli v7408 c512_i32_2959
  v7409

def k0_off209 (v7405 : BitVec 32) : Fin 2 → Nat :=
  let c512_i32_2956 : BitVec 32 := 512#32
  let v7406 : BitVec 32 := Scalar.muli v7405 c512_i32_2956
  let v7407 : BitVec 32 := v7406
  let v7411 : Index := Scalar.indexCast v7407
  let c0_2960 : Index := 0#32
  ![v7411.toNat, 0]

def k0_chk131 (v7405 : BitVec 32) : Prop :=
  (512 ∣ (k0_mult131 v7405).toNat) ∧
  (∀ a, (k0_off209 v7405) a + S512x128.size a ≤ S8192x128.size a)
theorem k0_mult131_dvd : ∀ (v7405 : BitVec 32) (k0_hw131 : k0_chk131 v7405), 512 ∣ (k0_mult131 v7405).toNat := fun v7405 k0_hw131 => k0_hw131.1
theorem k0_off209_inb : ∀ (v7405 : BitVec 32) (k0_hw131 : k0_chk131 v7405), ∀ a, (k0_off209 v7405) a + S512x128.size a ≤ S8192x128.size a := fun v7405 k0_hw131 => k0_hw131.2

def k0_off210 (v7408 : BitVec 32) : Fin 2 → Nat :=
  let c0_2961 : Index := 0#32
  let c512_i32_2959 : BitVec 32 := 512#32
  let v7409 : BitVec 32 := Scalar.muli v7408 c512_i32_2959
  let v7410 : BitVec 32 := v7409
  let v7414 : Index := Scalar.indexCast v7410
  ![0, v7414.toNat]

def k0_chk132 (v7408 : BitVec 32) : Prop :=
  (512 ∣ (k0_mult132 v7408).toNat) ∧
  (∀ a, (k0_off210 v7408) a + S128x512.size a ≤ S128x8192.size a)
theorem k0_mult132_dvd : ∀ (v7408 : BitVec 32) (k0_hw132 : k0_chk132 v7408), 512 ∣ (k0_mult132 v7408).toNat := fun v7408 k0_hw132 => k0_hw132.1
theorem k0_off210_inb : ∀ (v7408 : BitVec 32) (k0_hw132 : k0_chk132 v7408), ∀ a, (k0_off210 v7408) a + S128x512.size a ≤ S128x8192.size a := fun v7408 k0_hw132 => k0_hw132.2

def k0_mult133 (v7420 : BitVec 32) : BitVec 32 :=
  let c512_i32_2967 : BitVec 32 := 512#32
  let v7421 : BitVec 32 := Scalar.muli v7420 c512_i32_2967
  v7421

def k0_mult134 (v7423 : BitVec 32) : BitVec 32 :=
  let c512_i32_2970 : BitVec 32 := 512#32
  let v7424 : BitVec 32 := Scalar.muli v7423 c512_i32_2970
  v7424

def k0_off211 (v7423 : BitVec 32) : Fin 2 → Nat :=
  let c512_i32_2970 : BitVec 32 := 512#32
  let v7424 : BitVec 32 := Scalar.muli v7423 c512_i32_2970
  let v7425 : BitVec 32 := v7424
  let v7427 : Index := Scalar.indexCast v7425
  let c0_2973 : Index := 0#32
  ![v7427.toNat, 0]

def k0_chk134 (v7423 : BitVec 32) : Prop :=
  (512 ∣ (k0_mult134 v7423).toNat) ∧
  (∀ a, (k0_off211 v7423) a + S512x256.size a ≤ S8192x256.size a)
theorem k0_mult134_dvd : ∀ (v7423 : BitVec 32) (k0_hw134 : k0_chk134 v7423), 512 ∣ (k0_mult134 v7423).toNat := fun v7423 k0_hw134 => k0_hw134.1
theorem k0_off211_inb : ∀ (v7423 : BitVec 32) (k0_hw134 : k0_chk134 v7423), ∀ a, (k0_off211 v7423) a + S512x256.size a ≤ S8192x256.size a := fun v7423 k0_hw134 => k0_hw134.2

def k0_off212 (v7420 : BitVec 32) : Fin 2 → Nat :=
  let c512_i32_2967 : BitVec 32 := 512#32
  let v7421 : BitVec 32 := Scalar.muli v7420 c512_i32_2967
  let v7422 : BitVec 32 := v7421
  let v7431 : Index := Scalar.indexCast v7422
  let c0_2977 : Index := 0#32
  ![v7431.toNat, 0]

def k0_chk133 (v7420 : BitVec 32) : Prop :=
  (512 ∣ (k0_mult133 v7420).toNat) ∧
  (∀ a, (k0_off212 v7420) a + S512x256.size a ≤ S8192x256.size a)
theorem k0_mult133_dvd : ∀ (v7420 : BitVec 32) (k0_hw133 : k0_chk133 v7420), 512 ∣ (k0_mult133 v7420).toNat := fun v7420 k0_hw133 => k0_hw133.1
theorem k0_off212_inb : ∀ (v7420 : BitVec 32) (k0_hw133 : k0_chk133 v7420), ∀ a, (k0_off212 v7420) a + S512x256.size a ≤ S8192x256.size a := fun v7420 k0_hw133 => k0_hw133.2

def k0_mult135 (v7440 : BitVec 32) : BitVec 32 :=
  let c512_i32_2981 : BitVec 32 := 512#32
  let v7441 : BitVec 32 := Scalar.muli v7440 c512_i32_2981
  v7441

def k0_mult136 (v7443 : BitVec 32) : BitVec 32 :=
  let c512_i32_2984 : BitVec 32 := 512#32
  let v7444 : BitVec 32 := Scalar.muli v7443 c512_i32_2984
  v7444

def k0_off213 (v7443 : BitVec 32) : Fin 3 → Nat :=
  let c0_2985 : Index := 0#32
  let c0_2986 : Index := 0#32
  let c512_i32_2984 : BitVec 32 := 512#32
  let v7444 : BitVec 32 := Scalar.muli v7443 c512_i32_2984
  let v7445 : BitVec 32 := v7444
  let v7446 : Index := Scalar.indexCast v7445
  ![0, 0, v7446.toNat]

def k0_chk136 (v7443 : BitVec 32) : Prop :=
  (512 ∣ (k0_mult136 v7443).toNat) ∧
  (∀ a, (k0_off213 v7443) a + S1x1x512.size a ≤ S1x1x8192.size a)
theorem k0_mult136_dvd : ∀ (v7443 : BitVec 32) (k0_hw136 : k0_chk136 v7443), 512 ∣ (k0_mult136 v7443).toNat := fun v7443 k0_hw136 => k0_hw136.1
theorem k0_off213_inb : ∀ (v7443 : BitVec 32) (k0_hw136 : k0_chk136 v7443), ∀ a, (k0_off213 v7443) a + S1x1x512.size a ≤ S1x1x8192.size a := fun v7443 k0_hw136 => k0_hw136.2

def k0_off214 (v7440 : BitVec 32) (c0_i32_2988 : BitVec 32) : Fin 2 → Nat :=
  let c512_i32_2981 : BitVec 32 := 512#32
  let v7441 : BitVec 32 := Scalar.muli v7440 c512_i32_2981
  let v7442 : BitVec 32 := v7441
  let v7451 : BitVec 32 := Scalar.addi v7442 c0_i32_2988
  let v7455 : Index := Scalar.indexCast v7451
  let c0_2991 : Index := 0#32
  ![v7455.toNat, 0]

def k0_chk135 (v7440 : BitVec 32) : Prop :=
  (512 ∣ (k0_mult135 v7440).toNat) ∧
  (∀ (r : Fin 16), ∀ a, (k0_off214 v7440 (BitVec.ofNat 32 (32 * r.val))) a + S32x1.size a ≤ S8192x1.size a)
theorem k0_mult135_dvd : ∀ (v7440 : BitVec 32) (k0_hw135 : k0_chk135 v7440), 512 ∣ (k0_mult135 v7440).toNat := fun v7440 k0_hw135 => k0_hw135.1
theorem k0_off214_inb : ∀ (v7440 : BitVec 32) (k0_hw135 : k0_chk135 v7440), ∀ (r : Fin 16), ∀ a, (k0_off214 v7440 (BitVec.ofNat 32 (32 * r.val))) a + S32x1.size a ≤ S8192x1.size a := fun v7440 k0_hw135 r => k0_hw135.2 r

def k0_mult137 (v7915 : BitVec 32) : BitVec 32 :=
  let c512_i32_3165 : BitVec 32 := 512#32
  let v7916 : BitVec 32 := Scalar.muli v7915 c512_i32_3165
  v7916

def k0_mult138 (v7918 : BitVec 32) : BitVec 32 :=
  let c512_i32_3168 : BitVec 32 := 512#32
  let v7919 : BitVec 32 := Scalar.muli v7918 c512_i32_3168
  v7919

def k0_off215 (v7915 : BitVec 32) : Fin 2 → Nat :=
  let c512_i32_3165 : BitVec 32 := 512#32
  let v7916 : BitVec 32 := Scalar.muli v7915 c512_i32_3165
  let v7917 : BitVec 32 := v7916
  let v7921 : Index := Scalar.indexCast v7917
  let c0_3169 : Index := 0#32
  ![v7921.toNat, 0]

def k0_chk137 (v7915 : BitVec 32) : Prop :=
  (512 ∣ (k0_mult137 v7915).toNat) ∧
  (∀ a, (k0_off215 v7915) a + S512x128.size a ≤ S8192x128.size a)
theorem k0_mult137_dvd : ∀ (v7915 : BitVec 32) (k0_hw137 : k0_chk137 v7915), 512 ∣ (k0_mult137 v7915).toNat := fun v7915 k0_hw137 => k0_hw137.1
theorem k0_off215_inb : ∀ (v7915 : BitVec 32) (k0_hw137 : k0_chk137 v7915), ∀ a, (k0_off215 v7915) a + S512x128.size a ≤ S8192x128.size a := fun v7915 k0_hw137 => k0_hw137.2

def k0_off216 (v7918 : BitVec 32) : Fin 2 → Nat :=
  let c0_3170 : Index := 0#32
  let c512_i32_3168 : BitVec 32 := 512#32
  let v7919 : BitVec 32 := Scalar.muli v7918 c512_i32_3168
  let v7920 : BitVec 32 := v7919
  let v7924 : Index := Scalar.indexCast v7920
  ![0, v7924.toNat]

def k0_chk138 (v7918 : BitVec 32) : Prop :=
  (512 ∣ (k0_mult138 v7918).toNat) ∧
  (∀ a, (k0_off216 v7918) a + S128x512.size a ≤ S128x8192.size a)
theorem k0_mult138_dvd : ∀ (v7918 : BitVec 32) (k0_hw138 : k0_chk138 v7918), 512 ∣ (k0_mult138 v7918).toNat := fun v7918 k0_hw138 => k0_hw138.1
theorem k0_off216_inb : ∀ (v7918 : BitVec 32) (k0_hw138 : k0_chk138 v7918), ∀ a, (k0_off216 v7918) a + S128x512.size a ≤ S128x8192.size a := fun v7918 k0_hw138 => k0_hw138.2

def k0_mult139 (v7930 : BitVec 32) : BitVec 32 :=
  let c512_i32_3176 : BitVec 32 := 512#32
  let v7931 : BitVec 32 := Scalar.muli v7930 c512_i32_3176
  v7931

def k0_mult140 (v7933 : BitVec 32) : BitVec 32 :=
  let c512_i32_3179 : BitVec 32 := 512#32
  let v7934 : BitVec 32 := Scalar.muli v7933 c512_i32_3179
  v7934

def k0_off217 (v7933 : BitVec 32) : Fin 2 → Nat :=
  let c512_i32_3179 : BitVec 32 := 512#32
  let v7934 : BitVec 32 := Scalar.muli v7933 c512_i32_3179
  let v7935 : BitVec 32 := v7934
  let v7937 : Index := Scalar.indexCast v7935
  let c0_3182 : Index := 0#32
  ![v7937.toNat, 0]

def k0_chk140 (v7933 : BitVec 32) : Prop :=
  (512 ∣ (k0_mult140 v7933).toNat) ∧
  (∀ a, (k0_off217 v7933) a + S512x256.size a ≤ S8192x256.size a)
theorem k0_mult140_dvd : ∀ (v7933 : BitVec 32) (k0_hw140 : k0_chk140 v7933), 512 ∣ (k0_mult140 v7933).toNat := fun v7933 k0_hw140 => k0_hw140.1
theorem k0_off217_inb : ∀ (v7933 : BitVec 32) (k0_hw140 : k0_chk140 v7933), ∀ a, (k0_off217 v7933) a + S512x256.size a ≤ S8192x256.size a := fun v7933 k0_hw140 => k0_hw140.2

def k0_off218 (v7930 : BitVec 32) : Fin 2 → Nat :=
  let c512_i32_3176 : BitVec 32 := 512#32
  let v7931 : BitVec 32 := Scalar.muli v7930 c512_i32_3176
  let v7932 : BitVec 32 := v7931
  let v7941 : Index := Scalar.indexCast v7932
  let c0_3186 : Index := 0#32
  ![v7941.toNat, 0]

def k0_chk139 (v7930 : BitVec 32) : Prop :=
  (512 ∣ (k0_mult139 v7930).toNat) ∧
  (∀ a, (k0_off218 v7930) a + S512x256.size a ≤ S8192x256.size a)
theorem k0_mult139_dvd : ∀ (v7930 : BitVec 32) (k0_hw139 : k0_chk139 v7930), 512 ∣ (k0_mult139 v7930).toNat := fun v7930 k0_hw139 => k0_hw139.1
theorem k0_off218_inb : ∀ (v7930 : BitVec 32) (k0_hw139 : k0_chk139 v7930), ∀ a, (k0_off218 v7930) a + S512x256.size a ≤ S8192x256.size a := fun v7930 k0_hw139 => k0_hw139.2

def k0_mult141 (v7950 : BitVec 32) : BitVec 32 :=
  let c512_i32_3190 : BitVec 32 := 512#32
  let v7951 : BitVec 32 := Scalar.muli v7950 c512_i32_3190
  v7951

def k0_mult142 (v7953 : BitVec 32) : BitVec 32 :=
  let c512_i32_3193 : BitVec 32 := 512#32
  let v7954 : BitVec 32 := Scalar.muli v7953 c512_i32_3193
  v7954

def k0_off219 (v7953 : BitVec 32) : Fin 3 → Nat :=
  let c0_3194 : Index := 0#32
  let c0_3195 : Index := 0#32
  let c512_i32_3193 : BitVec 32 := 512#32
  let v7954 : BitVec 32 := Scalar.muli v7953 c512_i32_3193
  let v7955 : BitVec 32 := v7954
  let v7956 : Index := Scalar.indexCast v7955
  ![0, 0, v7956.toNat]

def k0_chk142 (v7953 : BitVec 32) : Prop :=
  (512 ∣ (k0_mult142 v7953).toNat) ∧
  (∀ a, (k0_off219 v7953) a + S1x1x512.size a ≤ S1x1x8192.size a)
theorem k0_mult142_dvd : ∀ (v7953 : BitVec 32) (k0_hw142 : k0_chk142 v7953), 512 ∣ (k0_mult142 v7953).toNat := fun v7953 k0_hw142 => k0_hw142.1
theorem k0_off219_inb : ∀ (v7953 : BitVec 32) (k0_hw142 : k0_chk142 v7953), ∀ a, (k0_off219 v7953) a + S1x1x512.size a ≤ S1x1x8192.size a := fun v7953 k0_hw142 => k0_hw142.2

def k0_off220 (v7950 : BitVec 32) (c0_i32_3197 : BitVec 32) : Fin 2 → Nat :=
  let c512_i32_3190 : BitVec 32 := 512#32
  let v7951 : BitVec 32 := Scalar.muli v7950 c512_i32_3190
  let v7952 : BitVec 32 := v7951
  let v7961 : BitVec 32 := Scalar.addi v7952 c0_i32_3197
  let v7965 : Index := Scalar.indexCast v7961
  let c0_3200 : Index := 0#32
  ![v7965.toNat, 0]

def k0_chk141 (v7950 : BitVec 32) : Prop :=
  (512 ∣ (k0_mult141 v7950).toNat) ∧
  (∀ (r : Fin 16), ∀ a, (k0_off220 v7950 (BitVec.ofNat 32 (32 * r.val))) a + S32x1.size a ≤ S8192x1.size a)
theorem k0_mult141_dvd : ∀ (v7950 : BitVec 32) (k0_hw141 : k0_chk141 v7950), 512 ∣ (k0_mult141 v7950).toNat := fun v7950 k0_hw141 => k0_hw141.1
theorem k0_off220_inb : ∀ (v7950 : BitVec 32) (k0_hw141 : k0_chk141 v7950), ∀ (r : Fin 16), ∀ a, (k0_off220 v7950 (BitVec.ofNat 32 (32 * r.val))) a + S32x1.size a ≤ S8192x1.size a := fun v7950 k0_hw141 r => k0_hw141.2 r

def k0_mult143 (v8425 : BitVec 32) : BitVec 32 :=
  let c512_i32_3375 : BitVec 32 := 512#32
  let v8426 : BitVec 32 := Scalar.muli v8425 c512_i32_3375
  v8426

def k0_mult144 (v8428 : BitVec 32) : BitVec 32 :=
  let c512_i32_3378 : BitVec 32 := 512#32
  let v8429 : BitVec 32 := Scalar.muli v8428 c512_i32_3378
  v8429

def k0_off221 (v8428 : BitVec 32) : Fin 2 → Nat :=
  let c512_i32_3378 : BitVec 32 := 512#32
  let v8429 : BitVec 32 := Scalar.muli v8428 c512_i32_3378
  let v8430 : BitVec 32 := v8429
  let v8432 : Index := Scalar.indexCast v8430
  let c0_3381 : Index := 0#32
  ![v8432.toNat, 0]

def k0_chk144 (v8428 : BitVec 32) : Prop :=
  (512 ∣ (k0_mult144 v8428).toNat) ∧
  (∀ a, (k0_off221 v8428) a + S512x256.size a ≤ S8192x256.size a)
theorem k0_mult144_dvd : ∀ (v8428 : BitVec 32) (k0_hw144 : k0_chk144 v8428), 512 ∣ (k0_mult144 v8428).toNat := fun v8428 k0_hw144 => k0_hw144.1
theorem k0_off221_inb : ∀ (v8428 : BitVec 32) (k0_hw144 : k0_chk144 v8428), ∀ a, (k0_off221 v8428) a + S512x256.size a ≤ S8192x256.size a := fun v8428 k0_hw144 => k0_hw144.2

def k0_off222 (v8425 : BitVec 32) : Fin 2 → Nat :=
  let c512_i32_3375 : BitVec 32 := 512#32
  let v8426 : BitVec 32 := Scalar.muli v8425 c512_i32_3375
  let v8427 : BitVec 32 := v8426
  let v8436 : Index := Scalar.indexCast v8427
  let c0_3385 : Index := 0#32
  ![v8436.toNat, 0]

def k0_chk143 (v8425 : BitVec 32) : Prop :=
  (512 ∣ (k0_mult143 v8425).toNat) ∧
  (∀ a, (k0_off222 v8425) a + S512x256.size a ≤ S8192x256.size a)
theorem k0_mult143_dvd : ∀ (v8425 : BitVec 32) (k0_hw143 : k0_chk143 v8425), 512 ∣ (k0_mult143 v8425).toNat := fun v8425 k0_hw143 => k0_hw143.1
theorem k0_off222_inb : ∀ (v8425 : BitVec 32) (k0_hw143 : k0_chk143 v8425), ∀ a, (k0_off222 v8425) a + S512x256.size a ≤ S8192x256.size a := fun v8425 k0_hw143 => k0_hw143.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8192x1024 : Shape := ⟨2, ![8192, 1024]⟩
abbrev S8x8192 : Shape := ⟨2, ![8, 8192]⟩
abbrev S8192x7168 : Shape := ⟨2, ![8192, 7168]⟩
abbrev S8192x8x128 : Shape := ⟨3, ![8192, 8, 128]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x128x8192 : Shape := ⟨3, ![8, 128, 8192]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x8192, .f32⟩
  | .hbm, ⟨4, _⟩ => ⟨S8192x7168, .f32⟩
  | .hbm, ⟨5, _⟩ => ⟨S8192x8x128, .f32⟩
  | .hbm, ⟨6, _⟩ => ⟨S8192x8x128, .f32⟩
  | .hbm, ⟨7, _⟩ => ⟨S8x8192x8192, .f32⟩
  | .hbm, ⟨8, _⟩ => ⟨S_, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8x8192x1, .f32⟩
  | .hbm, ⟨13, _⟩ => ⟨S8x8192x8192, .f32⟩
  | .hbm, ⟨14, _⟩ => ⟨S8x8192x8192, .f32⟩
  | .hbm, ⟨15, _⟩ => ⟨S8x1x8192, .f32⟩
  | .hbm, ⟨16, _⟩ => ⟨S8x8192x8192, .f32⟩
  | .hbm, ⟨17, _⟩ => ⟨S8x8192x8192, .f32⟩
  | .hbm, ⟨18, _⟩ => ⟨S8192, .i32⟩
  | .hbm, ⟨19, _⟩ => ⟨S8192x1, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8192x8x128, .f32⟩
  | .hbm, ⟨44, _⟩ => ⟨S8x128x8192, .f32⟩
  | .hbm, ⟨45, _⟩ => ⟨S8192x8x128, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel2.lean ====
abbrev S8192x1024 : Shape := ⟨2, ![8192, 1024]⟩
abbrev S8192x7168 : Shape := ⟨2, ![8192, 7168]⟩
abbrev S6144 : Shape := ⟨1, ![6144]⟩
abbrev S2x1024x2048 : Shape := ⟨3, ![2, 1024, 2048]⟩
abbrev S2x2048x2048 : Shape := ⟨3, ![2, 2048, 2048]⟩
abbrev S8192x2048 : Shape := ⟨2, ![8192, 2048]⟩
abbrev S2048 : Shape := ⟨1, ![2048]⟩
abbrev S1x6144 : Shape := ⟨2, ![1, 6144]⟩
abbrev S1x2048 : Shape := ⟨2, ![1, 2048]⟩
abbrev S256x1024 : Shape := ⟨2, ![256, 1024]⟩
abbrev S256x2048 : Shape := ⟨2, ![256, 2048]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 15
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x7168, .f32⟩
  | .hbm, ⟨4, _⟩ => ⟨S6144, .f32⟩
  | .hbm, ⟨5, _⟩ => ⟨S2x1024x2048, .bf16⟩
  | .hbm, ⟨6, _⟩ => ⟨S2x1024x2048, .bf16⟩
  | .hbm, ⟨7, _⟩ => ⟨S2x1024x2048, .bf16⟩
  | .hbm, ⟨8, _⟩ => ⟨S2x2048x2048, .bf16⟩
  | .hbm, ⟨9, _⟩ => ⟨S8192x2048, .f32⟩
  | .hbm, ⟨10, _⟩ => ⟨S2048, .f32⟩
  | .hbm, ⟨11, _⟩ => ⟨S1x6144, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x6144, .f32⟩
  | .local _ .vmem, ⟨13, _⟩ => ⟨S1x1024x2048, .bf16⟩
  | .local _ .vmem, ⟨14, _⟩ => ⟨S1x1024x2048, .bf16⟩
  | .local _ .vmem, ⟨15, _⟩ => ⟨S1x1024x2048, .bf16⟩
  | .local _ .vmem, ⟨16, _⟩ => ⟨S1x2048x2048, .bf16⟩
  | .local _ .vmem, ⟨17, _⟩ => ⟨S256x2048, .f32⟩
  | .local _ .vmem, ⟨18, _⟩ => ⟨S256x2048, .f32⟩
  | .local _ .vmem, ⟨19, _⟩ => ⟨S1x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8192x1024 : Shape := ⟨2, ![8192, 1024]⟩
abbrev S8192x7168 : Shape := ⟨2, ![8192, 7168]⟩
abbrev S6144 : Shape := ⟨1, ![6144]⟩
abbrev S2x1024x2048 : Shape := ⟨3, ![2, 1024, 2048]⟩
abbrev S2x2048x2048 : Shape := ⟨3, ![2, 2048, 2048]⟩
abbrev S8192x2048 : Shape := ⟨2, ![8192, 2048]⟩
abbrev S2048 : Shape := ⟨1, ![2048]⟩
abbrev S8192x6144 : Shape := ⟨2, ![8192, 6144]⟩
abbrev S1x6144 : Shape := ⟨2, ![1, 6144]⟩
abbrev S_ : Shape := ⟨0, ![]⟩
abbrev S8192x3x2048 : Shape := ⟨3, ![8192, 3, 2048]⟩
abbrev S8192x1x2048 : Shape := ⟨3, ![8192, 1, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x7168, .f32⟩
  | .hbm, ⟨4, _⟩ => ⟨S6144, .f32⟩
  | .hbm, ⟨5, _⟩ => ⟨S2x1024x2048, .bf16⟩
  | .hbm, ⟨6, _⟩ => ⟨S2x1024x2048, .bf16⟩
  | .hbm, ⟨7, _⟩ => ⟨S2x1024x2048, .bf16⟩
  | .hbm, ⟨8, _⟩ => ⟨S2x2048x2048, .bf16⟩
  | .hbm, ⟨9, _⟩ => ⟨S8192x2048, .f32⟩
  | .hbm, ⟨10, _⟩ => ⟨S2048, .f32⟩
  | .hbm, ⟨11, _⟩ => ⟨S8192x6144, .f32⟩
  | .hbm, ⟨12, _⟩ => ⟨S1x6144, .f32⟩
  | .hbm, ⟨13, _⟩ => ⟨S8192x6144, .f32⟩
  | .hbm, ⟨14, _⟩ => ⟨S8192x6144, .f32⟩
  | .hbm, ⟨15, _⟩ => ⟨S8192x6144, .f32⟩
  | .hbm, ⟨16, _⟩ => ⟨S8192x6144, .f32⟩
  | .hbm, ⟨17, _⟩ => ⟨S_, .f32⟩
  | .hbm, ⟨18, _⟩ => ⟨S8192x6144, .f32⟩
  | .hbm, ⟨19, _⟩ => ⟨S8192x6144, .f32⟩
  | .hbm, ⟨20, _⟩ => ⟨S_, .f32⟩
  | .hbm, ⟨21, _⟩ => ⟨S8192x6144, .f32⟩
  | .hbm, ⟨22, _⟩ => ⟨S8192x6144, .f32⟩
  | .hbm, ⟨23, _⟩ => ⟨S8192x3x2048, .f32⟩
  | .hbm, ⟨24, _⟩ => ⟨S8192x1x2048, .f32⟩
  | .hbm, ⟨25, _⟩ => ⟨S8192x2048, .f32⟩
  | .hbm, ⟨26, _⟩ => ⟨S8192x1024, .f32⟩
  | .hbm, ⟨27, _⟩ => ⟨S1x1024x2048, .bf16⟩
  | .hbm, ⟨28, _⟩ => ⟨S1024x2048, .bf16⟩
  | .hbm, ⟨29, _⟩ => ⟨S1024x2048, .f32⟩
  | .hbm, ⟨30, _⟩ => ⟨S8192x2048, .f32⟩
  | .hbm, ⟨31, _⟩ => ⟨S8192x2048, .f32⟩
  | .hbm, ⟨32, _⟩ => ⟨S8192x1x2048, .f32⟩
  | .hbm, ⟨33, _⟩ => ⟨S8192x2048, .f32⟩
  | .hbm, ⟨34, _⟩ => ⟨S8192x1024, .f32⟩
  | .hbm, ⟨35, _⟩ => ⟨S1x1024x2048, .bf16⟩
  | .hbm, ⟨36, _⟩ => ⟨S1024x2048, .bf16⟩
  | .hbm, ⟨37, _⟩ => ⟨S1024x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x1x2048, .f32⟩
  | .hbm, ⟨42, _⟩ => ⟨S8192x2048, .f32⟩
  | .hbm, ⟨43, _⟩ => ⟨S8192x1024, .f32⟩
  | .hbm, ⟨44, _⟩ => ⟨S1x1024x2048, .bf16⟩
  | .hbm, ⟨45, _⟩ => ⟨S1024x2048, .bf16⟩
  | .hbm, ⟨46, _⟩ => ⟨S1024x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048x2048, .bf16⟩
  | .hbm, ⟨51, _⟩ => ⟨S2048x2048, .bf16⟩
  | .hbm, ⟨52, _⟩ => ⟨S2048x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x2048, .f32⟩
  | .hbm, ⟨67, _⟩ => ⟨S8192x2048, .f32⟩
  | .hbm, ⟨68, _⟩ => ⟨S1x2048, .f32⟩
  | .hbm, ⟨69, _⟩ => ⟨S8192x2048, .f32⟩
  | .hbm, ⟨70, _⟩ => ⟨S8192x2048, .f32⟩
  | .hbm, ⟨71, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_1 : Ref sig .tc := ⟨.hbm, 56, rfl⟩
abbrev main_v43 : Ref sig .tc := ⟨.hbm, 57, rfl⟩
abbrev main_v44 : Ref sig .tc := ⟨.hbm, 58, rfl⟩
abbrev main_cst_2 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Kernel3.lean ====
abbrev S8192x2048 : Shape := ⟨2, ![8192, 2048]⟩
abbrev S2x2048x16392 : Shape := ⟨3, ![2, 2048, 16392]⟩
abbrev S7 : Shape := ⟨1, ![7]⟩
abbrev S2x16392x2048 : Shape := ⟨3, ![2, 16392, 2048]⟩
abbrev S8192x7168 : Shape := ⟨2, ![8192, 7168]⟩
abbrev S1024x2048 : Shape := ⟨2, ![1024, 2048]⟩
abbrev S1x1024x2048 : Shape := ⟨3, ![1, 1024, 2048]⟩
abbrev S1 : Shape := ⟨1, ![1]⟩
abbrev S1024x1024 : Shape := ⟨2, ![1024, 1024]⟩
abbrev S2048x1024 : Shape := ⟨2, ![2048, 1024]⟩

abbrev nBuf : Space → Nat
  | .hbm => 4
  | .vmem => 7
  | .smem => 1
  | _ => 0

abbrev bufTy : (tb : Table) → Fin (tcTables nBuf tb) → BufTy
  | .hbm, ⟨0, _⟩ => ⟨S8192x2048, .bf16⟩
  | .hbm, ⟨1, _⟩ => ⟨S2x2048x16392, .f32⟩
  | .hbm, ⟨2, _⟩ => ⟨S2x16392x2048, .f32⟩
  | .hbm, ⟨3, _⟩ => ⟨S8192x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .smem, ⟨0, _⟩ => ⟨S7, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  let c8_i32 : BitVec 32 := 8#32
  let v2 : BitVec 32 := Scalar.muli v1 c8_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S7.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S7) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  let c0_i32_1 : BitVec 32 := 0#32
  ![c0_i32.toNat, v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S2x2048x16392 : Shape := ⟨3, ![2, 2048, 16392]⟩
abbrev S1x2048x6144 : Shape := ⟨3, ![1, 2048, 6144]⟩
abbrev S2048x6144 : Shape := ⟨2, ![2048, 6144]⟩
abbrev S8192x6144 : Shape := ⟨2, ![8192, 6144]⟩
abbrev S1x2048x1024 : Shape := ⟨3, ![1, 2048, 1024]⟩
abbrev S2048x1024 : Shape := ⟨2, ![2048, 1024]⟩
abbrev S8192x1024 : Shape := ⟨2, ![8192, 1024]⟩
abbrev S8192x7168 : Shape := ⟨2, ![8192, 7168]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x16392, .f32⟩
  | .hbm, ⟨2, _⟩ => ⟨S8192x2048, .f32⟩
  | .hbm, ⟨3, _⟩ => ⟨S1x2048x6144, .f32⟩
  | .hbm, ⟨4, _⟩ => ⟨S2048x6144, .f32⟩
  | .hbm, ⟨5, _⟩ => ⟨S8192x6144, .f32⟩
  | .hbm, ⟨6, _⟩ => ⟨S1x2048x1024, .f32⟩
  | .hbm, ⟨7, _⟩ => ⟨S2048x1024, .f32⟩
  | .hbm, ⟨8, _⟩ => ⟨S8192x1024, .f32⟩
  | .hbm, ⟨9, _⟩ => ⟨S8192x7168, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel4.lean ====
abbrev S8192x2048 : Shape := ⟨2, ![8192, 2048]⟩
abbrev S2x2048x16392 : Shape := ⟨3, ![2, 2048, 16392]⟩
abbrev S6 : Shape := ⟨1, ![6]⟩
abbrev S2x16392x2048 : Shape := ⟨3, ![2, 16392, 2048]⟩
abbrev S8192x6144 : Shape := ⟨2, ![8192, 6144]⟩
abbrev S1024x2048 : Shape := ⟨2, ![1024, 2048]⟩
abbrev S1x1024x2048 : Shape := ⟨3, ![1, 1024, 2048]⟩
abbrev S1 : Shape := ⟨1, ![1]⟩
abbrev S1024x1024 : Shape := ⟨2, ![1024, 1024]⟩
abbrev S2048x1024 : Shape := ⟨2, ![2048, 1024]⟩

abbrev nBuf : Space → Nat
  | .hbm => 4
  | .vmem => 7
  | .smem => 1
  | _ => 0

abbrev bufTy : (tb : Table) → Fin (tcTables nBuf tb) → BufTy
  | .hbm, ⟨0, _⟩ => ⟨S8192x2048, .bf16⟩
  | .hbm, ⟨1, _⟩ => ⟨S2x2048x16392, .f32⟩
  | .hbm, ⟨2, _⟩ => ⟨S2x16392x2048, .f32⟩
  | .hbm, ⟨3, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .smem, ⟨0, _⟩ => ⟨S6, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  let c8_i32 : BitVec 32 := 8#32
  let v2 : BitVec 32 := Scalar.muli v1 c8_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  let c0_i32_1 : BitVec 32 := 0#32
  ![c0_i32.toNat, v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S2x2048x16392 : Shape := ⟨3, ![2, 2048, 16392]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x16392, .f32⟩
  | .hbm, ⟨2, _⟩ => ⟨S8192x2048, .f32⟩
  | .hbm, ⟨3, _⟩ => ⟨S1x2048x6144, .f32⟩
  | .hbm, ⟨4, _⟩ => ⟨S2048x6144, .f32⟩
  | .hbm, ⟨5, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x2048 : Shape := ⟨2, ![8192, 2048]⟩
abbrev S2x2048x16392 : Shape := ⟨3, ![2, 2048, 16392]⟩
abbrev S3 : Shape := ⟨1, ![3]⟩
abbrev S2x16392x2048 : Shape := ⟨3, ![2, 16392, 2048]⟩
abbrev S8192x3072 : Shape := ⟨2, ![8192, 3072]⟩
abbrev S1024x2048 : Shape := ⟨2, ![1024, 2048]⟩
abbrev S1x1024x2048 : Shape := ⟨3, ![1, 1024, 2048]⟩
abbrev S1 : Shape := ⟨1, ![1]⟩
abbrev S1024x1024 : Shape := ⟨2, ![1024, 1024]⟩
abbrev S2048x1024 : Shape := ⟨2, ![2048, 1024]⟩

abbrev nBuf : Space → Nat
  | .hbm => 4
  | .vmem => 7
  | .smem => 1
  | _ => 0

abbrev bufTy : (tb : Table) → Fin (tcTables nBuf tb) → BufTy
  | .hbm, ⟨0, _⟩ => ⟨S8192x2048, .bf16⟩
  | .hbm, ⟨1, _⟩ => ⟨S2x2048x16392, .f32⟩
  | .hbm, ⟨2, _⟩ => ⟨S2x16392x2048, .f32⟩
  | .hbm, ⟨3, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .smem, ⟨0, _⟩ => ⟨S3, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  let c8_i32 : BitVec 32 := 8#32
  let v2 : BitVec 32 := Scalar.muli v1 c8_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  let c0_i32_1 : BitVec 32 := 0#32
  ![c0_i32.toNat, v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel5Ideal.lean ====
variable {F : FTy → Type} [FloatOps F] [Named F]
def κ : String → Option EReal := fun
  | "qscale" => some ((((Real.sqrt 128) * (Real.log 2))⁻¹ : ℝ) : EReal)
  | _ => none
-- ==== Reference5Ideal.lean ====
abbrev S8192x2048 : Shape := ⟨2, ![8192, 2048]⟩
abbrev S2x2048x16392 : Shape := ⟨3, ![2, 2048, 16392]⟩
abbrev S1x2048x1024 : Shape := ⟨3, ![1, 2048, 1024]⟩
abbrev S2048x1024 : Shape := ⟨2, ![2048, 1024]⟩
abbrev S8192x1024 : Shape := ⟨2, ![8192, 1024]⟩
abbrev S_ : Shape := ⟨0, ![]⟩
abbrev S1x2048x2048 : Shape := ⟨3, ![1, 2048, 2048]⟩
abbrev S2048x2048 : Shape := ⟨2, ![2048, 2048]⟩
abbrev S8192x3072 : Shape := ⟨2, ![8192, 3072]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x16392, .f32⟩
  | .hbm, ⟨2, _⟩ => ⟨S8192x2048, .f32⟩
  | .hbm, ⟨3, _⟩ => ⟨S1x2048x1024, .f32⟩
  | .hbm, ⟨4, _⟩ => ⟨S2048x1024, .f32⟩
  | .hbm, ⟨5, _⟩ => ⟨S8192x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1x2048x2048, .f32⟩
  | .hbm, ⟨14, _⟩ => ⟨S2048x2048, .f32⟩
  | .hbm, ⟨15, _⟩ => ⟨S8192x2048, .f32⟩
  | .hbm, ⟨16, _⟩ => ⟨S8192x3072, .f32⟩
  | .hbm, ⟨17, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel6.lean ====
abbrev S8192x1024 : Shape := ⟨2, ![8192, 1024]⟩
abbrev S2x1024x2048 : Shape := ⟨3, ![2, 1024, 2048]⟩
abbrev S8192x6144 : Shape := ⟨2, ![8192, 6144]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x1024x2048, .bf16⟩
  | .hbm, ⟨2, _⟩ => ⟨S8192x6144, .f32⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x1024 : Shape := ⟨2, ![8192, 1024]⟩
abbrev S2x1024x2048 : Shape := ⟨3, ![2, 1024, 2048]⟩
abbrev S8192x6144 : Shape := ⟨2, ![8192, 6144]⟩
abbrev S1x1024x2048 : Shape := ⟨3, ![1, 1024, 2048]⟩
abbrev S1024x2048 : Shape := ⟨2, ![1024, 2048]⟩
abbrev S8192x2048 : Shape := ⟨2, ![8192, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x2048, .bf16⟩
  | .hbm, ⟨2, _⟩ => ⟨S8192x6144, .f32⟩
  | .hbm, ⟨3, _⟩ => ⟨S8192x1024, .f32⟩
  | .hbm, ⟨4, _⟩ => ⟨S1x1024x2048, .bf16⟩
  | .hbm, ⟨5, _⟩ => ⟨S1024x2048, .bf16⟩
  | .hbm, ⟨6, _⟩ => ⟨S1024x2048, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S8192x2048 : Shape := ⟨2, ![8192, 2048]⟩
abbrev S2x2048x16392 : Shape := ⟨3, ![2, 2048, 16392]⟩
abbrev S8 : Shape := ⟨1, ![8]⟩
abbrev S2x16392x2048 : Shape := ⟨3, ![2, 16392, 2048]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x1 : Shape := ⟨2, ![8, 1]⟩
abbrev S8x8192 : Shape := ⟨2, ![8, 8192]⟩
abbrev S512x2048 : Shape := ⟨2, ![512, 2048]⟩
abbrev S1x8x2048 : Shape := ⟨3, ![1, 8, 2048]⟩
abbrev S8x512 : Shape := ⟨2, ![8, 512]⟩
abbrev S8x128 : Shape := ⟨2, ![8, 128]⟩
abbrev S8x2048 : Shape := ⟨2, ![8, 2048]⟩

abbrev nBuf : Space → Nat
  | .hbm => 14
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x16392, .f32⟩
  | .hbm, ⟨2, _⟩ => ⟨S8, .f32⟩
  | .hbm, ⟨3, _⟩ => ⟨S2x16392x2048, .f32⟩
  | .hbm, ⟨4, _⟩ => ⟨S512, .i32⟩
  | .hbm, ⟨5, _⟩ => ⟨S512x1, .i32⟩
  | .hbm, ⟨6, _⟩ => ⟨S512, .i32⟩
  | .hbm, ⟨7, _⟩ => ⟨S1x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .bf16⟩
  | .hbm, ⟨12, _⟩ => ⟨S8x1, .f32⟩
  | .hbm, ⟨13, _⟩ => ⟨S8x8192, .f32⟩
  | .local _ .vmem, ⟨0, _⟩ => ⟨S512x2048, .bf16⟩
  | .local _ .vmem, ⟨1, _⟩ => ⟨S512x2048, .bf16⟩
  | .local _ .vmem, ⟨2, _⟩ => ⟨S1x8x2048, .f32⟩
  | .local _ .vmem, ⟨3, _⟩ => ⟨S8x1, .f32⟩
  | .local _ .vmem, ⟨4, _⟩ => ⟨S512x512, .bf16⟩
  | .local _ .vmem, ⟨5, _⟩ => ⟨S8x512, .f32⟩
  | .local _ .vmem, ⟨6, _⟩ => ⟨S8x512, .f32⟩
  | .local _ .vmem, ⟨7, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c1152_i32 : BitVec 32 := 1152#32
  let c0_i32_0 : BitVec 32 := 0#32
  let c0_i32_1 : BitVec 32 := 0#32
  ![c0_i32.toNat, c1152_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x2048 : Shape := ⟨2, ![8192, 2048]⟩
abbrev S2x2048x16392 : Shape := ⟨3, ![2, 2048, 16392]⟩
abbrev S8 : Shape := ⟨1, ![8]⟩
abbrev S1x2048x8 : Shape := ⟨3, ![1, 2048, 8]⟩
abbrev S2048x8 : Shape := ⟨2, ![2048, 8]⟩
abbrev S8192x8 : Shape := ⟨2, ![8192, 8]⟩
abbrev S1x8 : Shape := ⟨2, ![1, 8]⟩
abbrev S_ : Shape := ⟨0, ![]⟩
abbrev S8x8192 : Shape := ⟨2, ![8, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x16392, .f32⟩
  | .hbm, ⟨2, _⟩ => ⟨S8, .f32⟩
  | .hbm, ⟨3, _⟩ => ⟨S8192x2048, .f32⟩
  | .hbm, ⟨4, _⟩ => ⟨S1x2048x8, .f32⟩
  | .hbm, ⟨5, _⟩ => ⟨S2048x8, .f32⟩
  | .hbm, ⟨6, _⟩ => ⟨S8192x8, .f32⟩
  | .hbm, ⟨7, _⟩ => ⟨S1x8, .f32⟩
  | .hbm, ⟨8, _⟩ => ⟨S8192x8, .f32⟩
  | .hbm, ⟨9, _⟩ => ⟨S8192x8, .f32⟩
  | .hbm, ⟨10, _⟩ => ⟨S8192x8, .f32⟩
  | .hbm, ⟨11, _⟩ => ⟨S_, .f32⟩
  | .hbm, ⟨12, _⟩ => ⟨S8192x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .i1⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S_, .f32⟩
  | .hbm, ⟨27, _⟩ => ⟨S_, .f32⟩
  | .hbm, ⟨28, _⟩ => ⟨S8192x8, .f32⟩
  | .hbm, ⟨29, _⟩ => ⟨S8x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_call1_call0_cst : Ref sig .tc := ⟨.hbm, 26, rfl⟩
abbrev main_call1_call0_v0 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Proof.Att.Acts.lean ====
/- The acts of the attention kernel as short programs over a family of buffers: what it writes first,
   the logits of a tile, the softmax pass over a tile's rows, the accumulation of a tile, and the
   software-pipelined order it runs them in. -/
module

public import Idealize.ShloMosaic.Lib.Pipeline.Regions

@[expose] public section

set_option maxRecDepth 16384

noncomputable section

namespace Cert.Proof.Att

open Idealize.ShloMosaic Idealize.SL.Sem Idealize.ShloMosaic.TcCoe

/-- A matrix shape. -/
abbrev Mat (r c : Nat) : Shape := ⟨2, ![r, c]⟩
/-- The shape of a head's row of cumulated gates. -/
abbrev Row (c : Nat) : Shape := ⟨3, ![1, 1, c]⟩

/-- The vector buffers of the kernel: the five inputs, the result, and the eleven scratches. -/
inductive Arg
  | crow | q | k | v | gate | out | va | kt | sa | sb | pa | pb | ala | alb | acc | mx | ct
  deriving DecidableEq

instance : Fintype Arg := ⟨{.crow, .q, .k, .v, .gate, .out, .va, .kt, .sa, .sb, .pa, .pb, .ala, .alb, .acc, .mx, .ct}, fun a => by cases a <;> decide⟩

/-- A buffer's shape. -/
abbrev Arg.sh : Arg → Shape
  | .crow => Row 8192
  | .q | .k | .v | .gate | .out => Mat 8192 128
  | .va => Mat 8192 256
  | .kt => Mat 128 8192
  | .sa | .sb | .pa | .pb => Mat 512 1024
  | .ala | .alb => Mat 512 1
  | .acc => Mat 8192 256
  | .mx | .ct => Mat 8192 1

/-- A buffer's element type. -/
abbrev Arg.el : Arg → EltTy
  | .q | .k | .v | .out | .va | .kt | .pa | .pb => .bf16
  | _ => .f32

/-- The two widths of a tile. -/
inductive Wd
  | one | two

/-- The columns of a tile of that width. -/
abbrev Wd.n : Wd → Nat
  | .one => 512
  | .two => 1024

/-- The buffers a run holds, with the table of tiles in scalar memory. -/
structure Bufs (sig : RefSig) where
  tab : Memref sig .tc .smem (Mat 2 80) .i32
  ref : (a : Arg) → Memref sig .tc .vmem a.sh a.el
  whole : ∀ a, (ref a).IsWhole

variable {F : FTy → Type} [FloatOps F] {nD : Nat} {τ : Topo} {sig : RefSig} {Λ : Labels}

/-- The programs of a tensor core. -/
abbrev Pr (nD : Nat) (τ : Topo) (sig : RefSig) (F : FTy → Type) (Λ : Labels) : Type → Type 1 :=
  Prog (TpuEff nD τ sig (Elt F) Λ .tc)

/-- A block of a buffer. -/
abbrev blk {s : Shape} (off size : Fin s.rank → Nat) (inb : ∀ a, off a + size a ≤ s.size a) : Rect s := Rect.unit (s := s) off size inb

variable (B : Bufs sig)

/-- Read a block. -/
def ld (a : Arg) (off size : Fin a.sh.rank → Nat) (inb : ∀ x, off x + size x ≤ a.sh.size x) (h : 0 < (⟨a.sh.rank, size⟩ : Shape).numel) :
    Pr nD τ sig F Λ (Vec F ⟨a.sh.rank, size⟩ a.el) :=
  Prog.lift (.load (B.ref a) (blk off size inb).toLoadRect (View.loadsAt_vmem h))

/-- Write a block. -/
def st (a : Arg) (off size : Fin a.sh.rank → Nat) (inb : ∀ x, off x + size x ≤ a.sh.size x) (h : 0 < (⟨a.sh.rank, size⟩ : Shape).numel)
    (hp : (blk off size inb).PackedRows a.el.packing) (w : Vec F ⟨a.sh.rank, size⟩ a.el) : Pr nD τ sig F Λ PUnit :=
  Prog.lift (.store (B.ref a) (blk off size inb) w Finset.univ
    (View.stores_vmem h ((B.whole a).storeExact_slice rfl _ hp) (fun _ => rfl)) (.inl rfl))

theorem cast_self (s : Shape) : s.ShapeCasts s := rfl

/-- A write as the kernel makes it: the old block is read first and dropped, the new one is recast to its own shape. -/
def put (a : Arg) (off size : Fin a.sh.rank → Nat) (inb : ∀ x, off x + size x ≤ a.sh.size x) (h : 0 < (⟨a.sh.rank, size⟩ : Shape).numel)
    (hp : (blk off size inb).PackedRows a.el.packing) (w : Vec F ⟨a.sh.rank, size⟩ a.el) : Pr nD τ sig F Λ PUnit := do
  let _ ← ld B a off size inb h
  st B a off size inb h hp (shapeCast _ w (cast_self _))

/-- What the kernel assumes of a tile word for one block at it: its row is a whole tile, and the block lies inside. -/
def Fits {n : Nat} (w : BitVec 32) (off size lim : Fin n → Nat) : Prop :=
  (512 ∣ (Scalar.muli w 512#32).toNat) ∧ (∀ a, off a + size a ≤ lim a)
instance Fits.dec {n : Nat} (w : BitVec 32) (off size lim : Fin n → Nat) : Decidable (Fits w off size lim) :=
  decidable_of_iff' _ (Iff.of_eq (Fits.eq_1 w off size lim))

/-- The first row of pass `r` of the tile whose word is `w`. -/
abbrev passAt (w : BitVec 32) (r : BitVec 32) : Fin 2 → Nat := ![(Scalar.indexCast (Scalar.addi (Scalar.muli w 512#32) r)).toNat, 0]
/-- The first row of the tile whose word is `w`. -/
abbrev tileRow (w : BitVec 32) : Fin 2 → Nat := ![(Scalar.indexCast (Scalar.muli w 512#32)).toNat, 0]
/-- The first column of the tile whose word is `w`. -/
abbrev tileCol (w : BitVec 32) : Fin 2 → Nat := ![0, (Scalar.indexCast (Scalar.muli w 512#32)).toNat]
/-- The first entry of the tile whose word is `w` in a row of cumulated gates. -/
abbrev tileC (w : BitVec 32) : Fin 3 → Nat := ![0, 0, (Scalar.indexCast (Scalar.muli w 512#32)).toNat]

/-- The same for every pass over the rows of a tile. -/
def FitsRows (w : BitVec 32) : Prop :=
  (512 ∣ (Scalar.muli w 512#32).toNat) ∧
  (∀ (r : Fin 16), ∀ a, (passAt w (BitVec.ofNat 32 (32 * r.val))) a + (Mat 32 1).size a ≤ (Mat 8192 1).size a)
instance FitsRows.dec (w : BitVec 32) : Decidable (FitsRows w) := decidable_of_iff' _ (Iff.of_eq (FitsRows.eq_1 w))

/-- Assume a condition. -/
def need (p : Prop) (d : Decidable p) : Pr nD τ sig F Λ (PLift p) := Prog.lift (TpuEff.assume p d)

/-- A number of a tile that the table lists. -/
abbrev Listed (n : BitVec 32) : Prop := n.toNat < 80

theorem listed_inb (j : Fin 2) {n : BitVec 32} (h : Listed n) :
    ∀ a, (![j.val, (Scalar.indexCast n).toNat] : Fin 2 → Nat) a + (Mat 1 1).size a ≤ (Mat 2 80).size a := fun a =>
  match a with
  | 0 => by show j.val + 1 ≤ 2; omega
  | 1 => by show n.toNat + 1 ≤ 80; exact h

/-- Row `j` of the table at tile `n`. -/
def word (j : Fin 2) (n : BitVec 32) (h : Listed n) : Pr nD τ sig F Λ (Elt F .i32) :=
  smemLoad (p := (.tc : Proc τ)) (Val := Elt F) B.tab (Rect.unit (s := Mat 2 80) ![j.val, (Scalar.indexCast n).toNat] (Mat 1 1).size (listed_inb j h)) rfl rfl

theorem pos_w (r : Nat) (hr : 0 < r) (w : Wd) : 0 < (Mat r w.n).numel := by
  cases w <;> simp [Shape.numel, Fin.prod_univ_two, hr]

theorem packed32 {s : Shape} {e : EltTy} (he : e.packing = 1) (h2 : 2 ≤ s.rank) (off size : Fin s.rank → Nat) (inb) :
    (Rect.unit (s := s) off size inb).PackedRows e.packing :=
  .inr ⟨h2, rfl, .inl (by rw [he]; exact ⟨one_dvd _, one_dvd _⟩)⟩

/-! ### What a head writes first -/

/-- At the first head, the ones beside the values. -/
def ones (i : BitVec 32) : Pr nD τ sig F Λ PUnit :=
  if _h : Scalar.cmpi .ne (Scalar.extui (Scalar.cmpi .eq i 0#32) : BitVec 32) 0#32 = 1#1 then do
    put B .va ![0, 128] ![8192, 128] (by decide) (by decide) (by decide) (broadcast _ (Scalar.ofBits .bf16 0x3F80#16 : F .bf16))
    pure ⟨⟩
  else pure ⟨⟩

/-- The head's values beside them. -/
def vals : Pr nD τ sig F Λ PUnit := do
  let v ← ld B .v ![0, 0] ![8192, 128] (by decide) (by decide)
  put B .va ![0, 0] ![8192, 128] (by decide) (by decide) (by decide) (shapeCast (Mat 8192 128) v (cast_self _))

theorem rows512_inb : ∀ r : Fin 16, ∀ a : Fin 2, (![512 * r.val, 0] : Fin 2 → Nat) a + (![512, 128] : Fin 2 → Nat) a ≤ (Mat 8192 128).size a := by decide
theorem cols512_inb : ∀ r : Fin 16, ∀ a : Fin 2, (![0, 512 * r.val] : Fin 2 → Nat) a + (![128, 512] : Fin 2 → Nat) a ≤ (Mat 128 8192).size a := by decide
theorem crow512_inb : ∀ r : Fin 16, ∀ a : Fin 3, (![0, 0, 512 * r.val] : Fin 3 → Nat) a + (![1, 1, 512] : Fin 3 → Nat) a ≤ (Row 8192).size a := by decide
theorem ct512_inb : ∀ r : Fin 16, ∀ a : Fin 2, (![512 * r.val, 0] : Fin 2 → Nat) a + (![512, 1] : Fin 2 → Nat) a ≤ (Mat 8192 1).size a := by decide
theorem cols512_packed (r : Fin 16) : (blk (s := Mat 128 8192) ![0, 512 * r.val] ![128, 512] (cols512_inb r)).PackedRows (EltTy.packing .bf16) :=
  .inr ⟨by decide, rfl, .inl ⟨⟨0, rfl⟩, ⟨64, rfl⟩⟩⟩

/-- One block of keys, transposed. -/
def keys (r : Fin 16) : Pr nD τ sig F Λ PUnit := do
  let x ← ld B .k ![512 * r.val, 0] ![512, 128] (rows512_inb r) (by decide)
  let y : FVec F (Mat 512 128) .bf16 := shapeCast (Mat 512 128) x (cast_self _)
  put B .kt ![0, 512 * r.val] ![128, 512] (cols512_inb r) (by decide) (cols512_packed r)
    (truncf .bf16 (transpose (Mat 128 512) [1, 0] (extf .f32 y (by decide)) (by decide)) (by decide) : FVec F (Mat 128 512) .bf16)

/-- One block of cumulated gates, as a column in the unit of the base-2 exponential. -/
def gates (log2e : F .f32) (r : Fin 16) : Pr nD τ sig F Λ PUnit := do
  let x ← ld B .crow ![0, 0, 512 * r.val] ![1, 1, 512] (crow512_inb r) (by decide)
  let y : FVec F (Mat 1 512) .f32 := mulf (shapeCast (Mat 1 512) x rfl) (broadcast (Mat 1 512) log2e)
  let z : FVec F (Mat 8 512) .f32 := broadcastTo (Mat 8 512) (shapeCast (Mat 1 512) y (cast_self _)) (by decide)
  put B .ct ![512 * r.val, 0] ![512, 1] (ct512_inb r) (by decide) (packed32 rfl (by decide) _ _ _)
    (extractStridedSlice (Mat 512 1) ![0, 0] (transpose (Mat 512 8) [1, 0] z (by decide)) (by decide))

/-- Sixteen passes, in order. -/
abbrev passes : List (Fin 16) := [⟨0, by decide⟩, ⟨1, by decide⟩, ⟨2, by decide⟩, ⟨3, by decide⟩, ⟨4, by decide⟩, ⟨5, by decide⟩, ⟨6, by decide⟩, ⟨7, by decide⟩,
  ⟨8, by decide⟩, ⟨9, by decide⟩, ⟨10, by decide⟩, ⟨11, by decide⟩, ⟨12, by decide⟩, ⟨13, by decide⟩, ⟨14, by decide⟩, ⟨15, by decide⟩]

/-- Run one act for every listed number. -/
def each {n : Nat} (f : Fin n → Pr nD τ sig F Λ PUnit) : List (Fin n) → Pr nD τ sig F Λ PUnit
  | [] => pure ⟨⟩
  | r :: rs => f r >>= fun _ => each f rs

/-! ### The three acts on a tile -/

/-- The scores' buffer of the two. -/
abbrev sBuf : Bool → Arg
  | false => .sa
  | true => .sb
/-- The weights' buffer of the two. -/
abbrev pBuf : Bool → Arg
  | false => .pa
  | true => .pb
/-- The rescalings' buffer of the two. -/
abbrev aBuf : Bool → Arg
  | false => .ala
  | true => .alb

theorem score_inb (w : Wd) : ∀ a : Fin 2, (![0, 0] : Fin 2 → Nat) a + (![512, w.n] : Fin 2 → Nat) a ≤ (Mat 512 1024).size a := by cases w <;> decide
theorem pass_inb (w : Wd) : ∀ r : Fin 16, ∀ a : Fin 2, (![32 * r.val, 0] : Fin 2 → Nat) a + (![32, w.n] : Fin 2 → Nat) a ≤ (Mat 512 1024).size a := by cases w <;> decide
theorem al_inb : ∀ r : Fin 16, ∀ a : Fin 2, (![32 * r.val, 0] : Fin 2 → Nat) a + (![32, 1] : Fin 2 → Nat) a ≤ (Mat 512 1).size a := by decide
theorem pass_packed (w : Wd) (r : Fin 16) : (blk (s := Mat 512 1024) ![32 * r.val, 0] ![32, w.n] (pass_inb w r)).PackedRows (EltTy.packing .bf16) :=
  .inr ⟨by decide, rfl, .inl ⟨⟨16 * r.val, by show 32 * r.val = 2 * (16 * r.val); omega⟩, ⟨16, rfl⟩⟩⟩

/-- The scores' buffer is read and written at its width. -/
def ldS (u : Bool) (off size : Fin 2 → Nat) (inb : ∀ x, off x + size x ≤ (Mat 512 1024).size x) (h : 0 < (⟨2, size⟩ : Shape).numel) :
    Pr nD τ sig F Λ (Vec F ⟨2, size⟩ .f32) :=
  match u with
  | false => ld B .sa off size inb h
  | true => ld B .sb off size inb h
def putS (u : Bool) (off size : Fin 2 → Nat) (inb : ∀ x, off x + size x ≤ (Mat 512 1024).size x) (h : 0 < (⟨2, size⟩ : Shape).numel)
    (w : Vec F ⟨2, size⟩ .f32) : Pr nD τ sig F Λ PUnit :=
  match u with
  | false => put B .sa off size inb h (packed32 rfl (by decide) _ _ _) w
  | true => put B .sb off size inb h (packed32 rfl (by decide) _ _ _) w
def ldP (u : Bool) (off size : Fin 2 → Nat) (inb : ∀ x, off x + size x ≤ (Mat 512 1024).size x) (h : 0 < (⟨2, size⟩ : Shape).numel) :
    Pr nD τ sig F Λ (Vec F ⟨2, size⟩ .bf16) :=
  match u with
  | false => ld B .pa off size inb h
  | true => ld B .pb off size inb h
def putP (u : Bool) (off size : Fin 2 → Nat) (inb : ∀ x, off x + size x ≤ (Mat 512 1024).size x) (h : 0 < (⟨2, size⟩ : Shape).numel)
    (hp : (blk (s := Mat 512 1024) off size inb).PackedRows (EltTy.packing .bf16))
    (w : Vec F ⟨2, size⟩ .bf16) : Pr nD τ sig F Λ PUnit :=
  match u with
  | false => put B .pa off size inb h hp w
  | true => put B .pb off size inb h hp w
def ldA (u : Bool) : Pr nD τ sig F Λ (Vec F (Mat 512 1) .f32) :=
  match u with
  | false => ld B .ala ![0, 0] ![512, 1] (by decide) (by decide)
  | true => ld B .alb ![0, 0] ![512, 1] (by decide) (by decide)
def putA (u : Bool) (r : Fin 16) (w : Vec F (Mat 32 1) .f32) : Pr nD τ sig F Λ PUnit :=
  match u with
  | false => put B .ala ![32 * r.val, 0] ![32, 1] (al_inb r) (by decide) (packed32 rfl (by decide) _ _ _) w
  | true => put B .alb ![32 * r.val, 0] ![32, 1] (al_inb r) (by decide) (packed32 rfl (by decide) _ _ _) w

/-- The scores of a tile of queries against a block of transposed keys. -/
def scoresOf (w : Wd) (x : Vec F (Mat 512 128) .bf16) (y : Vec F (Mat 128 w.n) .bf16) : FVec F (Mat 512 w.n) .f32 :=
  matmul (φ₁ := .bf16) (φ₂ := .bf16) (DotDims.plain 512 128 w.n) none x y (constant (Mat 512 w.n) .f32 0x00000000#32)

/-- The scores of tile `n`. -/
def logits (w : Wd) (u : Bool) (n : BitVec 32) (hn : Listed n) : Pr nD τ sig F Λ PUnit := do
  let a ← word B 0 n hn
  let ha ← need (Fits a (tileRow a) (Mat 512 128).size (Mat 8192 128).size) (Fits.dec _ _ _ _)
  let b ← word B 1 n hn
  let hb ← need (Fits b (tileCol b) (Mat 128 w.n).size (Mat 128 8192).size) (Fits.dec _ _ _ _)
  let x ← ld B .q (tileRow a) ![512, 128] ha.down.2 (by decide)
  let y ← ld B .kt (tileCol b) ![128, w.n] hb.down.2 (pos_w 128 (by decide) w)
  putS B u ![0, 0] ![512, w.n] (score_inb w) (pos_w 512 (by decide) w) (scoresOf w (shapeCast (Mat 512 128) x (cast_self _)) y)

/-- The key offsets of a tile, in the unit of the base-2 exponential. -/
def offsOf (log2e : F .f32) (w : Wd) (x : Vec F (Row w.n) .f32) : FVec F (Mat 1 w.n) .f32 :=
  mulf (shapeCast (Mat 1 w.n) x (by cases w <;> rfl)) (broadcast (Mat 1 w.n) log2e)

theorem bc_row (w : Wd) : (Mat 1 w.n).Broadcasts (Mat 32 w.n) := by cases w <;> decide
theorem bc_col (w : Wd) : (Mat 32 1).Broadcasts (Mat 32 w.n) := by cases w <;> decide
theorem red_row (w : Wd) : (Mat 32 w.n).Reduces [1] ⟨1, ![32]⟩ := by cases w <;> decide
theorem iota_row (w : Wd) : (Mat 32 w.n).Iotas .tc 32 [0] := by cases w <;> decide
theorem iota_col (w : Wd) : (Mat 32 w.n).Iotas .tc 32 [1] := by cases w <;> decide

/-- A pass's scores less the key offsets. -/
def plainOf (w : Wd) (s : Vec F (Mat 32 w.n) .f32) (c : FVec F (Mat 1 w.n) .f32) : FVec F (Mat 32 w.n) .f32 :=
  subf s (broadcastTo (Mat 32 w.n) c (bc_row w))
/-- The same with the later keys masked out, on a diagonal tile. -/
def maskedOf (mask : F .f32) (w : Wd) (r : BitVec 32) (s : Vec F (Mat 32 w.n) .f32) (c : FVec F (Mat 1 w.n) .f32) : FVec F (Mat 32 w.n) .f32 :=
  select (cmpi .sle (iota .tc (Mat 32 w.n) 32 [1] (iota_col w)) (addi (iota .tc (Mat 32 w.n) 32 [0] (iota_row w)) (broadcast (Mat 32 w.n) r)))
    (plainOf w s c) (broadcast (Mat 32 w.n) mask)
/-- The greatest entry of each row, shifted by the rows' own gates. -/
def topOf (w : Wd) (s : FVec F (Mat 32 w.n) .f32) (ct : Vec F (Mat 32 1) .f32) : FVec F (Mat 32 1) .f32 :=
  addf (shapeCast (Mat 32 1) (multiReduction .maximumf [1] ⟨1, ![32]⟩ s 0xFF800000#32 (red_row w) (.inl rfl) rfl) rfl) ct
/-- The weights of a pass against the row maxima. -/
def weightsOf (w : Wd) (s : FVec F (Mat 32 w.n) .f32) (top ct : FVec F (Mat 32 1) .f32) : FVec F (Mat 32 w.n) .bf16 :=
  truncf .bf16 (exp2 (subf s (broadcastTo (Mat 32 w.n) (subf top ct) (bc_col w)))) (by decide)

/-- One pass on a diagonal tile. -/
def passM (log2e mask : F .f32) (w : Wd) (u : Bool) (a : BitVec 32) (ha : FitsRows a) (c : FVec F (Mat 1 w.n) .f32) (r : Fin 16) : Pr nD τ sig F Λ PUnit := do
  let s0 ← ldS B u ![32 * r.val, 0] ![32, w.n] (pass_inb w r) (pos_w 32 (by decide) w)
  let s : FVec F (Mat 32 w.n) .f32 := maskedOf mask w (BitVec.ofNat 32 (32 * r.val)) s0 c
  let ct ← ld B .ct (passAt a (BitVec.ofNat 32 (32 * r.val))) ![32, 1] (ha.2 r) (by decide)
  let top : FVec F (Mat 32 1) .f32 := topOf w s ct
  putP B u ![32 * r.val, 0] ![32, w.n] (pass_inb w r) (pos_w 32 (by decide) w) (pass_packed w r) (weightsOf w s top ct)
  put B .mx (passAt a (BitVec.ofNat 32 (32 * r.val))) ![32, 1] (ha.2 r) (by decide) (packed32 rfl (by decide) _ _ _) top

/-- One pass on a tile before the diagonal. -/
def passU (log2e : F .f32) (w : Wd) (u : Bool) (a : BitVec 32) (ha : FitsRows a) (c : FVec F (Mat 1 w.n) .f32) (r : Fin 16) : Pr nD τ sig F Λ PUnit := do
  let s0 ← ldS B u ![32 * r.val, 0] ![32, w.n] (pass_inb w r) (pos_w 32 (by decide) w)
  let s : FVec F (Mat 32 w.n) .f32 := plainOf w s0 c
  let ct ← ld B .ct (passAt a (BitVec.ofNat 32 (32 * r.val))) ![32, 1] (ha.2 r) (by decide)
  let old ← ld B .mx (passAt a (BitVec.ofNat 32 (32 * r.val))) ![32, 1] (ha.2 r) (by decide)
  let top : FVec F (Mat 32 1) .f32 := maximumf old (topOf w s ct)
  putA B u r (exp2 (subf old top))
  putP B u ![32 * r.val, 0] ![32, w.n] (pass_inb w r) (pos_w 32 (by decide) w) (pass_packed w r) (weightsOf w s top ct)
  put B .mx (passAt a (BitVec.ofNat 32 (32 * r.val))) ![32, 1] (ha.2 r) (by decide) (packed32 rfl (by decide) _ _ _) top

/-- The softmax over tile `n`. -/
def softmax (log2e mask : F .f32) (masked : Bool) (w : Wd) (u : Bool) (n : BitVec 32) (hn : Listed n) : Pr nD τ sig F Λ PUnit := do
  let a ← word B 0 n hn
  let ha ← need (FitsRows a) (FitsRows.dec _)
  let b ← word B 1 n hn
  let hb ← need (Fits b (tileC b) (Row w.n).size (Row 8192).size) (Fits.dec _ _ _ _)
  let x ← ld B .crow (tileC b) ![1, 1, w.n] hb.down.2 (by cases w <;> decide)
  let c := offsOf log2e w x
  match masked with
  | true => each (passM B log2e mask w u a ha.down c) passes
  | false => each (passU B log2e w u a ha.down c) passes

/-- The weighted sum of a tile's values (and of the ones beside them). -/
def sumOf (w : Wd) (p : Vec F (Mat 512 w.n) .bf16) (v : Vec F (Mat w.n 256) .bf16) : FVec F (Mat 512 256) .f32 :=
  matmul (φ₁ := .bf16) (φ₂ := .bf16) (DotDims.plain 512 w.n 256) none p v (constant (Mat 512 256) .f32 0x00000000#32)

/-- Add tile `n` to the running sums. -/
def accumulate (masked : Bool) (w : Wd) (u : Bool) (n : BitVec 32) (hn : Listed n) : Pr nD τ sig F Λ PUnit := do
  let a ← word B 0 n hn
  let ha ← need (Fits a (tileRow a) (Mat 512 256).size (Mat 8192 256).size) (Fits.dec _ _ _ _)
  let b ← word B 1 n hn
  let hb ← need (Fits b (tileRow b) (Mat w.n 256).size (Mat 8192 256).size) (Fits.dec _ _ _ _)
  let p ← ldP B u ![0, 0] ![512, w.n] (score_inb w) (pos_w 512 (by decide) w)
  let v ← ld B .va (tileRow b) ![w.n, 256] hb.down.2 (by cases w <;> decide)
  match masked with
  | true => put B .acc (tileRow a) ![512, 256] ha.down.2 (by decide) (packed32 rfl (by decide) _ _ _) (sumOf w p v)
  | false => do
    let al ← ldA B u
    let old ← ld B .acc (tileRow a) ![512, 256] ha.down.2 (by decide)
    put B .acc (tileRow a) ![512, 256] ha.down.2 (by decide) (packed32 rfl (by decide) _ _ _)
      (addf (mulf (broadcastTo (Mat 512 256) al (by decide)) old) (sumOf w p v))

/-- The head's result: the sums over the sum of weights, gated. -/
def finish : Pr nD τ sig F Λ PUnit := do
  let x ← ld B .acc ![0, 0] ![8192, 256] (by decide) (by decide)
  let g ← ld B .gate ![0, 0] ![8192, 128] (by decide) (by decide)
  let _ ← ld B .out ![0, 0] ![8192, 128] (by decide) (by decide)
  st B .out ![0, 0] ![8192, 128] (by decide) (by decide) (by decide)
    (truncf .bf16 (mulf (divf (extractStridedSlice (Mat 8192 128) ![0, 0] x (by decide) : FVec F (Mat 8192 128) .f32) (extractStridedSlice (Mat 8192 128) ![0, 128] x (by decide)))
      (mulf g (divf (broadcast (Mat 8192 128) (Scalar.ofBits .f32 0x3F800000#32 : F .f32))
        (addf (broadcast (Mat 8192 128) (Scalar.ofBits .f32 0x3F800000#32 : F .f32))
          (exp (subf (broadcast (Mat 8192 128) (Scalar.ofBits .f32 0x00000000#32 : F .f32)) g)))))) (by decide) : FVec F (Mat 8192 128) .bf16)

/-! ### The order of the acts -/

/-- One step of the pipelined loop: tile `n` is added up, the next is weighted, the one after is scored. -/
def step (log2e mask : F .f32) (masked : Bool) (w : Wd) (u : Bool) (n n' n'' : BitVec 32) (h : Listed n ∧ Listed n' ∧ Listed n'') : Pr nD τ sig F Λ PUnit := do
  accumulate B masked w u n h.1
  softmax B log2e mask masked w (!u) n' h.2.1
  logits B w u n'' h.2.2

/-- The numbers the four steps of a trip that starts at `n` look up, where `last` is the last tile of its run. -/
def TripOk (n last : BitVec 32) : Prop :=
  ∀ u : Fin 4, Listed (Scalar.addi n (BitVec.ofNat 32 u.val)) ∧ Listed (Scalar.addi (Scalar.addi n (BitVec.ofNat 32 u.val)) 1#32) ∧
    Listed (Scalar.minsi (Scalar.addi (Scalar.addi n (BitVec.ofNat 32 u.val)) 2#32) last)

instance (n last : BitVec 32) : Decidable (TripOk n last) := by unfold TripOk; infer_instance

/-- A trip of the pipelined loop. -/
def trip (log2e mask : F .f32) (masked : Bool) (w : Wd) (n last : BitVec 32) (h : TripOk n last) : Pr nD τ sig F Λ PUnit := do
  step B log2e mask masked w false _ _ _ (h ⟨0, by decide⟩)
  step B log2e mask masked w true _ _ _ (h ⟨1, by decide⟩)
  step B log2e mask masked w false _ _ _ (h ⟨2, by decide⟩)
  step B log2e mask masked w true _ _ _ (h ⟨3, by decide⟩)

/-- The start of a run: its first tile is weighted, its second scored. -/
def opening (log2e mask : F .f32) (masked : Bool) (w : Wd) (n n' : BitVec 32) (h : Listed n ∧ Listed n') : Pr nD τ sig F Λ PUnit := do
  logits B w false n h.1
  softmax B log2e mask masked w false n h.1
  logits B w true n' h.2

/-- The last four tiles of a run. -/
def ending (log2e mask : F .f32) (masked : Bool) (w : Wd) (n0 n1 n2 n3 : BitVec 32) (h : Listed n0 ∧ Listed n1 ∧ Listed n2 ∧ Listed n3) : Pr nD τ sig F Λ PUnit := do
  step B log2e mask masked w false n0 n1 n2 ⟨h.1, h.2.1, h.2.2.1⟩
  step B log2e mask masked w true n1 n2 n3 ⟨h.2.1, h.2.2.1, h.2.2.2⟩
  accumulate B masked w false n2 h.2.2.1
  softmax B log2e mask masked w true n3 h.2.2.2
  accumulate B masked w true n3 h.2.2.2

theorem loop1_ok : Scf.OK 0#32 3#32 1#32 := by decide
theorem loop2_ok : Scf.OK 0#32 13#32 1#32 := by decide

/-- The first tile of trip `t` of a loop whose run starts at `first`. -/
abbrev tripAt (first : BitVec 32) (t : Nat) : BitVec 32 := Scalar.addi first (Scalar.muli 4#32 (Scf.iv 0#32 1#32 t))

theorem trip1_ok : ∀ t : Fin (Scf.trips 0#32 3#32 1#32), TripOk (tripAt 0#32 t.val) 15#32 := by decide +kernel
theorem trip2_ok : ∀ t : Fin (Scf.trips 0#32 13#32 1#32), TripOk (tripAt 16#32 t.val) 71#32 := by decide +kernel
theorem trip3_ok : TripOk 72#32 79#32 := by decide +kernel

/-- What one head runs. -/
def head (log2e mask : F .f32) (i : BitVec 32) : Pr nD τ sig F Λ PUnit := do
  ones B i
  vals B
  each (keys B) passes
  each (gates B log2e) passes
  opening B log2e mask true .one 0#32 (Scalar.minsi 1#32 15#32) (by decide)
  Scf.for 0#32 3#32 1#32 loop1_ok ⟨⟩ fun t _ => trip B log2e mask true .one (tripAt 0#32 t.val) 15#32 (trip1_ok t)
  ending B log2e mask true .one 12#32 13#32 14#32 15#32 (by decide)
  opening B log2e mask false .two 16#32 (Scalar.minsi 17#32 71#32) (by decide)
  Scf.for 0#32 13#32 1#32 loop2_ok ⟨⟩ fun t _ => trip B log2e mask false .two (tripAt 16#32 t.val) 71#32 (trip2_ok t)
  ending B log2e mask false .two 68#32 69#32 70#32 71#32 (by decide)
  opening B log2e mask false .one 72#32 (Scalar.minsi 73#32 79#32) (by decide)
  trip B log2e mask false .one 72#32 79#32 trip3_ok
  ending B log2e mask false .one 76#32 77#32 78#32 79#32 (by decide)
  finish B

end Cert.Proof.Att
-- ==== Proof.Att.Machine.lean ====
/- What a program of acts does to the buffers: a deterministic reading of the acts, each taking the contents of
   the buffers to new contents. -/
module

public import proofs.«01_k».proof.Proof.Att.Acts
public import Idealize.ShloMosaic.Lib.WholeRead
public import Idealize.ShloMosaic.Lib.Pipeline.Frame
public import Idealize.ShloMosaic.Rules.Step
public import Idealize.ShloMosaic.Lib.Scf
public import Idealize.ShloMosaic.Lib.Pointwise

@[expose] public section

set_option maxRecDepth 16384

noncomputable section

namespace Cert.Proof.Att

open Idealize.ShloMosaic Idealize.ShloMosaic.TcCoe
open Idealize.SL Idealize.SL.RA Idealize.SL.Sem Idealize.SL.ProofMode
open Idealize.SL.BI (sProp bigSep bigSep_univ_split bigSep_erase bigSep_congr)
open scoped Idealize.SL.BI
open Idealize.SL.BI.BIBase Idealize.SL.BI.Laws

/-- Contents with one block replaced. -/
def overlay {α : Type} {s : Shape} (r : Rect s) (X : s.Idx → α) (w : r.shape.Idx → α) : s.Idx → α :=
  fun i => open Classical in if h : ∃ x, r.emb x = i then w h.choose else X i

theorem overlay_emb {α : Type} {s : Shape} (r : Rect s) (X : s.Idx → α) (w : r.shape.Idx → α) (x : r.shape.Idx) :
    overlay r X w (r.emb x) = w x := by
  unfold overlay
  rw [dif_pos ⟨x, rfl⟩]
  exact congrArg w (r.emb.injective (Exists.choose_spec (⟨x, rfl⟩ : ∃ y, r.emb y = r.emb x)))

theorem overlay_off {α : Type} {s : Shape} (r : Rect s) (X : s.Idx → α) (w : r.shape.Idx → α) {i : s.Idx} (h : ∀ x, r.emb x ≠ i) :
    overlay r X w i = X i := by
  unfold overlay
  rw [dif_neg fun ⟨x, hx⟩ => h x hx]

/-- The contents of the buffers. -/
abbrev Mem (F : FTy → Type) : Type := (a : Arg) → Vec F a.sh a.el

/-- The contents with one buffer's replaced. -/
def Mem.set {F : FTy → Type} (s : Mem F) (a : Arg) (X : Vec F a.sh a.el) : Mem F := Function.update s a X

theorem Mem.set_same {F : FTy → Type} (s : Mem F) (a : Arg) (X : Vec F a.sh a.el) : s.set a X a = X := Function.update_self ..
theorem Mem.set_other {F : FTy → Type} (s : Mem F) {a b : Arg} (h : b ≠ a) (X : Vec F a.sh a.el) : s.set a X b = s b := Function.update_of_ne h ..

variable {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable (B : Bufs sig) (d : Dev nD) (T : Vec F (Mat 2 80) .i32) (q : PosShare TreeShare)

/-- One buffer at its contents. -/
def cell (s : Mem F) (a : Arg) : sProp 𝕄 := (((B.ref a).view.loc (d : Thread nD τ)) ↦{fullShare} (B.whole a).unread (s a))

/-- All buffers at their contents, and the table. -/
def Held (s : Mem F) : sProp 𝕄 :=
  iprop((∃ f : Buf (Elt F) (B.tab.view.loc (d : Thread nD τ)), ⌜B.tab.view.read (Elt F) f = T⌝ ∗ ((B.tab.view.loc (d : Thread nD τ)) ↦{q} f)) ∗ bigSep Finset.univ (cell B d s))

variable {defs : Defs nD τ sig (Elt F) Λ} (𝒱 : Variants) (bd : Option 𝒱.V) {Γ : PendingWaitsCtx sig Ix} (E : Set Name)

local notation "WP" => wp (M := 𝕄) frame (wpE' defs 𝒱 (d : Thread nD τ) bd Γ) E

/-- The program takes the contents `s` to `s'` and returns `x`. -/
def Does {α : Type} (p : Pr nD τ sig F Λ α) (s : Mem F) (x : α) (s' : Mem F) : Prop :=
  ∀ (k : α → Pr nD τ sig F Λ PUnit) (Q : PUnit → sProp 𝕄),
    (Held B d T q s : sProp 𝕄) ⊢ iprop(((Held B d T q s' : sProp 𝕄) -∗ WP (k x) Q) -∗ WP (p >>= k) Q)

local notation "DOES" => Does (Ix := Ix) (Name := Name) (U := U) (Lvl := Lvl) B d T q (defs := defs) 𝒱 bd (Γ := Γ) E

theorem Does.pure {α : Type} (x : α) (s : Mem F) : DOES (Pure.pure x) s x s := fun k Q => by
  show _ ⊢ iprop((_ -∗ WP (k x) Q) -∗ WP (k x) Q)
  iintro H HK
  iapply HK
  iexact H

theorem Does.bind {α β : Type} {p : Pr nD τ sig F Λ α} {k : α → Pr nD τ sig F Λ β} {s s' s'' : Mem F} {x : α} {y : β}
    (h : DOES p s x s') (h' : DOES (k x) s' y s'') : DOES (p >>= k) s y s'' := fun k' Q => by
  rw [bind_assoc]
  iintro H HK
  iapply (h (fun x => k x >>= k') Q) $$ H
  iintro H
  iapply (h' k' Q) $$ H
  iexact HK

/-- Run the whole program. -/
theorem Does.run {p : Pr nD τ sig F Λ PUnit} {s s' : Mem F} (h : DOES p s ⟨⟩ s') :
    (Held B d T q s : sProp 𝕄) ⊢ WP p (fun _ => Held B d T q s') := by
  have := h (fun x => Pure.pure x) (fun _ => Held B d T q s')
  rw [bind_pure] at this
  have hr : (Held B d T q s' : sProp 𝕄) ⊢ WP (Pure.pure PUnit.unit : Pr nD τ sig F Λ PUnit) (fun _ => Held B d T q s') :=
    Idealize.SL.BI.fupd_intro
  iintro H
  iapply this $$ H
  iintro H
  iapply hr
  iexact H

theorem held_open (s : Mem F) (a : Arg) :
    (bigSep Finset.univ (cell B d s) : sProp 𝕄) = iprop(cell B d s a ∗ bigSep (Finset.univ.erase a) (cell B d s)) :=
  bigSep_univ_split a

theorem rest_set (s : Mem F) (a : Arg) (X : Vec F a.sh a.el) :
    (bigSep (Finset.univ.erase a) (cell B d (s.set a X)) : sProp 𝕄) = bigSep (Finset.univ.erase a) (cell B d s) :=
  bigSep_congr fun b hb => by unfold cell; rw [s.set_other (Finset.ne_of_mem_erase hb)]

/-- The block of a buffer that a rectangle names. -/
abbrev block (s : Mem F) (a : Arg) (off size : Fin a.sh.rank → Nat) (inb : ∀ x, off x + size x ≤ a.sh.size x) : Vec F ⟨a.sh.rank, size⟩ a.el :=
  fun x => s a ((blk off size inb).emb x)

theorem Does.ld (a : Arg) (off size : Fin a.sh.rank → Nat) (inb) (h) (s : Mem F) :
    DOES (Att.ld B a off size inb h) s (block s a off size inb) s := fun k Q => by
  have e : ((B.ref a).access (blk off size inb)).read (Elt F) ((B.whole a).unread (s a)) = block s a off size inb :=
    funext fun x => (B.whole a).readAt_unread (s a) (blk off size inb).toLoadRect x
  have hw : (cell B d s a : sProp 𝕄) ⊢ iprop(((cell B d s a : sProp 𝕄) -∗ WP (k (block s a off size inb)) Q)
      -∗ WP (.op (.load (B.ref a) (blk off size inb).toLoadRect (View.loadsAt_vmem h)) k) Q) := by
    rw [← e]
    exact wp_load_rect (Ix := Ix) (Name := Name) (U := U) (Lvl := Lvl) (defs := defs) 𝒱 (d : Thread nD τ) bd (Γ := Γ) E (m := B.ref a) (r := blk off size inb)
      (hl := View.loadsAt_vmem h) (k := k) (Q := Q) (S := Finset.univ) (q := fullShare) (f := (B.whole a).unread (s a)) (Finset.subset_univ _)
  show _ ⊢ iprop(_ -∗ WP (.op (.load (B.ref a) (blk off size inb).toLoadRect (View.loadsAt_vmem h)) k) Q)
  unfold Held
  rw [held_open B d s a]
  iintro ⟨HT, Ha, HR⟩ HK
  iapply hw $$ Ha
  iintro Ha
  iapply HK
  isplitl [HT]
  · iexact HT
  isplitl [Ha]
  · iexact Ha
  iexact HR

theorem Does.st (a : Arg) (off size : Fin a.sh.rank → Nat) (inb) (h) (hp) (w : Vec F ⟨a.sh.rank, size⟩ a.el) (s : Mem F) :
    DOES (Att.st B a off size inb h hp w) s ⟨⟩ (s.set a (overlay (blk off size inb) (s a) w)) := fun k Q => by
  have e : ((B.ref a).access (blk off size inb)).write (Elt F) ((B.whole a).unread (s a)) w Finset.univ
      = (B.whole a).unread (overlay (blk off size inb) (s a) w) := (B.whole a).eq_unread <| funext fun i => by
    by_cases hi : ∃ x, (blk off size inb).emb x = i
    · obtain ⟨x, rfl⟩ := hi
      rw [overlay_emb]
      exact View.read_slice_write_emb (Val := Elt F) (v := (B.ref a).view) _ _ _ (Finset.mem_univ x)
    · rw [overlay_off _ _ _ fun x hx => hi ⟨x, hx⟩]
      refine (View.read_slice_write_of_not_mem (Val := Elt F) (v := (B.ref a).view) _ _ _ _ ?_).trans (congrFun ((B.whole a).read_unread (s a)) i)
      intro hm
      obtain ⟨x, -, hx⟩ := Finset.mem_map.mp hm
      exact hi ⟨x, hx⟩
  have hw : (cell B d s a : sProp 𝕄) ⊢ iprop(((cell B d (s.set a (overlay (blk off size inb) (s a) w)) a : sProp 𝕄) -∗ WP (k ⟨⟩) Q)
      -∗ WP (.op (.store (B.ref a) (blk off size inb) w Finset.univ
          (View.stores_vmem h ((B.whole a).storeExact_slice rfl _ hp) (fun _ => rfl)) (.inl rfl)) k) Q) := by
    unfold cell
    rw [Mem.set_same, ← e]
    exact wp_store (Ix := Ix) (Name := Name) (U := U) (Lvl := Lvl) (defs := defs) 𝒱 (d : Thread nD τ) bd (Γ := Γ) E (m := B.ref a) (r := blk off size inb) (w := w) (Mk := Finset.univ)
      (hx := View.stores_vmem h ((B.whole a).storeExact_slice rfl _ hp) (fun _ => rfl)) (hm := .inl rfl)
      (k := k) (Q := Q) (S := Finset.univ) (f := (B.whole a).unread (s a)) (Finset.subset_univ _)
  show _ ⊢ iprop(_ -∗ WP (.op (.store (B.ref a) (blk off size inb) w Finset.univ _ _) k) Q)
  unfold Held
  rw [held_open B d s a, held_open B d (s.set a _) a, rest_set]
  iintro ⟨HT, Ha, HR⟩ HK
  iapply hw $$ Ha
  iintro Ha
  iapply HK
  isplitl [HT]
  · iexact HT
  isplitl [Ha]
  · iexact Ha
  iexact HR

theorem Does.need (p : Prop) (dec : Decidable p) (h : p) (s : Mem F) : DOES (Att.need p dec) s ⟨h⟩ s := fun k Q => by
  have hw := wp_assume (Ix := Ix) (Name := Name) (U := U) (Lvl := Lvl) (defs := defs) 𝒱 (d : Thread nD τ) bd (Γ := Γ) E (d := dec) (k := k) (Q := Q) h
  show _ ⊢ iprop(_ -∗ WP (.op (.assume p dec) k) Q)
  iintro H HK
  iapply hw
  iapply HK
  iexact H

theorem Does.word (j : Fin 2) (n : BitVec 32) (h : Listed n) (s : Mem F) :
    DOES (Att.word B j n h) s (T (ix2 j ⟨n.toNat, h⟩)) s := fun k Q => by
  unfold Held
  iintro ⟨⟨%f, %hf, Hf⟩, HR⟩ HK
  have hw' : (((B.tab.view.loc (d : Thread nD τ)) ↦{q} f) : sProp 𝕄) ⊢ iprop(((((B.tab.view.loc (d : Thread nD τ)) ↦{q} f) : sProp 𝕄) -∗ WP (k (T (ix2 j ⟨n.toNat, h⟩))) Q)
      -∗ WP (Att.word B j n h >>= k) Q) := by
    have e : B.tab.view.read (Elt F) f (ix2 j ⟨n.toNat, h⟩) = T (ix2 j ⟨n.toNat, h⟩) := congrFun hf _
    have e' : (Rect.unit (s := Mat 2 80) ![j.val, (Scalar.indexCast n).toNat] (Mat 1 1).size (listed_inb j h)).idx
        (Shape.Idx.first (s := Mat 1 1) (by decide)) = ix2 j ⟨n.toNat, h⟩ := funext fun a =>
      match a with
      | 0 => Fin.ext (by show j.val + 1 * 0 = j.val; omega)
      | 1 => Fin.ext (by show n.toNat + 1 * 0 = n.toNat; omega)
    rw [← e, ← e']
    exact wp_load_rect (Ix := Ix) (Name := Name) (U := U) (Lvl := Lvl) (defs := defs) 𝒱 (d : Thread nD τ) bd (Γ := Γ) E (m := B.tab)
      (r := Rect.unit (s := Mat 2 80) ![j.val, (Scalar.indexCast n).toNat] (Mat 1 1).size (listed_inb j h))
      (k := fun f => k (f (Shape.Idx.first (s := Mat 1 1) (by decide)))) (Q := Q) (S := Finset.univ) (q := q) (f := f) (Finset.subset_univ _)
  iapply hw' $$ Hf
  iintro Hf
  iapply HK
  isplitl [Hf]
  · iexists f
    isplitr [Hf]
    · ipureintro
      exact hf
    iexact Hf
  iexact HR

end Cert.Proof.Att
-- ==== Proof.Att.ActRuns.lean ====
/- What each act does to the buffers. -/
module

public import proofs.«01_k».proof.Proof.Att.Machine

@[expose] public section

set_option maxRecDepth 16384

noncomputable section

namespace Cert.Proof.Att

open Idealize.ShloMosaic Idealize.ShloMosaic.TcCoe
open Idealize.SL Idealize.SL.RA Idealize.SL.Sem Idealize.SL.ProofMode
open Idealize.SL.BI (sProp)

variable {F : FTy → Type} [FloatOps F]

/-! ### The contents after an act -/

/-- A block written. -/
def Mem.put (s : Mem F) (a : Arg) (off size : Fin a.sh.rank → Nat) (inb : ∀ x, off x + size x ≤ a.sh.size x) (w : Vec F ⟨a.sh.rank, size⟩ a.el) : Mem F :=
  s.set a (overlay (blk off size inb) (s a) w)

def onesM (i : BitVec 32) (s : Mem F) : Mem F :=
  if Scalar.cmpi .ne (Scalar.extui (Scalar.cmpi .eq i 0#32) : BitVec 32) 0#32 = 1#1 then
    s.put .va ![0, 128] ![8192, 128] (by decide) (broadcast _ (Scalar.ofBits .bf16 0x3F80#16 : F .bf16))
  else s

def valsM (s : Mem F) : Mem F := s.put .va ![0, 0] ![8192, 128] (by decide) (block s .v ![0, 0] ![8192, 128] (by decide))

/-- A block of keys, transposed. -/
def keysOf (x : Vec F (Mat 512 128) .bf16) : Vec F (Mat 128 512) .bf16 :=
  truncf .bf16 (transpose (Mat 128 512) [1, 0] (extf .f32 (x : FVec F (Mat 512 128) .bf16) (by decide)) (by decide)) (by decide)

def keysM (r : Fin 16) (s : Mem F) : Mem F :=
  s.put .kt ![0, 512 * r.val] ![128, 512] (cols512_inb r) (keysOf (block s .k ![512 * r.val, 0] ![512, 128] (rows512_inb r)))

/-- A block of cumulated gates, as a column. -/
def gatesOf (log2e : F .f32) (x : Vec F (Row 512) .f32) : Vec F (Mat 512 1) .f32 :=
  let y : FVec F (Mat 1 512) .f32 := mulf (shapeCast (Mat 1 512) x rfl) (broadcast (Mat 1 512) log2e)
  let z : FVec F (Mat 8 512) .f32 := broadcastTo (Mat 8 512) (shapeCast (Mat 1 512) y (cast_self _)) (by decide)
  extractStridedSlice (Mat 512 1) ![0, 0] (transpose (Mat 512 8) [1, 0] z (by decide)) (by decide)

def gatesM (log2e : F .f32) (r : Fin 16) (s : Mem F) : Mem F :=
  s.put .ct ![512 * r.val, 0] ![512, 1] (ct512_inb r) (gatesOf log2e (block s .crow ![0, 0, 512 * r.val] ![1, 1, 512] (crow512_inb r)))

/-- One change for every listed number. -/
def eachM {n : Nat} (f : Fin n → Mem F → Mem F) (l : List (Fin n)) (s : Mem F) : Mem F := l.foldl (fun s r => f r s) s

/-- What a tile's two words have to satisfy. -/
def WordOk (w : Wd) (a b : BitVec 32) : Prop :=
  Fits a (tileRow a) (Mat 512 128).size (Mat 8192 128).size ∧ Fits b (tileCol b) (Mat 128 w.n).size (Mat 128 8192).size ∧
  FitsRows a ∧ Fits b (tileC b) (Row w.n).size (Row 8192).size ∧
  Fits a (tileRow a) (Mat 512 256).size (Mat 8192 256).size ∧ Fits b (tileRow b) (Mat w.n 256).size (Mat 8192 256).size

instance (w : Wd) (a b : BitVec 32) : Decidable (WordOk w a b) := by unfold WordOk; infer_instance

/-- The scores' buffer with a block at its corner replaced. -/
def putSM (u : Bool) (off size : Fin 2 → Nat) (inb : ∀ x, off x + size x ≤ (Mat 512 1024).size x) (w : Vec F ⟨2, size⟩ .f32) (s : Mem F) : Mem F :=
  match u with
  | false => s.put .sa off size inb w
  | true => s.put .sb off size inb w
def getS (u : Bool) (s : Mem F) : Vec F (Mat 512 1024) .f32 :=
  match u with
  | false => s .sa
  | true => s .sb
def putPM (u : Bool) (off size : Fin 2 → Nat) (inb : ∀ x, off x + size x ≤ (Mat 512 1024).size x) (w : Vec F ⟨2, size⟩ .bf16) (s : Mem F) : Mem F :=
  match u with
  | false => s.put .pa off size inb w
  | true => s.put .pb off size inb w
def getP (u : Bool) (s : Mem F) : Vec F (Mat 512 1024) .bf16 :=
  match u with
  | false => s .pa
  | true => s .pb
def putAM (u : Bool) (r : Fin 16) (w : Vec F (Mat 32 1) .f32) (s : Mem F) : Mem F :=
  match u with
  | false => s.put .ala ![32 * r.val, 0] ![32, 1] (al_inb r) w
  | true => s.put .alb ![32 * r.val, 0] ![32, 1] (al_inb r) w
def getA (u : Bool) (s : Mem F) : Vec F (Mat 512 1) .f32 :=
  match u with
  | false => s .ala
  | true => s .alb

variable (T : Vec F (Mat 2 80) .i32)

/-- The query word of a listed tile. -/
abbrev rowWord (n : BitVec 32) (hn : Listed n) : BitVec 32 := T (ix2 (0 : Fin 2) ⟨n.toNat, hn⟩)
/-- Its key word. -/
abbrev colWord (n : BitVec 32) (hn : Listed n) : BitVec 32 := T (ix2 (1 : Fin 2) ⟨n.toNat, hn⟩)

def logitsM (w : Wd) (u : Bool) (a b : BitVec 32) (h : WordOk w a b) (s : Mem F) : Mem F :=
  putSM u ![0, 0] ![512, w.n] (score_inb w)
    (scoresOf w (block s .q (tileRow a) ![512, 128] h.1.2) (block s .kt (tileCol b) ![128, w.n] h.2.1.2)) s

def passMM (mask : F .f32) (w : Wd) (u : Bool) (a : BitVec 32) (ha : FitsRows a) (c : FVec F (Mat 1 w.n) .f32) (r : Fin 16) (s : Mem F) : Mem F :=
  let x : FVec F (Mat 32 w.n) .f32 := maskedOf mask w (BitVec.ofNat 32 (32 * r.val)) (fun x => getS u s ((blk (s := Mat 512 1024) ![32 * r.val, 0] ![32, w.n] (pass_inb w r)).emb x)) c
  let ct : FVec F (Mat 32 1) .f32 := block s .ct (passAt a (BitVec.ofNat 32 (32 * r.val))) ![32, 1] (ha.2 r)
  let top := topOf w x ct
  (putPM u ![32 * r.val, 0] ![32, w.n] (pass_inb w r) (weightsOf w x top ct) s).put .mx (passAt a (BitVec.ofNat 32 (32 * r.val))) ![32, 1] (ha.2 r) top

def passUM (w : Wd) (u : Bool) (a : BitVec 32) (ha : FitsRows a) (c : FVec F (Mat 1 w.n) .f32) (r : Fin 16) (s : Mem F) : Mem F :=
  let x : FVec F (Mat 32 w.n) .f32 := plainOf w (fun x => getS u s ((blk (s := Mat 512 1024) ![32 * r.val, 0] ![32, w.n] (pass_inb w r)).emb x)) c
  let ct : FVec F (Mat 32 1) .f32 := block s .ct (passAt a (BitVec.ofNat 32 (32 * r.val))) ![32, 1] (ha.2 r)
  let old : FVec F (Mat 32 1) .f32 := block s .mx (passAt a (BitVec.ofNat 32 (32 * r.val))) ![32, 1] (ha.2 r)
  let top := maximumf old (topOf w x ct)
  (putPM u ![32 * r.val, 0] ![32, w.n] (pass_inb w r) (weightsOf w x top ct) (putAM u r (exp2 (subf old top)) s)).put .mx
    (passAt a (BitVec.ofNat 32 (32 * r.val))) ![32, 1] (ha.2 r) top

def softmaxM (log2e mask : F .f32) (masked : Bool) (w : Wd) (u : Bool) (a b : BitVec 32) (h : WordOk w a b) (s : Mem F) : Mem F :=
  let c := offsOf log2e w (block s .crow (tileC b) ![1, 1, w.n] h.2.2.2.1.2)
  match masked with
  | true => eachM (passMM mask w u a h.2.2.1 c) passes s
  | false => eachM (passUM w u a h.2.2.1 c) passes s

def accumulateM (masked : Bool) (w : Wd) (u : Bool) (a b : BitVec 32) (h : WordOk w a b) (s : Mem F) : Mem F :=
  let x := sumOf w (fun x => getP u s ((blk (s := Mat 512 1024) ![0, 0] ![512, w.n] (score_inb w)).emb x)) (block s .va (tileRow b) ![w.n, 256] h.2.2.2.2.2.2)
  s.put .acc (tileRow a) ![512, 256] h.2.2.2.2.1.2
    (match masked with
    | true => x
    | false => addf (mulf (broadcastTo (Mat 512 256) (getA u s) (by decide)) (block s .acc (tileRow a) ![512, 256] h.2.2.2.2.1.2)) x)

/-- The head's result from its sums and its gates. -/
def finishOf (x : Vec F (Mat 8192 256) .f32) (g : Vec F (Mat 8192 128) .f32) : FVec F (Mat 8192 128) .bf16 :=
  truncf .bf16 (mulf (divf (extractStridedSlice (Mat 8192 128) ![0, 0] x (by decide) : FVec F (Mat 8192 128) .f32) (extractStridedSlice (Mat 8192 128) ![0, 128] x (by decide)))
    (mulf g (divf (broadcast (Mat 8192 128) (Scalar.ofBits .f32 0x3F800000#32 : F .f32))
      (addf (broadcast (Mat 8192 128) (Scalar.ofBits .f32 0x3F800000#32 : F .f32))
        (exp (subf (broadcast (Mat 8192 128) (Scalar.ofBits .f32 0x00000000#32 : F .f32)) g)))))) (by decide)

def finishM (s : Mem F) : Mem F :=
  s.put .out ![0, 0] ![8192, 128] (by decide)
    (finishOf (block s .acc ![0, 0] ![8192, 256] (by decide)) (block s .gate ![0, 0] ![8192, 128] (by decide)))

/-! ### The acts do it -/

variable {nD : Nat} {τ : Topo} {sig : RefSig} {Λ : Labels}
variable {Ix : Type} [DecidableEq Ix] {Name : Type} [DecidableEq Name] {U : Type} [URA U] {Lvl : Type} [Preorder Lvl]
variable (B : Bufs sig) (d : Dev nD) (q : PosShare TreeShare)
variable {defs : Defs nD τ sig (Elt F) Λ} (𝒱 : Variants) (bd : Option 𝒱.V) {Γ : PendingWaitsCtx sig Ix} (E : Set Name)

local notation "DOES" => Does (Ix := Ix) (Name := Name) (U := U) (Lvl := Lvl) B d T q (defs := defs) 𝒱 bd (Γ := Γ) E

theorem Does.put (a : Arg) (off size : Fin a.sh.rank → Nat) (inb) (h) (hp) (w : Vec F ⟨a.sh.rank, size⟩ a.el) (s : Mem F) :
    DOES (Att.put B a off size inb h hp w) s ⟨⟩ (s.put a off size inb w) := by
  refine (Does.ld B d T q 𝒱 bd E a off size inb h s).bind B d T q 𝒱 bd E ?_
  rw [shapeCast_self]
  exact Does.st B d T q 𝒱 bd E a off size inb h hp w s

theorem Does.each {n : Nat} {f : Fin n → Pr nD τ sig F Λ PUnit} {g : Fin n → Mem F → Mem F} (h : ∀ r s, DOES (f r) s ⟨⟩ (g r s)) :
    ∀ (l : List (Fin n)) (s : Mem F), DOES (Att.each f l) s ⟨⟩ (eachM g l s)
  | [], s => Does.pure B d T q 𝒱 bd E _ s
  | r :: rs, s => (h r s).bind B d T q 𝒱 bd E (Does.each h rs (g r s))

theorem Does.ones (i : BitVec 32) (s : Mem F) : DOES (Att.ones B i) s ⟨⟩ (onesM i s) := by
  unfold Att.ones onesM
  split
  · exact (Does.put T B d q 𝒱 bd E _ _ _ _ _ _ _ s).bind B d T q 𝒱 bd E (Does.pure B d T q 𝒱 bd E _ _)
  · exact Does.pure B d T q 𝒱 bd E _ _

theorem Does.vals (s : Mem F) : DOES (Att.vals B) s ⟨⟩ (valsM s) := by
  refine (Does.ld B d T q 𝒱 bd E .v _ _ _ _ s).bind B d T q 𝒱 bd E ?_
  rw [shapeCast_self]
  exact Does.put T B d q 𝒱 bd E _ _ _ _ _ _ _ s

theorem Does.keys (r : Fin 16) (s : Mem F) : DOES (Att.keys B r) s ⟨⟩ (keysM r s) := by
  refine (Does.ld B d T q 𝒱 bd E .k _ _ _ _ s).bind B d T q 𝒱 bd E ?_
  dsimp only
  rw [shapeCast_self]
  exact Does.put T B d q 𝒱 bd E _ _ _ _ _ _ _ s

theorem Does.gates (log2e : F .f32) (r : Fin 16) (s : Mem F) : DOES (Att.gates B log2e r) s ⟨⟩ (gatesM log2e r s) :=
  (Does.ld B d T q 𝒱 bd E .crow _ _ _ _ s).bind B d T q 𝒱 bd E (Does.put T B d q 𝒱 bd E _ _ _ _ _ _ _ s)

theorem Does.ldS (u : Bool) (off size : Fin 2 → Nat) (inb) (h) (s : Mem F) :
    DOES (Att.ldS B u off size inb h) s (fun x => getS u s ((blk (s := Mat 512 1024) off size inb).emb x)) s := by
  cases u
  · exact Does.ld B d T q 𝒱 bd E .sa _ _ _ h s
  · exact Does.ld B d T q 𝒱 bd E .sb _ _ _ h s
theorem Does.putS (u : Bool) (off size : Fin 2 → Nat) (inb) (h) (w : Vec F ⟨2, size⟩ .f32) (s : Mem F) :
    DOES (Att.putS B u off size inb h w) s ⟨⟩ (putSM u off size inb w s) := by
  cases u
  · exact Does.put T B d q 𝒱 bd E .sa _ _ _ _ _ _ s
  · exact Does.put T B d q 𝒱 bd E .sb _ _ _ _ _ _ s
theorem Does.ldP (u : Bool) (off size : Fin 2 → Nat) (inb) (h) (s : Mem F) :
    DOES (Att.ldP B u off size inb h) s (fun x => getP u s ((blk (s := Mat 512 1024) off size inb).emb x)) s := by
  cases u
  · exact Does.ld B d T q 𝒱 bd E .pa _ _ _ h s
  · exact Does.ld B d T q 𝒱 bd E .pb _ _ _ h s
theorem Does.putP (u : Bool) (off size : Fin 2 → Nat) (inb) (h) (hp) (w : Vec F ⟨2, size⟩ .bf16) (s : Mem F) :
    DOES (Att.putP B u off size inb h hp w) s ⟨⟩ (putPM u off size inb w s) := by
  cases u
  · exact Does.put T B d q 𝒱 bd E .pa _ _ _ _ _ _ s
  · exact Does.put T B d q 𝒱 bd E .pb _ _ _ _ _ _ s

/-- A whole block is the buffer. -/
theorem block_whole {α : Type} {n m : Nat} (X : (Mat n m).Idx → α) (inb) : (fun x => X ((blk (s := Mat n m) ![0, 0] ![n, m] inb).emb x)) = X :=
  funext fun x => congrArg X (funext fun a => Fin.ext (by
    match a with
    | 0 => show 0 + 1 * (x 0).val = (x 0).val; omega
    | 1 => show 0 + 1 * (x 1).val = (x 1).val; omega))

theorem Does.ldA (u : Bool) (s : Mem F) : DOES (Att.ldA B u) s (getA u s) s := by
  cases u
  · have := Does.ld B d T q 𝒱 bd E .ala ![0, 0] ![512, 1] (by decide) (by decide) s (Γ := Γ) (Ix := Ix) (U := U) (Lvl := Lvl) (defs := defs)
    rw [show block s .ala ![0, 0] ![512, 1] (by decide) = s .ala from block_whole _ _] at this
    exact this
  · have := Does.ld B d T q 𝒱 bd E .alb ![0, 0] ![512, 1] (by decide) (by decide) s (Γ := Γ) (Ix := Ix) (U := U) (Lvl := Lvl) (defs := defs)
    rw [show block s .alb ![0, 0] ![512, 1] (by decide) = s .alb from block_whole _ _] at this
    exact this
theorem Does.putA (u : Bool) (r : Fin 16) (w : Vec F (Mat 32 1) .f32) (s : Mem F) :
    DOES (Att.putA B u r w) s ⟨⟩ (putAM u r w s) := by
  cases u
  · exact Does.put T B d q 𝒱 bd E .ala _ _ _ _ _ _ s
  · exact Does.put T B d q 𝒱 bd E .alb _ _ _ _ _ _ s

theorem Does.logits (w : Wd) (u : Bool) (n : BitVec 32) (hn : Listed n) (h : WordOk w (rowWord T n hn) (colWord T n hn)) (s : Mem F) :
    DOES (Att.logits B w u n hn) s ⟨⟩ (logitsM w u _ _ h s) := by
  refine (Does.word B d T q 𝒱 bd E 0 n hn s).bind B d T q 𝒱 bd E ?_
  refine (Does.need B d T q 𝒱 bd E _ _ h.1 s).bind B d T q 𝒱 bd E ?_
  refine (Does.word B d T q 𝒱 bd E 1 n hn s).bind B d T q 𝒱 bd E ?_
  refine (Does.need B d T q 𝒱 bd E _ _ h.2.1 s).bind B d T q 𝒱 bd E ?_
  refine (Does.ld B d T q 𝒱 bd E .q _ _ _ _ s).bind B d T q 𝒱 bd E ?_
  refine (Does.ld B d T q 𝒱 bd E .kt _ _ _ _ s).bind B d T q 𝒱 bd E ?_
  rw [shapeCast_self]
  exact Does.putS T B d q 𝒱 bd E u _ _ _ _ _ s

theorem Does.passM (log2e mask : F .f32) (w : Wd) (u : Bool) (a : BitVec 32) (ha : FitsRows a) (c : FVec F (Mat 1 w.n) .f32) (r : Fin 16) (s : Mem F) :
    DOES (Att.passM B log2e mask w u a ha c r) s ⟨⟩ (passMM mask w u a ha c r s) := by
  refine (Does.ldS T B d q 𝒱 bd E u _ _ _ _ s).bind B d T q 𝒱 bd E ?_
  refine (Does.ld B d T q 𝒱 bd E .ct _ _ _ _ s).bind B d T q 𝒱 bd E ?_
  refine (Does.putP T B d q 𝒱 bd E u _ _ _ _ _ _ s).bind B d T q 𝒱 bd E ?_
  exact Does.put T B d q 𝒱 bd E .mx _ _ _ _ _ _ _

theorem Does.passU (log2e : F .f32) (w : Wd) (u : Bool) (a : BitVec 32) (ha : FitsRows a) (c : FVec F (Mat 1 w.n) .f32) (r : Fin 16) (s : Mem F) :
    DOES (Att.passU B log2e w u a ha c r) s ⟨⟩ (passUM w u a ha c r s) := by
  refine (Does.ldS T B d q 𝒱 bd E u _ _ _ _ s).bind B d T q 𝒱 bd E ?_
  refine (Does.ld B d T q 𝒱 bd E .ct _ _ _ _ s).bind B d T q 𝒱 bd E ?_
  refine (Does.ld B d T q 𝒱 bd E .mx _ _ _ _ s).bind B d T q 𝒱 bd E ?_
  refine (Does.putA T B d q 𝒱 bd E u _ _ s).bind B d T q 𝒱 bd E ?_
  refine (Does.putP T B d q 𝒱 bd E u _ _ _ _ _ _ _).bind B d T q 𝒱 bd E ?_
  exact Does.put T B d q 𝒱 bd E .mx _ _ _ _ _ _ _

theorem Does.softmax (log2e mask : F .f32) (masked : Bool) (w : Wd) (u : Bool) (n : BitVec 32) (hn : Listed n)
    (h : WordOk w (rowWord T n hn) (colWord T n hn)) (s : Mem F) :
    DOES (Att.softmax B log2e mask masked w u n hn) s ⟨⟩ (softmaxM log2e mask masked w u _ _ h s) := by
  refine (Does.word B d T q 𝒱 bd E 0 n hn s).bind B d T q 𝒱 bd E ?_
  refine (Does.need B d T q 𝒱 bd E _ _ h.2.2.1 s).bind B d T q 𝒱 bd E ?_
  refine (Does.word B d T q 𝒱 bd E 1 n hn s).bind B d T q 𝒱 bd E ?_
  refine (Does.need B d T q 𝒱 bd E _ _ h.2.2.2.1 s).bind B d T q 𝒱 bd E ?_
  refine (Does.ld B d T q 𝒱 bd E .crow _ _ _ _ s).bind B d T q 𝒱 bd E ?_
  cases masked
  · exact Does.each T B d q 𝒱 bd E (fun r s => Does.passU T B d q 𝒱 bd E log2e w u _ _ _ r s) _ s
  · exact Does.each T B d q 𝒱 bd E (fun r s => Does.passM T B d q 𝒱 bd E log2e mask w u _ _ _ r s) _ s

theorem Does.accumulate (masked : Bool) (w : Wd) (u : Bool) (n : BitVec 32) (hn : Listed n)
    (h : WordOk w (rowWord T n hn) (colWord T n hn)) (s : Mem F) :
    DOES (Att.accumulate B masked w u n hn) s ⟨⟩ (accumulateM masked w u _ _ h s) := by
  refine (Does.word B d T q 𝒱 bd E 0 n hn s).bind B d T q 𝒱 bd E ?_
  refine (Does.need B d T q 𝒱 bd E _ _ h.2.2.2.2.1 s).bind B d T q 𝒱 bd E ?_
  refine (Does.word B d T q 𝒱 bd E 1 n hn s).bind B d T q 𝒱 bd E ?_
  refine (Does.need B d T q 𝒱 bd E _ _ h.2.2.2.2.2 s).bind B d T q 𝒱 bd E ?_
  refine (Does.ldP T B d q 𝒱 bd E u _ _ _ _ s).bind B d T q 𝒱 bd E ?_
  refine (Does.ld B d T q 𝒱 bd E .va _ _ _ _ s).bind B d T q 𝒱 bd E ?_
  cases masked
  · refine (Does.ldA T B d q 𝒱 bd E u s).bind B d T q 𝒱 bd E ?_
    refine (Does.ld B d T q 𝒱 bd E .acc _ _ _ _ s).bind B d T q 𝒱 bd E ?_
    exact Does.put T B d q 𝒱 bd E .acc _ _ _ _ _ _ s
  · exact Does.put T B d q 𝒱 bd E .acc _ _ _ _ _ _ s

theorem Does.finish (s : Mem F) : DOES (Att.finish B) s ⟨⟩ (finishM s) := by
  refine (Does.ld B d T q 𝒱 bd E .acc _ _ _ _ s).bind B d T q 𝒱 bd E ?_
  refine (Does.ld B d T q 𝒱 bd E .gate _ _ _ _ s).bind B d T q 𝒱 bd E ?_
  refine (Does.ld B d T q 𝒱 bd E .out _ _ _ _ s).bind B d T q 𝒱 bd E ?_
  exact Does.st B d T q 𝒱 bd E .out _ _ _ _ _ _ s

end Cert.Proof.Att
-- ==== Proof.Att.HeadRun.lean ====
/- What a whole head does to the buffers, tile by tile in the order the kernel runs them. -/
module

public import proofs.«01_k».proof.Proof.Att.ActRuns

@[expose] public section

set_option maxRecDepth 16384

noncomputable section

namespace Cert.Proof.Att

open Idealize.ShloMosaic Idealize.ShloMosaic.TcCoe
open Idealize.SL Idealize.SL.RA Idealize.SL.Sem Idealize.SL.ProofMode
open Idealize.SL.BI (sProp)

variable {F : FTy → Type} [FloatOps F] (T : Vec F (Mat 2 80) .i32)

/-- The query word of tile `k`. -/
def rowAt (k : Nat) : BitVec 32 := if h : k < 80 then T (ix2 (0 : Fin 2) ⟨k, h⟩) else 0#32
/-- The key word of tile `k`. -/
def colAt (k : Nat) : BitVec 32 := if h : k < 80 then T (ix2 (1 : Fin 2) ⟨k, h⟩) else 0#32

/-- Tiles `lo` to `hi` all lie inside, at the width `w`. -/
def RunOk (w : Wd) (lo hi : Nat) : Prop := ∀ k, lo ≤ k → k ≤ hi → WordOk w (rowAt T k) (colAt T k)

/-- The three acts on tile `k`. -/
def logitsT (w : Wd) (u : Bool) (k : Nat) (s : Mem F) : Mem F :=
  if h : WordOk w (rowAt T k) (colAt T k) then logitsM w u _ _ h s else s
def softmaxT (log2e mask : F .f32) (masked : Bool) (w : Wd) (u : Bool) (k : Nat) (s : Mem F) : Mem F :=
  if h : WordOk w (rowAt T k) (colAt T k) then softmaxM log2e mask masked w u _ _ h s else s
def accumulateT (masked : Bool) (w : Wd) (u : Bool) (k : Nat) (s : Mem F) : Mem F :=
  if h : WordOk w (rowAt T k) (colAt T k) then accumulateM masked w u _ _ h s else s

def stepT (log2e mask : F .f32) (masked : Bool) (w : Wd) (u : Bool) (k : Nat) (s : Mem F) : Mem F :=
  logitsT T w u (k + 2) (softmaxT T log2e mask masked w (!u) (k + 1) (accumulateT T masked w u k s))

def tripT (log2e mask : F .f32) (masked : Bool) (w : Wd) (k : Nat) (s : Mem F) : Mem F :=
  stepT T log2e mask masked w true (k + 3) <| stepT T log2e mask masked w false (k + 2) <|
    stepT T log2e mask masked w true (k + 1) <| stepT T log2e mask masked w false k s

def openingT (log2e mask : F .f32) (masked : Bool) (w : Wd) (k : Nat) (s : Mem F) : Mem F :=
  logitsT T w true (k + 1) <| softmaxT T log2e mask masked w false k <| logitsT T w false k s

def endingT (log2e mask : F .f32) (masked : Bool) (w : Wd) (k : Nat) (s : Mem F) : Mem F :=
  accumulateT T masked w true (k + 3) <| softmaxT T log2e mask masked w true (k + 3) <| accumulateT T masked w false (k + 2) <|
    stepT T log2e mask masked w true (k + 1) <| stepT T log2e mask masked w false k s

/-- The contents before the first tile. -/
def startM (log2e : F .f32) (i : BitVec 32) (s : Mem F) : Mem F :=
  eachM (gatesM log2e) passes <| eachM keysM passes <| valsM <| onesM i s

/-- The diagonal tiles, the wide ones before the diagonal, the narrow ones. -/
def run1 (log2e mask : F .f32) (s : Mem F) : Mem F :=
  endingT T log2e mask true .one 12 <| eachM (fun t : Fin (Scf.trips 0#32 3#32 1#32) => tripT T log2e mask true .one (4 * t.val)) (List.finRange _) <|
    openingT T log2e mask true .one 0 s
def run2 (log2e mask : F .f32) (s : Mem F) : Mem F :=
  endingT T log2e mask false .two 68 <| eachM (fun t : Fin (Scf.trips 0#32 13#32 1#32) => tripT T log2e mask false .two (16 + 4 * t.val)) (List.finRange _) <|
    openingT T log2e mask false .two 16 s
def run3 (log2e mask : F .f32) (s : Mem F) : Mem F :=
  endingT T log2e mask false .one 76 <| tripT T log2e mask false .one 72 <| openingT T log2e mask false .one 72 s

/-- The contents after a head. -/
def headM (log2e mask : F .f32) (i : BitVec 32) (s : Mem F) : Mem F :=
  finishM <| run3 T log2e mask <| run2 T log2e mask <| run1 T log2e mask <| startM log2e i s

/-! ### The programs do it -/

variable {nD : Nat} {τ : Topo} {sig : RefSig} {Λ : Labels}
variable {Ix : Type} [DecidableEq Ix] {Name : Type} [DecidableEq Name] {U : Type} [URA U] {Lvl : Type} [Preorder Lvl]
variable (B : Bufs sig) (d : Dev nD) (q : PosShare TreeShare)
variable {defs : Defs nD τ sig (Elt F) Λ} (𝒱 : Variants) (bd : Option 𝒱.V) {Γ : PendingWaitsCtx sig Ix} (E : Set Name)

local notation "DOES" => Does (Ix := Ix) (Name := Name) (U := U) (Lvl := Lvl) B d T q (defs := defs) 𝒱 bd (Γ := Γ) E

variable {T} in
theorem word_eq {n : BitVec 32} {k : Nat} (hn : Listed n) (e : n.toNat = k) : rowWord T n hn = rowAt T k ∧ colWord T n hn = colAt T k := by
  subst e
  unfold rowAt colAt
  rw [dif_pos hn, dif_pos hn]
  exact ⟨rfl, rfl⟩

/-- The number `n` is tile `k`, and it lies inside. -/
structure Is (w : Wd) (n : BitVec 32) (k : Nat) : Prop where
  eq : n.toNat = k
  ok : WordOk w (rowAt T k) (colAt T k)

theorem Does.logitsT {w : Wd} (u : Bool) {n : BitVec 32} (hn : Listed n) {k : Nat} (h : Is T w n k) (s : Mem F) :
    DOES (Att.logits B w u n hn) s ⟨⟩ (logitsT T w u k s) := by
  obtain ⟨rfl, ok⟩ := h
  have e := word_eq (T := T) hn rfl
  unfold Att.logitsT
  rw [dif_pos ok]
  revert ok
  rw [← e.1, ← e.2]
  exact fun ok => Does.logits T B d q 𝒱 bd E w u n hn ok s

theorem Does.softmaxT (log2e mask : F .f32) (masked : Bool) {w : Wd} (u : Bool) {n : BitVec 32} (hn : Listed n) {k : Nat} (h : Is T w n k) (s : Mem F) :
    DOES (Att.softmax B log2e mask masked w u n hn) s ⟨⟩ (softmaxT T log2e mask masked w u k s) := by
  obtain ⟨rfl, ok⟩ := h
  have e := word_eq (T := T) hn rfl
  unfold Att.softmaxT
  rw [dif_pos ok]
  revert ok
  rw [← e.1, ← e.2]
  exact fun ok => Does.softmax T B d q 𝒱 bd E log2e mask masked w u n hn ok s

theorem Does.accumulateT (masked : Bool) {w : Wd} (u : Bool) {n : BitVec 32} (hn : Listed n) {k : Nat} (h : Is T w n k) (s : Mem F) :
    DOES (Att.accumulate B masked w u n hn) s ⟨⟩ (accumulateT T masked w u k s) := by
  obtain ⟨rfl, ok⟩ := h
  have e := word_eq (T := T) hn rfl
  unfold Att.accumulateT
  rw [dif_pos ok]
  revert ok
  rw [← e.1, ← e.2]
  exact fun ok => Does.accumulate T B d q 𝒱 bd E masked w u n hn ok s

theorem Does.step (log2e mask : F .f32) (masked : Bool) {w : Wd} (u : Bool) {n n' n'' : BitVec 32} (hn : Listed n ∧ Listed n' ∧ Listed n'') {k : Nat}
    (h : Is T w n k) (h' : Is T w n' (k + 1)) (h'' : Is T w n'' (k + 2)) (s : Mem F) :
    DOES (Att.step B log2e mask masked w u n n' n'' hn) s ⟨⟩ (stepT T log2e mask masked w u k s) :=
  (Does.accumulateT T B d q 𝒱 bd E masked u hn.1 h s).bind B d T q 𝒱 bd E <|
    (Does.softmaxT T B d q 𝒱 bd E log2e mask masked (!u) hn.2.1 h' _).bind B d T q 𝒱 bd E <|
      Does.logitsT T B d q 𝒱 bd E u hn.2.2 h'' _

/-- The numbers of a trip are the tiles from `k` on. -/
def TripIs (n last : BitVec 32) (k lo hi : Nat) : Prop :=
  lo ≤ k ∧ k + 5 ≤ hi ∧ ∀ u : Fin 4, (Scalar.addi n (BitVec.ofNat 32 u.val)).toNat = k + u.val ∧
    (Scalar.addi (Scalar.addi n (BitVec.ofNat 32 u.val)) 1#32).toNat = k + u.val + 1 ∧
    (Scalar.minsi (Scalar.addi (Scalar.addi n (BitVec.ofNat 32 u.val)) 2#32) last).toNat = k + u.val + 2
instance (n last : BitVec 32) (k lo hi : Nat) : Decidable (TripIs n last k lo hi) := by unfold TripIs; infer_instance

theorem trip1_is : ∀ t : Fin (Scf.trips 0#32 3#32 1#32), TripIs (tripAt 0#32 t.val) 15#32 (4 * t.val) 0 15 := by decide +kernel
theorem trip2_is : ∀ t : Fin (Scf.trips 0#32 13#32 1#32), TripIs (tripAt 16#32 t.val) 71#32 (16 + 4 * t.val) 16 71 := by decide +kernel
theorem trip3_is : TripIs 72#32 79#32 72 72 79 := by decide +kernel

variable {T}

theorem Does.trip (log2e mask : F .f32) (masked : Bool) {w : Wd} {n last : BitVec 32} (h : TripOk n last) {k lo hi : Nat}
    (hr : RunOk T w lo hi) (hi : TripIs n last k lo hi) (s : Mem F) :
    DOES (Att.trip B log2e mask masked w n last h) s ⟨⟩ (tripT T log2e mask masked w k s) := by
  obtain ⟨h1, h2, h3⟩ := hi
  have st := fun (x : Bool) (u : Fin 4) (s : Mem F) => Does.step T B d q 𝒱 bd (Γ := Γ) (Ix := Ix) (U := U) (Lvl := Lvl) (defs := defs) E log2e mask masked (w := w) x
    (h u) ⟨(h3 u).1, hr _ (by omega) (by omega)⟩ ⟨(h3 u).2.1, hr _ (by omega) (by omega)⟩ ⟨(h3 u).2.2, hr _ (by omega) (by omega)⟩ s
  exact (st false 0 _).bind B d T q 𝒱 bd E <| (st true 1 _).bind B d T q 𝒱 bd E <| (st false 2 _).bind B d T q 𝒱 bd E <| st true 3 _

theorem Does.opening (log2e mask : F .f32) (masked : Bool) {w : Wd} {n n' : BitVec 32} (h : Listed n ∧ Listed n') {k lo hi : Nat}
    (hr : RunOk T w lo hi) (e : n.toNat = k ∧ n'.toNat = k + 1 ∧ lo ≤ k ∧ k + 1 ≤ hi) (s : Mem F) :
    DOES (Att.opening B log2e mask masked w n n' h) s ⟨⟩ (openingT T log2e mask masked w k s) :=
  (Does.logitsT T B d q 𝒱 bd E false h.1 ⟨e.1, hr _ (by omega) (by omega)⟩ s).bind B d T q 𝒱 bd E <|
    (Does.softmaxT T B d q 𝒱 bd E log2e mask masked false h.1 ⟨e.1, hr _ (by omega) (by omega)⟩ _).bind B d T q 𝒱 bd E <|
      Does.logitsT T B d q 𝒱 bd E true h.2 ⟨e.2.1, hr _ (by omega) (by omega)⟩ _

theorem Does.ending (log2e mask : F .f32) (masked : Bool) {w : Wd} {n0 n1 n2 n3 : BitVec 32} (h : Listed n0 ∧ Listed n1 ∧ Listed n2 ∧ Listed n3) {k lo hi : Nat}
    (hr : RunOk T w lo hi) (e : n0.toNat = k ∧ n1.toNat = k + 1 ∧ n2.toNat = k + 2 ∧ n3.toNat = k + 3 ∧ lo ≤ k ∧ k + 3 ≤ hi) (s : Mem F) :
    DOES (Att.ending B log2e mask masked w n0 n1 n2 n3 h) s ⟨⟩ (endingT T log2e mask masked w k s) := by
  have i0 : Is T w n0 k := ⟨e.1, hr _ (by omega) (by omega)⟩
  have i1 : Is T w n1 (k + 1) := ⟨e.2.1, hr _ (by omega) (by omega)⟩
  have i2 : Is T w n2 (k + 2) := ⟨e.2.2.1, hr _ (by omega) (by omega)⟩
  have i3 : Is T w n3 (k + 3) := ⟨e.2.2.2.1, hr _ (by omega) (by omega)⟩
  exact (Does.step T B d q 𝒱 bd E log2e mask masked false _ i0 i1 i2 s).bind B d T q 𝒱 bd E <|
    (Does.step T B d q 𝒱 bd E log2e mask masked true _ i1 i2 i3 _).bind B d T q 𝒱 bd E <|
    (Does.accumulateT T B d q 𝒱 bd E masked false _ i2 _).bind B d T q 𝒱 bd E <|
    (Does.softmaxT T B d q 𝒱 bd E log2e mask masked true _ i3 _).bind B d T q 𝒱 bd E <|
    Does.accumulateT T B d q 𝒱 bd E masked true _ i3 _

theorem Does.forFrom {n : Nat} {f : Fin n → PUnit → Pr nD τ sig F Λ PUnit} {g : Fin n → Mem F → Mem F} (h : ∀ r x s, DOES (f r x) s ⟨⟩ (g r s)) :
    ∀ (l : List (Fin n)) (s : Mem F), DOES (Scf.forFrom f l ⟨⟩) s ⟨⟩ (eachM g l s)
  | [], s => Does.pure B d T q 𝒱 bd E _ s
  | r :: rs, s => (h r _ s).bind B d T q 𝒱 bd E (Does.forFrom h rs (g r s))

/-- A head does to the buffers what `headM` says, wherever every tile of the table lies inside. -/
theorem Does.head (h1 : RunOk T .one 0 15) (h2 : RunOk T .two 16 71) (h3 : RunOk T .one 72 79) (log2e mask : F .f32) (i : BitVec 32) (s : Mem F) :
    DOES (Att.head B log2e mask i) s ⟨⟩ (headM T log2e mask i s) := by
  unfold Att.head
  refine (Does.ones T B d q 𝒱 bd E i s).bind B d T q 𝒱 bd E ?_
  refine (Does.vals T B d q 𝒱 bd E _).bind B d T q 𝒱 bd E ?_
  refine (Does.each T B d q 𝒱 bd E (fun r s => Does.keys T B d q 𝒱 bd E r s) passes _).bind B d T q 𝒱 bd E ?_
  refine (Does.each T B d q 𝒱 bd E (fun r s => Does.gates T B d q 𝒱 bd E log2e r s) passes _).bind B d T q 𝒱 bd E ?_
  refine (Does.opening B d q 𝒱 bd E log2e mask true _ h1 (k := 0) (by decide) _).bind B d T q 𝒱 bd E ?_
  rw [Scf.for_eq]
  refine (Does.forFrom B d q 𝒱 bd E (fun t _ s => Does.trip B d q 𝒱 bd E log2e mask true _ h1 (trip1_is t) s) _ _).bind B d T q 𝒱 bd E ?_
  refine (Does.ending B d q 𝒱 bd E log2e mask true _ h1 (k := 12) (by decide) _).bind B d T q 𝒱 bd E ?_
  refine (Does.opening B d q 𝒱 bd E log2e mask false _ h2 (k := 16) (by decide) _).bind B d T q 𝒱 bd E ?_
  rw [Scf.for_eq]
  refine (Does.forFrom B d q 𝒱 bd E (fun t _ s => Does.trip B d q 𝒱 bd E log2e mask false _ h2 (trip2_is t) s) _ _).bind B d T q 𝒱 bd E ?_
  refine (Does.ending B d q 𝒱 bd E log2e mask false _ h2 (k := 68) (by decide) _).bind B d T q 𝒱 bd E ?_
  refine (Does.opening B d q 𝒱 bd E log2e mask false _ h3 (k := 72) (by decide) _).bind B d T q 𝒱 bd E ?_
  refine (Does.trip B d q 𝒱 bd E log2e mask false _ h3 trip3_is _).bind B d T q 𝒱 bd E ?_
  refine (Does.ending B d q 𝒱 bd E log2e mask false _ h3 (k := 76) (by decide) _).bind B d T q 𝒱 bd E ?_
  exact Does.finish T B d q 𝒱 bd E _

end Cert.Proof.Att
-- ==== Proof.Att.Kept.lean ====
/- A head leaves its operands as they were. -/
module

public import proofs.«01_k».proof.Proof.Att.HeadRun

@[expose] public section

set_option maxRecDepth 16384

noncomputable section

namespace Cert.Proof.Att

open Idealize.ShloMosaic

/-- The operands of a head. -/
def Arg.Given (a : Arg) : Prop := a = .crow ∨ a = .q ∨ a = .k ∨ a = .v ∨ a = .gate

variable {F : FTy → Type} [FloatOps F]

/-- A change that leaves the operands as they were. -/
def Keeps (f : Mem F → Mem F) : Prop := ∀ s a, a.Given → f s a = s a

theorem Keeps.comp {f g : Mem F → Mem F} (hf : Keeps f) (hg : Keeps g) : Keeps (fun s => f (g s)) := fun s a h => (hf _ a h).trans (hg s a h)

theorem Keeps.each {n : Nat} {f : Fin n → Mem F → Mem F} (h : ∀ r, Keeps (f r)) : ∀ l, Keeps (eachM f l)
  | [] => fun _ _ _ => rfl
  | r :: rs => fun s a ha => (Keeps.each h rs _ a ha).trans (h r s a ha)

theorem kept_put {a b : Arg} (hb : ¬ b.Given) (ha : a.Given) (s : Mem F) (off size : Fin b.sh.rank → Nat) (inb) (w) : s.put b off size inb w a = s a :=
  Mem.set_other _ (fun e => hb (by rw [← e]; exact ha)) _

theorem not_given {b : Arg} (h : b ≠ .crow ∧ b ≠ .q ∧ b ≠ .k ∧ b ≠ .v ∧ b ≠ .gate) : ¬ b.Given := by
  rintro (e | e | e | e | e)
  · exact h.1 e
  · exact h.2.1 e
  · exact h.2.2.1 e
  · exact h.2.2.2.1 e
  · exact h.2.2.2.2 e

theorem keeps_ones (i : BitVec 32) : Keeps (F := F) (onesM i) := fun s a h => by
  unfold onesM
  split
  · exact kept_put (not_given (by decide)) h _ _ _ _ _
  · rfl
theorem keeps_vals : Keeps (F := F) valsM := fun s a h => kept_put (not_given (by decide)) h _ _ _ _ _
theorem keeps_keys (r : Fin 16) : Keeps (F := F) (keysM r) := fun s a h => kept_put (not_given (by decide)) h _ _ _ _ _
theorem keeps_gates (log2e : F .f32) (r : Fin 16) : Keeps (gatesM log2e r) := fun s a h => kept_put (not_given (by decide)) h _ _ _ _ _
theorem keeps_finish : Keeps (F := F) finishM := fun s a h => kept_put (not_given (by decide)) h _ _ _ _ _
theorem keeps_putS (u : Bool) (off size inb w) : Keeps (F := F) (putSM u off size inb w) := fun s a h => by
  cases u <;> exact kept_put (not_given (by decide)) h _ _ _ _ _
theorem keeps_putP (u : Bool) (off size inb w) : Keeps (F := F) (putPM u off size inb w) := fun s a h => by
  cases u <;> exact kept_put (not_given (by decide)) h _ _ _ _ _
theorem keeps_putA (u : Bool) (r w) : Keeps (F := F) (putAM u r w) := fun s a h => by
  cases u <;> exact kept_put (not_given (by decide)) h _ _ _ _ _
theorem keeps_passM (mask : F .f32) (w : Wd) (u : Bool) (a ha c r) : Keeps (passMM mask w u a ha c r) := fun s b h =>
  (kept_put (not_given (by decide)) h _ _ _ _ _).trans (keeps_putP _ _ _ _ _ _ _ h)
theorem keeps_passU (w : Wd) (u : Bool) (a ha c r) : Keeps (F := F) (passUM w u a ha c r) := fun s b h =>
  (kept_put (not_given (by decide)) h _ _ _ _ _).trans ((keeps_putP _ _ _ _ _ _ _ h).trans (keeps_putA _ _ _ _ _ h))

variable (T : Vec F (Mat 2 80) .i32) (log2e mask : F .f32)

theorem keeps_logits (w : Wd) (u : Bool) (k : Nat) : Keeps (logitsT T w u k) := fun s a h => by
  unfold logitsT
  split
  · exact keeps_putS _ _ _ _ _ _ _ h
  · rfl
theorem keeps_softmax (masked : Bool) (w : Wd) (u : Bool) (k : Nat) : Keeps (softmaxT T log2e mask masked w u k) := fun s a h => by
  unfold softmaxT
  split
  · unfold softmaxM
    cases masked
    · exact Keeps.each (fun r => keeps_passU _ _ _ _ _ r) _ _ _ h
    · exact Keeps.each (fun r => keeps_passM _ _ _ _ _ _ r) _ _ _ h
  · rfl
theorem keeps_accumulate (masked : Bool) (w : Wd) (u : Bool) (k : Nat) : Keeps (accumulateT T masked w u k) := fun s a h => by
  unfold accumulateT
  split
  · exact kept_put (not_given (by decide)) h _ _ _ _ _
  · rfl
theorem keeps_step (masked : Bool) (w : Wd) (u : Bool) (k : Nat) : Keeps (stepT T log2e mask masked w u k) :=
  (keeps_logits T w u _).comp <| (keeps_softmax T log2e mask masked w _ _).comp <| keeps_accumulate T masked w u k
theorem keeps_trip (masked : Bool) (w : Wd) (k : Nat) : Keeps (tripT T log2e mask masked w k) :=
  (keeps_step T log2e mask masked w _ _).comp <| (keeps_step T log2e mask masked w _ _).comp <| (keeps_step T log2e mask masked w _ _).comp <|
    keeps_step T log2e mask masked w _ _
theorem keeps_opening (masked : Bool) (w : Wd) (k : Nat) : Keeps (openingT T log2e mask masked w k) :=
  (keeps_logits T w _ _).comp <| (keeps_softmax T log2e mask masked w _ _).comp <| keeps_logits T w _ _
theorem keeps_ending (masked : Bool) (w : Wd) (k : Nat) : Keeps (endingT T log2e mask masked w k) :=
  (keeps_accumulate T masked w _ _).comp <| (keeps_softmax T log2e mask masked w _ _).comp <| (keeps_accumulate T masked w _ _).comp <|
    (keeps_step T log2e mask masked w _ _).comp <| keeps_step T log2e mask masked w _ _
theorem keeps_start (i : BitVec 32) : Keeps (startM log2e i) :=
  (Keeps.each (keeps_gates log2e) _).comp <| (Keeps.each keeps_keys _).comp <| keeps_vals.comp <| keeps_ones i
theorem keeps_run1 : Keeps (run1 T log2e mask) :=
  (keeps_ending T log2e mask _ _ _).comp <| (Keeps.each (fun t => keeps_trip T log2e mask _ _ _) _).comp <| keeps_opening T log2e mask _ _ _
theorem keeps_run2 : Keeps (run2 T log2e mask) :=
  (keeps_ending T log2e mask _ _ _).comp <| (Keeps.each (fun t => keeps_trip T log2e mask _ _ _) _).comp <| keeps_opening T log2e mask _ _ _
theorem keeps_run3 : Keeps (run3 T log2e mask) :=
  (keeps_ending T log2e mask _ _ _).comp <| (keeps_trip T log2e mask _ _ _).comp <| keeps_opening T log2e mask _ _ _

/-- A head leaves its operands as they were. -/
theorem keeps_head (i : BitVec 32) : Keeps (headM T log2e mask i) :=
  keeps_finish.comp <| (keeps_run3 T log2e mask).comp <| (keeps_run2 T log2e mask).comp <| (keeps_run1 T log2e mask).comp <| keeps_start log2e i

end Cert.Proof.Att
-- ==== Proof.Att.Cells.lean ====
/- The buffers of a head, owned one by one. -/
module

public import proofs.«01_k».proof.Proof.Att.Kept

@[expose] public section

set_option maxRecDepth 16384

noncomputable section

namespace Cert.Proof.Att

open Idealize.ShloMosaic Idealize.ShloMosaic.TcCoe
open Idealize.SL Idealize.SL.RA Idealize.SL.Sem Idealize.SL.ProofMode
open Idealize.SL.BI (sProp bigSep bigSepL bigSep_univ_eq_bigSepL)
open scoped Idealize.SL.BI
open Idealize.SL.BI.BIBase Idealize.SL.BI.Laws

variable {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable (B : Bufs sig) (d : Dev nD)

/-- Two assertions that entail each other. -/
theorem eq_of {P Q : sProp 𝕄} (h : P ⊢ Q) (h' : Q ⊢ P) : P = Q := Idealize.SL.BI.equiv_iff.mp ⟨h, h'⟩

/-- A whole buffer owned at some contents is its cell. -/
theorem cell_owns (s : Mem F) (a : Arg) : (cell B d s a : sProp 𝕄) = owns (d : Thread nD τ) (B.ref a) fullShare (s a) := by
  unfold cell owns
  rw [(B.whole a).set_eq_univ]
  refine eq_of ?_ ?_
  · iintro H
    iexists _
    isplitr
    · ipureintro; exact (B.whole a).read_unread _
    · iexact H
  · iintro ⟨%f, %hf, H⟩
    obtain rfl := (B.whole a).eq_unread hf
    iexact H

/-- The contents of the buffers from each one's. -/
def memOf (crow : Vec F (Arg.crow).sh (Arg.crow).el) (q : Vec F (Arg.q).sh (Arg.q).el) (k : Vec F (Arg.k).sh (Arg.k).el) (v : Vec F (Arg.v).sh (Arg.v).el)
    (gate : Vec F (Arg.gate).sh (Arg.gate).el) (out : Vec F (Arg.out).sh (Arg.out).el) (va : Vec F (Arg.va).sh (Arg.va).el) (kt : Vec F (Arg.kt).sh (Arg.kt).el)
    (sa sb : Vec F (Arg.sa).sh (Arg.sa).el) (pa pb : Vec F (Arg.pa).sh (Arg.pa).el) (ala alb : Vec F (Arg.ala).sh (Arg.ala).el)
    (acc : Vec F (Arg.acc).sh (Arg.acc).el) (mx ct : Vec F (Arg.mx).sh (Arg.mx).el) : Mem F
  | .crow => crow | .q => q | .k => k | .v => v | .gate => gate | .out => out | .va => va | .kt => kt | .sa => sa | .sb => sb | .pa => pa | .pb => pb
  | .ala => ala | .alb => alb | .acc => acc | .mx => mx | .ct => ct

/-- The buffers of a head, one by one. -/
theorem cells_eq (s : Mem F) : (bigSep Finset.univ (cell B d s) : sProp 𝕄) =
    iprop((owns (d : Thread nD τ) (B.ref .crow) fullShare (s .crow) ∗ owns (d : Thread nD τ) (B.ref .q) fullShare (s .q) ∗ owns (d : Thread nD τ) (B.ref .k) fullShare (s .k)
      ∗ owns (d : Thread nD τ) (B.ref .v) fullShare (s .v) ∗ owns (d : Thread nD τ) (B.ref .gate) fullShare (s .gate) ∗ owns (d : Thread nD τ) (B.ref .out) fullShare (s .out))
      ∗ (owns (d : Thread nD τ) (B.ref .va) fullShare (s .va) ∗ owns (d : Thread nD τ) (B.ref .kt) fullShare (s .kt) ∗ owns (d : Thread nD τ) (B.ref .sa) fullShare (s .sa)
      ∗ owns (d : Thread nD τ) (B.ref .sb) fullShare (s .sb) ∗ owns (d : Thread nD τ) (B.ref .pa) fullShare (s .pa) ∗ owns (d : Thread nD τ) (B.ref .pb) fullShare (s .pb)
      ∗ owns (d : Thread nD τ) (B.ref .ala) fullShare (s .ala) ∗ owns (d : Thread nD τ) (B.ref .alb) fullShare (s .alb) ∗ owns (d : Thread nD τ) (B.ref .acc) fullShare (s .acc)
      ∗ owns (d : Thread nD τ) (B.ref .mx) fullShare (s .mx) ∗ owns (d : Thread nD τ) (B.ref .ct) fullShare (s .ct))) := by
  rw [bigSep_univ_eq_bigSepL [Arg.crow, .q, .k, .v, .gate, .out, .va, .kt, .sa, .sb, .pa, .pb, .ala, .alb, .acc, .mx, .ct] (by decide) (by decide)]
  show iprop(cell B d s .crow ∗ cell B d s .q ∗ cell B d s .k ∗ cell B d s .v ∗ cell B d s .gate ∗ cell B d s .out ∗ cell B d s .va ∗ cell B d s .kt ∗ cell B d s .sa
    ∗ cell B d s .sb ∗ cell B d s .pa ∗ cell B d s .pb ∗ cell B d s .ala ∗ cell B d s .alb ∗ cell B d s .acc ∗ cell B d s .mx ∗ cell B d s .ct) = _
  simp only [cell_owns]
  refine eq_of ?_ ?_
  · iintro ⟨H1, H2, H3, H4, H5, H6, H⟩
    isplitr [H]
    · isplitl [H1]; · iexact H1
      isplitl [H2]; · iexact H2
      isplitl [H3]; · iexact H3
      isplitl [H4]; · iexact H4
      isplitl [H5]; · iexact H5
      iexact H6
    · iexact H
  · iintro ⟨⟨H1, H2, H3, H4, H5, H6⟩, H⟩
    isplitl [H1]; · iexact H1
    isplitl [H2]; · iexact H2
    isplitl [H3]; · iexact H3
    isplitl [H4]; · iexact H4
    isplitl [H5]; · iexact H5
    isplitl [H6]; · iexact H6
    iexact H

end Cert.Proof.Att
-- ==== Proof.Att.SameKernelIdeal.lean ====
/- The printed kernel is the program of acts. -/
module

public import proofs.«01_k».proof.Proof.Att.Acts
public import proofs.«01_k».proof.KernelIdeal

@[expose] public section

set_option maxRecDepth 16384

noncomputable section

namespace Cert.Proof.Att.KernelIdeal

open Cert.KernelIdeal Idealize.ShloMosaic Idealize.SL.Sem

variable {F : FTy → Type} [FloatOps F] [Named F] [Cert.KernelIdeal.Facts]

/-- The kernel's buffers, gathered. -/
abbrev gather (tab : Memref sig .tc .smem (Mat 2 80) .i32) (crow : Memref sig .tc .vmem (Arg.crow).sh (Arg.crow).el) (hcrow : crow.IsWhole) (q : Memref sig .tc .vmem (Arg.q).sh (Arg.q).el) (hq : q.IsWhole) (k : Memref sig .tc .vmem (Arg.k).sh (Arg.k).el) (hk : k.IsWhole) (v : Memref sig .tc .vmem (Arg.v).sh (Arg.v).el) (hv : v.IsWhole) (gate : Memref sig .tc .vmem (Arg.gate).sh (Arg.gate).el) (hgate : gate.IsWhole) (out : Memref sig .tc .vmem (Arg.out).sh (Arg.out).el) (hout : out.IsWhole) (va : Memref sig .tc .vmem (Arg.va).sh (Arg.va).el) (hva : va.IsWhole) (kt : Memref sig .tc .vmem (Arg.kt).sh (Arg.kt).el) (hkt : kt.IsWhole) (sa : Memref sig .tc .vmem (Arg.sa).sh (Arg.sa).el) (hsa : sa.IsWhole) (sb : Memref sig .tc .vmem (Arg.sb).sh (Arg.sb).el) (hsb : sb.IsWhole) (pa : Memref sig .tc .vmem (Arg.pa).sh (Arg.pa).el) (hpa : pa.IsWhole) (pb : Memref sig .tc .vmem (Arg.pb).sh (Arg.pb).el) (hpb : pb.IsWhole) (ala : Memref sig .tc .vmem (Arg.ala).sh (Arg.ala).el) (hala : ala.IsWhole) (alb : Memref sig .tc .vmem (Arg.alb).sh (Arg.alb).el) (halb : alb.IsWhole) (acc : Memref sig .tc .vmem (Arg.acc).sh (Arg.acc).el) (hacc : acc.IsWhole) (mx : Memref sig .tc .vmem (Arg.mx).sh (Arg.mx).el) (hmx : mx.IsWhole) (ct : Memref sig .tc .vmem (Arg.ct).sh (Arg.ct).el) (hct : ct.IsWhole) : Bufs sig where
  tab := tab
  ref := fun | .crow => crow | .q => q | .k => k | .v => v | .gate => gate | .out => out | .va => va | .kt => kt | .sa => sa | .sb => sb | .pa => pa | .pb => pb | .ala => ala | .alb => alb | .acc => acc | .mx => mx | .ct => ct
  whole := fun | .crow => hcrow | .q => hq | .k => hk | .v => hv | .gate => hgate | .out => hout | .va => hva | .kt => hkt | .sa => hsa | .sb => hsb | .pa => hpa | .pb => hpb | .ala => hala | .alb => halb | .acc => hacc | .mx => hmx | .ct => hct

/-- The grid point of head `j`. -/
abbrev atHead (j : Fin 8) : grid0.Coords := fun | 0 => j
theorem eq_at (i : grid0.Coords) : ∃ j, i = atHead j := ⟨i 0, funext fun a => match a with | 0 => rfl⟩

/-- The printed kernel runs the acts. -/
theorem body_eq (i : grid0.Coords) (tab : Memref sig .tc .smem (Mat 2 80) .i32) (htab : tab.IsWhole) (crow : Memref sig .tc .vmem (Arg.crow).sh (Arg.crow).el) (hcrow : crow.IsWhole) (q : Memref sig .tc .vmem (Arg.q).sh (Arg.q).el) (hq : q.IsWhole) (k : Memref sig .tc .vmem (Arg.k).sh (Arg.k).el) (hk : k.IsWhole) (v : Memref sig .tc .vmem (Arg.v).sh (Arg.v).el) (hv : v.IsWhole) (gate : Memref sig .tc .vmem (Arg.gate).sh (Arg.gate).el) (hgate : gate.IsWhole) (out : Memref sig .tc .vmem (Arg.out).sh (Arg.out).el) (hout : out.IsWhole) (va : Memref sig .tc .vmem (Arg.va).sh (Arg.va).el) (hva : va.IsWhole) (kt : Memref sig .tc .vmem (Arg.kt).sh (Arg.kt).el) (hkt : kt.IsWhole) (sa : Memref sig .tc .vmem (Arg.sa).sh (Arg.sa).el) (hsa : sa.IsWhole) (sb : Memref sig .tc .vmem (Arg.sb).sh (Arg.sb).el) (hsb : sb.IsWhole) (pa : Memref sig .tc .vmem (Arg.pa).sh (Arg.pa).el) (hpa : pa.IsWhole) (pb : Memref sig .tc .vmem (Arg.pb).sh (Arg.pb).el) (hpb : pb.IsWhole) (ala : Memref sig .tc .vmem (Arg.ala).sh (Arg.ala).el) (hala : ala.IsWhole) (alb : Memref sig .tc .vmem (Arg.alb).sh (Arg.alb).el) (halb : alb.IsWhole) (acc : Memref sig .tc .vmem (Arg.acc).sh (Arg.acc).el) (hacc : acc.IsWhole) (mx : Memref sig .tc .vmem (Arg.mx).sh (Arg.mx).el) (hmx : mx.IsWhole) (ct : Memref sig .tc .vmem (Arg.ct).sh (Arg.ct).el) (hct : ct.IsWhole) :
    cc0_fox_attn (F := F) i tab htab crow hcrow q hq k hk v hv gate hgate out hout va hva kt hkt sa hsa sb hsb pa hpa pb hpb ala hala alb halb acc hacc mx hmx ct hct
      = head (nD := nD) (τ := τ) (F := F) (Λ := Λ₀) (gather tab crow hcrow q hq k hk v hv gate hgate out hout va hva kt hkt sa hsa sb hsb pa hpa pb hpb ala hala alb halb acc hacc mx hmx ct hct) (Named.named κ "log2e" 0x3FB8AA3B#32) (Named.named κ "mask" 0xF149F2CA#32) (BitVec.ofNat 32 (i 0).val) := by
  unfold cc0_fox_attn k0_part316 k0_part317 k0_part123 k0_part172
  simp only [bind_assoc]
  obtain ⟨j, rfl⟩ := eq_at i
  match j with
  | ⟨0, _⟩ => show _ = _; chain_rfl
  | ⟨1, _⟩ => show _ = _; chain_rfl
  | ⟨2, _⟩ => show _ = _; chain_rfl
  | ⟨3, _⟩ => show _ = _; chain_rfl
  | ⟨4, _⟩ => show _ = _; chain_rfl
  | ⟨5, _⟩ => show _ = _; chain_rfl
  | ⟨6, _⟩ => show _ = _; chain_rfl
  | ⟨7, _⟩ => show _ = _; chain_rfl
  | ⟨n + 8, h⟩ => exact absurd h (by omega)

end Cert.Proof.Att.KernelIdeal
-- ==== Proof.Att.LaunchKernelIdeal.lean ====
/- The launch of the attention: what the host leaves, the body at a grid point, and the frame. -/
module

public import proofs.«01_k».proof.Proof.Att.Cells
public import proofs.«01_k».proof.Proof.Att.SameKernelIdeal
public import proofs.«01_k».proof.Proof.Gen.KernelIdeal.Launch
public import Idealize.ShloMosaic.Lib.Pipeline.FrameBody

@[expose] public section

set_option maxRecDepth 16384

noncomputable section

namespace Cert.Proof.Att.KernelIdeal

open Cert.KernelIdeal Cert.KernelIdeal.Gen
open Idealize.ShloMosaic Idealize.ShloMosaic.TcCoe
open Idealize.SL Idealize.SL.RA Idealize.SL.Sem Idealize.SL.ProofMode
open Idealize.SL.BI (sProp bigSep bigSep_singleton)
open scoped Idealize.SL.BI
open Idealize.SL.BI.BIBase Idealize.SL.BI.Laws
open Idealize.ShloMosaic.Pipeline (Dat Cfg Window BodyObligation BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation writes is found as launched. -/
theorem V_kept (c : Dev nD) (b : Ref sig .tc) (h : b ≠ main_c ∧ b ≠ main_cst ∧ b ≠ main_v0 ∧ b ≠ main_cst_0 ∧ b ≠ main_v1 ∧ b ≠ main_v2 ∧ b ≠ main_v3 ∧ b ≠ main_v4 ∧ b ≠ main_v5 ∧ b ≠ main_v6 ∧ b ≠ main_v7) :
    V m c b = m ((c : Thread nD τ).loc b) := by
  obtain ⟨h0, h1, h2, h3, h4, h5, h6, h7, h8, h9, h10⟩ := h
  refine StableHlo.after_of_forall_not_mem (b := Proc.devRef .tc b) _ _ (List.forall_iff_forall_mem.mp ?_)
  simp only [hostOps0, List.Forall, StableHlo.nullary_writes, StableHlo.unary_writes, StableHlo.binary_writes, StableHlo.nary_writes, Finset.mem_singleton]
  exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10⟩

/-- The table of tiles. -/
def T : Vec F (Mat 2 80) .i32 := fun i => lit0 (S2x80.rowMajor i)

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
theorem tbl_eq : tbl m 0 = (T (F := F)) := rfl

abbrev adm : (pcfg0 (F := F)).Adm := ⟨tbl m, trivial⟩
abbrev cfgM : Pipeline.Cfg sig Λ₀ := cfg0 (adm m)

/-- The words of the table. -/
def wordAt (j : Fin 2) (k : Nat) : BitVec 32 := if h : k < 80 then lit0 (S2x80.rowMajor (ix2 j ⟨k, h⟩)) else 0#32
theorem rowAt_T (k : Nat) : rowAt (T (F := F)) k = wordAt 0 k := rfl
theorem colAt_T (k : Nat) : colAt (T (F := F)) k = wordAt 1 k := rfl

/-- Every tile of the table lies inside. -/
theorem run1_ok : RunOk (T (F := F)) .one 0 15 := by
  have h : ∀ k : Fin 16, WordOk .one (wordAt 0 k.val) (wordAt 1 k.val) := by decide +kernel
  exact fun k _ hk => h ⟨k, by omega⟩
theorem run2_ok : RunOk (T (F := F)) .two 16 71 := by
  have h : ∀ k : Fin 56, WordOk .two (wordAt 0 (16 + k.val)) (wordAt 1 (16 + k.val)) := by decide +kernel
  intro k h1 h2
  have := h ⟨k - 16, by omega⟩
  rwa [show 16 + (⟨k - 16, by omega⟩ : Fin 56).val = k from by show 16 + (k - 16) = k; omega] at this
theorem run3_ok : RunOk (T (F := F)) .one 72 79 := by
  have h : ∀ k : Fin 8, WordOk .one (wordAt 0 (72 + k.val)) (wordAt 1 (72 + k.val)) := by decide +kernel
  intro k h1 h2
  have := h ⟨k - 72, by omega⟩
  rwa [show 72 + (⟨k - 72, by omega⟩ : Fin 8).val = k from by show 72 + (k - 72) = k; omega] at this

/-! ### The body at a grid point -/

/-- The buffers the body is handed at point `t`. -/
abbrev bufs (t : Fin (cfgM m).N) : Bufs sig :=
  gather (Memref.whole main_c) (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (spec0_3.stage ((cfgM m).slots t 3)) (hstage0_3 (((cfgM m).slots t 3).cast nbuf0_3))
    (spec0_4.stage ((cfgM m).slots t 4)) (hstage0_4 (((cfgM m).slots t 4).cast nbuf0_4))
    (spec0_5.stage ((cfgM m).slots t 5)) (hstage0_5 (((cfgM m).slots t 5).cast nbuf0_5))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _)

/-- The head of point `t`, as the word the body is handed. -/
abbrev headOf (t : Fin (cfgM m).N) : BitVec 32 := BitVec.ofNat 32 (grid0.coords t 0).val

/-- The two named constants. -/
abbrev log2e : F .f32 := Named.named κ "log2e" 0x3FB8AA3B#32
abbrev mask : F .f32 := Named.named κ "mask" 0xF149F2CA#32

theorem defs₀_row (t : Fin (cfgM m).N) : defs₀ (F := F) .tc (cfgM m).body ((cfgM m).bodyArgs t ((cfgM m).slots t))
    = head (nD := nD) (τ := τ) (F := F) (Λ := Λ₀) (bufs m t) log2e mask (headOf m t) := by
  unfold defs₀
  rw [Defs.onTc_tc]
  exact body_eq _ _ _ _ _ _ _ _ _ _ _ _ _ _ _ _ _ _ _ _ _ _ _ _ _ _ _ _ _ _ _ _ _ _ _ _ _

/-- The table's half that the body is handed. -/
theorem table_eq (c : Dev nD) : (Pipeline.ΦT pre0 (tbl m) c : sProp 𝕄) = ((c : Thread nD τ).loc main_c) ↦{fullShare.right} (T (F := F) : main_c.ty.Contents (Elt F)) := by
  unfold Pipeline.ΦT Pipeline.prefHeld
  rw [show (Finset.univ : Finset (Fin 1)) = {(0 : Fin 1)} from by decide, bigSep_singleton]
  rfl

theorem held_eq (c : Dev nD) (t : Fin (cfgM m).N) (s : Mem F) : (Held (bufs m t) c T fullShare.right s : sProp 𝕄)
    = iprop((((c : Thread nD τ).loc main_c) ↦{fullShare.right} (T (F := F) : main_c.ty.Contents (Elt F))) ∗ bigSep Finset.univ (cell (bufs m t) c s)) := by
  unfold Held
  refine eq_of ?_ ?_
  · iintro ⟨⟨%f, %hf, H⟩, HB⟩
    have e : f = (T (F := F) : main_c.ty.Contents (Elt F)) := hf
    subst e
    isplitl [H]; · iexact H
    iexact HB
  · iintro ⟨H, HB⟩
    isplitl [H]
    · iexists _
      isplitr
      · ipureintro; exact (rfl : (View.read (Elt F) (Memref.whole main_c).view (T (F := F) : main_c.ty.Contents (Elt F))) = T)
      · iexact H
    · iexact HB

/-- The body takes the buffers from `s` to what a head leaves. -/
theorem body_triple (c : Dev nD) (t : Fin (cfgM m).N) (s : Mem F) :
    iprop(Pipeline.ΦT pre0 (tbl m) c ∗ (bigSep Finset.univ (cell (bufs m t) c s) : sProp 𝕄))
      ⊢ wp frame (wpE (defs₀ (F := F)) Variants.none c none) Set.univ (defs₀ (F := F) .tc (cfgM m).body ((cfgM m).bodyArgs t ((cfgM m).slots t))) fun _ =>
        iprop(Pipeline.ΦT pre0 (tbl m) c ∗ (bigSep Finset.univ (cell (bufs m t) c (headM T log2e mask (headOf m t) s)) : sProp 𝕄)) := by
  rw [defs₀_row, table_eq]
  have run := (Does.head (bufs m t) c fullShare.right (Γ := PendingWaitsCtx.empty) (Ix := Unit) (Name := ℕ) (U := UR sig nD τ) (Lvl := ℕ) (defs := defs₀ (F := F)) Variants.none none
    Set.univ (T := T (F := F)) run1_ok run2_ok run3_ok log2e mask (headOf m t) s).run
  rw [held_eq, held_eq] at run
  exact run

/-- The scratch buffers at their contents. -/
def scr (c : Dev nD) (s : Mem F) : sProp 𝕄 :=
  iprop(owns (c : Thread nD τ) (Memref.whole cc0_scratch0) fullShare (s .va) ∗ owns (c : Thread nD τ) (Memref.whole cc0_scratch1) fullShare (s .kt)
    ∗ owns (c : Thread nD τ) (Memref.whole cc0_scratch2) fullShare (s .sa) ∗ owns (c : Thread nD τ) (Memref.whole cc0_scratch3) fullShare (s .sb)
    ∗ owns (c : Thread nD τ) (Memref.whole cc0_scratch4) fullShare (s .pa) ∗ owns (c : Thread nD τ) (Memref.whole cc0_scratch5) fullShare (s .pb)
    ∗ owns (c : Thread nD τ) (Memref.whole cc0_scratch6) fullShare (s .ala) ∗ owns (c : Thread nD τ) (Memref.whole cc0_scratch7) fullShare (s .alb)
    ∗ owns (c : Thread nD τ) (Memref.whole cc0_scratch8) fullShare (s .acc) ∗ owns (c : Thread nD τ) (Memref.whole cc0_scratch9) fullShare (s .mx)
    ∗ owns (c : Thread nD τ) (Memref.whole cc0_scratch10) fullShare (s .ct))

/-- Contents of one kind. -/
def some' (a : Arg) : Vec F a.sh a.el := fun _ => Classical.choice inferInstance

/-- The scoped buffers that stage nothing are the scratch buffers, at some contents. -/
theorem scr_of_rest (c : Dev nD) : (Pipeline.scopedRest (Ix := Unit) (Name := ℕ) (U := UR sig nD τ) (Lvl := ℕ) (Val := Elt F) spec0 c : sProp 𝕄) ⊢ iprop(∃ s : Mem F, scr c s) := by
  rw [scopedRest0_eq]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩
  iexists (memOf (some' .crow) (some' .q) (some' .k) (some' .v) (some' .gate) (some' .out) f0 f1 f2 f3 f4 f5 f6 f7 f8 f9 f10)
  unfold scr
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem rest_of_scr (c : Dev nD) (s : Mem F) : (scr c s : sProp 𝕄) ⊢ Pipeline.scopedRest (Ix := Unit) (Name := ℕ) (U := UR sig nD τ) (Lvl := ℕ) (Val := Elt F) spec0 c := by
  rw [scopedRest0_eq]
  unfold scr
  simp only [owns_whole]
  iintro ⟨H0, H1, H2, H3, H4, H5, H6, H7, H8, H9, H10⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

/-- The scratch at `s` with operands and a result. -/
abbrev ops (x0 : Vec F (Arg.crow).sh (Arg.crow).el) (x1 : Vec F (Arg.q).sh (Arg.q).el) (x2 : Vec F (Arg.k).sh (Arg.k).el) (x3 : Vec F (Arg.v).sh (Arg.v).el)
    (x4 : Vec F (Arg.gate).sh (Arg.gate).el) (x5 : Vec F (Arg.out).sh (Arg.out).el) (s : Mem F) : Mem F :=
  memOf x0 x1 x2 x3 x4 x5 (s .va) (s .kt) (s .sa) (s .sb) (s .pa) (s .pb) (s .ala) (s .alb) (s .acc) (s .mx) (s .ct)

/-- The body at point `t`: the operands stay, the result and the scratch are as a head leaves them. -/
theorem point (c : Dev nD) (t : Fin (cfgM m).N) (x0 : Vec F (Arg.crow).sh (Arg.crow).el) (x1 : Vec F (Arg.q).sh (Arg.q).el) (x2 : Vec F (Arg.k).sh (Arg.k).el)
    (x3 : Vec F (Arg.v).sh (Arg.v).el) (x4 : Vec F (Arg.gate).sh (Arg.gate).el) (x5 : Vec F (Arg.out).sh (Arg.out).el) (s : Mem F) :
    iprop(Pipeline.ΦT pre0 (tbl m) c ∗ scr c s ∗ owns (c : Thread nD τ) (spec0_0.stage ((cfgM m).slots t 0)) fullShare x0
        ∗ owns (c : Thread nD τ) (spec0_1.stage ((cfgM m).slots t 1)) fullShare x1 ∗ owns (c : Thread nD τ) (spec0_2.stage ((cfgM m).slots t 2)) fullShare x2
        ∗ owns (c : Thread nD τ) (spec0_3.stage ((cfgM m).slots t 3)) fullShare x3 ∗ owns (c : Thread nD τ) (spec0_4.stage ((cfgM m).slots t 4)) fullShare x4
        ∗ owns (c : Thread nD τ) (spec0_5.stage ((cfgM m).slots t 5)) fullShare x5)
      ⊢ wp frame (wpE (defs₀ (F := F)) Variants.none c none) Set.univ (defs₀ (F := F) .tc (cfgM m).body ((cfgM m).bodyArgs t ((cfgM m).slots t))) fun _ =>
        iprop(Pipeline.ΦT pre0 (tbl m) c ∗ scr c (headM T log2e mask (headOf m t) (ops x0 x1 x2 x3 x4 x5 s)) ∗ owns (c : Thread nD τ) (spec0_0.stage ((cfgM m).slots t 0)) fullShare x0
        ∗ owns (c : Thread nD τ) (spec0_1.stage ((cfgM m).slots t 1)) fullShare x1 ∗ owns (c : Thread nD τ) (spec0_2.stage ((cfgM m).slots t 2)) fullShare x2
        ∗ owns (c : Thread nD τ) (spec0_3.stage ((cfgM m).slots t 3)) fullShare x3 ∗ owns (c : Thread nD τ) (spec0_4.stage ((cfgM m).slots t 4)) fullShare x4
        ∗ owns (c : Thread nD τ) (spec0_5.stage ((cfgM m).slots t 5)) fullShare (headM T log2e mask (headOf m t) (ops x0 x1 x2 x3 x4 x5 s) .out)) := by
  have run := body_triple m c t (ops x0 x1 x2 x3 x4 x5 s)
  have k := keeps_head (T (F := F)) log2e mask (headOf m t) (ops x0 x1 x2 x3 x4 x5 s)
  rw [cells_eq, cells_eq, k .crow (.inl rfl), k .q (.inr (.inl rfl)), k .k (.inr (.inr (.inl rfl))), k .v (.inr (.inr (.inr (.inl rfl)))),
    k .gate (.inr (.inr (.inr (.inr rfl))))] at run
  refine Entails.trans ?_ (run.trans (wp_mono _ _ _ ?_))
  · unfold scr
    iintro ⟨HT, HS, H0, H1, H2, H3, H4, H5⟩
    isplitl [HT]; · iexact HT
    isplitr [HS]
    · isplitl [H0]; · iexact H0
      isplitl [H1]; · iexact H1
      isplitl [H2]; · iexact H2
      isplitl [H3]; · iexact H3
      isplitl [H4]; · iexact H4
      iexact H5
    · iexact HS
  · intro _
    unfold scr
    iintro ⟨HT, ⟨H0, H1, H2, H3, H4, H5⟩, HS⟩
    isplitl [HT]; · iexact HT
    isplitl [HS]; · iexact HS
    isplitl [H0]; · iexact H0
    isplitl [H1]; · iexact H1
    isplitl [H2]; · iexact H2
    isplitl [H3]; · iexact H3
    isplitl [H4]; · iexact H4
    iexact H5

/-! ### The proof data -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

variable (P : Fin ((cfgM m).N + 1) → Mem F → Prop) (o : Fin (cfgM m).N → Vec F (Arg.out).sh (Arg.out).el)

/-- The proof data that track `P` of the scratch and the results `o`. -/
def dat (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o t
    | ⟨_ + 6, h⟩ => absurd h (Nat.not_lt.2 (Nat.le_add_left _ _))
  Φ t := iprop((∃ s : Mem F, ⌜P t s⌝ ∗ scr c s) ∗ (∃ r, prngReg c r) ∗ Pipeline.ΦT pre0 (tbl m) c)
  q w := Pipeline.shareOf spec0 w
  owed _ := 0

theorem A_eq (c : Dev nD) (w) : (dat m P o 0 c).A w = V m c (Pipeline.arrRef spec0 w) := by dsimp only [dat]

theorem before_0 (c : Dev nD) (t : Fin (cfgM m).N) (d) : (dat m P o 0 c).before 0 t d = iblk m c 0 t :=
  ((dat m P o 0 c).before_in_eq_fetched 0 rfl (fun _ => rfl) (fun _ _ _ => rfl) (fun t => rfl) t d).trans rfl
theorem before_1 (c : Dev nD) (t : Fin (cfgM m).N) (d) : (dat m P o 0 c).before 1 t d = iblk m c 1 t :=
  ((dat m P o 0 c).before_in_eq_fetched 1 rfl (fun _ => rfl) (fun _ _ _ => rfl) (fun t => rfl) t d).trans rfl
theorem before_2 (c : Dev nD) (t : Fin (cfgM m).N) (d) : (dat m P o 0 c).before 2 t d = iblk m c 2 t :=
  ((dat m P o 0 c).before_in_eq_fetched 2 rfl (fun _ => rfl) (fun _ _ _ => rfl) (fun t => rfl) t d).trans rfl
theorem before_3 (c : Dev nD) (t : Fin (cfgM m).N) (d) : (dat m P o 0 c).before 3 t d = iblk m c 3 t :=
  ((dat m P o 0 c).before_in_eq_fetched 3 rfl (fun _ => rfl) (fun _ _ _ => rfl) (fun t => rfl) t d).trans rfl
theorem before_4 (c : Dev nD) (t : Fin (cfgM m).N) (d) : (dat m P o 0 c).before 4 t d = iblk m c 4 t :=
  ((dat m P o 0 c).before_in_eq_fetched 4 rfl (fun _ => rfl) (fun _ _ _ => rfl) (fun t => rfl) t d).trans rfl

/-- The contents a head starts from at point `t`, its scratch as in `s`. -/
abbrev entry (c : Dev nD) (t : Fin (cfgM m).N) (x5 : Vec F (Arg.out).sh (Arg.out).el) (s : Mem F) : Mem F :=
  ops (iblk m c 0 t) (iblk m c 1 t) (iblk m c 2 t) (iblk m c 3 t) (iblk m c 4 t) x5 s

/-- Every head keeps `P`. -/
def KeepsP (c : Dev nD) : Prop := ∀ (t : Fin (cfgM m).N) (x5) (s : Mem F), P t.castSucc s → P t.succ (headM T log2e mask (headOf m t) (entry m c t x5 s))

/-- The operands' stages at point `t`, at their blocks. -/
def opsHeld (c : Dev nD) (t : Fin (cfgM m).N) : sProp 𝕄 :=
  iprop(owns (c : Thread nD τ) (spec0_0.stage ((cfgM m).slots t 0)) fullShare (iblk m c 0 t)
        ∗ owns (c : Thread nD τ) (spec0_1.stage ((cfgM m).slots t 1)) fullShare (iblk m c 1 t) ∗ owns (c : Thread nD τ) (spec0_2.stage ((cfgM m).slots t 2)) fullShare (iblk m c 2 t)
        ∗ owns (c : Thread nD τ) (spec0_3.stage ((cfgM m).slots t 3)) fullShare (iblk m c 3 t) ∗ owns (c : Thread nD τ) (spec0_4.stage ((cfgM m).slots t 4)) fullShare (iblk m c 4 t))

/-- The body on the tracked scratch. -/
theorem tracked (c : Dev nD) (t : Fin (cfgM m).N) (x5) (s : Mem F) :
    iprop((dat m P o 0 c).owesAt () t.castSucc ∗ (∃ r, prngReg c r) ∗ Pipeline.ΦT pre0 (tbl m) c ∗ scr c s ∗ opsHeld m c t ∗ owns (c : Thread nD τ) (spec0_5.stage ((cfgM m).slots t 5)) fullShare x5)
      ⊢ wp frame (wpE (defs₀ (F := F)) Variants.none c none) Set.univ (defs₀ (F := F) .tc (cfgM m).body ((cfgM m).bodyArgs t ((cfgM m).slots t))) fun _ =>
        iprop((dat m P o 0 c).owesAt () t.succ ∗ (∃ r, prngReg c r) ∗ Pipeline.ΦT pre0 (tbl m) c ∗ scr c (headM T log2e mask (headOf m t) (entry m c t x5 s)) ∗ opsHeld m c t
          ∗ owns (c : Thread nD τ) (spec0_5.stage ((cfgM m).slots t 5)) fullShare (headM T log2e mask (headOf m t) (entry m c t x5 s) .out)) := by
  have run := point m c t (iblk m c 0 t) (iblk m c 1 t) (iblk m c 2 t) (iblk m c 3 t) (iblk m c 4 t) x5 s
  rw [show (dat m P o 0 c).owesAt () t.succ = (dat m P o 0 c).owesAt () t.castSucc from rfl]
  unfold opsHeld
  refine Entails.trans (Q := iprop(((dat m P o 0 c).owesAt () t.castSucc ∗ (∃ r, prngReg c r)) ∗ _)) ?_ ((sep_mono .rfl run).trans ((wp_frame_l _ _ _).trans (wp_mono _ _ _ ?_)))
  · iintro ⟨Ho, HR, HT, HS, ⟨H0, H1, H2, H3, H4⟩, H5⟩
    isplitl [Ho HR]
    · isplitl [Ho]; · iexact Ho
      iexact HR
    isplitl [HT]; · iexact HT
    isplitl [HS]; · iexact HS
    isplitl [H0]; · iexact H0
    isplitl [H1]; · iexact H1
    isplitl [H2]; · iexact H2
    isplitl [H3]; · iexact H3
    isplitl [H4]; · iexact H4
    iexact H5
  · intro _
    iintro ⟨⟨Ho, HR⟩, HT, HS, H0, H1, H2, H3, H4, H5⟩
    isplitl [Ho]; · iexact Ho
    isplitl [HR]; · iexact HR
    isplitl [HT]; · iexact HT
    isplitl [HS]; · iexact HS
    isplitr [H5]
    · isplitl [H0]; · iexact H0
      isplitl [H1]; · iexact H1
      isplitl [H2]; · iexact H2
      isplitl [H3]; · iexact H3
      iexact H4
    · iexact H5

/-- What the body is handed at point `t`, with anything in the result's stage. -/
def handed (c : Dev nD) (t : Fin (cfgM m).N) : sProp 𝕄 :=
  iprop(((∃ s : Mem F, ⌜P t.castSucc s⌝ ∗ scr c s) ∗ (∃ r, prngReg c r) ∗ Pipeline.ΦT pre0 (tbl m) c) ∗ (dat m P o 0 c).owesAt () t.castSucc
      ∗ (∃ d, owns (c : Thread nD τ) (spec0_0.stage ((cfgM m).slots t 0)) fullShare ((dat m P o 0 c).before 0 t d))
      ∗ (∃ d, owns (c : Thread nD τ) (spec0_1.stage ((cfgM m).slots t 1)) fullShare ((dat m P o 0 c).before 1 t d))
      ∗ (∃ d, owns (c : Thread nD τ) (spec0_2.stage ((cfgM m).slots t 2)) fullShare ((dat m P o 0 c).before 2 t d))
      ∗ (∃ d, owns (c : Thread nD τ) (spec0_3.stage ((cfgM m).slots t 3)) fullShare ((dat m P o 0 c).before 3 t d))
      ∗ (∃ d, owns (c : Thread nD τ) (spec0_4.stage ((cfgM m).slots t 4)) fullShare ((dat m P o 0 c).before 4 t d))
      ∗ (∃ X, owns (c : Thread nD τ) (spec0_5.stage ((cfgM m).slots t 5)) fullShare X))

/-- What it gives back, the result's stage at contents of which `R` holds. -/
def given (R : Vec F (Arg.out).sh (Arg.out).el → Prop) (c : Dev nD) (t : Fin (cfgM m).N) : sProp 𝕄 :=
  iprop(((∃ s : Mem F, ⌜P t.succ s⌝ ∗ scr c s) ∗ (∃ r, prngReg c r) ∗ Pipeline.ΦT pre0 (tbl m) c) ∗ (dat m P o 0 c).owesAt () t.succ
      ∗ owns (c : Thread nD τ) (spec0_0.stage ((cfgM m).slots t 0)) fullShare (iblk m c 0 t)
      ∗ owns (c : Thread nD τ) (spec0_1.stage ((cfgM m).slots t 1)) fullShare (iblk m c 1 t)
      ∗ owns (c : Thread nD τ) (spec0_2.stage ((cfgM m).slots t 2)) fullShare (iblk m c 2 t)
      ∗ owns (c : Thread nD τ) (spec0_3.stage ((cfgM m).slots t 3)) fullShare (iblk m c 3 t)
      ∗ owns (c : Thread nD τ) (spec0_4.stage ((cfgM m).slots t 4)) fullShare (iblk m c 4 t)
      ∗ (∃ X, ⌜R X⌝ ∗ owns (c : Thread nD τ) (spec0_5.stage ((cfgM m).slots t 5)) fullShare X))

/-- The body, from what it is handed to what it gives back. -/
theorem body_at (c : Dev nD) (t : Fin (cfgM m).N) (R : Vec F (Arg.out).sh (Arg.out).el → Prop) (hP : KeepsP m P c)
    (hR : ∀ (x5) (s : Mem F), P t.castSucc s → R (headM T log2e mask (headOf m t) (entry m c t x5 s) .out)) :
    handed m P o c t ⊢ wp frame (wpE (defs₀ (F := F)) Variants.none c none) Set.univ (defs₀ (F := F) .tc (cfgM m).body ((cfgM m).bodyArgs t ((cfgM m).slots t)))
      fun _ => given m P o R c t := by
  unfold handed
  simp only [before_0, before_1, before_2, before_3, before_4]
  iintro ⟨⟨⟨%s, %hs, HS⟩, HR, HT⟩, Ho, ⟨%d0, H0⟩, ⟨%d1, H1⟩, ⟨%d2, H2⟩, ⟨%d3, H3⟩, ⟨%d4, H4⟩, ⟨%X, H5⟩⟩
  have post : ∀ _ : PUnit, iprop((dat m P o 0 c).owesAt () t.succ ∗ (∃ r, prngReg c r) ∗ Pipeline.ΦT pre0 (tbl m) c ∗ scr c (headM T log2e mask (headOf m t) (entry m c t X s)) ∗ opsHeld m c t
          ∗ owns (c : Thread nD τ) (spec0_5.stage ((cfgM m).slots t 5)) fullShare (headM T log2e mask (headOf m t) (entry m c t X s) .out)) ⊢ given m P o R c t := by
    intro _
    unfold opsHeld given
    iintro ⟨Ho, HR, HT, HS, ⟨H0, H1, H2, H3, H4⟩, H5⟩
    isplitl [HS HR HT]
    · isplitl [HS]
      · iexists _
        isplitr
        · ipureintro; exact hP t X s hs
        · iexact HS
      isplitl [HR]; · iexact HR
      iexact HT
    isplitl [Ho]; · iexact Ho
    isplitl [H0]; · iexact H0
    isplitl [H1]; · iexact H1
    isplitl [H2]; · iexact H2
    isplitl [H3]; · iexact H3
    isplitl [H4]; · iexact H4
    iexists _
    isplitr
    · ipureintro; exact hR X s hs
    · iexact H5
  iapply ((tracked m P o c t X s).trans (wp_mono _ _ _ post))
  isplitl [Ho]; · iexact Ho
  isplitl [HR]; · iexact HR
  isplitl [HT]; · iexact HT
  isplitl [HS]; · iexact HS
  unfold opsHeld
  isplitr [H5]
  · isplitl [H0]; · iexact H0
    isplitl [H1]; · iexact H1
    isplitl [H2]; · iexact H2
    isplitl [H3]; · iexact H3
    iexact H4
  · iexact H5

theorem phi_in (c : Dev nD) (h0 : ∀ s, P 0 s) : iprop(Pipeline.ΦA (Val := Elt F) (U := UR sig nD τ) spec0 c ∗ Pipeline.ΦT pre0 (tbl m) c) ⊢ (dat m P o 0 c).Φ 0 := by
  show _ ⊢ iprop((∃ s : Mem F, ⌜P 0 s⌝ ∗ scr c s) ∗ (∃ r, prngReg c r) ∗ Pipeline.ΦT pre0 (tbl m) c)
  unfold Pipeline.ΦA
  have h : iprop(∃ s : Mem F, scr c s) ⊢ (iprop(∃ s : Mem F, ⌜P 0 s⌝ ∗ scr c s) : sProp 𝕄) := by
    iintro ⟨%s, H⟩
    iexists s
    isplitr
    · ipureintro; exact h0 s
    · iexact H
  iintro ⟨⟨HS, HR⟩, HT⟩
  isplitl [HS]
  · iapply ((scr_of_rest c).trans h)
    iexact HS
  isplitl [HR]; · iexact HR
  iexact HT

theorem phi_out (c : Dev nD) (k) : (dat m P o 0 c).Φ k ⊢ Pipeline.ΦA (Val := Elt F) (U := UR sig nD τ) spec0 c := by
  show iprop((∃ s : Mem F, ⌜P k s⌝ ∗ scr c s) ∗ (∃ r, prngReg c r) ∗ Pipeline.ΦT pre0 (tbl m) c) ⊢ _
  unfold Pipeline.ΦA
  iintro ⟨⟨%s, %hs, HS⟩, HR, HT⟩
  isplitl [HS]
  · iapply (rest_of_scr c s)
    iexact HS
  · iexact HR

/-! ### The frame: the result forgotten -/

/-- The result's window. -/
abbrev isResult : Fin 6 → Bool := fun | 5 => true | _ => false

theorem given_forget (c : Dev nD) (t : Fin (cfgM m).N) (R) : given m P o R c t ⊢
    iprop(((∃ s : Mem F, ⌜P t.succ s⌝ ∗ scr c s) ∗ (∃ r, prngReg c r) ∗ Pipeline.ΦT pre0 (tbl m) c) ∗ (dat m P o 0 c).owesAt () t.succ
      ∗ owns (c : Thread nD τ) (spec0_0.stage ((cfgM m).slots t 0)) fullShare (iblk m c 0 t)
      ∗ owns (c : Thread nD τ) (spec0_1.stage ((cfgM m).slots t 1)) fullShare (iblk m c 1 t)
      ∗ owns (c : Thread nD τ) (spec0_2.stage ((cfgM m).slots t 2)) fullShare (iblk m c 2 t)
      ∗ owns (c : Thread nD τ) (spec0_3.stage ((cfgM m).slots t 3)) fullShare (iblk m c 3 t)
      ∗ owns (c : Thread nD τ) (spec0_4.stage ((cfgM m).slots t 4)) fullShare (iblk m c 4 t)
      ∗ (∃ X, owns (c : Thread nD τ) (spec0_5.stage ((cfgM m).slots t 5)) fullShare X)) := by
  unfold given
  iintro ⟨HΦ, Ho, H0, H1, H2, H3, H4, ⟨%X, %hX, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists X
  iexact H5

theorem forget_obligation (hP : ∀ c, KeepsP m P c) (c : Dev nD) :
    BodyObligationLoose (dat m P o 0 c) (defs₀ (F := F)) Variants.none () Set.univ isResult := fun t => by
  rw [bigSep_W0, bigSep_W0]
  exact (body_at m P o c t (fun _ => True) (hP c) (fun _ _ _ => trivial)).trans (wp_mono _ _ _ fun _ => given_forget m P o c t _)

set_option backward.isDefEq.respectTransparency.types false in
/-- The run, its result forgotten. -/
theorem run_forget : θ_run defs (onTc (τ := τ) (main (F := F))) ⟨m, fun _ => 0, ρ⟩
    (fun r => Pipeline.RDat.FramePost (cfgM m) (fun c => (dat m (fun _ _ => True) (fun _ => some' .out) 0 c).toRForget isResult) (V m) r ∧ r.2.sem = fun _ => 0) :=
  Pipeline.θ_run_frameP_track_forget_shared (Q' := _) pcfgs (fun _ => adm m) (dat m (fun _ _ => True) (fun _ => some' .out)) (0 : Fin 1) launch₀0 defs₀ Variants.none isResult m ρ main
    (hbody := fun c => forget_obligation m _ _ (fun _ _ _ _ _ => trivial) c) (hq := fun _ _ _ => rfl) (howed := fun _ _ => rfl)
    (V := V m) (hmain := hmain m Variants.none) (hA := A_eq m _ _) (hpf := V_pre m)
    (hin := fun c => phi_in m _ _ c fun _ => trivial) (hout := fun c => phi_out m _ _ c _)

/-- THE FRAME: the arguments end as launched, every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨
    ((h.1 c).2 main_arg0 (by decide : main_arg0 ∈ Pipeline.restRefs sig spec0)).trans (V_kept m c _ (by decide)),
    ((h.1 c).2 main_arg1 (by decide : main_arg1 ∈ Pipeline.restRefs sig spec0)).trans (V_kept m c _ (by decide)),
    ((h.1 c).2 main_arg2 (by decide : main_arg2 ∈ Pipeline.restRefs sig spec0)).trans (V_kept m c _ (by decide)),
    ((h.1 c).2 main_arg3 (by decide : main_arg3 ∈ Pipeline.restRefs sig spec0)).trans (V_kept m c _ (by decide)),
    (Pipeline.RDat.FramePost.arr_in h.1 c 4 rfl).trans ((A_eq m (fun _ _ => True) (fun _ => some' .out) c 4).trans (V_kept m c main_arg4 (by decide)))⟩, h.2⟩) (run_forget m ρ)

end Cert.Proof.Att.KernelIdeal
-- ==== Proof.Att.Claim.lean ====
/- The attention kernel: its reference ends with its arguments unchanged, and its named constants stand for the numbers they round. -/
module

public import proofs.«01_k».proof.Defs
public import proofs.«01_k».proof.Proof.Gen.ReferenceIdeal
public import proofs.«01_k».proof.Proof.Gen.ReferenceIdeal.Run
public import proofs.«01_k».proof.Proof.Gen.KernelIdeal
public import Idealize.ShloMosaic.Lib.Quiescent

@[expose] public section

set_option maxRecDepth 16384

noncomputable section

namespace Cert.Proof.Att

open Idealize.ShloMosaic Idealize.SL.Sem

instance : Cert.KernelIdeal.Facts := Cert.KernelIdeal.Gen.facts
instance : Cert.ReferenceIdeal.Facts := Cert.ReferenceIdeal.Gen.facts

/-- The reference ends, its arguments unchanged; it has no semaphores. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two named constants are the ones the program asks for. -/
theorem preserves : Cert.preserves_Kernel_KernelIdeal :=
  ⟨IdealRules.named_const.statement Cert.KernelIdeal.κ "log2e" .f32 _ _ rfl, IdealRules.named_const.statement Cert.KernelIdeal.κ "mask" .f32 _ _ rfl⟩

end Cert.Proof.Att

end
-- ==== Proof.Att.Reads.lean ====
/- The kernel's arithmetic at an index, over the extended reals. -/
module

public import proofs.«01_k».proof.Proof.Att.ActRuns
public import Idealize.ShloMosaic.Lib.Pointwise
public import Idealize.ShloMosaic.Lib.WordCmp

@[expose] public section

set_option maxRecDepth 16384

noncomputable section

namespace Cert.Proof.Att

open Idealize.ShloMosaic Idealize.ShloMosaic.IntOp
open scoped BigOperators

theorem scoresOf_at (w : Wd) (x : Vec Ideal (Mat 512 128) .bf16) (y : Vec Ideal (Mat 128 w.n) .bf16) (i : Fin 512) (j : Fin w.n) :
    scoresOf (F := Ideal) w x y (ix2 i j) = ∑ d : Fin 128, x (ix2 i d) * y (ix2 d j) := by
  cases w <;> pointwise [scoresOf]

theorem plainOf_at (w : Wd) (s : Vec Ideal (Mat 32 w.n) .f32) (c : FVec Ideal (Mat 1 w.n) .f32) (i : Fin 32) (j : Fin w.n) :
    plainOf (F := Ideal) w s c (ix2 i j) = s (ix2 i j) - c (ix2 0 j) := by
  cases w <;> pointwise [plainOf]

theorem weightsOf_at (w : Wd) (s : Vec Ideal (Mat 32 w.n) .f32) (top ct : FVec Ideal (Mat 32 1) .f32) (i : Fin 32) (j : Fin w.n) :
    weightsOf (F := Ideal) w s top ct (ix2 i j) = Ideal.exp2 (s (ix2 i j) - (top (ix2 i 0) - ct (ix2 i 0))) := by
  cases w <;> (pointwise [weightsOf]; rfl)

theorem offsOf_at (l : EReal) (w : Wd) (x : Vec Ideal (Row w.n) .f32) (j : Fin w.n) :
    offsOf (F := Ideal) l w x (ix2 0 j) = x (ix3 0 0 j) * l := by
  cases w <;> pointwise [offsOf]

theorem sumOf_at (w : Wd) (p : Vec Ideal (Mat 512 w.n) .bf16) (v : Vec Ideal (Mat w.n 256) .bf16) (i : Fin 512) (d : Fin 256) :
    sumOf (F := Ideal) w p v (ix2 i d) = ∑ j : Fin w.n, p (ix2 i j) * v (ix2 j d) := by
  cases w <;> pointwise [sumOf]

theorem keysOf_at (x : Vec Ideal (Mat 512 128) .bf16) (d : Fin 128) (i : Fin 512) : keysOf (F := Ideal) x (ix2 d i) = x (ix2 i d) := by
  pointwise [keysOf]

theorem gatesOf_at (l : EReal) (x : Vec Ideal (Row 512) .f32) (i : Fin 512) : gatesOf (F := Ideal) l x (ix2 i 0) = x (ix3 0 0 i) * l := by
  pointwise [gatesOf]

theorem topOf_at (w : Wd) (s : FVec Ideal (Mat 32 w.n) .f32) (ct : Vec Ideal (Mat 32 1) .f32) (i : Fin 32) :
    topOf (F := Ideal) w s ct (ix2 i 0) = (Finset.univ.sup fun j : Fin w.n => s (ix2 i j)) + ct (ix2 i 0) := by
  have e : Ideal.ofBits FTy.f32 0xFF800000#32 = (⊥ : EReal) := by simp [Ideal.ofBits, Ideal.ieee]
  cases w <;> (pointwise [topOf]; rw [e]; rfl)

theorem maskedOf_at (l : EReal) (w : Wd) (r : Fin 16) (s : Vec Ideal (Mat 32 w.n) .f32) (c : FVec Ideal (Mat 1 w.n) .f32) (i : Fin 32) (j : Fin w.n) :
    maskedOf (F := Ideal) l w (BitVec.ofNat 32 (32 * r.val)) s c (ix2 i j) = if j.val ≤ i.val + 32 * r.val then s (ix2 i j) - c (ix2 0 j) else l := by
  have hj : j.val < 1024 := by cases w <;> exact lt_of_lt_of_le j.isLt (by decide)
  have h : IntOp.cmpi CmpIPredicate.sle (BitVec.ofNat 32 j.val) (IntOp.addi (BitVec.ofNat 32 i.val) (BitVec.ofNat 32 (32 * r.val))) = 1#1 ↔ j.val ≤ i.val + 32 * r.val := by
    rw [show IntOp.addi (BitVec.ofNat 32 i.val) (BitVec.ofNat 32 (32 * r.val)) = BitVec.ofNat 32 (i.val + 32 * r.val) from (BitVec.ofNat_add ..).symm]
    exact WordCmp.cmpi_sle_ofNat_eq_one_iff (by omega) (by omega)
  have e : ∀ x y : EReal, Scalar.select (IntOp.cmpi CmpIPredicate.sle (BitVec.ofNat 32 j.val) (IntOp.addi (BitVec.ofNat 32 i.val) (BitVec.ofNat 32 (32 * r.val)))) x y
      = if j.val ≤ i.val + 32 * r.val then x else y := fun x y => by
    unfold Scalar.select
    exact if_congr h rfl rfl
  cases w <;> (pointwise [maskedOf, plainOf]; exact e _ _)

/-- The gate of a result. -/
def siluOf (z : EReal) : EReal := z * Ideal.div 1 (1 + Ideal.exp (-z))

theorem finishOf_at (x : Vec Ideal (Mat 8192 256) .f32) (g : Vec Ideal (Mat 8192 128) .f32) (i : Fin 8192) (d : Fin 128) :
    finishOf (F := Ideal) x g (ix2 i d) = Ideal.div (x (ix2 i ⟨d.val, by omega⟩)) (x (ix2 i ⟨128 + d.val, by omega⟩)) * siluOf (g (ix2 i d)) := by
  pointwise [finishOf, siluOf]
  rw [zero_sub]

end Cert.Proof.Att

end
-- ==== Proof.Att.Puts.lean ====
/- Blocks of the buffers at an index: what a write leaves inside and outside its block. -/
module

public import proofs.«01_k».proof.Proof.Att.ActRuns
public import Idealize.ShloMosaic.Lib.Pointwise

@[expose] public section

set_option maxRecDepth 16384

noncomputable section

namespace Cert.Proof.Att

open Idealize.ShloMosaic

section
variable {α : Type} {n m h w r0 c0 : Nat}

/-- An entry of a block is an entry of the matrix. -/
theorem emb_eq (inb : ∀ a, (![r0, c0] : Fin 2 → Nat) a + (![h, w] : Fin 2 → Nat) a ≤ (Mat n m).size a) (i' : Fin h) (j' : Fin w) (i : Fin n) (j : Fin m)
    (hi : i.val = r0 + i'.val) (hj : j.val = c0 + j'.val) : (blk (s := Mat n m) ![r0, c0] ![h, w] inb).emb (ix2 i' j') = ix2 i j :=
  funext fun a => Fin.ext (by
    match a with
    | 0 => show r0 + 1 * i'.val = i.val; omega
    | 1 => show c0 + 1 * j'.val = j.val; omega)

theorem overlay_in (inb : ∀ a, (![r0, c0] : Fin 2 → Nat) a + (![h, w] : Fin 2 → Nat) a ≤ (Mat n m).size a) (X : (Mat n m).Idx → α) (W : (Mat h w).Idx → α)
    (i' : Fin h) (j' : Fin w) (i : Fin n) (j : Fin m) (hi : i.val = r0 + i'.val) (hj : j.val = c0 + j'.val) :
    overlay (blk (s := Mat n m) ![r0, c0] ![h, w] inb) X W (ix2 i j) = W (ix2 i' j') := by
  rw [← emb_eq inb i' j' i j hi hj]
  exact overlay_emb _ _ _ _

theorem overlay_out (inb : ∀ a, (![r0, c0] : Fin 2 → Nat) a + (![h, w] : Fin 2 → Nat) a ≤ (Mat n m).size a) (X : (Mat n m).Idx → α) (W : (Mat h w).Idx → α)
    (i : Fin n) (j : Fin m) (ho : i.val < r0 ∨ r0 + h ≤ i.val ∨ j.val < c0 ∨ c0 + w ≤ j.val) :
    overlay (blk (s := Mat n m) ![r0, c0] ![h, w] inb) X W (ix2 i j) = X (ix2 i j) :=
  overlay_off _ _ _ fun x e => by
    have e0 : r0 + 1 * (x 0).val = i.val := congrArg (fun y => (y 0).val) e
    have e1 : c0 + 1 * (x 1).val = j.val := congrArg (fun y => (y 1).val) e
    have h0 : (x 0).val < h := (x 0).isLt
    have h1 : (x 1).val < w := (x 1).isLt
    omega
end

variable {F : FTy → Type} [FloatOps F]

theorem put_same (s : Mem F) (a : Arg) (off size : Fin a.sh.rank → Nat) (inb) (w : Vec F ⟨a.sh.rank, size⟩ a.el) :
    s.put a off size inb w a = overlay (blk off size inb) (s a) w := s.set_same a _
theorem put_other (s : Mem F) {a b : Arg} (h : b ≠ a) (off size : Fin a.sh.rank → Nat) (inb) (w : Vec F ⟨a.sh.rank, size⟩ a.el) :
    s.put a off size inb w b = s b := s.set_other h _

theorem putSM_other (u : Bool) (off size : Fin 2 → Nat) (inb) (w : Vec F ⟨2, size⟩ .f32) (s : Mem F) {b : Arg} (h : b ≠ sBuf u) : putSM u off size inb w s b = s b := by
  cases u <;> exact put_other s h _ _ _ _
theorem putPM_other (u : Bool) (off size : Fin 2 → Nat) (inb) (w : Vec F ⟨2, size⟩ .bf16) (s : Mem F) {b : Arg} (h : b ≠ pBuf u) : putPM u off size inb w s b = s b := by
  cases u <;> exact put_other s h _ _ _ _
theorem putAM_other (u : Bool) (r : Fin 16) (w : Vec F (Mat 32 1) .f32) (s : Mem F) {b : Arg} (h : b ≠ aBuf u) : putAM u r w s b = s b := by
  cases u <;> exact put_other s h _ _ _ _
theorem getS_put (u : Bool) (off size : Fin 2 → Nat) (inb) (w : Vec F ⟨2, size⟩ .f32) (s : Mem F) :
    getS u (putSM u off size inb w s) = overlay (blk (s := Mat 512 1024) off size inb) (getS u s) w := by
  cases u <;> exact put_same s _ _ _ _ _
theorem getP_put (u : Bool) (off size : Fin 2 → Nat) (inb) (w : Vec F ⟨2, size⟩ .bf16) (s : Mem F) :
    getP u (putPM u off size inb w s) = overlay (blk (s := Mat 512 1024) off size inb) (getP u s) w := by
  cases u <;> exact put_same s _ _ _ _ _
theorem getA_put (u : Bool) (r : Fin 16) (w : Vec F (Mat 32 1) .f32) (s : Mem F) :
    getA u (putAM u r w s) = overlay (blk (s := Mat 512 1) ![32 * r.val, 0] ![32, 1] (al_inb r)) (getA u s) w := by
  cases u <;> exact put_same s _ _ _ _ _
theorem getS_congr (u : Bool) {s s' : Mem F} (h : s' (sBuf u) = s (sBuf u)) : getS u s' = getS u s := by cases u <;> exact h
theorem getP_congr (u : Bool) {s s' : Mem F} (h : s' (pBuf u) = s (pBuf u)) : getP u s' = getP u s := by cases u <;> exact h
theorem getA_congr (u : Bool) {s s' : Mem F} (h : s' (aBuf u) = s (aBuf u)) : getA u s' = getA u s := by cases u <;> exact h

/-- Independent changes, one for every listed number, are all made. -/
theorem eachM_all {n : Nat} (f : Fin n → Mem F → Mem F) (I : Mem F → Prop) (Todo Done : Fin n → Mem F → Prop)
    (h : ∀ r s, I s → Todo r s → I (f r s) ∧ Done r (f r s))
    (hT : ∀ r r' s, r' ≠ r → Todo r' s → Todo r' (f r s)) (hD : ∀ r r' s, r' ≠ r → Done r' s → Done r' (f r s)) :
    ∀ (l : List (Fin n)) (s : Mem F), l.Nodup → I s → (∀ r ∈ l, Todo r s) →
      I (eachM f l s) ∧ (∀ r ∈ l, Done r (eachM f l s)) ∧ ∀ r ∉ l, Done r s → Done r (eachM f l s)
  | [], s, _, hI, _ => ⟨hI, fun _ h => absurd h List.not_mem_nil, fun _ _ h => h⟩
  | r :: l, s, hn, hI, ht => by
    obtain ⟨hr, hl⟩ := List.nodup_cons.mp hn
    obtain ⟨h1, h2⟩ := h r s hI (ht r List.mem_cons_self)
    obtain ⟨j1, j2, j3⟩ := eachM_all f I Todo Done h hT hD l (f r s) hl h1
      fun r' hr' => hT r r' s (fun e => hr (e ▸ hr')) (ht r' (List.mem_cons_of_mem _ hr'))
    refine ⟨j1, fun r' hr' => ?_, fun r' hr' hd => j3 r' (fun hm => hr' (List.mem_cons_of_mem _ hm)) (hD r r' s (fun e => hr' (e ▸ List.mem_cons_self)) hd)⟩
    rcases List.mem_cons.mp hr' with rfl | hm
    · exact j3 _ hr h2
    · exact j2 _ hm

theorem passes_nodup : passes.Nodup := by decide
theorem mem_passes : ∀ r : Fin 16, r ∈ passes := by decide

/-- A change for every pass. -/
theorem eachM_passes (f : Fin 16 → Mem F → Mem F) (I : Mem F → Prop) (Todo Done : Fin 16 → Mem F → Prop)
    (h : ∀ r s, I s → Todo r s → I (f r s) ∧ Done r (f r s))
    (hT : ∀ r r' s, r' ≠ r → Todo r' s → Todo r' (f r s)) (hD : ∀ r r' s, r' ≠ r → Done r' s → Done r' (f r s))
    (s : Mem F) (hI : I s) (ht : ∀ r, Todo r s) : I (eachM f passes s) ∧ ∀ r, Done r (eachM f passes s) :=
  have := eachM_all f I Todo Done h hT hD passes s passes_nodup hI fun r _ => ht r
  ⟨this.1, fun r => this.2.1 r (mem_passes r)⟩

end Cert.Proof.Att

end
-- ==== Proof.Att.Softmax.lean ====
/- A tile's softmax pass over the extended reals: the new row maxima, the weights against them, and the factors
   that carry the old sums over. -/
module

public import proofs.«01_k».proof.Proof.Att.Reads
public import proofs.«01_k».proof.Proof.Att.Puts

@[expose] public section

set_option maxRecDepth 16384

noncomputable section

namespace Cert.Proof.Att

open Idealize.ShloMosaic
open scoped BigOperators

/-- The word of block `n`. -/
abbrev wd (n : Fin 16) : BitVec 32 := BitVec.ofNat 32 n.val

theorem off_row : ∀ n : Fin 16, (Scalar.indexCast (Scalar.muli (wd n) 512#32)).toNat = 512 * n.val := by decide +kernel
theorem off_pass : ∀ n r : Fin 16, (Scalar.indexCast (Scalar.addi (Scalar.muli (wd n) 512#32) (BitVec.ofNat 32 (32 * r.val)))).toNat = 512 * n.val + 32 * r.val := by
  decide +kernel

/-- A column of a tile, in the scores' buffer. -/
abbrev colOf (w : Wd) (j : Fin w.n) : Fin 1024 := ⟨j.val, lt_of_lt_of_le j.isLt (by cases w <;> decide)⟩
/-- A row of block `n`. -/
abbrev rowOf (n : Fin 16) (i : Fin 512) : Fin 8192 := ⟨512 * n.val + i.val, by omega⟩

variable (s0 : Mem Ideal) (masked : Bool) (w : Wd) (u : Bool) (n : Fin 16) (c : FVec Ideal (Mat 1 w.n) .f32)

/-- A tile's logits without the rows' own gates. -/
def xs (i : Fin 512) (j : Fin w.n) : EReal :=
  if masked = true ∧ ¬ j.val ≤ i.val then ⊥ else getS u s0 (ix2 i (colOf w j)) - c (ix2 0 j)
/-- A row's greatest logit. -/
def topS (i : Fin 512) : EReal := (Finset.univ.sup fun j => xs s0 masked w u c i j) + s0 .ct (ix2 (rowOf n i) 0)
/-- The row's new maximum. -/
def newS (i : Fin 512) : EReal := if masked = true then topS s0 masked w u n c i else max (s0 .mx (ix2 (rowOf n i) 0)) (topS s0 masked w u n c i)

/-- What a finished row holds. -/
def RowDone (i : Fin 512) (s : Mem Ideal) : Prop :=
  s .mx (ix2 (rowOf n i) 0) = newS s0 masked w u n c i ∧
  (∀ j : Fin w.n, getP u s (ix2 i (colOf w j)) = Ideal.exp2 (xs s0 masked w u c i j - (newS s0 masked w u n c i - s0 .ct (ix2 (rowOf n i) 0)))) ∧
  (masked = false → getA u s (ix2 i 0) = Ideal.exp2 (s0 .mx (ix2 (rowOf n i) 0) - newS s0 masked w u n c i))
/-- What a row still to be taken holds. -/
def RowTodo (i : Fin 512) (s : Mem Ideal) : Prop := s .mx (ix2 (rowOf n i) 0) = s0 .mx (ix2 (rowOf n i) 0)
/-- What the pass leaves alone. -/
def Apart (s : Mem Ideal) : Prop :=
  (∀ b, b ≠ pBuf u → b ≠ aBuf u → b ≠ .mx → s b = s0 b) ∧ ∀ t : Fin 8192, t.val / 512 ≠ n.val → s .mx (ix2 t 0) = s0 .mx (ix2 t 0)

/-- One pass, masked or not. -/
def passK (ha : FitsRows (wd n)) (r : Fin 16) (s : Mem Ideal) : Mem Ideal :=
  let sc : Vec Ideal (Mat 32 w.n) .f32 := fun x => getS u s ((blk (s := Mat 512 1024) ![32 * r.val, 0] ![32, w.n] (pass_inb w r)).emb x)
  let x : FVec Ideal (Mat 32 w.n) .f32 := match masked with
    | true => maskedOf (F := Ideal) (⊥ : EReal) w (BitVec.ofNat 32 (32 * r.val)) sc c
    | false => plainOf w sc c
  let ct : FVec Ideal (Mat 32 1) .f32 := block s .ct (passAt (wd n) (BitVec.ofNat 32 (32 * r.val))) ![32, 1] (ha.2 r)
  let old : FVec Ideal (Mat 32 1) .f32 := block s .mx (passAt (wd n) (BitVec.ofNat 32 (32 * r.val))) ![32, 1] (ha.2 r)
  let top : FVec Ideal (Mat 32 1) .f32 := match masked with
    | true => topOf w x ct
    | false => maximumf old (topOf w x ct)
  (putPM u ![32 * r.val, 0] ![32, w.n] (pass_inb w r) (weightsOf w x top ct) (match masked with
    | true => s
    | false => putAM u r (exp2 (subf old top)) s)).put .mx
    (passAt (wd n) (BitVec.ofNat 32 (32 * r.val))) ![32, 1] (ha.2 r) top

/-- A pass writes `mx`, its buffer of weights and its buffer of factors, and in those its own rows only. -/
theorem passK_kept (ha : FitsRows (wd n)) (r : Fin 16) (s : Mem Ideal) :
    (∀ b, b ≠ pBuf u → b ≠ aBuf u → b ≠ .mx → passK masked w u n c ha r s b = s b) ∧
    (∀ t : Fin 8192, (∀ i : Fin 512, i.val / 32 = r.val → t ≠ rowOf n i) → passK masked w u n c ha r s .mx (ix2 t 0) = s .mx (ix2 t 0)) ∧
    (∀ (i : Fin 512), i.val / 32 ≠ r.val → (∀ j, getP u (passK masked w u n c ha r s) (ix2 i j) = getP u s (ix2 i j)) ∧ getA u (passK masked w u n c ha r s) (ix2 i 0) = getA u s (ix2 i 0)) := by
  have hm : (Arg.mx : Arg) ≠ pBuf u ∧ (Arg.mx : Arg) ≠ aBuf u ∧ pBuf u ≠ aBuf u := by cases u <;> decide
  refine ⟨fun b h1 h2 h3 => ?_, fun t ht => ?_, fun i hi => ⟨fun j => ?_, ?_⟩⟩
  · unfold passK
    rw [put_other _ h3, putPM_other _ _ _ _ _ _ h1]
    cases masked
    · exact putAM_other _ _ _ _ h2
    · rfl
  · unfold passK
    rw [put_same]
    refine (overlay_out _ _ _ _ _ ?_).trans ?_
    · rw [off_pass]
      by_contra hh
      have hr := r.isLt
      refine ht ⟨t.val - 512 * n.val, by omega⟩ (by show (t.val - 512 * n.val) / 32 = r.val; omega) (Fin.ext ?_)
      show t.val = 512 * n.val + (t.val - 512 * n.val); omega
    · rw [putPM_other _ _ _ _ _ _ hm.1]
      cases masked
      · exact congrFun (putAM_other _ _ _ _ hm.2.1) _
      · rfl
  · unfold passK
    rw [getP_congr u (put_other _ (Ne.symm hm.1) _ _ _ _), getP_put]
    refine (overlay_out _ _ _ _ _ (by have hr := r.isLt; omega)).trans ?_
    cases masked
    · exact congrFun (getP_congr u (putAM_other _ _ _ _ hm.2.2)) _
    · rfl
  · unfold passK
    rw [getA_congr u (put_other _ (Ne.symm hm.2.1) _ _ _ _), getA_congr u (putPM_other _ _ _ _ _ _ (Ne.symm hm.2.2))]
    cases masked
    · rw [getA_put]
      exact overlay_out _ _ _ _ _ (by have hr := r.isLt; omega)
    · rfl

/-- A pass finishes its rows. -/
theorem passK_done (ha : FitsRows (wd n)) (r : Fin 16) (s : Mem Ideal) (hI : Apart s0 u n s) (ht : ∀ i : Fin 512, i.val / 32 = r.val → RowTodo s0 n i s) (i : Fin 512)
    (hi : i.val / 32 = r.val) : RowDone s0 masked w u n c i (passK masked w u n c ha r s) := by
  have hm : (Arg.mx : Arg) ≠ pBuf u ∧ (Arg.mx : Arg) ≠ aBuf u ∧ pBuf u ≠ aBuf u := by cases u <;> decide
  have hs : sBuf u ≠ pBuf u ∧ sBuf u ≠ aBuf u ∧ sBuf u ≠ .mx := by cases u <;> decide
  have hc : Arg.ct ≠ pBuf u ∧ Arg.ct ≠ aBuf u ∧ Arg.ct ≠ .mx := by cases u <;> decide
  obtain ⟨i', hi'⟩ : ∃ i' : Fin 32, i.val = 32 * r.val + i'.val := ⟨⟨i.val - 32 * r.val, by omega⟩, by show _ = 32 * r.val + (i.val - 32 * r.val); omega⟩
  have hrow : (rowOf n i).val = (passAt (wd n) (BitVec.ofNat 32 (32 * r.val))) 0 + i'.val := by
    show 512 * n.val + i.val = (Scalar.indexCast (Scalar.addi (Scalar.muli (wd n) 512#32) (BitVec.ofNat 32 (32 * r.val)))).toNat + i'.val
    rw [off_pass]; omega
  have eS : ∀ j : Fin w.n, getS u s ((blk (s := Mat 512 1024) ![32 * r.val, 0] ![32, w.n] (pass_inb w r)).emb (ix2 i' j)) = getS u s0 (ix2 i (colOf w j)) := fun j => by
    rw [emb_eq (pass_inb w r) i' j i (colOf w j) hi' (by show j.val = 0 + j.val; omega), getS_congr u (hI.1 _ hs.1 hs.2.1 hs.2.2)]
  have eC : block s .ct (passAt (wd n) (BitVec.ofNat 32 (32 * r.val))) ![32, 1] (ha.2 r) (ix2 i' 0) = s0 .ct (ix2 (rowOf n i) 0) := by
    unfold block
    rw [hI.1 _ hc.1 hc.2.1 hc.2.2]
    exact congrArg (s0 .ct) (emb_eq (ha.2 r) i' 0 (rowOf n i) 0 hrow rfl)
  have eO : block s .mx (passAt (wd n) (BitVec.ofNat 32 (32 * r.val))) ![32, 1] (ha.2 r) (ix2 i' 0) = s0 .mx (ix2 (rowOf n i) 0) :=
    (congrArg (s .mx) (emb_eq (ha.2 r) i' 0 (rowOf n i) 0 hrow rfl)).trans (ht i hi)
  unfold passK
  extract_lets sc x ct old top
  have ex : ∀ j : Fin w.n, x (ix2 i' j) = xs s0 masked w u c i j := fun j => by
    unfold xs
    cases masked
    · exact (plainOf_at w sc c i' j).trans ((congrArg (· - c (ix2 0 j)) (eS j)).trans (if_neg (by simp)).symm)
    · refine (maskedOf_at ⊥ w r sc c i' j).trans ?_
      by_cases h : j.val ≤ i.val
      · rw [if_pos (by omega), if_neg (by simp [h]), show sc (ix2 i' j) = _ from eS j]
      · rw [if_neg (by omega), if_pos ⟨rfl, h⟩]
  have et : top (ix2 i' 0) = newS s0 masked w u n c i := by
    have h1 : topOf w x ct (ix2 i' 0) = topS s0 masked w u n c i := by
      refine (topOf_at w x ct i').trans ?_
      unfold topS
      rw [show ct (ix2 i' 0) = _ from eC, funext ex]
    unfold newS
    cases masked
    · exact congrArg₂ max eO h1
    · exact h1
  refine ⟨?_, fun j => ?_, fun hf => ?_⟩
  · rw [put_same]
    exact (overlay_in _ _ _ i' 0 _ 0 hrow rfl).trans et
  · rw [getP_congr u (put_other _ (Ne.symm hm.1) _ _ _ _), getP_put]
    refine (overlay_in _ _ _ i' j _ _ hi' (by show j.val = 0 + j.val; omega)).trans ((weightsOf_at w x top ct i' j).trans ?_)
    rw [ex, et, show ct (ix2 i' 0) = _ from eC]
  · subst hf
    rw [getA_congr u (put_other _ (Ne.symm hm.2.1) _ _ _ _), getA_congr u (putPM_other _ _ _ _ _ _ (Ne.symm hm.2.2)), getA_put]
    refine (overlay_in _ _ _ i' 0 _ 0 hi' rfl).trans ?_
    show Ideal.exp2 (old (ix2 i' 0) - top (ix2 i' 0)) = _
    rw [et, show old (ix2 i' 0) = _ from eO]

/-- All passes of a tile: every row is finished, and nothing else changes. -/
theorem passes_done (ha : FitsRows (wd n)) :
    Apart s0 u n (eachM (passK masked w u n c ha) passes s0) ∧ ∀ i, RowDone s0 masked w u n c i (eachM (passK masked w u n c ha) passes s0) := by
  have key := eachM_passes (passK masked w u n c ha) (Apart s0 u n) (fun r s => ∀ i : Fin 512, i.val / 32 = r.val → RowTodo s0 n i s)
    (fun r s => ∀ i : Fin 512, i.val / 32 = r.val → RowDone s0 masked w u n c i s)
    (fun r s hI ht => ?_) (fun r r' s hr ht i hi => ?_) (fun r r' s hr hd i hi => ?_) s0 ⟨fun _ _ _ _ => rfl, fun _ _ => rfl⟩ (fun _ _ _ => rfl)
  · exact ⟨key.1, fun i => key.2 ⟨i.val / 32, by omega⟩ i rfl⟩
  · obtain ⟨k1, k2, k3⟩ := passK_kept masked w u n c ha r s
    exact ⟨⟨fun b h1 h2 h3 => (k1 b h1 h2 h3).trans (hI.1 b h1 h2 h3), fun t hn => (k2 t fun i _ e => hn (by rw [e]; show (512 * n.val + i.val) / 512 = _; omega)).trans (hI.2 t hn)⟩,
      fun i hi => passK_done s0 masked w u n c ha r s hI ht i hi⟩
  · obtain ⟨k1, k2, k3⟩ := passK_kept masked w u n c ha r s
    exact (k2 _ fun j hj e => hr (Fin.ext (by
      have e' : 512 * n.val + i.val = 512 * n.val + j.val := congrArg Fin.val e
      omega))).trans (ht i hi)
  · obtain ⟨k1, k2, k3⟩ := passK_kept masked w u n c ha r s
    have hne : i.val / 32 ≠ r.val := fun e => hr (Fin.ext (by omega))
    obtain ⟨d1, d2, d3⟩ := hd i hi
    refine ⟨(k2 _ fun j hj e => hr (Fin.ext (by
      have e' : 512 * n.val + i.val = 512 * n.val + j.val := congrArg Fin.val e
      omega))).trans d1, fun j => ((k3 i hne).1 _).trans (d2 j), fun hf => (k3 i hne).2.trans (d3 hf)⟩

end Cert.Proof.Att

end
-- ==== Proof.Att.Plan.lean ====
/- The plan of tiles, the numbers a head works on, and what is true of the buffers between the acts. -/
module

public import proofs.«01_k».proof.Proof.Att.Softmax
public import proofs.«01_k».proof.Proof.Att.HeadRun

@[expose] public section

set_option maxRecDepth 16384

noncomputable section

namespace Cert.Proof.Att

open Idealize.ShloMosaic
open scoped BigOperators

/-- How many blocks of keys tile `k` takes. -/
def wn (k : Nat) : Nat := if 16 ≤ k ∧ k < 72 then 2 else 1

/-- What the attention needs of a table: its tiles are blocks of rows and of keys, the first sixteen the diagonal ones,
    the later ones before the diagonal, and every block of keys on or before a row's is taken by one tile. -/
structure Plan (T : Vec Ideal (Mat 2 80) .i32) where
  rn : Nat → Fin 16
  cn : Nat → Fin 16
  /-- The tile that takes a block of keys for a block of rows. -/
  of : Nat → Nat → Nat
  row : ∀ k, k < 80 → rowAt T k = wd (rn k)
  col : ∀ k, k < 80 → colAt T k = wd (cn k)
  diag : ∀ k, k < 16 → (rn k).val = k ∧ (cn k).val = k
  before : ∀ k, 16 ≤ k → k < 80 → (cn k).val + wn k ≤ (rn k).val
  inside : ∀ k, k < 80 → (cn k).val + wn k ≤ 16
  cover : ∀ k, k < 80 → ∀ j, j < 16 → (of (rn k).val j = k ↔ (cn k).val ≤ j ∧ j < (cn k).val + wn k)
  own : ∀ t, t < 16 → ∀ j, j < 16 → of t j < 80 → (rn (of t j)).val = t
  all : ∀ t, t < 16 → ∀ j, j ≤ t → of t j < 80
  first : ∀ t, t < 16 → ∀ j, j ≤ t → t ≤ of t j

/-- The numbers of a head: queries, keys, cumulated gates, values with ones beside them, and output gates. -/
structure Nums where
  q : Fin 8192 → Fin 128 → EReal
  k : Fin 8192 → Fin 128 → EReal
  c : Fin 8192 → EReal
  va : Fin 8192 → Fin 256 → EReal
  gate : Fin 8192 → Fin 128 → EReal
  /-- The factor to base two. -/
  l : EReal
  /-- The logits to base two without the rows' own gates, and these gates. -/
  x : Fin 8192 → Fin 8192 → ℝ
  g : Fin 8192 → ℝ
  hx : ∀ t j, (∑ d, q t d * k j d) - c j * l = (x t j : EReal)
  hg : ∀ t, c t * l = (g t : EReal)

/-- A key's weight for a query, against `μ`: later keys have none. -/
def Nums.wt (N : Nums) (t j : Fin 8192) (μ : ℝ) : ℝ := if j.val ≤ t.val then (2 : ℝ) ^ (N.x t j - (μ - N.g t)) else 0

/-- What the buffers hold all along a head. -/
structure Fix (N : Nums) (s : Mem Ideal) : Prop where
  q : ∀ t d, s .q (ix2 t d) = N.q t d
  kt : ∀ d j, s .kt (ix2 d j) = N.k j d
  crow : ∀ j, s .crow (ix3 0 0 j) = N.c j
  ct : ∀ t, s .ct (ix2 t 0) = N.g t
  va : ∀ j e, s .va (ix2 j e) = N.va j e
  gate : ∀ t d, s .gate (ix2 t d) = N.gate t d

theorem Fix.of {N : Nums} {s s' : Mem Ideal} (h : Fix N s) (e : ∀ a : Arg, a = .q ∨ a = .kt ∨ a = .crow ∨ a = .ct ∨ a = .va ∨ a = .gate → s' a = s a) : Fix N s' :=
  ⟨by rw [e .q (by simp)]; exact h.q, by rw [e .kt (by simp)]; exact h.kt, by rw [e .crow (by simp)]; exact h.crow, by rw [e .ct (by simp)]; exact h.ct,
    by rw [e .va (by simp)]; exact h.va, by rw [e .gate (by simp)]; exact h.gate⟩

variable {T : Vec Ideal (Mat 2 80) .i32} (P : Plan T) (N : Nums)

/-- The keys that the first `n` tiles take for row `t`. -/
def Plan.keys (n : Nat) (t : Fin 8192) : Finset (Fin 8192) :=
  Finset.univ.filter fun j => j.val ≤ t.val ∧ P.of (t.val / 512) (j.val / 512) < n

/-- After `n` tiles a row holds a real number, and its keys' weighted values against it. -/
def RowInv (n : Nat) (t : Fin 8192) (s : Mem Ideal) : Prop :=
  ∃ μ : ℝ, s .mx (ix2 t 0) = (μ : EReal) ∧ ∀ e, s .acc (ix2 t e) = ∑ j ∈ P.keys n t, (N.wt t j μ : EReal) * N.va j e
/-- Every row whose diagonal tile is among the first `n`. -/
def Inv (n : Nat) (s : Mem Ideal) : Prop := ∀ t : Fin 8192, t.val / 512 < n → RowInv P N n t s

/-- Column `j` of tile `k`, as a key. -/
def Plan.key (k : Nat) (j : Nat) : Fin 8192 := ⟨(512 * (P.cn k).val + j) % 8192, Nat.mod_lt _ (by decide)⟩

theorem Plan.key_val {k j : Nat} (hk : k < 80) (hj : j < 512 * wn k) : (P.key k j).val = 512 * (P.cn k).val + j :=
  Nat.mod_eq_of_lt (by have := P.inside k hk; omega)

/-- A scores' buffer holds the products of tile `k`. -/
def Scored (w : Wd) (u : Bool) (k : Nat) (s : Mem Ideal) : Prop :=
  ∀ (i : Fin 512) (j : Fin w.n), getS u s (ix2 i (colOf w j)) = ∑ d, N.q (rowOf (P.rn k) i) d * N.k (P.key k j.val) d

/-- Between a tile's softmax and its accumulation. -/
def Mid (w : Wd) (u : Bool) (k : Nat) (s : Mem Ideal) : Prop :=
  (∀ t : Fin 8192, t.val / 512 ≠ (P.rn k).val → t.val / 512 < k → RowInv P N k t s) ∧
  ∀ i : Fin 512, ∃ μ : ℝ, s .mx (ix2 (rowOf (P.rn k) i) 0) = (μ : EReal) ∧
    (∀ j : Fin w.n, getP u s (ix2 i (colOf w j)) = (N.wt (rowOf (P.rn k) i) (P.key k j.val) μ : EReal)) ∧
    (16 ≤ k → ∀ e, getA u s (ix2 i 0) * s .acc (ix2 (rowOf (P.rn k) i) e) = ∑ j ∈ P.keys k (rowOf (P.rn k) i), (N.wt (rowOf (P.rn k) i) j μ : EReal) * N.va j e)

/-! ### Small facts of the extended reals -/

/-- A nonnegative real factor goes into a sum. -/
theorem mul_sum_real {ι : Type} (s : Finset ι) (a : ℝ) (ha : 0 ≤ a) (f : ι → EReal) : (a : EReal) * ∑ j ∈ s, f j = ∑ j ∈ s, (a : EReal) * f j := by
  classical
  induction s using Finset.induction_on with
  | empty => simp
  | insert i s hi ih =>
    rw [Finset.sum_insert hi, Finset.sum_insert hi, EReal.left_distrib_of_nonneg_of_ne_top (EReal.coe_nonneg.mpr ha) (EReal.coe_ne_top a), ih]

/-- The greatest of finitely many numbers, none `+∞` and one not `−∞`, is real. -/
theorem sup_real {n : Nat} (f : Fin n → EReal) (h : ∀ j, f j ≠ ⊤) (j : Fin n) (hj : f j ≠ ⊥) : ∃ r : ℝ, Finset.univ.sup f = (r : EReal) := by
  have h1 : Finset.univ.sup f ≠ ⊤ := ne_of_lt ((Finset.sup_lt_iff bot_lt_top).mpr fun j _ => lt_of_le_of_ne le_top (h j))
  have h2 : Finset.univ.sup f ≠ ⊥ := fun e => hj (le_bot_iff.mp (e ▸ Finset.le_sup (f := f) (Finset.mem_univ j)))
  exact ⟨_, (EReal.coe_toReal h1 h2).symm⟩

theorem exp2_real (r : ℝ) : Ideal.exp2 (r : EReal) = ((2 : ℝ) ^ r : ℝ) := rfl
theorem exp2_bot : Ideal.exp2 ⊥ = 0 := rfl

theorem Nums.wt_nonneg (t j : Fin 8192) (μ : ℝ) : 0 ≤ N.wt t j μ := by
  unfold Nums.wt; split
  · exact (Real.rpow_pos_of_pos two_pos _).le
  · exact le_refl _

/-- Weights against another number are the same but for one factor. -/
theorem Nums.wt_shift (t j : Fin 8192) (μ ν : ℝ) : N.wt t j ν = (2 : ℝ) ^ (μ - ν) * N.wt t j μ := by
  unfold Nums.wt; split
  · rw [← Real.rpow_add two_pos]; congr 1; ring
  · simp

/-- So sums carry over. -/
theorem sum_shift (s : Finset (Fin 8192)) (t : Fin 8192) (μ ν : ℝ) (f : Fin 8192 → EReal) :
    (((2 : ℝ) ^ (μ - ν) : ℝ) : EReal) * ∑ j ∈ s, (N.wt t j μ : EReal) * f j = ∑ j ∈ s, (N.wt t j ν : EReal) * f j := by
  rw [mul_sum_real _ _ (Real.rpow_pos_of_pos two_pos _).le]
  exact Finset.sum_congr rfl fun j _ => by rw [N.wt_shift t j μ ν, EReal.coe_mul, mul_assoc]

end Cert.Proof.Att

end
-- ==== Proof.Att.Stages.lean ====
/- What the three acts on a tile make of what is true of the buffers. -/
module

public import proofs.«01_k».proof.Proof.Att.Plan

@[expose] public section

set_option maxRecDepth 16384

noncomputable section

namespace Cert.Proof.Att

open Idealize.ShloMosaic
open scoped BigOperators

variable {T : Vec Ideal (Mat 2 80) .i32} (P : Plan T) (N : Nums)

/-! ### The products -/

theorem logitsM_kept (w : Wd) (u : Bool) (a b : BitVec 32) (h : WordOk w a b) (s : Mem Ideal) {x : Arg} (hx : x ≠ sBuf u) : logitsM w u a b h s x = s x :=
  putSM_other u _ _ _ _ _ hx

theorem logitsM_at (w : Wd) (u : Bool) (n m : Fin 16) (h : WordOk w (wd n) (wd m)) (s : Mem Ideal) (i : Fin 512) (j : Fin w.n) (jj : Fin 8192)
    (hj : jj.val = 512 * m.val + j.val) :
    getS u (logitsM w u (wd n) (wd m) h s) (ix2 i (colOf w j)) = ∑ d : Fin 128, s .q (ix2 (rowOf n i) d) * s .kt (ix2 d jj) := by
  unfold logitsM
  rw [getS_put]
  have e1 : ∀ d : Fin 128, block s .q (tileRow (wd n)) ![512, 128] h.1.2 (ix2 i d) = s .q (ix2 (rowOf n i) d) := fun d =>
    congrArg (s .q) (emb_eq h.1.2 i d (rowOf n i) d (by rw [off_row]) (Nat.zero_add _).symm)
  have e2 : ∀ d : Fin 128, block s .kt (tileCol (wd m)) ![128, w.n] h.2.1.2 (ix2 d j) = s .kt (ix2 d jj) := fun d =>
    congrArg (s .kt) (emb_eq h.2.1.2 d j d jj (Nat.zero_add _).symm (by rw [off_row]; exact hj))
  generalize block s .q (tileRow (wd n)) ![512, 128] h.1.2 = x at e1 ⊢
  generalize block s .kt (tileCol (wd m)) ![128, w.n] h.2.1.2 = y at e2 ⊢
  have e3 := overlay_in (score_inb w) (getS u s) (scoresOf w x y) i j i (colOf w j) (Nat.zero_add _).symm (Nat.zero_add _).symm
  exact e3.trans ((scoresOf_at w x y i j).trans (Finset.sum_congr rfl fun d _ => by rw [e1, e2]))

theorem logitsT_kept (w : Wd) (u : Bool) (k : Nat) (s : Mem Ideal) {x : Arg} (hx : x ≠ sBuf u) : logitsT T w u k s x = s x := by
  unfold logitsT; split
  · exact logitsM_kept w u _ _ _ s hx
  · rfl

theorem logitsT_scored {w : Wd} (u : Bool) {k : Nat} (hk : k < 80) (hn : w.n = 512 * wn k) (ok : WordOk w (rowAt T k) (colAt T k)) {s : Mem Ideal}
    (F : Fix N s) : Scored P N w u k (logitsT T w u k s) := fun i j => by
  unfold logitsT
  rw [dif_pos ok]
  revert ok
  rw [P.row k hk, P.col k hk]
  intro ok
  rw [logitsM_at w u _ _ ok s i j (P.key k j.val) (P.key_val hk (by rw [← hn]; exact j.isLt))]
  exact Finset.sum_congr rfl fun d _ => by rw [F.q, F.kt]

/-! ### The softmax -/

theorem softmaxM_eq (masked : Bool) (l : EReal) (w : Wd) (u : Bool) (n : Fin 16) (b : BitVec 32) (h : WordOk w (wd n) b) (s : Mem Ideal) :
    softmaxM (F := Ideal) l ⊥ masked w u (wd n) b h s
      = eachM (passK masked w u n (offsOf l w (block s .crow (tileC b) ![1, 1, w.n] h.2.2.2.1.2)) h.2.2.1) passes s := by
  cases masked <;> rfl

/-- The keys' own gates, at base two. -/
theorem offs_at (l : EReal) (w : Wd) (m : Fin 16) (s : Mem Ideal) (h) (j : Fin w.n) (jj : Fin 8192) (hj : jj.val = 512 * m.val + j.val) :
    offsOf (F := Ideal) l w (block s .crow (tileC (wd m)) ![1, 1, w.n] h) (ix2 0 j) = s .crow (ix3 0 0 jj) * l := by
  refine (offsOf_at l w _ j).trans (congrArg (· * l) (congrArg (s .crow) (funext fun a => Fin.ext ?_)))
  match a with
  | 0 => rfl
  | 1 => rfl
  | 2 => show (Scalar.indexCast (Scalar.muli (wd m) 512#32)).toNat + 1 * j.val = jj.val; rw [off_row]; omega

theorem softmaxT_mid {l : EReal} (hl : N.l = l) (masked : Bool) {w : Wd} (u : Bool) {k : Nat} (hk : k < 80) (hm : masked = true ↔ k < 16) (hn : w.n = 512 * wn k)
    (ok : WordOk w (rowAt T k) (colAt T k)) {s : Mem Ideal} (F : Fix N s) (I : Inv P N k s) (S : Scored P N w u k s) :
    Mid P N w u k (softmaxT (F := Ideal) T l ⊥ masked w u k s) ∧
      ∀ b, b ≠ pBuf u → b ≠ aBuf u → b ≠ .mx → softmaxT (F := Ideal) T l ⊥ masked w u k s b = s b := by
  subst hl
  unfold softmaxT
  rw [dif_pos ok]
  revert ok
  rw [P.row k hk, P.col k hk]
  intro ok
  rw [softmaxM_eq]
  obtain ⟨hA, hD⟩ := passes_done s masked w u (P.rn k) (offsOf N.l w (block s .crow (tileC (wd (P.cn k))) ![1, 1, w.n] ok.2.2.2.1.2)) ok.2.2.1
  revert hA hD
  generalize eachM (passK masked w u (P.rn k) (offsOf N.l w (block s .crow (tileC (wd (P.cn k))) ![1, 1, w.n] ok.2.2.2.1.2)) ok.2.2.1) passes s = s'
  intro hA hD
  have hacc : s' .acc = s .acc := hA.1 .acc (by cases u <;> decide) (by cases u <;> decide) (by decide)
  have hrn : (P.rn k).val < 16 := (P.rn k).isLt
  refine ⟨⟨fun t ht hlt => ?_, fun i => ?_⟩, hA.1⟩
  · obtain ⟨μ, h1, h2⟩ := I t hlt
    exact ⟨μ, (hA.2 t ht).trans h1, fun e => by rw [hacc]; exact h2 e⟩
  · set t := rowOf (P.rn k) i with hdt
    have htv : t.val = 512 * (P.rn k).val + i.val := rfl
    have htd : t.val / 512 = (P.rn k).val := by omega
    -- the logits of the row
    have ex : ∀ j : Fin w.n, xs s masked w u (offsOf N.l w (block s .crow (tileC (wd (P.cn k))) ![1, 1, w.n] ok.2.2.2.1.2)) i j
        = if (P.key k j.val).val ≤ t.val then (N.x t (P.key k j.val) : EReal) else ⊥ := fun j => by
      have hkv := P.key_val hk (j := j.val) (by rw [← hn]; exact j.isLt)
      have hj := j.isLt
      have e : getS u s (ix2 i (colOf w j)) - offsOf N.l w (block s .crow (tileC (wd (P.cn k))) ![1, 1, w.n] ok.2.2.2.1.2) (ix2 0 j) = (N.x t (P.key k j.val) : EReal) := by
        rw [S i j, offs_at N.l w (P.cn k) s _ j (P.key k j.val) hkv, F.crow]
        exact N.hx _ _
      unfold xs
      rw [e]
      by_cases h16 : k < 16
      · obtain ⟨d1, d2⟩ := P.diag k h16
        have hmt := hm.mpr h16
        by_cases hij : j.val ≤ i.val
        · rw [if_neg (fun h => h.2 hij), if_pos (by omega)]
        · rw [if_pos ⟨hmt, hij⟩, if_neg (by omega)]
      · have hb := P.before k (by omega) hk
        rw [if_neg (fun h => h16 (hm.mp h.1)), if_pos (by omega)]
    -- some key is unmasked
    obtain ⟨j0, hj0⟩ : ∃ j0 : Fin w.n, (P.key k j0.val).val ≤ t.val := by
      by_cases h16 : k < 16
      · obtain ⟨d1, d2⟩ := P.diag k h16
        have hpos : 0 < w.n := by cases w <;> decide
        refine ⟨⟨0, hpos⟩, ?_⟩
        rw [P.key_val hk (by rw [← hn]; exact hpos)]; show 512 * (P.cn k).val + 0 ≤ _; omega
      · have hb := P.before k (by omega) hk
        have hpos : 0 < w.n := by cases w <;> decide
        refine ⟨⟨0, hpos⟩, ?_⟩
        rw [P.key_val hk (by rw [← hn]; exact hpos)]; show 512 * (P.cn k).val + 0 ≤ _; omega
    obtain ⟨r, hr⟩ := sup_real (fun j => xs s masked w u (offsOf N.l w (block s .crow (tileC (wd (P.cn k))) ![1, 1, w.n] ok.2.2.2.1.2)) i j)
      (fun j => by show xs _ _ _ _ _ _ _ ≠ _; rw [ex]; split <;> simp) j0 (by show xs _ _ _ _ _ _ _ ≠ _; rw [ex, if_pos hj0]; simp)
    have hct : s .ct (ix2 t 0) = (N.g t : EReal) := F.ct t
    have htop : topS s masked w u (P.rn k) (offsOf N.l w (block s .crow (tileC (wd (P.cn k))) ![1, 1, w.n] ok.2.2.2.1.2)) i = ((r + N.g t : ℝ) : EReal) := by
      unfold topS
      rw [hr, show s .ct (ix2 (rowOf (P.rn k) i) 0) = _ from hct, EReal.coe_add]
    obtain ⟨h1, h2, h3⟩ := hD i
    have hnew : ∃ ν : ℝ, newS s masked w u (P.rn k) (offsOf N.l w (block s .crow (tileC (wd (P.cn k))) ![1, 1, w.n] ok.2.2.2.1.2)) i = (ν : EReal) := by
      unfold newS
      split
      · exact ⟨_, htop⟩
      · rename_i hf
        have h16 : ¬ k < 16 := fun h => hf (hm.mpr h)
        obtain ⟨μ, e1, e2⟩ := I t (by omega)
        refine ⟨max μ (r + N.g t), ?_⟩
        rw [htop, show s .mx (ix2 (rowOf (P.rn k) i) 0) = _ from e1]
        exact (EReal.coe_strictMono.monotone.map_max).symm
    obtain ⟨ν, hν⟩ := hnew
    rw [hν] at h1 h2 h3
    refine ⟨ν, h1, fun j => ?_, fun h16 e => ?_⟩
    · rw [h2 j, ex j, show s .ct (ix2 (rowOf (P.rn k) i) 0) = _ from hct]
      unfold Nums.wt
      by_cases hle : (P.key k j.val).val ≤ t.val
      · rw [if_pos hle, if_pos hle, ← EReal.coe_sub, ← EReal.coe_sub, exp2_real]
      · rw [if_neg hle, if_neg hle, ← EReal.coe_sub, sub_eq_add_neg, EReal.bot_add, exp2_bot]; rfl
    · obtain ⟨μ, e1, e2⟩ := I t (by omega)
      have hf : masked = false := by
        cases masked
        · rfl
        · exact absurd (hm.mp rfl) (by omega)
      rw [h3 hf, show s .mx (ix2 (rowOf (P.rn k) i) 0) = _ from e1, hacc, e2 e, ← EReal.coe_sub, exp2_real]
      exact sum_shift N _ t μ ν _

/-! ### The accumulation -/

theorem accumulateM_kept (masked : Bool) (w : Wd) (u : Bool) (a b : BitVec 32) (h : WordOk w a b) (s : Mem Ideal) {x : Arg} (hx : x ≠ .acc) : accumulateM masked w u a b h s x = s x :=
  put_other s hx _ _ _ _

theorem accumulateT_kept (masked : Bool) (w : Wd) (u : Bool) (k : Nat) (s : Mem Ideal) {x : Arg} (hx : x ≠ .acc) : accumulateT T masked w u k s x = s x := by
  unfold accumulateT; split
  · exact accumulateM_kept masked w u _ _ _ s hx
  · rfl

theorem accumulateM_off (masked : Bool) (w : Wd) (u : Bool) (n : Fin 16) (b : BitVec 32) (h : WordOk w (wd n) b) (s : Mem Ideal) (t : Fin 8192) (ht : t.val / 512 ≠ n.val) (e : Fin 256) :
    accumulateM masked w u (wd n) b h s .acc (ix2 t e) = s .acc (ix2 t e) := by
  unfold accumulateM
  rw [put_same]
  exact overlay_out _ _ _ t e (by rw [off_row]; omega)

theorem accumulateM_on (masked : Bool) (w : Wd) (u : Bool) (n m : Fin 16) (h : WordOk w (wd n) (wd m)) (s : Mem Ideal) (i : Fin 512) (e : Fin 256) (key : Fin w.n → Fin 8192)
    (hkey : ∀ j, (key j).val = 512 * m.val + j.val) :
    accumulateM masked w u (wd n) (wd m) h s .acc (ix2 (rowOf n i) e)
      = (if masked = true then 0 else getA u s (ix2 i 0) * s .acc (ix2 (rowOf n i) e)) + ∑ j : Fin w.n, getP u s (ix2 i (colOf w j)) * s .va (ix2 (key j) e) := by
  unfold accumulateM
  rw [put_same]
  have hx : ∀ (p : Vec Ideal (Mat 512 w.n) .bf16) (hp : ∀ j, p (ix2 i j) = getP u s (ix2 i (colOf w j))) (v : Vec Ideal (Mat w.n 256) .bf16) (hv : ∀ j, v (ix2 j e) = s .va (ix2 (key j) e)),
      sumOf (F := Ideal) w p v (ix2 i e) = ∑ j : Fin w.n, getP u s (ix2 i (colOf w j)) * s .va (ix2 (key j) e) := fun p hp v hv =>
    (sumOf_at w p v i e).trans (Finset.sum_congr rfl fun j _ => by rw [hp, hv])
  have hsum := hx (fun x => getP u s ((blk (s := Mat 512 1024) ![0, 0] ![512, w.n] (score_inb w)).emb x))
    (fun j => congrArg (getP u s) (emb_eq (score_inb w) i j i (colOf w j) (Nat.zero_add _).symm (Nat.zero_add _).symm))
    (block s .va (tileRow (wd m)) ![w.n, 256] h.2.2.2.2.2.2)
    (fun j => congrArg (s .va) (emb_eq h.2.2.2.2.2.2 j e (key j) e (by rw [off_row]; exact hkey j) (Nat.zero_add _).symm))
  have hr : (rowOf n i).val = (tileRow (wd n)) 0 + i.val := by
    show 512 * n.val + i.val = (Scalar.indexCast (Scalar.muli (wd n) 512#32)).toNat + i.val
    rw [off_row]
  refine (overlay_in _ _ _ i e (rowOf n i) e hr (Nat.zero_add _).symm).trans ?_
  cases masked
  · rw [if_neg (by decide)]
    refine Eq.trans ?_ (congrArg (getA u s (ix2 i 0) * s .acc (ix2 (rowOf n i) e) + ·) hsum)
    refine congrArg₂ (· + ·) (congrArg₂ (· * ·) ?_ (congrArg (s .acc) (emb_eq h.2.2.2.2.1.2 i e (rowOf n i) e hr (Nat.zero_add _).symm))) rfl
    generalize getA u s = A
    pointwise []
  · rw [if_pos rfl, zero_add]
    exact hsum

/-- The keys of one more tile. -/
theorem keys_succ {k : Nat} (hk : k < 80) {w : Wd} (hn : w.n = 512 * wn k) (t : Fin 8192) (ht : t.val / 512 = (P.rn k).val) (f : Fin 8192 → EReal) (hf : ∀ j, t.val < j.val → f j = 0) :
    ∑ j ∈ P.keys (k + 1) t, f j = ∑ j ∈ P.keys k t, f j + ∑ j : Fin w.n, f (P.key k j.val) := by
  have hin := P.inside k hk
  have hinj : Function.Injective fun j : Fin w.n => P.key k j.val := fun a b e => Fin.ext (by
    have e' : (P.key k a.val).val = (P.key k b.val).val := congrArg Fin.val e
    rw [P.key_val hk (by rw [← hn]; exact a.isLt), P.key_val hk (by rw [← hn]; exact b.isLt)] at e'
    omega)
  have h1 : ∑ j : Fin w.n, f (P.key k j.val) = ∑ j ∈ Finset.univ.filter (fun j : Fin 8192 => j.val ≤ t.val ∧ P.of (t.val / 512) (j.val / 512) = k), f j := by
    refine (Finset.sum_map Finset.univ ⟨fun j : Fin w.n => P.key k j.val, hinj⟩ f).symm.trans (Eq.symm ?_)
    refine Finset.sum_subset (fun j hj => ?_) fun j hj hn' => ?_
    · obtain ⟨-, h1, h2⟩ := Finset.mem_filter.mp hj
      rw [ht] at h2
      have hc := (P.cover k hk (j.val / 512) (by omega)).mp h2
      refine Finset.mem_map.mpr ⟨⟨j.val - 512 * (P.cn k).val, by rw [hn]; omega⟩, Finset.mem_univ _, Fin.ext ?_⟩
      show (P.key k (j.val - 512 * (P.cn k).val)).val = j.val
      rw [P.key_val hk (by omega)]; omega
    · obtain ⟨j', -, rfl⟩ := Finset.mem_map.mp hj
      have hkv : (P.key k j'.val).val = 512 * (P.cn k).val + j'.val := P.key_val hk (by rw [← hn]; exact j'.isLt)
      have hj' := j'.isLt
      refine hf _ (not_le.mp fun hle => hn' (Finset.mem_filter.mpr ⟨Finset.mem_univ _, hle, ?_⟩))
      show P.of (t.val / 512) ((P.key k j'.val).val / 512) = k
      rw [ht]
      exact (P.cover k hk _ (by omega)).mpr (by omega)
  have h2 : P.keys (k + 1) t = P.keys k t ∪ Finset.univ.filter (fun j : Fin 8192 => j.val ≤ t.val ∧ P.of (t.val / 512) (j.val / 512) = k) := by
    ext j
    simp only [Plan.keys, Finset.mem_union, Finset.mem_filter, Finset.mem_univ, true_and, Nat.lt_succ_iff_lt_or_eq, and_or_left]
  rw [h1, h2, Finset.sum_union]
  exact Finset.disjoint_left.mpr fun j h1 h2 => by
    have a := (Finset.mem_filter.mp h1).2.2
    have b := (Finset.mem_filter.mp h2).2.2
    omega

theorem keys_other {k : Nat} (hk : k < 80) (t : Fin 8192) (ht : t.val / 512 ≠ (P.rn k).val) : P.keys (k + 1) t = P.keys k t := by
  ext j
  simp only [Plan.keys, Finset.mem_filter, Finset.mem_univ, true_and, and_congr_right_iff]
  intro _
  have : P.of (t.val / 512) (j.val / 512) ≠ k := fun e => ht (by
    have := P.own (t.val / 512) (by omega) (j.val / 512) (by omega) (by omega)
    rw [e] at this
    exact this.symm)
  omega

theorem keys_diag {k : Nat} (hk : k < 16) (t : Fin 8192) (ht : t.val / 512 = k) : P.keys k t = ∅ := by
  refine Finset.filter_eq_empty_iff.mpr fun j _ h => ?_
  have := P.first (t.val / 512) (by omega) (j.val / 512) (by omega)
  omega

theorem accumulateT_inv (masked : Bool) {w : Wd} (u : Bool) {k : Nat} (hk : k < 80) (hm : masked = true ↔ k < 16) (hn : w.n = 512 * wn k)
    (ok : WordOk w (rowAt T k) (colAt T k)) {s : Mem Ideal} (F : Fix N s) (M : Mid P N w u k s) :
    Inv P N (k + 1) (accumulateT (F := Ideal) T masked w u k s) := fun t ht => by
  obtain ⟨M1, M2⟩ := M
  unfold accumulateT
  rw [dif_pos ok]
  revert ok
  rw [P.row k hk, P.col k hk]
  intro ok
  by_cases hr : t.val / 512 = (P.rn k).val
  · obtain ⟨i, rfl⟩ : ∃ i : Fin 512, t = rowOf (P.rn k) i := ⟨⟨t.val % 512, Nat.mod_lt _ (by decide)⟩, Fin.ext (by show t.val = 512 * _ + t.val % 512; omega)⟩
    obtain ⟨μ, h1, h2, h3⟩ := M2 i
    refine ⟨μ, (congrFun (accumulateM_kept masked w u _ _ ok s (by decide)) _).trans h1, fun e => ?_⟩
    rw [accumulateM_on masked w u _ _ ok s i e (fun j => P.key k j.val) (fun j => P.key_val hk (by rw [← hn]; exact j.isLt)),
      keys_succ P hk hn _ hr (fun j => (N.wt (rowOf (P.rn k) i) j μ : EReal) * N.va j e)
        (fun j hj => by rw [show N.wt (rowOf (P.rn k) i) j μ = 0 from if_neg (by omega)]; simp)]
    refine congrArg₂ (· + ·) ?_ (Finset.sum_congr rfl fun j _ => by rw [h2, F.va])
    by_cases h16 : k < 16
    · rw [if_pos (hm.mpr h16), keys_diag P h16 _ (hr.trans (P.diag k h16).1), Finset.sum_empty]
    · rw [if_neg (fun h => h16 (hm.mp h))]
      exact h3 (by omega) e
  · obtain ⟨μ, h1, h2⟩ := M1 t hr (by
      by_cases h16 : k < 16
      · have := (P.diag k h16).1; omega
      · omega)
    refine ⟨μ, (congrFun (accumulateM_kept masked w u _ _ ok s (by decide)) _).trans h1, fun e => ?_⟩
    rw [accumulateM_off masked w u _ _ ok s t hr e, keys_other P hk t hr]
    exact h2 e

end Cert.Proof.Att

end
-- ==== Proof.Att.Chain.lean ====
/- The tiles in the order the kernel runs them, and what a head's result is. -/
module

public import proofs.«01_k».proof.Proof.Att.Stages

@[expose] public section

set_option maxRecDepth 16384

noncomputable section

namespace Cert.Proof.Att

open Idealize.ShloMosaic
open scoped BigOperators

variable {T : Vec Ideal (Mat 2 80) .i32} (P : Plan T) (N : Nums)

variable {P N} in
theorem RowInv.of {n : Nat} {t : Fin 8192} {s s' : Mem Ideal} (h : RowInv P N n t s) (e1 : s' .mx = s .mx) (e2 : s' .acc = s .acc) : RowInv P N n t s' := by
  unfold RowInv; rw [e1, e2]; exact h
variable {P N} in
theorem Mid.of {w : Wd} {u : Bool} {k : Nat} {s s' : Mem Ideal} (h : Mid P N w u k s) (e1 : s' .mx = s .mx) (e2 : s' .acc = s .acc)
    (e3 : s' (pBuf u) = s (pBuf u)) (e4 : s' (aBuf u) = s (aBuf u)) : Mid P N w u k s' :=
  ⟨fun t h1 h2 => (h.1 t h1 h2).of e1 e2, by rw [e1, e2, getP_congr u e3, getA_congr u e4]; exact h.2⟩
variable {P N} in
theorem Scored.of {w : Wd} {u : Bool} {k : Nat} {s s' : Mem Ideal} (h : Scored P N w u k s) (e : s' (sBuf u) = s (sBuf u)) : Scored P N w u k s' := by
  unfold Scored; rw [getS_congr u e]; exact h

/-- A run of tiles of one width, all masked or none. -/
structure RunIs (T : Vec Ideal (Mat 2 80) .i32) (masked : Bool) (w : Wd) (lo hi : Nat) : Prop where
  lt : hi < 80
  m : ∀ k, lo ≤ k → k ≤ hi → (masked = true ↔ k < 16)
  n : ∀ k, lo ≤ k → k ≤ hi → w.n = 512 * wn k
  ok : RunOk T w lo hi

/-- Between tile `k`'s softmax with the next tile's products, and its accumulation. -/
structure Ready (w : Wd) (u : Bool) (k : Nat) (s : Mem Ideal) : Prop where
  fix : Fix N s
  mid : Mid P N w u k s
  next : Scored P N w (!u) (k + 1) s

variable {masked : Bool} {w : Wd} {lo hi : Nat} (R : RunIs T masked w lo hi)
include R

theorem scores_then {u : Bool} {k : Nat} (h1 : lo ≤ k + 1) (h2 : k + 1 ≤ hi) {s : Mem Ideal} (F : Fix N s) (M : Mid P N w u k s) :
    Ready P N w u k (logitsT T w (!u) (k + 1) s) := by
  have hk := R.lt
  have e : ∀ {x : Arg}, x ≠ sBuf (!u) → logitsT T w (!u) (k + 1) s x = s x := fun hx => logitsT_kept w (!u) (k + 1) s hx
  refine ⟨F.of fun a ha => e (by rcases ha with rfl | rfl | rfl | rfl | rfl | rfl <;> cases u <;> decide), M.of (e (by cases u <;> decide)) (e (by cases u <;> decide)) (e (by cases u <;> decide)) (e (by cases u <;> decide)), ?_⟩
  exact logitsT_scored P N (!u) (by omega) (R.n _ h1 h2) (R.ok _ h1 h2) F

theorem weights_then {u : Bool} {k : Nat} (h1 : lo ≤ k) (h2 : k ≤ hi) {s : Mem Ideal} (F : Fix N s) (I : Inv P N k s) (S : Scored P N w u k s) :
    Fix N (softmaxT (F := Ideal) T N.l ⊥ masked w u k s) ∧ Mid P N w u k (softmaxT (F := Ideal) T N.l ⊥ masked w u k s) := by
  have hk := R.lt
  obtain ⟨M, e⟩ := softmaxT_mid P N rfl masked u (by omega) (R.m k h1 h2) (R.n k h1 h2) (R.ok k h1 h2) F I S
  exact ⟨F.of fun a ha => by rcases ha with rfl | rfl | rfl | rfl | rfl | rfl <;> exact e _ (by cases u <;> decide) (by cases u <;> decide) (by decide), M⟩

theorem sums_then {u : Bool} {k : Nat} (h1 : lo ≤ k) (h2 : k ≤ hi) {s : Mem Ideal} (F : Fix N s) (M : Mid P N w u k s) :
    Fix N (accumulateT (F := Ideal) T masked w u k s) ∧ Inv P N (k + 1) (accumulateT (F := Ideal) T masked w u k s) := by
  have hk := R.lt
  exact ⟨F.of fun a ha => accumulateT_kept masked w u k s (by rcases ha with rfl | rfl | rfl | rfl | rfl | rfl <;> decide),
    accumulateT_inv P N masked u (by omega) (R.m k h1 h2) (R.n k h1 h2) (R.ok k h1 h2) F M⟩

theorem step_ready {u : Bool} {k : Nat} (h1 : lo ≤ k) (h2 : k + 2 ≤ hi) {s : Mem Ideal} (h : Ready P N w u k s) :
    Ready P N w (!u) (k + 1) (stepT (F := Ideal) T N.l ⊥ masked w u k s) := by
  obtain ⟨F, I⟩ := sums_then P N R h1 (by omega) h.fix h.mid
  have S : Scored P N w (!u) (k + 1) (accumulateT (F := Ideal) T masked w u k s) := h.next.of (accumulateT_kept masked w u k s (by cases u <;> decide))
  obtain ⟨F', M⟩ := weights_then P N R (by omega) (by omega) F I S
  have := scores_then P N R (by omega) (by omega) F' M
  rw [Bool.not_not] at this
  exact this

theorem trip_ready {k : Nat} (h1 : lo ≤ k) (h2 : k + 5 ≤ hi) {s : Mem Ideal} (h : Ready P N w false k s) :
    Ready P N w false (k + 4) (tripT (F := Ideal) T N.l ⊥ masked w k s) :=
  step_ready P N R (u := true) (by omega) (by omega) <| step_ready P N R (u := false) (by omega) (by omega) <|
    step_ready P N R (u := true) (by omega) (by omega) <| step_ready P N R (u := false) h1 (by omega) h

theorem opening_ready {k : Nat} (h1 : lo ≤ k) (h2 : k + 1 ≤ hi) {s : Mem Ideal} (F : Fix N s) (I : Inv P N k s) :
    Ready P N w false k (openingT (F := Ideal) T N.l ⊥ masked w k s) := by
  have hk := R.lt
  have e : ∀ {x : Arg}, x ≠ .sa → logitsT T w false k s x = s x := fun hx => logitsT_kept w false k s hx
  have S := logitsT_scored P N false (k := k) (by omega) (R.n k h1 (by omega)) (R.ok k h1 (by omega)) F
  have F1 : Fix N (logitsT T w false k s) := F.of fun a ha => e (by rcases ha with rfl | rfl | rfl | rfl | rfl | rfl <;> decide)
  have I1 : Inv P N k (logitsT T w false k s) := fun t ht => (I t ht).of (e (by decide)) (e (by decide))
  obtain ⟨F2, M⟩ := weights_then P N R h1 (by omega) F1 I1 S
  exact scores_then P N R (u := false) (by omega) h2 F2 M

theorem ending_done {k : Nat} (h1 : lo ≤ k) (h2 : k + 3 ≤ hi) {s : Mem Ideal} (h : Ready P N w false k s) :
    Fix N (endingT (F := Ideal) T N.l ⊥ masked w k s) ∧ Inv P N (k + 4) (endingT (F := Ideal) T N.l ⊥ masked w k s) := by
  have r1 := step_ready P N R (u := false) h1 (by omega) h
  have r2 := step_ready P N R (u := true) (k := k + 1) (by omega) (by omega) r1
  obtain ⟨F, I⟩ := sums_then P N R (u := false) (k := k + 2) (by omega) (by omega) r2.fix r2.mid
  have S : Scored P N w true (k + 3) _ := r2.next.of (accumulateT_kept (T := T) masked w false (k + 2) _ (by decide))
  obtain ⟨F', M⟩ := weights_then P N R (by omega) (by omega) F I S
  exact sums_then P N R (u := true) (by omega) h2 F' M

/-- The trips of a loop, one after the other. -/
theorem trips_ready {k0 n : Nat} (h1 : lo ≤ k0) (h2 : k0 + 4 * n + 1 ≤ hi) {s : Mem Ideal} (h : Ready P N w false k0 s) :
    Ready P N w false (k0 + 4 * n) (eachM (fun t : Fin n => tripT (F := Ideal) T N.l ⊥ masked w (k0 + 4 * t.val)) (List.finRange n) s) := by
  have key : ∀ (i : Nat) (hi : i ≤ n), Ready P N w false (k0 + 4 * i) (eachM (fun t : Fin n => tripT (F := Ideal) T N.l ⊥ masked w (k0 + 4 * t.val)) ((List.finRange n).take i) s) := by
    intro i
    induction i with
    | zero => exact fun _ => h
    | succ i ih =>
      intro hi
      have hlt : i < n := hi
      have ht : (List.finRange n).take (i + 1) = (List.finRange n).take i ++ [⟨i, hlt⟩] := by
        rw [List.take_add_one]
        congr 1
        simp [hlt]
      rw [ht]
      unfold eachM
      rw [List.foldl_append]
      exact trip_ready P N R (k := k0 + 4 * i) (by omega) (by omega) (ih (by omega))
  have := key n (le_refl n)
  rwa [show (List.finRange n).take n = List.finRange n from List.take_of_length_le (by simp)] at this

omit R in
/-- All tiles. -/
theorem runs_done (R1 : RunIs T true .one 0 15) (R2 : RunIs T false .two 16 71) (R3 : RunIs T false .one 72 79) {s : Mem Ideal} (F : Fix N s) :
    Fix N (run3 (F := Ideal) T N.l ⊥ (run2 (F := Ideal) T N.l ⊥ (run1 (F := Ideal) T N.l ⊥ s))) ∧
      Inv P N 80 (run3 (F := Ideal) T N.l ⊥ (run2 (F := Ideal) T N.l ⊥ (run1 (F := Ideal) T N.l ⊥ s))) := by
  have t1 : Scf.trips 0#32 3#32 1#32 = 3 := by decide
  have t2 : Scf.trips 0#32 13#32 1#32 = 13 := by decide
  have a1 : Fix N (run1 (F := Ideal) T N.l ⊥ s) ∧ Inv P N 16 (run1 (F := Ideal) T N.l ⊥ s) := by
    unfold run1
    rw [t1]
    have o := opening_ready P N R1 (k := 0) (by omega) (by omega) F fun t ht => absurd ht (by omega)
    have l := trips_ready P N R1 (k0 := 0) (n := 3) (by omega) (by omega) o
    simp only [Nat.zero_add] at l
    exact ending_done P N R1 (by omega) (by omega) l
  have a2 : Fix N (run2 (F := Ideal) T N.l ⊥ (run1 (F := Ideal) T N.l ⊥ s)) ∧ Inv P N 72 (run2 (F := Ideal) T N.l ⊥ (run1 (F := Ideal) T N.l ⊥ s)) := by
    unfold run2
    rw [t2]
    have o := opening_ready P N R2 (k := 16) (by omega) (by omega) a1.1 a1.2
    have l := trips_ready P N R2 (k0 := 16) (n := 13) (by omega) (by omega) o
    exact ending_done P N R2 (by omega) (by omega) l
  unfold run3
  have o := opening_ready P N R3 (k := 72) (by omega) (by omega) a2.1 a2.2
  have l := trip_ready P N R3 (k := 72) (by omega) (by omega) o
  exact ending_done P N R3 (by omega) (by omega) l

omit R in
/-- Every key on or before a row is taken by then. -/
theorem keys_all (t : Fin 8192) : P.keys 80 t = Finset.univ.filter fun j : Fin 8192 => j.val ≤ t.val := by
  ext j
  simp only [Plan.keys, Finset.mem_filter, Finset.mem_univ, true_and, and_iff_left_iff_imp]
  intro h
  exact P.all _ (by omega) _ (by omega)

omit R in
/-- The result of a head: the weighted mean of the values, times the gate. -/
theorem finish_at {s : Mem Ideal} (F : Fix N s) (I : Inv P N 80 s) (h1 : ∀ j (e : Fin 256), 128 ≤ e.val → N.va j e = 1) (t : Fin 8192) (d : Fin 128) :
    ∃ μ : ℝ, finishM (F := Ideal) s .out (ix2 t d)
      = Ideal.div (∑ j : Fin 8192, (N.wt t j μ : EReal) * N.va j ⟨d.val, by omega⟩) (∑ j : Fin 8192, (N.wt t j μ : EReal)) * siluOf (N.gate t d) := by
  obtain ⟨μ, -, hμ⟩ := I t (by omega)
  have full : ∀ f : Fin 8192 → EReal, ∑ j ∈ P.keys 80 t, (N.wt t j μ : EReal) * f j = ∑ j, (N.wt t j μ : EReal) * f j := fun f => by
    rw [keys_all]
    refine Finset.sum_subset (Finset.subset_univ _) fun j _ hj => ?_
    rw [show N.wt t j μ = 0 from if_neg fun h => hj (Finset.mem_filter.mpr ⟨Finset.mem_univ _, h⟩)]
    simp
  refine ⟨μ, ?_⟩
  unfold finishM
  rw [put_same]
  refine (overlay_in _ _ _ t d t d (Nat.zero_add _).symm (Nat.zero_add _).symm).trans ?_
  rw [show block s .acc ![0, 0] ![8192, 256] (by decide) = s .acc from block_whole _ _, show block s .gate ![0, 0] ![8192, 128] (by decide) = s .gate from block_whole _ _]
  refine (finishOf_at (s .acc) (s .gate) t d).trans ?_
  rw [hμ, hμ, F.gate, full fun j => N.va j ⟨d.val, by omega⟩, full fun j => N.va j ⟨128 + d.val, by omega⟩]
  have : ∀ j, N.va j ⟨128 + d.val, by omega⟩ = 1 := fun j => h1 j _ (by show 128 ≤ 128 + d.val; omega)
  simp only [this, mul_one]

end Cert.Proof.Att

end
-- ==== Proof.Att.Head.lean ====
/- What a head leaves: its operands laid out at the start, and its result in closed form. -/
module

public import proofs.«01_k».proof.Proof.Att.Chain

@[expose] public section

set_option maxRecDepth 16384

noncomputable section

namespace Cert.Proof.Att

open Idealize.ShloMosaic
open scoped BigOperators

/-- The buffers beside the values hold ones. -/
def Ones (s : Mem Ideal) : Prop := ∀ (j : Fin 8192) (e : Fin 256), 128 ≤ e.val → s .va (ix2 j e) = (1 : EReal)

/-- A memory holds a head's operands. -/
structure Given (N : Nums) (s : Mem Ideal) : Prop where
  q : ∀ t d, s .q (ix2 t d) = N.q t d
  k : ∀ t d, s .k (ix2 t d) = N.k t d
  c : ∀ t, s .crow (ix3 0 0 t) = N.c t
  v : ∀ t (d : Fin 128), s .v (ix2 t d) = N.va t ⟨d.val, by omega⟩
  gate : ∀ t d, s .gate (ix2 t d) = N.gate t d
  one : ∀ j (e : Fin 256), 128 ≤ e.val → N.va j e = 1

variable {N : Nums}

theorem one_bf16 : Ideal.ofBits FTy.bf16 0x3F80#16 = (1 : EReal) := by
  simp [Ideal.ofBits, Ideal.ieee, -EReal.coe_mul]; norm_num

theorem onesM_kept (i : BitVec 32) (s : Mem Ideal) {a : Arg} (h : a ≠ .va) : onesM i s a = s a := by
  unfold onesM
  split
  · exact put_other s h _ _ _ _
  · rfl

theorem onesM_ones (i : BitVec 32) (s : Mem Ideal) (h : i = 0#32 ∨ Ones s) : Ones (onesM i s) := by
  have out : Ones (s.put .va ![0, 128] ![8192, 128] (by decide) (broadcast _ (Scalar.ofBits .bf16 0x3F80#16 : Ideal .bf16))) := fun j e he => by
    rw [put_same]
    refine (overlay_in _ _ _ j ⟨e.val - 128, by omega⟩ j e (Nat.zero_add _).symm (by show e.val = 128 + (e.val - 128); omega)).trans ?_
    exact one_bf16
  unfold onesM
  rcases h with rfl | h
  · rw [if_pos (by decide)]
    exact out
  · split
    · exact out
    · exact h

/-- The keys' columns after their copies. -/
theorem keys_done (s : Mem Ideal) : (∀ a, a ≠ .kt → eachM keysM passes s a = s a) ∧ ∀ (d : Fin 128) (j : Fin 8192), eachM keysM passes s .kt (ix2 d j) = s .k (ix2 j d) := by
  have key := eachM_passes keysM (fun s' => ∀ a, a ≠ .kt → s' a = s a) (fun _ _ => True)
    (fun r s' => ∀ (d : Fin 128) (j : Fin 8192), j.val / 512 = r.val → s' .kt (ix2 d j) = s .k (ix2 j d)) (fun r s' hI _ => ?_) (fun _ _ _ _ _ => trivial)
    (fun r r' s' hr hd d j hj => ?_) s (fun _ _ => rfl) fun _ => trivial
  · exact ⟨key.1, fun d j => key.2 ⟨j.val / 512, by omega⟩ d j rfl⟩
  · refine ⟨fun a ha => (put_other s' ha _ _ _ _).trans (hI a ha), fun d j hj => ?_⟩
    unfold keysM
    rw [put_same]
    refine (overlay_in (cols512_inb r) _ _ d ⟨j.val - 512 * r.val, by omega⟩ d j (Nat.zero_add _).symm (by show j.val = 512 * r.val + (j.val - 512 * r.val); omega)).trans ?_
    refine (keysOf_at _ _ _).trans ?_
    show s' .k ((blk (s := Mat 8192 128) ![512 * r.val, 0] ![512, 128] (rows512_inb r)).emb _) = _
    rw [emb_eq (rows512_inb r) ⟨j.val - 512 * r.val, by omega⟩ d j d (by show j.val = 512 * r.val + (j.val - 512 * r.val); omega) (Nat.zero_add _).symm, hI .k (by decide)]
  · refine Eq.trans ?_ (hd d j hj)
    unfold keysM
    rw [put_same]
    refine overlay_out (cols512_inb r) _ _ d j ?_
    have : r'.val ≠ r.val := fun e => hr (Fin.ext e)
    omega

/-- The gates' column after its copies. -/
theorem gates_done (l : EReal) (s : Mem Ideal) : (∀ a, a ≠ .ct → eachM (gatesM (F := Ideal) l) passes s a = s a) ∧
    ∀ t : Fin 8192, eachM (gatesM (F := Ideal) l) passes s .ct (ix2 t 0) = s .crow (ix3 0 0 t) * l := by
  have key := eachM_passes (gatesM (F := Ideal) l) (fun s' => ∀ a, a ≠ .ct → s' a = s a) (fun _ _ => True)
    (fun r s' => ∀ t : Fin 8192, t.val / 512 = r.val → s' .ct (ix2 t 0) = s .crow (ix3 0 0 t) * l) (fun r s' hI _ => ?_) (fun _ _ _ _ _ => trivial)
    (fun r r' s' hr hd t ht => ?_) s (fun _ _ => rfl) fun _ => trivial
  · exact ⟨key.1, fun t => key.2 ⟨t.val / 512, by omega⟩ t rfl⟩
  · refine ⟨fun a ha => (put_other s' ha _ _ _ _).trans (hI a ha), fun t ht => ?_⟩
    unfold gatesM
    rw [put_same]
    refine (overlay_in (ct512_inb r) _ _ ⟨t.val - 512 * r.val, by omega⟩ 0 t 0 (by show t.val = 512 * r.val + (t.val - 512 * r.val); omega) rfl).trans ?_
    refine (gatesOf_at l _ _).trans (congrArg (· * l) ?_)
    show s' .crow _ = _
    rw [hI .crow (by decide)]
    refine congrArg (s .crow) (funext fun a => Fin.ext ?_)
    match a with
    | 0 => rfl
    | 1 => rfl
    | 2 => show 512 * r.val + 1 * (t.val - 512 * r.val) = t.val; omega
  · refine Eq.trans ?_ (hd t ht)
    unfold gatesM
    rw [put_same]
    refine overlay_out (ct512_inb r) _ _ t 0 ?_
    have : r'.val ≠ r.val := fun e => hr (Fin.ext e)
    omega

/-- After the start the operands are laid out. -/
theorem start_fix {s : Mem Ideal} (G : Given N s) (i : BitVec 32) (h : i = 0#32 ∨ Ones s) : Fix N (startM (F := Ideal) N.l i s) := by
  unfold startM
  have g := gates_done N.l (eachM keysM passes (valsM (onesM i s)))
  have k := keys_done (valsM (onesM i s))
  have v : ∀ {a : Arg}, a ≠ .va → valsM (onesM i s) a = s a := fun ha => (put_other _ ha _ _ _ _).trans (onesM_kept i s ha)
  refine ⟨fun t d => ?_, fun d j => ?_, fun j => ?_, fun t => ?_, fun j e => ?_, fun t d => ?_⟩
  · rw [g.1 _ (by decide), k.1 _ (by decide), v (by decide)]; exact G.q t d
  · rw [g.1 _ (by decide), k.2, v (by decide)]; exact G.k j d
  · rw [g.1 _ (by decide), k.1 _ (by decide), v (by decide)]; exact G.c j
  · rw [g.2, k.1 _ (by decide), v (by decide)]
    exact (congrArg (· * N.l) (G.c t)).trans (N.hg t)
  · rw [g.1 _ (by decide), k.1 _ (by decide)]
    unfold valsM
    rw [put_same]
    rcases Nat.lt_or_ge e.val 128 with he | he
    · refine (overlay_in _ _ _ j ⟨e.val, he⟩ j e (Nat.zero_add _).symm (Nat.zero_add _).symm).trans ?_
      rw [show block (onesM i s) .v ![0, 0] ![8192, 128] (by decide) = onesM i s .v from block_whole _ _, onesM_kept i s (by decide)]
      exact G.v j ⟨e.val, he⟩
    · exact (overlay_out _ _ _ j e (.inr (.inr (.inr (by show 0 + 128 ≤ e.val; omega))))).trans ((onesM_ones i s h j e he).trans (G.one j e he).symm)
  · rw [g.1 _ (by decide), k.1 _ (by decide), v (by decide)]; exact G.gate t d

/-- The weight of key `j` for row `t`. -/
def Nums.wgt (N : Nums) (t j : Fin 8192) : ℝ := N.wt t j 0 / ∑ i, N.wt t i 0

/-- The result of a head. -/
def Nums.res (N : Nums) (t : Fin 8192) (d : Fin 128) : EReal := (∑ j, (N.wgt t j : EReal) * N.va j ⟨d.val, by omega⟩) * siluOf (N.gate t d)

theorem Nums.wt_self_pos (t : Fin 8192) (μ : ℝ) : 0 < N.wt t t μ := by
  unfold Nums.wt
  rw [if_pos (le_refl _)]
  exact Real.rpow_pos_of_pos two_pos _

theorem Nums.sum_pos (t : Fin 8192) (μ : ℝ) : 0 < ∑ j, N.wt t j μ :=
  Finset.sum_pos' (fun j _ => N.wt_nonneg t j μ) ⟨t, Finset.mem_univ _, N.wt_self_pos t μ⟩

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem div_real (x : EReal) {L : ℝ} (h : 0 < L) : Ideal.div x (L : EReal) = ((L⁻¹ : ℝ) : EReal) * x := by
  unfold Ideal.div
  rw [if_neg (by exact_mod_cast h.ne'), ← EReal.coe_inv, mul_comm]

/-- The quotient of the sums does not depend on the unit the weights are taken in. -/
theorem Nums.mean (t : Fin 8192) (μ : ℝ) (f : Fin 8192 → EReal) :
    Ideal.div (∑ j, (N.wt t j μ : EReal) * f j) (∑ j, (N.wt t j μ : EReal)) = ∑ j, (N.wgt t j : EReal) * f j := by
  rw [← coe_sum, div_real _ (N.sum_pos t μ), mul_sum_real _ _ (inv_pos.mpr (N.sum_pos t μ)).le]
  refine Finset.sum_congr rfl fun j _ => ?_
  rw [← mul_assoc, ← EReal.coe_mul]
  congr 2
  unfold Nums.wgt
  simp only [fun i => N.wt_shift t i 0 μ, ← Finset.mul_sum]
  have h1 := N.sum_pos t 0
  have h2 : (0 : ℝ) < 2 ^ ((0 : ℝ) - μ) := Real.rpow_pos_of_pos two_pos _
  field_simp

theorem finish_va (s : Mem Ideal) : finishM s .va = s .va := by
  unfold finishM
  exact put_other s (by decide) _ _ _ _

/-- A head's result, and the ones it leaves. -/
theorem head_done {T : Vec Ideal (Mat 2 80) .i32} (P : Plan T) (R1 : RunIs T true .one 0 15) (R2 : RunIs T false .two 16 71) (R3 : RunIs T false .one 72 79)
    {s : Mem Ideal} (G : Given N s) (i : BitVec 32) (h : i = 0#32 ∨ Ones s) :
    (∀ t d, headM (F := Ideal) T N.l ⊥ i s .out (ix2 t d) = N.res t d) ∧ Ones (headM (F := Ideal) T N.l ⊥ i s) := by
  obtain ⟨F, I⟩ := runs_done P N R1 R2 R3 (start_fix G i h)
  refine ⟨fun t d => ?_, fun j e he => ?_⟩
  · obtain ⟨μ, hμ⟩ := finish_at P N F I G.one t d
    refine hμ.trans ?_
    rw [Nums.mean]
    rfl
  · exact (congrFun (finish_va _) _).trans ((F.va j e).trans (G.one j e he))

end Cert.Proof.Att

end
-- ==== Proof.Att.Tiles.lean ====
/- The kernel's table of tiles, and why it computes the causal attention: every block of keys on or before
   a block of rows is taken by exactly one tile, the diagonal one first. -/
module

public import proofs.«01_k».proof.Proof.Att.Head
public import proofs.«01_k».proof.Proof.Att.LaunchKernelIdeal

@[expose] public section

set_option maxRecDepth 16384

noncomputable section

namespace Cert.Proof.Att.KernelIdeal

open Cert.KernelIdeal Cert.KernelIdeal.Gen
open Idealize.ShloMosaic

/-- A tile's block of rows. -/
def rowsOf (k : Nat) : Fin 16 := Fin.ofNat 16 (wordAt 0 k).toNat
/-- A tile's first block of keys. -/
def colsOf (k : Nat) : Fin 16 := Fin.ofNat 16 (wordAt 1 k).toNat
/-- The tile that takes key block `j` for row block `t`; 80 where none does. -/
def tileOf (t j : Nat) : Nat :=
  ((List.range 80).find? fun k => (rowsOf k).val == t && (Nat.ble (colsOf k).val j && Nat.blt j ((colsOf k).val + wn k))).getD 80

theorem rows_word : ∀ k : Fin 80, wordAt 0 k.val = wd (rowsOf k.val) ∧ wordAt 1 k.val = wd (colsOf k.val) := by decide +kernel
theorem rows_diag : ∀ k : Fin 16, (rowsOf k.val).val = k.val ∧ (colsOf k.val).val = k.val := by decide +kernel
theorem cols_before : ∀ k : Fin 80, 16 ≤ k.val → (colsOf k.val).val + wn k.val ≤ (rowsOf k.val).val := by decide +kernel
theorem cols_inside : ∀ k : Fin 80, (colsOf k.val).val + wn k.val ≤ 16 := by decide +kernel
theorem tile_cover : ∀ (k : Fin 80) (j : Fin 16), tileOf (rowsOf k.val).val j.val = k.val ↔ (colsOf k.val).val ≤ j.val ∧ j.val < (colsOf k.val).val + wn k.val := by decide +kernel
theorem tile_own : ∀ t j : Fin 16, tileOf t.val j.val < 80 → (rowsOf (tileOf t.val j.val)).val = t.val := by decide +kernel
theorem tile_all : ∀ t j : Fin 16, j.val ≤ t.val → tileOf t.val j.val < 80 ∧ t.val ≤ tileOf t.val j.val := by decide +kernel

/-- The kernel's table is such a plan. -/
def plan : Plan (T (F := Ideal)) where
  rn := rowsOf
  cn := colsOf
  of := tileOf
  row k h := (rowAt_T k).trans (rows_word ⟨k, h⟩).1
  col k h := (colAt_T k).trans (rows_word ⟨k, h⟩).2
  diag k h := rows_diag ⟨k, h⟩
  before k h1 h2 := cols_before ⟨k, h2⟩ h1
  inside k h := cols_inside ⟨k, h⟩
  cover k h j hj := tile_cover ⟨k, h⟩ ⟨j, hj⟩
  own t ht j hj := tile_own ⟨t, ht⟩ ⟨j, hj⟩
  all t ht j hj := (tile_all ⟨t, ht⟩ ⟨j, by omega⟩ hj).1
  first t ht j hj := (tile_all ⟨t, ht⟩ ⟨j, by omega⟩ hj).2

theorem run1_is : RunIs (T (F := Ideal)) true .one 0 15 where
  lt := by decide
  m k _ h := by simp; omega
  n k _ h := by unfold wn; rw [if_neg (by omega)]
  ok := run1_ok
theorem run2_is : RunIs (T (F := Ideal)) false .two 16 71 where
  lt := by decide
  m k h _ := by simp; omega
  n k h h' := by unfold wn; rw [if_pos (by omega)]
  ok := run2_ok
theorem run3_is : RunIs (T (F := Ideal)) false .one 72 79 where
  lt := by decide
  m k h _ := by simp; omega
  n k h h' := by unfold wn; rw [if_neg (by omega)]
  ok := run3_ok

end Cert.Proof.Att.KernelIdeal

end
-- ==== Proof.Att.Tracked.lean ====
/- The launch of the attention with its results tracked: each head stores the rows it is said to store. -/
module

public import proofs.«01_k».proof.Proof.Att.LaunchKernelIdeal

@[expose] public section

set_option maxRecDepth 16384

noncomputable section

namespace Cert.Proof.Att.KernelIdeal

open Cert.KernelIdeal Cert.KernelIdeal.Gen
open Idealize.ShloMosaic Idealize.ShloMosaic.TcCoe
open Idealize.SL Idealize.SL.RA Idealize.SL.Sem Idealize.SL.ProofMode
open Idealize.SL.BI (sProp bigSep bigSep_singleton)
open scoped Idealize.SL.BI
open Idealize.SL.BI.BIBase Idealize.SL.BI.Laws
open Idealize.ShloMosaic.Pipeline (Dat Cfg Window BodyObligation BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (P : Fin ((cfgM m).N + 1) → Mem F → Prop) (o : Fin (cfgM m).N → Vec F (Arg.out).sh (Arg.out).el)

/-- Every head stores `o`. -/
def Stores (c : Dev nD) : Prop := ∀ (t : Fin (cfgM m).N) (x5) (s : Mem F), P t.castSucc s → headM T log2e mask (headOf m t) (entry m c t x5 s) .out = o t

theorem handed_any (c : Dev nD) (t : Fin (cfgM m).N) :
    iprop(((∃ s : Mem F, ⌜P t.castSucc s⌝ ∗ scr c s) ∗ (∃ r, prngReg c r) ∗ Pipeline.ΦT pre0 (tbl m) c) ∗ (dat m P o 0 c).owesAt () t.castSucc
      ∗ (∃ d, owns (c : Thread nD τ) (spec0_0.stage ((cfgM m).slots t 0)) fullShare ((dat m P o 0 c).before 0 t d))
      ∗ (∃ d, owns (c : Thread nD τ) (spec0_1.stage ((cfgM m).slots t 1)) fullShare ((dat m P o 0 c).before 1 t d))
      ∗ (∃ d, owns (c : Thread nD τ) (spec0_2.stage ((cfgM m).slots t 2)) fullShare ((dat m P o 0 c).before 2 t d))
      ∗ (∃ d, owns (c : Thread nD τ) (spec0_3.stage ((cfgM m).slots t 3)) fullShare ((dat m P o 0 c).before 3 t d))
      ∗ (∃ d, owns (c : Thread nD τ) (spec0_4.stage ((cfgM m).slots t 4)) fullShare ((dat m P o 0 c).before 4 t d))
      ∗ (∃ d, owns (c : Thread nD τ) (spec0_5.stage ((cfgM m).slots t 5)) fullShare ((dat m P o 0 c).before 5 t d))) ⊢ handed m P o c t := by
  unfold handed
  iintro ⟨HΦ, Ho, H0, H1, H2, H3, H4, ⟨%d, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _
  iexact H5

theorem given_is (c : Dev nD) (t : Fin (cfgM m).N) : given m P o (fun X => X = o t) c t ⊢
    iprop(((∃ s : Mem F, ⌜P t.succ s⌝ ∗ scr c s) ∗ (∃ r, prngReg c r) ∗ Pipeline.ΦT pre0 (tbl m) c) ∗ (dat m P o 0 c).owesAt () t.succ
      ∗ owns (c : Thread nD τ) (spec0_0.stage ((cfgM m).slots t 0)) fullShare (iblk m c 0 t)
      ∗ owns (c : Thread nD τ) (spec0_1.stage ((cfgM m).slots t 1)) fullShare (iblk m c 1 t)
      ∗ owns (c : Thread nD τ) (spec0_2.stage ((cfgM m).slots t 2)) fullShare (iblk m c 2 t)
      ∗ owns (c : Thread nD τ) (spec0_3.stage ((cfgM m).slots t 3)) fullShare (iblk m c 3 t)
      ∗ owns (c : Thread nD τ) (spec0_4.stage ((cfgM m).slots t 4)) fullShare (iblk m c 4 t)
      ∗ owns (c : Thread nD τ) (spec0_5.stage ((cfgM m).slots t 5)) fullShare (o t)) := by
  unfold given
  iintro ⟨HΦ, Ho, H0, H1, H2, H3, H4, ⟨%X, %hX, H5⟩⟩
  have e : X = o t := hX
  subst e
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation (hP : ∀ c, KeepsP m P c) (hR : ∀ c, Stores m P o c) (c : Dev nD) :
    BodyObligationLoose (dat m P o 0 c) (defs₀ (F := F)) Variants.none () Set.univ := fun t => by
  rw [bigSep_W0, bigSep_W0]
  exact (handed_any m P o c t).trans ((body_at m P o c t (fun X => X = o t) (hP c) (fun x5 s hs => hR c t x5 s hs)).trans (wp_mono _ _ _ fun _ => given_is m P o c t))

set_option backward.isDefEq.respectTransparency.types false in
/-- The run, its results tracked. -/
theorem run_tracked (hP : ∀ c, KeepsP m P c) (hR : ∀ c, Stores m P o c) (h0 : ∀ s, P 0 s) : θ_run defs (onTc (τ := τ) (main (F := F))) ⟨m, fun _ => 0, ρ⟩
    (fun r => Pipeline.FramePost (Pipeline.pin pcfgs fun _ => adm m) (dat m P o) 0 (V m) r ∧ r.2.sem = fun _ => 0) :=
  Pipeline.θ_run_frameP_track_shared (Q' := _) pcfgs (fun _ => adm m) (dat m P o) (0 : Fin 1) launch₀0 defs₀ Variants.none m ρ main
    (hbody := fun c => obligation m P o hP hR c) (hq := fun _ _ _ => rfl) (howed := fun _ _ => rfl)
    (V := V m) (hmain := hmain m Variants.none) (hA := A_eq m _ _) (hpf := V_pre m)
    (hin := fun c => phi_in m _ _ c h0) (hout := fun c => phi_out m _ _ c _)

/-- The result array after the run, the arguments as launched. -/
theorem run_value (hP : ∀ c, KeepsP m P c) (hR : ∀ c, Stores m P o c) (h0 : ∀ s, P 0 s) : θ_run defs (onTc (τ := τ) (main (F := F))) ⟨m, fun _ => 0, ρ⟩
    (fun r => ∀ c : Dev nD, r.2.mem ((c.tc : Thread nD τ).loc main_v8) = (dat m P o 0 c).arrAt 5 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 5,
    ((h.1 c).2 main_arg0 (by decide : main_arg0 ∈ Pipeline.restRefs sig spec0)).trans (V_kept m c _ (by decide)),
    ((h.1 c).2 main_arg1 (by decide : main_arg1 ∈ Pipeline.restRefs sig spec0)).trans (V_kept m c _ (by decide)),
    ((h.1 c).2 main_arg2 (by decide : main_arg2 ∈ Pipeline.restRefs sig spec0)).trans (V_kept m c _ (by decide)),
    ((h.1 c).2 main_arg3 (by decide : main_arg3 ∈ Pipeline.restRefs sig spec0)).trans (V_kept m c _ (by decide)),
    ((h.1 c).1 4).trans (((dat m P o 0 c).arrAt_in 4 rfl _).trans ((A_eq m P o c 4).trans (V_kept m c main_arg4 (by decide))))⟩) (run_tracked m ρ P o hP hR h0)

end Cert.Proof.Att.KernelIdeal

end
-- ==== Proof.Att.Ref.lean ====
/- The reference read at an index: the masked logits of a head, their softmax, the mean of the values, the gate. -/
module

public import proofs.«01_k».proof.Proof.Att.Head
public import proofs.«01_k».proof.Proof.Gen.ReferenceIdeal.Read
public import Idealize.ShloMosaic.Lib.WordCmp

@[expose] public section

set_option maxRecDepth 16384

noncomputable section

namespace Cert.Proof.Att.Ref

open Cert.ReferenceIdeal Cert.ReferenceIdeal.Read
open Idealize.ShloMosaic
open scoped BigOperators

/-- Feature `d` of head `h`. -/
def feat (h : Fin 8) (d : Fin 128) : Fin 1024 := ⟨128 * h.val + d.val, by omega⟩
/-- The gate's column of that feature. -/
def gcol (h : Fin 8) (d : Fin 128) : Fin 7168 := ⟨6144 + (128 * h.val + d.val), by omega⟩

variable (q k v : Vec Ideal ⟨2, ![8192, 1024]⟩ .f32) (c : Vec Ideal ⟨2, ![8, 8192]⟩ .f32) (z : Vec Ideal ⟨2, ![8192, 7168]⟩ .f32)

/-- A head's masked logits. -/
def logit (h : Fin 8) (t j : Fin 8192) : EReal :=
  if j.val ≤ t.val then Ideal.div (∑ d : Fin 128, q (ix2 t (feat h d)) * k (ix2 j (feat h d))) (Ideal.sqrt (Ideal.ofBits FTy.f32 0x43000000#32)) + c (ix2 h t) - c (ix2 h j) else ⊥

theorem v2_at (h : Fin 8) (t j : Fin 8192) : val_main_v2 (F := Ideal) q k (ix3 h t j) = ∑ d : Fin 128, q (ix2 t (feat h d)) * k (ix2 j (feat h d)) := by
  rw [val_main_v2_apply]
  refine Finset.sum_congr rfl fun d _ => ?_
  rw [val_main_v0_apply, val_main_v1_apply]
  have e : ∀ (t : Fin 8192) (i : S8192x8x128.Idx), (i 0).val = t.val → (i 1).val = h.val → (i 2).val = d.val → idx_main_v0 i = ix2 t (feat h d) := by
    intro t i h0 h1 h2
    funext a
    match a with
    | ⟨0, _⟩ => exact Fin.ext (by show (((i 0).val * 8 + (i 1).val) * 128 + (i 2).val) / 1024 = t.val; omega)
    | ⟨1, _⟩ => exact Fin.ext (by show (((i 0).val * 8 + (i 1).val) * 128 + (i 2).val) % 1024 = 128 * h.val + d.val; omega)
  exact congrArg₂ (· * ·) (congrArg q (e t _ rfl rfl rfl)) (congrArg k (e j _ rfl rfl rfl))

theorem v11_at (h : Fin 8) (t j : Fin 8192) : val_main_v11 (F := Ideal) q k c (ix3 h t j)
    = Ideal.div (val_main_v2 (F := Ideal) q k (ix3 h t j)) (Ideal.sqrt (Ideal.ofBits FTy.f32 0x43000000#32)) + c (ix2 h t) - c (ix2 h j) := by
  pointwise [val_main_v11, val_main_v8, val_main_v5, val_main_v4, val_main_v3, val_main_cst, val_main_v7, val_main_v6, val_main_v10, val_main_v9]

theorem v18_at (h : Fin 8) (t j : Fin 8192) : val_main_v18 (F := Ideal) q k c (ix3 h t j) = logit q k c h t j := by
  have e : Ideal.ofBits FTy.f32 0xFF800000#32 = (⊥ : EReal) := by simp [Ideal.ofBits, Ideal.ieee]
  have w : IntOp.cmpi .sge (BitVec.ofNat 32 t.val) (BitVec.ofNat 32 j.val) = 1#1 ↔ j.val ≤ t.val := by
    rw [WordCmp.cmpi_sge_ofNat (by omega) (by omega)]
    by_cases hj : j.val ≤ t.val <;> simp [hj]
  rw [val_main_v18_apply, v11_at, v2_at]
  pointwise [val_main_call0_v1, val_main_v17, val_main_v15, val_main_v13, val_main_v12, val_main_v16, val_main_v14, val_main_call0_v2, val_main_call0_v0, val_main_cst_0]
  show Scalar.select _ _ (Ideal.ofBits FTy.f32 0xFF800000#32) = _
  rw [e]
  unfold Scalar.select logit
  exact if_congr w rfl rfl

/-- The largest of a row, of any array. -/
theorem max_at (x : Vec Ideal ⟨3, ![8, 8192, 8192]⟩ .f32) (b : Vec Ideal ⟨0, ![]⟩ .f32) (h' : Shape.ReducesTo ⟨3, ![8, 8192, 8192]⟩ [2] ⟨2, ![8, 8192]⟩) (hu : 0 < Shape.numel ⟨0, ![]⟩) (h : Fin 8) (t : Fin 8192) :
    Host.reduce (FloatOps.maximumf (F := Ideal) (φ := .f32)) x b h' hu (ix2 h t) = (Finset.univ : Finset (Fin 8192)).fold max (b (Shape.Idx.first hu)) fun j => x (ix3 h t j) := by
  have hd : Shape.Reduces ⟨3, ![8, 8192, 8192]⟩ [2] ⟨2, ![8, 8192]⟩ := by decide
  refine (Host.reduce_eq_fold_single (FloatOps.maximumf (F := Ideal) (φ := .f32)) x b h' hd hu (ix2 h t)).trans ?_
  refine congrArg (fun f => (Finset.univ : Finset (Fin 8192)).fold max (b (Shape.Idx.first hu)) f) (funext fun j => ?_)
  exact congrArg x (funext fun a => Fin.ext (by match a with | ⟨0, _⟩ => rfl | ⟨1, _⟩ => rfl | ⟨2, _⟩ => rfl))

theorem v19_at (h : Fin 8) (t : Fin 8192) : val_main_v19 (F := Ideal) q k c (ix2 h t) = Finset.univ.sup fun j : Fin 8192 => logit q k c h t j := by
  have e : Ideal.ofBits FTy.f32 0xFF800000#32 = (⊥ : EReal) := by simp [Ideal.ofBits, Ideal.ieee]
  rw [show (fun j : Fin 8192 => logit q k c h t j) = fun j => val_main_v18 (F := Ideal) q k c (ix3 h t j) from funext fun j => (v18_at q k c h t j).symm]
  unfold val_main_v19
  generalize val_main_v18 (F := Ideal) q k c = y
  refine (max_at y _ _ _ h t).trans ?_
  rw [show val_main_cst_1 (F := Ideal) (Shape.Idx.first Gen.h_S_) = (⊥ : EReal) from (val_main_cst_1_apply _).trans e]
  rfl

theorem v21_at (h : Fin 8) (t : Fin 8192) : val_main_v21 (F := Ideal) q k c (ix2 h t) = Finset.univ.sup fun j : Fin 8192 => logit q k c h t j := by
  have e : Ideal.ofBits FTy.f32 0xFF800000#32 = (⊥ : EReal) := by simp [Ideal.ofBits, Ideal.ieee]
  rw [val_main_v21_apply, val_main_v20_apply, val_main_cst_2_apply, v19_at]
  exact (congrArg (fun b : EReal => max b _) e).trans (max_eq_right bot_le)

theorem v25_at (h : Fin 8) (t j : Fin 8192) : val_main_v25 (F := Ideal) q k c (ix3 h t j) = Ideal.exp (logit q k c h t j - Finset.univ.sup fun j : Fin 8192 => logit q k c h t j) := by
  rw [← v21_at, ← v18_at]
  pointwise [val_main_v25, val_main_v24, val_main_v23, val_main_v22]

theorem v29_at (h : Fin 8) (t j : Fin 8192) : val_main_v29 (F := Ideal) q k c (ix3 h t j)
    = Ideal.div (val_main_v25 (F := Ideal) q k c (ix3 h t j)) (∑ i : Fin 8192, val_main_v25 (F := Ideal) q k c (ix3 h t i)) := by
  have e : Ideal.ofBits FTy.f32 0#32 = (0 : EReal) := by simp [Ideal.ofBits, Ideal.ieee]
  pointwise [val_main_v29, val_main_v28, val_main_v27, val_main_v26, val_main_cst_3]

theorem v37_at (h : Fin 8) (t : Fin 8192) (d : Fin 128) : val_main_v37 (F := Ideal) q k v c z (ix2 t (feat h d))
    = (∑ j : Fin 8192, v (ix2 j (feat h d)) * val_main_v29 (F := Ideal) q k c (ix3 h t j)) * siluOf (z (ix2 t (gcol h d))) := by
  rw [val_main_v37_apply, val_main_v36_apply, val_main_v33_apply, val_main_v32_apply, val_main_v31_apply]
  refine congrArg₂ (· * ·) (Finset.sum_congr rfl fun j _ => ?_) ?_
  · rw [val_main_v30_apply]
    refine congrArg₂ (· * ·) (congrArg v (funext fun a => ?_)) (congrArg (val_main_v29 (F := Ideal) q k c) (funext fun a => ?_))
    · match a with
      | ⟨0, _⟩ => exact Fin.ext (by show ((j.val * 8 + (t.val * 1024 + (128 * h.val + d.val)) / 128 % 8) * 128 + (t.val * 1024 + (128 * h.val + d.val)) % 128) / 1024 = j.val; omega)
      | ⟨1, _⟩ => exact Fin.ext (by show ((j.val * 8 + (t.val * 1024 + (128 * h.val + d.val)) / 128 % 8) * 128 + (t.val * 1024 + (128 * h.val + d.val)) % 128) % 1024 = 128 * h.val + d.val; omega)
    · match a with
      | ⟨0, _⟩ => exact Fin.ext (by show (t.val * 1024 + (128 * h.val + d.val)) / 128 % 8 = h.val; omega)
      | ⟨1, _⟩ => exact Fin.ext (by show (t.val * 1024 + (128 * h.val + d.val)) / 1024 = t.val; omega)
      | ⟨2, _⟩ => rfl
  · pointwise [val_main_v35, val_main_call1_v5, val_main_call1_v4, val_main_call1_v3, val_main_call1_v2, val_main_call1_v1, val_main_call1_v0, val_main_call1_cst, val_main_call1_cst_0, val_main_v34]
    rfl

end Cert.Proof.Att.Ref

end
-- ==== Proof.Att.Same.lean ====
/- A head's result in closed form is the reference's: the softmax of the masked logits, the mean of the values, the gate. -/
module

public import proofs.«01_k».proof.Proof.Att.Ref

@[expose] public section

set_option maxRecDepth 16384

noncomputable section

namespace Cert.Proof.Att.Ref

open Cert.ReferenceIdeal Cert.ReferenceIdeal.Read
open Idealize.ShloMosaic
open scoped BigOperators

theorem sqrt_128 : Ideal.sqrt (Ideal.ofBits FTy.f32 0x43000000#32) = ((Real.sqrt 128 : ℝ) : EReal) := by
  have e : Ideal.ofBits FTy.f32 0x43000000#32 = ((128 : ℝ) : EReal) := by
    simp [Ideal.ofBits, Ideal.ieee, -EReal.coe_mul]; norm_num
  rw [e]
  show (if (128 : ℝ) < 0 then (⊥ : EReal) else _) = _
  rw [if_neg (by norm_num)]

theorem log_2 : Ideal.log (Ideal.ofBits FTy.f32 0x40000000#32) = ((Real.log 2 : ℝ) : EReal) := by
  have e : Ideal.ofBits FTy.f32 0x40000000#32 = ((2 : ℝ) : EReal) := by
    simp [Ideal.ofBits, Ideal.ieee, -EReal.coe_mul]; norm_num
  rw [e]
  show (if (2 : ℝ) ≤ 0 then (⊥ : EReal) else _) = _
  rw [if_neg (by norm_num)]

theorem sqrt_pos : 0 < Real.sqrt 128 := Real.sqrt_pos.mpr (by norm_num)
theorem log_pos : 0 < Real.log 2 := Real.log_pos (by norm_num)

/-- The quotient of two real numbers. -/
theorem div_coe (x : ℝ) {y : ℝ} (h : 0 < y) : Ideal.div (x : EReal) (y : EReal) = ((x / y : ℝ) : EReal) := by
  rw [div_real _ h, ← EReal.coe_mul]
  congr 1
  field_simp

theorem coe_dot {n : Nat} (f g : Fin n → ℝ) : (∑ i, (f i : EReal) * (g i : EReal)) = ((∑ i, f i * g i : ℝ) : EReal) := by
  rw [coe_sum]
  exact Finset.sum_congr rfl fun i _ => (EReal.coe_mul _ _).symm

variable (q k v : Vec Ideal ⟨2, ![8192, 1024]⟩ .f32) (c : Vec Ideal ⟨2, ![8, 8192]⟩ .f32) (z : Vec Ideal ⟨2, ![8192, 7168]⟩ .f32)
variable (qr kr : Fin 8192 → Fin 1024 → ℝ) (cr : Fin 8 → Fin 8192 → ℝ)

/-- The operands of the logits are real numbers. -/
structure Reals : Prop where
  q : ∀ t f, q (ix2 t f) = (qr t f : EReal)
  k : ∀ t f, k (ix2 t f) = (kr t f : EReal)
  c : ∀ h t, c (ix2 h t) = (cr h t : EReal)

/-- A logit without its mask. -/
def real (h : Fin 8) (t j : Fin 8192) : ℝ := (∑ d : Fin 128, qr t (feat h d) * kr j (feat h d)) / Real.sqrt 128 + cr h t - cr h j

variable {q k c qr kr cr}

theorem logit_real (R : Reals q k c qr kr cr) (h : Fin 8) (t j : Fin 8192) : logit q k c h t j = if j.val ≤ t.val then (real qr kr cr h t j : EReal) else ⊥ := by
  unfold logit
  simp only [R.q, R.k, R.c, sqrt_128, coe_dot, div_coe _ sqrt_pos, ← EReal.coe_add, ← EReal.coe_sub]
  rfl

/-- The numbers of a head. -/
def nums (R : Reals q k c qr kr cr) (h : Fin 8) : Nums where
  q t d := Ideal.div (q (ix2 t (feat h d))) (Ideal.sqrt (Ideal.ofBits FTy.f32 0x43000000#32) * Ideal.log (Ideal.ofBits FTy.f32 0x40000000#32))
  k t d := k (ix2 t (feat h d))
  c t := c (ix2 h t)
  va j e := if he : e.val < 128 then v (ix2 j (feat h ⟨e.val, he⟩)) else 1
  gate t d := z (ix2 t (gcol h d))
  l := (((Real.log 2)⁻¹ : ℝ) : EReal)
  x t j := (∑ d : Fin 128, qr t (feat h d) / (Real.sqrt 128 * Real.log 2) * kr j (feat h d)) - cr h j * (Real.log 2)⁻¹
  g t := cr h t * (Real.log 2)⁻¹
  hx t j := by
    simp only [R.q, R.k, R.c, sqrt_128, log_2, ← EReal.coe_mul, div_coe _ (mul_pos sqrt_pos log_pos), ← coe_sum, ← EReal.coe_sub]
  hg t := by rw [R.c, EReal.coe_mul]

/-- A weight is the exponential of the logit. -/
theorem wt_exp (R : Reals q k c qr kr cr) (h : Fin 8) (t j : Fin 8192) :
    (nums v z R h).wt t j 0 = if j.val ≤ t.val then Real.exp (real qr kr cr h t j) else 0 := by
  unfold Nums.wt
  split
  · rw [Real.rpow_def_of_pos (by norm_num)]
    refine congrArg Real.exp ?_
    show Real.log 2 * ((∑ d : Fin 128, qr t (feat h d) / (Real.sqrt 128 * Real.log 2) * kr j (feat h d)) - cr h j * (Real.log 2)⁻¹ - (0 - cr h t * (Real.log 2)⁻¹)) = real qr kr cr h t j
    have e : (∑ d : Fin 128, qr t (feat h d) / (Real.sqrt 128 * Real.log 2) * kr j (feat h d)) = (∑ d : Fin 128, qr t (feat h d) * kr j (feat h d)) / (Real.sqrt 128 * Real.log 2) := by
      rw [Finset.sum_div]
      exact Finset.sum_congr rfl fun d _ => by ring
    rw [e]
    unfold real
    have h1 := sqrt_pos.ne'
    have h2 := log_pos.ne'
    field_simp
    ring
  · rfl

/-- The reference's softmax is a head's weights. -/
theorem soft (R : Reals q k c qr kr cr) (h : Fin 8) (t j : Fin 8192) : val_main_v29 (F := Ideal) q k c (ix3 h t j) = ((nums v z R h).wgt t j : EReal) := by
  obtain ⟨M, hM⟩ := sup_real (fun j => logit q k c h t j) (fun j => by rw [logit_real R]; split <;> simp) t (by rw [logit_real R, if_pos (le_refl _)]; simp)
  have e : ∀ j, val_main_v25 (F := Ideal) q k c (ix3 h t j) = (((nums v z R h).wt t j 0 * Real.exp (-M) : ℝ) : EReal) := by
    intro j
    rw [v25_at, hM, logit_real R, wt_exp]
    split
    · rw [← EReal.coe_sub, ← Real.exp_add]
      rfl
    · rw [zero_mul]
      rfl
  have L : 0 < (∑ i, (nums v z R h).wt t i 0) * Real.exp (-M) := mul_pos ((nums v z R h).sum_pos t 0) (Real.exp_pos _)
  rw [v29_at]
  simp only [e]
  rw [← coe_sum, ← Finset.sum_mul, div_coe _ L]
  unfold Nums.wgt
  rw [mul_div_mul_right _ _ (Real.exp_pos (-M)).ne']

/-- A head's result is the reference's. -/
theorem res_eq (R : Reals q k c qr kr cr) (h : Fin 8) (t : Fin 8192) (d : Fin 128) :
    (nums v z R h).res t d = val_main_v37 (F := Ideal) q k v c z (ix2 t (feat h d)) := by
  rw [v37_at]
  unfold Nums.res
  refine congrArg₂ (· * ·) (Finset.sum_congr rfl fun j _ => ?_) rfl
  rw [soft v z R, mul_comm]
  refine congrArg (· * _) ?_
  show (if he : d.val < 128 then v (ix2 j (feat h ⟨d.val, he⟩)) else 1) = _
  rw [dif_pos d.isLt]

end Cert.Proof.Att.Ref

end
-- ==== Proof.Att.Operands.lean ====
/- What a head's blocks hold of the arguments: its features of the queries, keys and values, its row of gates, its columns of the output gate. -/
module

public import proofs.«01_k».proof.Proof.Att.LaunchKernelIdeal
public import proofs.«01_k».proof.Proof.Att.Same

@[expose] public section

set_option maxRecDepth 16384

noncomputable section

namespace Cert.Proof.Att.KernelIdeal

open Cert.KernelIdeal Cert.KernelIdeal.Gen
open Idealize.ShloMosaic Idealize.ShloMosaic.TcCoe
open Cert.Proof.Att.Ref (feat gcol)

variable (m : (ℓ : Loc nD τ sig) → Buf (Elt Ideal) ℓ) (c : Dev nD) (t : Fin (cfgM m).N)

/-- The head of grid point `t`. -/
def hd : Fin 8 := ⟨t.val, (show t.val < 8 from t.isLt)⟩

theorem at0 : ∀ t : Fin grid0.N, cc0_transform_0 (grid0.coords t) (0 : Fin 3) = t.val ∧ cc0_transform_0 (grid0.coords t) (1 : Fin 3) = 0 ∧ cc0_transform_0 (grid0.coords t) (2 : Fin 3) = 0 := by decide +kernel
theorem at1 : ∀ t : Fin grid0.N, cc0_transform_1 (grid0.coords t) (0 : Fin 2) = 0 ∧ cc0_transform_1 (grid0.coords t) (1 : Fin 2) = t.val := by decide +kernel
theorem at2 : ∀ t : Fin grid0.N, cc0_transform_2 (grid0.coords t) (0 : Fin 2) = 0 ∧ cc0_transform_2 (grid0.coords t) (1 : Fin 2) = 8 + t.val := by decide +kernel
theorem at3 : ∀ t : Fin grid0.N, cc0_transform_3 (grid0.coords t) (0 : Fin 2) = 0 ∧ cc0_transform_3 (grid0.coords t) (1 : Fin 2) = 16 + t.val := by decide +kernel
theorem at4 : ∀ t : Fin grid0.N, cc0_transform_4 (grid0.coords t) (0 : Fin 2) = 0 ∧ cc0_transform_4 (grid0.coords t) (1 : Fin 2) = 48 + t.val := by decide +kernel
theorem at5 : ∀ t : Fin grid0.N, cc0_transform_5 (grid0.coords t) (0 : Fin 2) = 0 ∧ cc0_transform_5 (grid0.coords t) (1 : Fin 2) = t.val := by decide +kernel

/-- Column `128·b + d` of the packed queries, keys and values. -/
def pcol (b : Fin 24) (d : Fin 128) : Fin 3072 := ⟨128 * b.val + d.val, by omega⟩

theorem blk0 (j : Fin 8192) : iblk m c 0 t (ix3 0 0 j) = V m c main_v7 (ix3 (hd m t) 0 j) := by
  obtain ⟨e0, e1, e2⟩ := at0 t
  show V m c main_v7 ((((cfgM m).win 0).blk t).view.emb (ix3 0 0 j)) = _
  congr 1; funext a; apply Fin.ext
  match a with
  | ⟨0, _⟩ => show cc0_transform_0 (grid0.coords t) (0 : Fin 3) * 1 + 1 * 0 = t.val; omega
  | ⟨1, _⟩ => show cc0_transform_0 (grid0.coords t) (1 : Fin 3) * 1 + 1 * 0 = 0; omega
  | ⟨2, _⟩ => show cc0_transform_0 (grid0.coords t) (2 : Fin 3) * 8192 + 1 * j.val = j.val; omega

theorem blk1 (r : Fin 8192) (d : Fin 128) : iblk m c 1 t (ix2 r d) = V m c main_v6 (ix2 r (pcol ⟨(hd m t).val, by omega⟩ d)) := by
  obtain ⟨e0, e1⟩ := at1 t
  show V m c main_v6 ((((cfgM m).win 1).blk t).view.emb (ix2 r d)) = _
  congr 1; funext a; apply Fin.ext
  match a with
  | ⟨0, _⟩ => show cc0_transform_1 (grid0.coords t) (0 : Fin 2) * 8192 + 1 * r.val = r.val; omega
  | ⟨1, _⟩ => show cc0_transform_1 (grid0.coords t) (1 : Fin 2) * 128 + 1 * d.val = 128 * t.val + d.val; omega

theorem blk2 (r : Fin 8192) (d : Fin 128) : iblk m c 2 t (ix2 r d) = V m c main_v6 (ix2 r (pcol ⟨8 + (hd m t).val, by omega⟩ d)) := by
  obtain ⟨e0, e1⟩ := at2 t
  show V m c main_v6 ((((cfgM m).win 2).blk t).view.emb (ix2 r d)) = _
  congr 1; funext a; apply Fin.ext
  match a with
  | ⟨0, _⟩ => show cc0_transform_2 (grid0.coords t) (0 : Fin 2) * 8192 + 1 * r.val = r.val; omega
  | ⟨1, _⟩ => show cc0_transform_2 (grid0.coords t) (1 : Fin 2) * 128 + 1 * d.val = 128 * (8 + t.val) + d.val; omega

theorem blk3 (r : Fin 8192) (d : Fin 128) : iblk m c 3 t (ix2 r d) = V m c main_v6 (ix2 r (pcol ⟨16 + (hd m t).val, by omega⟩ d)) := by
  obtain ⟨e0, e1⟩ := at3 t
  show V m c main_v6 ((((cfgM m).win 3).blk t).view.emb (ix2 r d)) = _
  congr 1; funext a; apply Fin.ext
  match a with
  | ⟨0, _⟩ => show cc0_transform_3 (grid0.coords t) (0 : Fin 2) * 8192 + 1 * r.val = r.val; omega
  | ⟨1, _⟩ => show cc0_transform_3 (grid0.coords t) (1 : Fin 2) * 128 + 1 * d.val = 128 * (16 + t.val) + d.val; omega

theorem blk4 (r : Fin 8192) (d : Fin 128) : iblk m c 4 t (ix2 r d) = m ((c : Thread nD τ).loc main_arg4) (ix2 r (gcol (hd m t) d)) := by
  obtain ⟨e0, e1⟩ := at4 t
  rw [← V_kept m c main_arg4 (by decide)]
  show V m c main_arg4 ((((cfgM m).win 4).blk t).view.emb (ix2 r d)) = _
  congr 1; funext a; apply Fin.ext
  match a with
  | ⟨0, _⟩ => show cc0_transform_4 (grid0.coords t) (0 : Fin 2) * 8192 + 1 * r.val = r.val; omega
  | ⟨1, _⟩ => show cc0_transform_4 (grid0.coords t) (1 : Fin 2) * 128 + 1 * d.val = 6144 + (128 * t.val + d.val); omega

theorem emb5 (r : Fin 8192) (d : Fin 128) : (((cfgM m).win 5).blk t).view.emb (ix2 r d) = ix2 r (feat (hd m t) d) := by
  obtain ⟨e0, e1⟩ := at5 t
  funext a; apply Fin.ext
  match a with
  | ⟨0, _⟩ => show cc0_transform_5 (grid0.coords t) (0 : Fin 2) * 8192 + 1 * r.val = r.val; omega
  | ⟨1, _⟩ => show cc0_transform_5 (grid0.coords t) (1 : Fin 2) * 128 + 1 * d.val = 128 * t.val + d.val; omega

theorem flush5 : ((cfgM m).win 5).flush t = true :=
  (by decide +kernel : ∀ t : Fin grid0.N, Pipeline.Window.flushOf grid0 true cc0_transform_5 t = true) t

/-- The host's divisor of the queries. -/
def unit : EReal := Ideal.sqrt (Ideal.ofBits FTy.f32 0x43000000#32) * Ideal.log (Ideal.ofBits FTy.f32 0x40000000#32)

/-- The packed operands, of any three arrays. -/
def packed (a b d : Vec Ideal S8192x1024 .f32) : Vec Ideal S8192x3072 .bf16 :=
  truncf (F := Ideal) .bf16 (concatenate S8192x3072 1 [⟨S8192x1024, Host.divf a (broadcastInDim S8192x1024 ![] bcast_S_S8192x1024
    (mulf (Host.sqrt (constant S_ .f32 0x43000000#32)) (Host.log (constant S_ .f32 0x40000000#32))))⟩, ⟨S8192x1024, b⟩, ⟨S8192x1024, d⟩] concatenates_S8192x1024_S8192x1024_S8192x1024_S8192x3072_d1) bitsLt_bf16_f32

theorem V_v6 : V m c main_v6 = packed (m ((c : Thread nD τ).loc main_arg0)) (m ((c : Thread nD τ).loc main_arg1)) (m ((c : Thread nD τ).loc main_arg2)) := rfl

theorem V_v7 : V m c main_v7 = broadcastInDim S8x1x8192 ![0, 2] bcast_S8x8192_S8x1x8192_0_2 (m ((c : Thread nD τ).loc main_arg3)) := rfl

variable (a b d : Vec Ideal S8192x1024 .f32)

theorem packed_q (r : Fin 8192) (h : Fin 8) (e : Fin 128) : packed a b d (ix2 r (pcol ⟨h.val, by omega⟩ e)) = Ideal.div (a (ix2 r (feat h e))) unit := by
  pointwise [packed, unit]
  exact (dif_pos (show 128 * h.val + e.val < 1024 by omega)).trans rfl

theorem packed_k (r : Fin 8192) (h : Fin 8) (e : Fin 128) : packed a b d (ix2 r (pcol ⟨8 + h.val, by omega⟩ e)) = b (ix2 r (feat h e)) := by
  pointwise [packed]
  refine (dif_neg (show ¬ 128 * (8 + h.val) + e.val < 1024 by omega)).trans ((dif_pos (show 128 * (8 + h.val) + e.val - 1024 < 1024 by omega)).trans ?_)
  exact congrArg (fun f => b (ix2 r f)) (Fin.ext (by show 128 * (8 + h.val) + e.val - 1024 = 128 * h.val + e.val; omega))

theorem packed_v (r : Fin 8192) (h : Fin 8) (e : Fin 128) : packed a b d (ix2 r (pcol ⟨16 + h.val, by omega⟩ e)) = d (ix2 r (feat h e)) := by
  pointwise [packed]
  refine (dif_neg (show ¬ 128 * (16 + h.val) + e.val < 1024 by omega)).trans ((dif_neg (show ¬ 128 * (16 + h.val) + e.val - 1024 < 1024 by omega)).trans ?_)
  exact congrArg (fun f => d (ix2 r f)) (Fin.ext (by show 128 * (16 + h.val) + e.val - 1024 - 1024 = 128 * h.val + e.val; omega))

theorem row_at (x : Vec Ideal S8x8192 .f32) (h : Fin 8) (j : Fin 8192) : broadcastInDim S8x1x8192 ![0, 2] bcast_S8x8192_S8x1x8192_0_2 x (ix3 h 0 j) = x (ix2 h j) := by
  pointwise []

end Cert.Proof.Att.KernelIdeal

end
-- ==== Proof.Att.Value.lean ====
/- The attention's result: every head stores the reference's columns, and the heads cover the array. -/
module

public import proofs.«01_k».proof.Proof.Att.Tiles
public import proofs.«01_k».proof.Proof.Att.Tracked
public import proofs.«01_k».proof.Proof.Att.Operands

@[expose] public section

set_option maxRecDepth 16384

noncomputable section

namespace Cert.Proof.Att.KernelIdeal

open Cert.KernelIdeal Cert.KernelIdeal.Gen
open Idealize.ShloMosaic Idealize.ShloMosaic.TcCoe Idealize.SL.Sem
open Cert.Proof.Att.Ref (feat gcol Reals nums)

/-- At the reals the two named constants are the inverse of the logarithm of two, and minus infinity. -/
theorem log2e_is : (log2e (F := Ideal)) = ((((Real.log 2)⁻¹ : ℝ)) : EReal) := by
  show Named.named (F := Ideal) κ "log2e" 0x3FB8AA3B#32 = _
  simp only [Named.named, κ]
  rfl

theorem mask_is : (mask (F := Ideal)) = (⊥ : EReal) := by
  show Named.named (F := Ideal) κ "mask" 0xF149F2CA#32 = _
  simp only [Named.named, κ]
  rfl

variable (m : (ℓ : Loc nD τ sig) → Buf (Elt Ideal) ℓ) (ρ : Dev nD → PrngReg) (c : Dev nD)
variable {qr kr : Fin 8192 → Fin 1024 → ℝ} {cr : Fin 8 → Fin 8192 → ℝ}
variable (R : Reals (m ((c : Thread nD τ).loc main_arg0)) (m ((c : Thread nD τ).loc main_arg1)) (m ((c : Thread nD τ).loc main_arg3)) qr kr cr)

/-- The numbers of the head of point `t`. -/
abbrev numsAt (t : Fin (cfgM m).N) : Nums := nums (m ((c : Thread nD τ).loc main_arg2)) (m ((c : Thread nD τ).loc main_arg4)) R (hd m t)

theorem given_at (t : Fin (cfgM m).N) (x5) (s : Mem Ideal) : Given (numsAt m c R t) (entry m c t x5 s) where
  q r d := by
    show iblk m c 1 t (ix2 r d) = _
    rw [blk1, V_v6, packed_q]
    rfl
  k r d := by
    show iblk m c 2 t (ix2 r d) = _
    rw [blk2, V_v6, packed_k]
    rfl
  c j := by
    show iblk m c 0 t (ix3 0 0 j) = _
    rw [blk0, V_v7, row_at]
    rfl
  v r d := by
    show iblk m c 3 t (ix2 r d) = _
    rw [blk3, V_v6, packed_v]
    show _ = (if he : d.val < 128 then _ else (1 : EReal))
    rw [dif_pos d.isLt]
  gate r d := by
    show iblk m c 4 t (ix2 r d) = _
    rw [blk4]
    rfl
  one j e he := by
    show (if he : e.val < 128 then _ else (1 : EReal)) = 1
    rw [dif_neg (by omega)]

/-- What is known of the scratch before a point: nothing at the first, afterwards the ones. -/
def Known (t : Fin ((cfgM m).N + 1)) (s : Mem Ideal) : Prop := t.val = 0 ∨ Ones s

/-- The rows the head of point `t` stores. -/
def stores (t : Fin (cfgM m).N) : Vec Ideal (Arg.out).sh (Arg.out).el := fun i => (numsAt m c R t).res (i 0) (i 1)

theorem coord0 : ∀ t : Fin grid0.N, (grid0.coords t 0).val = t.val := by decide +kernel

theorem done_at (t : Fin (cfgM m).N) (x5) (s : Mem Ideal) (hs : Known m t.castSucc s) :
    (∀ r d, headM T log2e mask (headOf m t) (entry m c t x5 s) .out (ix2 r d) = (numsAt m c R t).res r d) ∧ Ones (headM T log2e mask (headOf m t) (entry m c t x5 s)) := by
  rw [log2e_is, mask_is]
  refine head_done plan run1_is run2_is run3_is (given_at m c R t x5 s) (headOf m t) ?_
  rcases hs with h | h
  · left
    have e : (grid0.coords t 0).val = 0 := (coord0 t).trans h
    show BitVec.ofNat 32 (grid0.coords t 0).val = 0#32
    rw [e]
  · exact .inr h

include R in
theorem keeps : KeepsP m (Known m) c := fun t x5 s hs => .inr (done_at m c R t x5 s hs).2

theorem stores_at : Stores m (Known m) (stores m c R) c := fun t x5 s hs => by
  funext i
  obtain ⟨r, d, rfl⟩ : ∃ (r : Fin 8192) (d : Fin 128), i = ix2 r d := ⟨i 0, i 1, by funext a; match a with | ⟨0, _⟩ => rfl | ⟨1, _⟩ => rfl⟩
  exact (done_at m c R t x5 s hs).1 r d

/-- The result array. -/
def resArr : Vec Ideal ⟨2, ![8192, 1024]⟩ .bf16 :=
  Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem flushed_eq (t : Fin (cfgM m).N) : (dat m (Known m) (stores m c R) 0 c).flushed 5 t = (((cfgM m).win 5).blk t).view.read (Elt Ideal) (resArr m c) := by
  show stores m c R t = _
  funext i
  obtain ⟨r, d, rfl⟩ : ∃ (r : Fin 8192) (d : Fin 128), i = ix2 r d := ⟨i 0, i 1, by funext a; match a with | ⟨0, _⟩ => rfl | ⟨1, _⟩ => rfl⟩
  show (numsAt m c R t).res r d = resArr m c ((((cfgM m).win 5).blk t).view.emb (ix2 r d))
  rw [emb5]
  exact Ref.res_eq _ _ R (hd m t) r d

theorem covered (i : S8192x1024.Idx) : ∃ t : Fin (cfgM m).N, ((cfgM m).win 5).flush t = true ∧ i ∈ (((cfgM m).win 5).blk t).view.set := by
  have h1 : (i 1).val < 1024 := (i 1).isLt
  let t : Fin (cfgM m).N := ⟨(i 1).val / 128, by show (i 1).val / 128 < 8; omega⟩
  let d : Fin 128 := ⟨(i 1).val % 128, by omega⟩
  refine ⟨t, flush5 m t, ?_⟩
  have e : (((cfgM m).win 5).blk t).view.emb (ix2 (i 0 : Fin 8192) d) = i := by
    refine (emb5 m t (i 0) d).trans ?_
    funext a
    match a with
    | ⟨0, _⟩ => rfl
    | ⟨1, _⟩ => exact Fin.ext (by show 128 * ((i 1).val / 128) + (i 1).val % 128 = (i 1).val; omega)
  rw [← e]
  exact (((cfgM m).win 5).blk t).view.emb_mem_set (ix2 (i 0 : Fin 8192) d)

theorem final : (dat m (Known m) (stores m c R) 0 c).arrAt 5 (cfgM m).N = resArr m c :=
  (dat m (Known m) (stores m c R) 0 c).arrAt_eq_of_cover 5 (resArr m c) (fun t _ => flushed_eq m c R t) (covered m)

end Cert.Proof.Att.KernelIdeal

end
-- ==== Proof.Att.Algebraic.lean ====
/- The attention kernel and its reference end with equal results, of finite queries, keys and gates. -/
module

public import proofs.«01_k».proof.Defs
public import proofs.«01_k».proof.Proof.Att.Value
public import proofs.«01_k».proof.Proof.Att.Claim
public import proofs.«01_k».proof.Proof.Gen.ReferenceIdeal.Run
public import proofs.«01_k».proof.Proof.Gen.Pre_finite_logits

@[expose] public section

set_option maxRecDepth 16384

noncomputable section

namespace Cert.Proof.Att

open Idealize.ShloMosaic Idealize.SL.Sem

instance : Cert.Pre_finite_logits.Facts := Cert.Pre_finite_logits.Gen.facts

/-- A value below plus infinity in size is a real number. -/
theorem real_of_finite (x : Ideal .f32) (h : FloatOps.cmpf .olt (FloatOps.hostAbsf x) (FloatOps.ofBits (F := Ideal) .f32 0x7F800000#32) = 1#1) : (x : EReal) = ((x : EReal).toReal : EReal) := by
  have top : Ideal.ofBits .f32 0x7F800000#32 = ⊤ := by simp [Ideal.ofBits, Ideal.ieee]
  have e : Ideal.cmp .olt (max (x : EReal) (-(x : EReal))) (Ideal.ofBits .f32 0x7F800000#32) = 1#1 := h
  rw [top] at e
  have lt : max (x : EReal) (-(x : EReal)) < ⊤ := by
    by_contra hn
    unfold Ideal.cmp at e
    simp [hn] at e
  refine (EReal.coe_toReal ?_ ?_).symm
  · rintro rfl
    simp at lt
  · rintro rfl
    simp at lt

open Cert.Pre_finite_logits in
theorem reals_of (q k v : Vec Ideal S8192x1024 .f32) (c : Vec Ideal S8x8192 .f32) (z : Vec Ideal S8192x7168 .f32)
    (hq : (fn (F := Ideal) q k v c z).1 = fun _ => 1#1) (hk : (fn (F := Ideal) q k v c z).2.1 = fun _ => 1#1) (hc : (fn (F := Ideal) q k v c z).2.2 = fun _ => 1#1) :
    Ref.Reals q k c (fun t f => (q (ix2 t f) : EReal).toReal) (fun t f => (k (ix2 t f) : EReal).toReal) (fun h t => (c (ix2 h t) : EReal).toReal) where
  q t f := real_of_finite _ (congrFun hq (ix2 t f))
  k t f := real_of_finite _ (congrFun hk (ix2 t f))
  c h t := real_of_finite _ (congrFun hc (ix2 h t))

theorem algebraic : Cert.algebraic_KernelIdeal_ReferenceIdeal_pre_finite_logits := by
  intro m g m' g' pre hm
  have R := fun c => reals_of _ _ _ _ _ (pre c).1 (pre c).2.1 (pre c).2.2
  refine ⟨fun c => KernelIdeal.resArr m c, ?_, ?_⟩
  · refine (θ_run _ _ _).mono (fun r h c => ?_) (KernelIdeal.run_value m g (KernelIdeal.Known m) (KernelIdeal.stores m 0 (R 0))
      (fun c => KernelIdeal.keeps m c (R c)) (fun c => by obtain rfl : c = 0 := Subsingleton.elim _ _; exact KernelIdeal.stores_at m 0 (R 0)) fun _ => .inl rfl)
    obtain rfl : c = 0 := Subsingleton.elim _ _
    exact ⟨(h 0).1.trans (KernelIdeal.final m 0 (R 0)), (h 0).2⟩
  · refine (θ_run _ _ _).mono (fun r h c => ?_) (Cert.ReferenceIdeal.Value.run (F := Ideal) m' g')
    obtain ⟨e0, e1, e2, e3, e4⟩ := hm c
    refine ⟨(h c).1.trans ((Cert.ReferenceIdeal.Read.val_main_v37_eq m' c).trans ?_), (h c).2⟩
    rw [e0, e1, e2, e3, e4]
    rfl

end Cert.Proof.Att

end
-- ==== Proof.Merge.Rows.lean ====
/- The merge of the three branches, one output row at a time: what one row of the new stream and of its normed copy is
   in terms of the row's own inputs (`gate`, `mergedAt`, `freshAt`, `normedAt`), and the kernel's payloads read at an
   index as those functions of the loaded blocks. -/
module

public import proofs.«01_k».proof.Proof.Gen.Kernel2Ideal.Skeleton
public import Idealize.ShloMosaic.Lib.Pointwise

@[expose] public section

set_option maxRecDepth 16384

noncomputable section

namespace Cert.Proof.Merge

open Cert.Kernel2Ideal Cert.Kernel2Ideal.Gen Idealize.ShloMosaic
open scoped BigOperators

/-- The logistic gate of a logit and its bias. -/
def gate (z b : EReal) : EReal := Ideal.div (Ideal.ofBits .f32 0x3F800000#32) (Ideal.ofBits .f32 0x3F800000#32 + Ideal.exp (-(z + b)))

/-- One element of the gated sum of the three branches' products. -/
def mergedAt (za zb zc ba bb bc pa pb pc : EReal) : EReal := gate za ba * pa + gate zb bb * pb + gate zc bc * pc

/-- It depends on its nine numbers only. -/
theorem mergedAt_congr {za zb zc ba bb bc pa pb pc za' zb' zc' ba' bb' bc' pa' pb' pc' : EReal} (h1 : za = za') (h2 : zb = zb') (h3 : zc = zc')
    (h4 : ba = ba') (h5 : bb = bb') (h6 : bc = bc') (h7 : pa = pa') (h8 : pb = pb') (h9 : pc = pc') :
    mergedAt za zb zc ba bb bc pa pb pc = mergedAt za' zb' zc' ba' bb' bc' pa' pb' pc' := by
  rw [h1, h2, h3, h4, h5, h6, h7, h8, h9]

/-- One element of the new stream: the old one plus the row of gated sums times a column of the output weights. -/
def freshAt (x : EReal) (mg w : Fin 2048 → EReal) : EReal := x + ∑ k, mg k * w k

/-- One element of the normed copy: the element, times the reciprocal root of the row's mean square, times the gain. -/
def normedAt (row : Fin 2048 → EReal) (e g : EReal) : EReal :=
  e * Ideal.rsqrt (Ideal.div (∑ k, row k * row k) (Ideal.ofBits .f32 0x45000000#32) + Ideal.ofBits .f32 0x358637BD#32) * g

/-- The store of the new stream, read at row `r`, column `j`. -/
theorem pay_fresh (za zb zc : Vec Ideal S256x2048 .f32) (ba bb bc : Vec Ideal S1x2048 .f32)
    (oa ob oc : Vec Ideal S256x1024 .bf16) (wa wb wc : Vec Ideal S1x1024x2048 .bf16) (x : Vec Ideal S256x2048 .f32)
    (wo : Vec Ideal S1x2048x2048 .bf16) (r : Fin 256) (j : Fin 2048) :
    k0_pay5 (F := Ideal) (k0_pay2 za ba oa wa) (k0_pay3 zb bb) (k0_pay4 ob wb) zc bc oc wc x wo (ix2 r j)
      = freshAt (x (ix2 r j)) (fun k => mergedAt (za (ix2 r k)) (zb (ix2 r k)) (zc (ix2 r k))
          (ba (ix2 0 k)) (bb (ix2 0 k)) (bc (ix2 0 k))
          (∑ l : Fin 1024, oa (ix2 r l) * wa (ix3 0 l k)) (∑ l : Fin 1024, ob (ix2 r l) * wb (ix3 0 l k))
          (∑ l : Fin 1024, oc (ix2 r l) * wc (ix3 0 l k))) (fun k => wo (ix3 0 k j)) := by
  pointwise [k0_pay5, k0_pay2, k0_pay3, k0_pay4, freshAt, mergedAt, gate]
  simp only [zero_sub]

/-- The reciprocal root that the kernel multiplies a row with, of the stored row. -/
theorem pay_scale (v16 v28 v32 v35 : FVec Ideal S256x2048 .f32) (v36 : Vec Ideal S1x2048 .f32) (v47 : Vec Ideal S256x1024 .bf16)
    (v48 : Vec Ideal S1x1024x2048 .bf16) (v53 : Vec Ideal S256x2048 .f32) (v55 : Vec Ideal S1x2048x2048 .bf16)
    (f : FVec Ideal S256x2048 .f32) (hf : k0_pay5 (F := Ideal) v16 v28 v32 v35 v36 v47 v48 v53 v55 = f)
    (g : Vec Ideal S1x2048 .f32) (r : Fin 256) (j : Fin 2048) :
    k0_pay1 (F := Ideal) f (k0_pay6 v16 v28 v32 v35 v36 v47 v48 v53 v55) g (ix2 r j)
      = normedAt (fun k => f (ix2 r k)) (f (ix2 r j)) (g (ix2 0 j)) := by
  unfold k0_pay6
  rw [hf]
  pointwise [k0_pay1, normedAt]

end Cert.Proof.Merge

end
-- ==== Proof.Merge.Spec.lean ====
/- The merge's two results as functions of its argument arrays, row by row, and the reference's run read as them. -/
module

public import proofs.«01_k».proof.Proof.Merge.Rows
public import proofs.«01_k».proof.Proof.Gen.Reference2Ideal.Read

@[expose] public section

set_option maxRecDepth 16384

noncomputable section

namespace Cert.Proof.Merge

open Cert.Reference2Ideal Cert.Reference2Ideal.Read Idealize.ShloMosaic
open scoped BigOperators

/-- Column `k` of the `n`-th of the three gates, among the projection's columns. -/
def zcol (n : Fin 3) (k : Fin 2048) : Fin 7168 := ⟨2048 * n.val + k.val, by omega⟩
/-- The same among the biases. -/
def bcol (n : Fin 3) (k : Fin 2048) : Fin 6144 := ⟨2048 * n.val + k.val, by omega⟩

section
variable (x0 x1 x2 : Vec Ideal ⟨2, ![8192, 1024]⟩ .bf16) (x3 : Vec Ideal ⟨2, ![8192, 7168]⟩ .f32) (x4 : Vec Ideal ⟨1, ![6144]⟩ .f32)
  (x5 x6 x7 : Vec Ideal ⟨3, ![2, 1024, 2048]⟩ .bf16) (x8 : Vec Ideal ⟨3, ![2, 2048, 2048]⟩ .bf16)
  (x9 : Vec Ideal ⟨2, ![8192, 2048]⟩ .f32) (x10 : Vec Ideal ⟨1, ![2048]⟩ .f32)

/-- The new stream at row `r`, column `j`. -/
def freshOf (r : Fin 8192) (j : Fin 2048) : EReal :=
  freshAt (x9 (ix2 r j)) (fun k => mergedAt (x3 (ix2 r (zcol 0 k))) (x3 (ix2 r (zcol 1 k))) (x3 (ix2 r (zcol 2 k)))
      (x4 (ix1 (bcol 0 k))) (x4 (ix1 (bcol 1 k))) (x4 (ix1 (bcol 2 k)))
      (∑ l : Fin 1024, x0 (ix2 r l) * x5 (ix3 0 l k)) (∑ l : Fin 1024, x1 (ix2 r l) * x6 (ix3 0 l k))
      (∑ l : Fin 1024, x2 (ix2 r l) * x7 (ix3 0 l k))) (fun k => x8 (ix3 0 k j))

/-- Its normed copy there. -/
def normedOf (r : Fin 8192) (j : Fin 2048) : EReal :=
  normedAt (freshOf x0 x1 x2 x3 x4 x5 x6 x7 x8 x9 r) (freshOf x0 x1 x2 x3 x4 x5 x6 x7 x8 x9 r j) (x10 (ix1 j))

/-- The reference's first result is the new stream. -/
theorem ref_fresh (r : Fin 8192) (j : Fin 2048) :
    val_main_v41 (F := Ideal) x0 x1 x2 x3 x4 x5 x6 x7 x8 x9 (ix2 r j) = freshOf x0 x1 x2 x3 x4 x5 x6 x7 x8 x9 r j := by
  pointwise [val_main_v41, val_main_v40, val_main_v39, val_main_v38, val_main_v37, val_main_v36, val_main_v35, val_main_v34,
    val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    freshOf, freshAt, mergedAt, gate, zcol, bcol]

/-- Its second is the normed copy. -/
theorem ref_normed (r : Fin 8192) (j : Fin 2048) :
    val_main_v55 (F := Ideal) x0 x1 x2 x3 x4 x5 x6 x7 x8 x9 x10 (ix2 r j) = normedOf x0 x1 x2 x3 x4 x5 x6 x7 x8 x9 x10 r j := by
  pointwise [val_main_v55, val_main_v54, val_main_v53, val_main_v52, val_main_v51, val_main_v50, val_main_v49, val_main_v48,
    val_main_v47, val_main_v46, val_main_v45, val_main_v44, val_main_v43, val_main_v42, val_main_cst_1, val_main_cst_2,
    val_main_cst_3, normedOf, normedAt, ref_fresh]
end

end Cert.Proof.Merge

end
-- ==== Proof.Merge.Stored.lean ====
/- What one grid point leaves in the two output blocks, as the payloads of the loaded blocks. -/
module

public import proofs.«01_k».proof.Proof.Merge.Rows
public import proofs.«01_k».proof.Proof.Gen.Kernel2Ideal.Value

@[expose] public section

set_option maxRecDepth 16384

noncomputable section

namespace Cert.Proof.Merge

open Cert.Kernel2Ideal Cert.Kernel2Ideal.Gen Idealize.ShloMosaic Idealize.ShloMosaic.TcCoe

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The biases of one of the three gates: 2048 of the 6144 columns. -/
def biases (x6 : Vec F S1x6144 .f32) (n : Fin 3) : Vec F S1x2048 .f32 :=
  fun j => x6 (ix2 (j 0) ⟨2048 * n.val + (j 1).val, by have := (j 1).isLt; have : (j 1).val < 2048 := (j 1).isLt; omega⟩)

section
variable (c : Dev nD) (i : grid0.Coords) (a0 : Memref sig .tc .vmem S256x1024 .bf16) (h0 : a0.IsWhole) (a1 : Memref sig .tc .vmem S256x1024 .bf16) (h1 : a1.IsWhole) (a2 : Memref sig .tc .vmem S256x1024 .bf16) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S1x6144 .f32) (h6 : a6.IsWhole) (a7 : Memref sig .tc .vmem S1x1024x2048 .bf16) (h7 : a7.IsWhole) (a8 : Memref sig .tc .vmem S1x1024x2048 .bf16) (h8 : a8.IsWhole) (a9 : Memref sig .tc .vmem S1x1024x2048 .bf16) (h9 : a9.IsWhole) (a10 : Memref sig .tc .vmem S1x2048x2048 .bf16) (h10 : a10.IsWhole) (a11 : Memref sig .tc .vmem S256x2048 .f32) (h11 : a11.IsWhole) (a12 : Memref sig .tc .vmem S1x2048 .f32) (h12 : a12.IsWhole) (a13 : Memref sig .tc .vmem S256x2048 .f32) (h13 : a13.IsWhole) (a14 : Memref sig .tc .vmem S256x2048 .bf16) (h14 : a14.IsWhole)
  (x0 : Vec F S256x1024 .bf16) (x1 : Vec F S256x1024 .bf16) (x2 : Vec F S256x1024 .bf16) (x3 : Vec F S256x2048 .f32) (x4 : Vec F S256x2048 .f32) (x5 : Vec F S256x2048 .f32) (x6 : Vec F S1x6144 .f32) (x7 : Vec F S1x1024x2048 .bf16) (x8 : Vec F S1x1024x2048 .bf16) (x9 : Vec F S1x1024x2048 .bf16) (x10 : Vec F S1x2048x2048 .bf16) (x11 : Vec F S256x2048 .f32) (x12 : Vec F S1x2048 .f32)

/-- The stored block of the new stream. -/
def stored (x0 x1 x2 : Vec F S256x1024 .bf16) (x3 x4 x5 : Vec F S256x2048 .f32) (x6 : Vec F S1x6144 .f32)
    (x7 x8 x9 : Vec F S1x1024x2048 .bf16) (x10 : Vec F S1x2048x2048 .bf16) (x11 : Vec F S256x2048 .f32) : FVec F S256x2048 .f32 :=
  k0_pay5 (k0_pay2 x3 (biases x6 0) x0 x7) (k0_pay3 x4 (biases x6 1)) (k0_pay4 x1 x8) x5 (biases x6 2) x2 x9 x11 x10

/-- A load of a third of the biases reads these 2048 columns. -/
theorem biases_ld (x6 : Vec F S1x6144 .f32) (n : Fin 3) {off : Fin 2 → Nat} (ho : off = ![0, 2048 * n.val])
    (inb : ∀ a, off a + (![1, 2048] : Fin 2 → Nat) a ≤ S1x6144.size a) :
    View.ld x6 (Rect.unit (s := S1x6144) off ![1, 2048] inb) = biases x6 n := by
  subst ho
  funext j
  show x6 _ = x6 _
  congr 1
  funext a
  apply Fin.ext
  match a with
  | ⟨0, _⟩ => show 0 + 1 * (j 0).val = (j 0).val; omega
  | ⟨1, _⟩ => show 2048 * n.val + 1 * (j 1).val = 2048 * n.val + (j 1).val; omega

theorem out13_eq : out0_A_13 c i a0 h0 a1 h1 a2 h2 a3 h3 a4 h4 a5 h5 a6 h6 a7 h7 a8 h8 a9 h9 a10 h10 a11 h11 a12 h12 a13 h13 a14 h14 x0 x1 x2 x3 x4 x5 x6 x7 x8 x9 x10 x11 x12 = stored x0 x1 x2 x3 x4 x5 x6 x7 x8 x9 x10 x11 := by
  unfold out0_A_13
  rw [View.read_writes_junk_eq_canon]
  unfold kernelRun0_A
  dsimp only
  unfold kernelRun0_A.sl.r kernelRun0_A.sl.r_1 kernelRun0_A.sl.r_2
  simp only [View.readAt_eq_ld, Memref.IsWhole.read_unread]
  rw [biases_ld x6 0 (off := ![0, 0]) rfl, biases_ld x6 1 (off := ![0, 2048]) rfl, biases_ld x6 2 (off := ![0, 4096]) rfl]
  refine (View.canon_unit_zero hz2 _ _).trans ?_
  simp only [View.ld_unit_zero (S := S256x2048) hz2, View.ld_unit_zero (S := S256x1024) hz2, View.ld_unit_zero (S := S1x2048) hz2, View.ld_unit_zero (S := S1x1024x2048) hz3, View.ld_unit_zero (S := S1x2048x2048) hz3]
  rfl

theorem out14_eq : out0_A_14 c i a0 h0 a1 h1 a2 h2 a3 h3 a4 h4 a5 h5 a6 h6 a7 h7 a8 h8 a9 h9 a10 h10 a11 h11 a12 h12 a13 h13 a14 h14 x0 x1 x2 x3 x4 x5 x6 x7 x8 x9 x10 x11 x12 =
    k0_pay1 (stored x0 x1 x2 x3 x4 x5 x6 x7 x8 x9 x10 x11) (k0_pay6 (k0_pay2 x3 (biases x6 0) x0 x7) (k0_pay3 x4 (biases x6 1)) (k0_pay4 x1 x8) x5 (biases x6 2) x2 x9 x11 x10) x12 := by
  unfold out0_A_14
  rw [View.read_writes_junk_eq_canon]
  unfold kernelRun0_A
  dsimp only
  unfold kernelRun0_A.sl.r_3 kernelRun0_A.sl.r_4 kernelRun0_A.sl.r kernelRun0_A.sl.r_1 kernelRun0_A.sl.r_2
  simp only [View.readAt_eq_ld, Memref.IsWhole.read_unread]
  rw [biases_ld x6 0 (off := ![0, 0]) rfl, biases_ld x6 1 (off := ![0, 2048]) rfl, biases_ld x6 2 (off := ![0, 4096]) rfl]
  refine (View.canon_unit_zero hz2 _ _).trans ?_
  simp only [View.ld_unit_zero (S := S256x2048) hz2, View.ld_unit_zero (S := S256x1024) hz2, View.ld_unit_zero (S := S1x2048) hz2, View.ld_unit_zero (S := S1x1024x2048) hz3, View.ld_unit_zero (S := S1x2048x2048) hz3]
  rfl

end

end Cert.Proof.Merge

end
-- ==== Proof.Merge.Blocks.lean ====
/- What the input blocks of a grid point hold: 256 rows of the row arrays, the first slice of the weights, the whole biases. -/
module

public import proofs.«01_k».proof.Proof.Merge.Spec
public import proofs.«01_k».proof.Proof.Merge.Stored

@[expose] public section

set_option maxRecDepth 16384

noncomputable section

namespace Cert.Proof.Merge

open Cert.Kernel2Ideal Cert.Kernel2Ideal.Gen Idealize.ShloMosaic Idealize.ShloMosaic.TcCoe

variable {F : FTy → Type} [FloatOps F]
variable (m : (ℓ : Loc nD τ sig) → Buf (Elt F) ℓ)

/-- Row `r` of tile `t`. -/
def row (t : Fin cfg0.N) (r : Fin 256) : Fin 8192 := ⟨256 * t.val + r.val, by have : t.val < 32 := t.isLt; omega⟩

theorem ix0 : ∀ t : Fin cfg0.N, win0_0.index t (0 : Fin 2) = t.val ∧ win0_0.index t (1 : Fin 2) = 0 := (by decide +kernel : ∀ t : Fin grid0.N, _)
theorem ix1' : ∀ t : Fin cfg0.N, win0_1.index t (0 : Fin 2) = t.val ∧ win0_1.index t (1 : Fin 2) = 0 := (by decide +kernel : ∀ t : Fin grid0.N, _)
theorem ix2' : ∀ t : Fin cfg0.N, win0_2.index t (0 : Fin 2) = t.val ∧ win0_2.index t (1 : Fin 2) = 0 := (by decide +kernel : ∀ t : Fin grid0.N, _)
theorem ix3' : ∀ t : Fin cfg0.N, win0_3.index t (0 : Fin 2) = t.val ∧ win0_3.index t (1 : Fin 2) = 0 := (by decide +kernel : ∀ t : Fin grid0.N, _)
theorem ix4 : ∀ t : Fin cfg0.N, win0_4.index t (0 : Fin 2) = t.val ∧ win0_4.index t (1 : Fin 2) = 1 := (by decide +kernel : ∀ t : Fin grid0.N, _)
theorem ix5 : ∀ t : Fin cfg0.N, win0_5.index t (0 : Fin 2) = t.val ∧ win0_5.index t (1 : Fin 2) = 2 := (by decide +kernel : ∀ t : Fin grid0.N, _)
theorem ix6 : ∀ t : Fin cfg0.N, win0_6.index t (0 : Fin 2) = 0 ∧ win0_6.index t (1 : Fin 2) = 0 := (by decide +kernel : ∀ t : Fin grid0.N, _)
theorem ix7 : ∀ t : Fin cfg0.N, win0_7.index t (0 : Fin 3) = 0 ∧ win0_7.index t (1 : Fin 3) = 0 ∧ win0_7.index t (2 : Fin 3) = 0 := (by decide +kernel : ∀ t : Fin grid0.N, _)
theorem ix8 : ∀ t : Fin cfg0.N, win0_8.index t (0 : Fin 3) = 0 ∧ win0_8.index t (1 : Fin 3) = 0 ∧ win0_8.index t (2 : Fin 3) = 0 := (by decide +kernel : ∀ t : Fin grid0.N, _)
theorem ix9 : ∀ t : Fin cfg0.N, win0_9.index t (0 : Fin 3) = 0 ∧ win0_9.index t (1 : Fin 3) = 0 ∧ win0_9.index t (2 : Fin 3) = 0 := (by decide +kernel : ∀ t : Fin grid0.N, _)
theorem ix10 : ∀ t : Fin cfg0.N, win0_10.index t (0 : Fin 3) = 0 ∧ win0_10.index t (1 : Fin 3) = 0 ∧ win0_10.index t (2 : Fin 3) = 0 := (by decide +kernel : ∀ t : Fin grid0.N, _)
theorem ix11 : ∀ t : Fin cfg0.N, win0_11.index t (0 : Fin 2) = t.val ∧ win0_11.index t (1 : Fin 2) = 0 := (by decide +kernel : ∀ t : Fin grid0.N, _)
theorem ix12 : ∀ t : Fin cfg0.N, win0_12.index t (0 : Fin 2) = 0 ∧ win0_12.index t (1 : Fin 2) = 0 := (by decide +kernel : ∀ t : Fin grid0.N, _)
theorem ix13 : ∀ t : Fin cfg0.N, win0_13.index t (0 : Fin 2) = t.val ∧ win0_13.index t (1 : Fin 2) = 0 := (by decide +kernel : ∀ t : Fin grid0.N, _)
theorem ix14 : ∀ t : Fin cfg0.N, win0_14.index t (0 : Fin 2) = t.val ∧ win0_14.index t (1 : Fin 2) = 0 := (by decide +kernel : ∀ t : Fin grid0.N, _)

variable (c : Dev nD) (t : Fin cfg0.N)

theorem blk0 (r : Fin 256) (k : Fin 1024) : iblk m c 0 t (ix2 r k) = V m c main_arg0 (ix2 (row t r) k) := by
  obtain ⟨e0, e1⟩ := ix0 t
  show V m c main_arg0 (((cfg0.win 0).blk t).view.emb (ix2 r k)) = _
  congr 1; funext a; apply Fin.ext
  match a with
  | ⟨0, _⟩ => show win0_0.index t (0 : Fin 2) * 256 + 1 * r.val = 256 * t.val + r.val; omega
  | ⟨1, _⟩ => show win0_0.index t (1 : Fin 2) * 1024 + 1 * k.val = k.val; omega

theorem blk1 (r : Fin 256) (k : Fin 1024) : iblk m c 1 t (ix2 r k) = V m c main_arg1 (ix2 (row t r) k) := by
  obtain ⟨e0, e1⟩ := ix1' t
  show V m c main_arg1 (((cfg0.win 1).blk t).view.emb (ix2 r k)) = _
  congr 1; funext a; apply Fin.ext
  match a with
  | ⟨0, _⟩ => show win0_1.index t (0 : Fin 2) * 256 + 1 * r.val = 256 * t.val + r.val; omega
  | ⟨1, _⟩ => show win0_1.index t (1 : Fin 2) * 1024 + 1 * k.val = k.val; omega

theorem blk2 (r : Fin 256) (k : Fin 1024) : iblk m c 2 t (ix2 r k) = V m c main_arg2 (ix2 (row t r) k) := by
  obtain ⟨e0, e1⟩ := ix2' t
  show V m c main_arg2 (((cfg0.win 2).blk t).view.emb (ix2 r k)) = _
  congr 1; funext a; apply Fin.ext
  match a with
  | ⟨0, _⟩ => show win0_2.index t (0 : Fin 2) * 256 + 1 * r.val = 256 * t.val + r.val; omega
  | ⟨1, _⟩ => show win0_2.index t (1 : Fin 2) * 1024 + 1 * k.val = k.val; omega

theorem blk3 (r : Fin 256) (k : Fin 2048) : X0_3 m c t (ix2 r k) = V m c main_arg3 (ix2 (row t r) (zcol 0 k)) := by
  obtain ⟨e0, e1⟩ := ix3' t
  unfold X0_3 Pipeline.Window.fill
  rw [dif_pos (moved0_3 t _)]
  show V m c main_arg3 (((cfg0.win 3).blk t).view.emb _) = _
  congr 1; funext a; apply Fin.ext
  match a with
  | ⟨0, _⟩ => show win0_3.index t (0 : Fin 2) * 256 + 1 * r.val = 256 * t.val + r.val; omega
  | ⟨1, _⟩ => show win0_3.index t (1 : Fin 2) * 2048 + 1 * k.val = 2048 * 0 + k.val; omega

theorem blk4 (r : Fin 256) (k : Fin 2048) : X0_4 m c t (ix2 r k) = V m c main_arg3 (ix2 (row t r) (zcol 1 k)) := by
  obtain ⟨e0, e1⟩ := ix4 t
  unfold X0_4 Pipeline.Window.fill
  rw [dif_pos (moved0_4 t _)]
  show V m c main_arg3 (((cfg0.win 4).blk t).view.emb _) = _
  congr 1; funext a; apply Fin.ext
  match a with
  | ⟨0, _⟩ => show win0_4.index t (0 : Fin 2) * 256 + 1 * r.val = 256 * t.val + r.val; omega
  | ⟨1, _⟩ => show win0_4.index t (1 : Fin 2) * 2048 + 1 * k.val = 2048 * 1 + k.val; omega

theorem blk5 (r : Fin 256) (k : Fin 2048) : X0_5 m c t (ix2 r k) = V m c main_arg3 (ix2 (row t r) (zcol 2 k)) := by
  obtain ⟨e0, e1⟩ := ix5 t
  unfold X0_5 Pipeline.Window.fill
  rw [dif_pos (moved0_5 t _)]
  show V m c main_arg3 (((cfg0.win 5).blk t).view.emb _) = _
  congr 1; funext a; apply Fin.ext
  match a with
  | ⟨0, _⟩ => show win0_5.index t (0 : Fin 2) * 256 + 1 * r.val = 256 * t.val + r.val; omega
  | ⟨1, _⟩ => show win0_5.index t (1 : Fin 2) * 2048 + 1 * k.val = 2048 * 2 + k.val; omega

theorem blk6 (k : Fin 6144) : iblk m c 6 t (ix2 0 k) = V m c main_v0 (ix2 0 k) := by
  obtain ⟨e0, e1⟩ := ix6 t
  show V m c main_v0 (((cfg0.win 6).blk t).view.emb (ix2 0 k)) = _
  congr 1; funext a; apply Fin.ext
  match a with
  | ⟨0, _⟩ => show win0_6.index t (0 : Fin 2) * 1 + 1 * 0 = 0; omega
  | ⟨1, _⟩ => show win0_6.index t (1 : Fin 2) * 6144 + 1 * k.val = k.val; omega

theorem blk7 (l : Fin 1024) (k : Fin 2048) : iblk m c 7 t (ix3 0 l k) = V m c main_arg5 (ix3 0 l k) := by
  obtain ⟨e0, e1, e2⟩ := ix7 t
  show V m c main_arg5 (((cfg0.win 7).blk t).view.emb (ix3 0 l k)) = _
  congr 1; funext a; apply Fin.ext
  match a with
  | ⟨0, _⟩ => show win0_7.index t (0 : Fin 3) * 1 + 1 * 0 = 0; omega
  | ⟨1, _⟩ => show win0_7.index t (1 : Fin 3) * 1024 + 1 * l.val = l.val; omega
  | ⟨2, _⟩ => show win0_7.index t (2 : Fin 3) * 2048 + 1 * k.val = k.val; omega

theorem blk8 (l : Fin 1024) (k : Fin 2048) : iblk m c 8 t (ix3 0 l k) = V m c main_arg6 (ix3 0 l k) := by
  obtain ⟨e0, e1, e2⟩ := ix8 t
  show V m c main_arg6 (((cfg0.win 8).blk t).view.emb (ix3 0 l k)) = _
  congr 1; funext a; apply Fin.ext
  match a with
  | ⟨0, _⟩ => show win0_8.index t (0 : Fin 3) * 1 + 1 * 0 = 0; omega
  | ⟨1, _⟩ => show win0_8.index t (1 : Fin 3) * 1024 + 1 * l.val = l.val; omega
  | ⟨2, _⟩ => show win0_8.index t (2 : Fin 3) * 2048 + 1 * k.val = k.val; omega

theorem blk9 (l : Fin 1024) (k : Fin 2048) : iblk m c 9 t (ix3 0 l k) = V m c main_arg7 (ix3 0 l k) := by
  obtain ⟨e0, e1, e2⟩ := ix9 t
  show V m c main_arg7 (((cfg0.win 9).blk t).view.emb (ix3 0 l k)) = _
  congr 1; funext a; apply Fin.ext
  match a with
  | ⟨0, _⟩ => show win0_9.index t (0 : Fin 3) * 1 + 1 * 0 = 0; omega
  | ⟨1, _⟩ => show win0_9.index t (1 : Fin 3) * 1024 + 1 * l.val = l.val; omega
  | ⟨2, _⟩ => show win0_9.index t (2 : Fin 3) * 2048 + 1 * k.val = k.val; omega

theorem blk10 (l : Fin 2048) (k : Fin 2048) : iblk m c 10 t (ix3 0 l k) = V m c main_arg8 (ix3 0 l k) := by
  obtain ⟨e0, e1, e2⟩ := ix10 t
  show V m c main_arg8 (((cfg0.win 10).blk t).view.emb (ix3 0 l k)) = _
  congr 1; funext a; apply Fin.ext
  match a with
  | ⟨0, _⟩ => show win0_10.index t (0 : Fin 3) * 1 + 1 * 0 = 0; omega
  | ⟨1, _⟩ => show win0_10.index t (1 : Fin 3) * 2048 + 1 * l.val = l.val; omega
  | ⟨2, _⟩ => show win0_10.index t (2 : Fin 3) * 2048 + 1 * k.val = k.val; omega

theorem blk11 (r : Fin 256) (k : Fin 2048) : iblk m c 11 t (ix2 r k) = V m c main_arg9 (ix2 (row t r) k) := by
  obtain ⟨e0, e1⟩ := ix11 t
  show V m c main_arg9 (((cfg0.win 11).blk t).view.emb (ix2 r k)) = _
  congr 1; funext a; apply Fin.ext
  match a with
  | ⟨0, _⟩ => show win0_11.index t (0 : Fin 2) * 256 + 1 * r.val = 256 * t.val + r.val; omega
  | ⟨1, _⟩ => show win0_11.index t (1 : Fin 2) * 2048 + 1 * k.val = k.val; omega

theorem blk12 (k : Fin 2048) : iblk m c 12 t (ix2 0 k) = V m c main_v1 (ix2 0 k) := by
  obtain ⟨e0, e1⟩ := ix12 t
  show V m c main_v1 (((cfg0.win 12).blk t).view.emb (ix2 0 k)) = _
  congr 1; funext a; apply Fin.ext
  match a with
  | ⟨0, _⟩ => show win0_12.index t (0 : Fin 2) * 1 + 1 * 0 = 0; omega
  | ⟨1, _⟩ => show win0_12.index t (1 : Fin 2) * 2048 + 1 * k.val = k.val; omega

theorem emb13 (r : Fin 256) (k : Fin 2048) : ((cfg0.win 13).blk t).view.emb (ix2 r k) = ix2 (row t r) k := by
  obtain ⟨e0, e1⟩ := ix13 t
  funext a; apply Fin.ext
  match a with
  | ⟨0, _⟩ => show win0_13.index t (0 : Fin 2) * 256 + 1 * r.val = 256 * t.val + r.val; omega
  | ⟨1, _⟩ => show win0_13.index t (1 : Fin 2) * 2048 + 1 * k.val = k.val; omega

theorem emb14 (r : Fin 256) (k : Fin 2048) : ((cfg0.win 14).blk t).view.emb (ix2 r k) = ix2 (row t r) k := by
  obtain ⟨e0, e1⟩ := ix14 t
  funext a; apply Fin.ext
  match a with
  | ⟨0, _⟩ => show win0_14.index t (0 : Fin 2) * 256 + 1 * r.val = 256 * t.val + r.val; omega
  | ⟨1, _⟩ => show win0_14.index t (1 : Fin 2) * 2048 + 1 * k.val = k.val; omega

/-- The host lays the biases out as one row before the call. -/
theorem V_v0 : V m c main_v0 = fun j => shapeCast S1x6144 (m ((c : Thread nD τ).loc main_arg4)) shapeCasts_S6144_S1x6144 j := by
  show StableHlo.after hostOps0 (fun b => m (c, b)) (Proc.devRef .tc main_v0) = _
  rw [StableHlo.after_cons, StableHlo.after_cons, StableHlo.after_nil, StableHlo.reshape_result_ne' _ _ _ _ _ (by decide), StableHlo.reshape_result']
  rfl

/-- And the gain. -/
theorem V_v1 : V m c main_v1 = fun j => shapeCast S1x2048 (m ((c : Thread nD τ).loc main_arg10)) shapeCasts_S2048_S1x2048 j := by
  show StableHlo.after hostOps0 (fun b => m (c, b)) (Proc.devRef .tc main_v1) = _
  rw [StableHlo.after_cons, StableHlo.after_cons, StableHlo.after_nil, StableHlo.reshape_result', StableHlo.reshape_result_ne' _ _ _ _ _ (by decide)]
  rfl

end Cert.Proof.Merge

end
-- ==== Proof.Merge.Final.lean ====
/- The two result arrays after the run of the merge kernel. -/
module

public import proofs.«01_k».proof.Proof.Merge.Blocks

@[expose] public section

set_option maxRecDepth 16384

noncomputable section

namespace Cert.Proof.Merge

open Cert.Kernel2Ideal Cert.Kernel2Ideal.Gen Cert.Kernel2Ideal.Value Idealize.ShloMosaic Idealize.ShloMosaic.TcCoe
open Idealize.ShloMosaic.Pipeline (Dat)

variable (m : (ℓ : Loc nD τ sig) → Buf (Elt Ideal) ℓ) (ρ : Dev nD → PrngReg) (c : Dev nD) (t : Fin cfg0.N)

/-- The new stream of the arguments as launched. -/
def freshArr : Vec Ideal ⟨2, ![8192, 2048]⟩ .f32 := fun i => freshOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)
/-- The normed copy of the arguments as launched. -/
def normedArr : Vec Ideal ⟨2, ![8192, 2048]⟩ .bf16 := fun i => normedOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1)

/-- A vector laid out as one row, read in that row. -/
theorem row6144 (y : Vec Ideal S6144 .f32) (k : Fin 6144) : shapeCast S1x6144 y shapeCasts_S6144_S1x6144 (ix2 0 k) = y (ix1 k) := by
  pointwise []
theorem row2048 (y : Vec Ideal S2048 .f32) (k : Fin 2048) : shapeCast S1x2048 y shapeCasts_S2048_S1x2048 (ix2 0 k) = y (ix1 k) := by
  pointwise []

/-- The biases reach the tile as they were launched. -/
theorem bias_at (n : Fin 3) (k : Fin 2048) : biases (iblk m c 6 t) n (ix2 0 k) = m ((c : Thread nD τ).loc main_arg4) (ix1 (bcol n k)) := by
  show iblk m c 6 t (ix2 0 (bcol n k)) = _
  rw [blk6, V_v0]
  exact row6144 _ _

theorem gain_at (k : Fin 2048) : iblk m c 12 t (ix2 0 k) = m ((c : Thread nD τ).loc main_arg10) (ix1 k) := by
  rw [blk12, V_v1]
  exact row2048 _ _

/-- The tile's stored rows are the new stream's. -/
theorem stored_at (r : Fin 256) (j : Fin 2048) :
    stored (F := Ideal) (iblk m c 0 t) (iblk m c 1 t) (iblk m c 2 t) (X0_3 m c t) (X0_4 m c t) (X0_5 m c t) (iblk m c 6 t) (iblk m c 7 t)
      (iblk m c 8 t) (iblk m c 9 t) (iblk m c 10 t) (iblk m c 11 t) (ix2 r j) = freshArr m c (ix2 (row t r) j) := by
  refine (pay_fresh _ _ _ _ _ _ _ _ _ _ _ _ _ _ r j).trans ?_
  show _ = freshOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t r) j
  unfold freshOf
  refine congr (congr (congrArg freshAt (by rw [blk11, V_main_arg9])) (funext fun k => ?_)) (funext fun k => by rw [blk10, V_main_arg8])
  exact mergedAt_congr (by rw [blk3, V_main_arg3]) (by rw [blk4, V_main_arg3]) (by rw [blk5, V_main_arg3]) (bias_at m c t 0 k) (bias_at m c t 1 k)
    (bias_at m c t 2 k) (Finset.sum_congr rfl fun l _ => by rw [blk0, blk7, V_main_arg0, V_main_arg5])
    (Finset.sum_congr rfl fun l _ => by rw [blk1, blk8, V_main_arg1, V_main_arg6])
    (Finset.sum_congr rfl fun l _ => by rw [blk2, blk9, V_main_arg2, V_main_arg7])

theorem flushed13_eq : (dats m 0 c).flushed 13 t = ((cfg0.win 13).blk t).view.read (Elt Ideal) (freshArr m c) := by
  rw [flushed13_A, out13_eq]
  funext j
  obtain ⟨r, k, rfl⟩ : ∃ (r : Fin 256) (k : Fin 2048), j = ix2 r k := ⟨j 0, j 1, by funext a; match a with | ⟨0, _⟩ => rfl | ⟨1, _⟩ => rfl⟩
  show stored (F := Ideal) _ _ _ _ _ _ _ _ _ _ _ _ (ix2 r k) = freshArr m c (((cfg0.win 13).blk t).view.emb (ix2 r k))
  rw [emb13, stored_at]

theorem flushed14_eq : (dats m 0 c).flushed 14 t = ((cfg0.win 14).blk t).view.read (Elt Ideal) (normedArr m c) := by
  rw [flushed14_A, out14_eq]
  funext j
  obtain ⟨r, k, rfl⟩ : ∃ (r : Fin 256) (k : Fin 2048), j = ix2 r k := ⟨j 0, j 1, by funext a; match a with | ⟨0, _⟩ => rfl | ⟨1, _⟩ => rfl⟩
  show k0_pay1 (F := Ideal) _ _ _ (ix2 r k) = normedArr m c (((cfg0.win 14).blk t).view.emb (ix2 r k))
  rw [emb14]
  refine (pay_scale _ _ _ _ _ _ _ _ _ (stored (F := Ideal) (iblk m c 0 t) (iblk m c 1 t) (iblk m c 2 t) (X0_3 m c t) (X0_4 m c t) (X0_5 m c t) (iblk m c 6 t) (iblk m c 7 t)
      (iblk m c 8 t) (iblk m c 9 t) (iblk m c 10 t) (iblk m c 11 t)) rfl _ r k).trans ?_
  simp only [stored_at, gain_at]
  rfl

/-- Every row of a result array is a row of its tile. -/
theorem tile_of (i : Fin 8192) : ∃ (t : Fin cfg0.N) (r : Fin 256), i = row t r :=
  ⟨⟨i.val / 256, by have := i.isLt; show i.val / 256 < 32; omega⟩, ⟨i.val % 256, by omega⟩, Fin.ext (by show i.val = 256 * (i.val / 256) + i.val % 256; omega)⟩

theorem covered13 (i : S8192x2048.Idx) : ∃ t : Fin cfg0.N, (cfg0.win 13).flush t = true ∧ i ∈ ((cfg0.win 13).blk t).view.set := by
  obtain ⟨t, r, h⟩ := tile_of (i 0)
  refine ⟨t, flush0_13 t, ?_⟩
  exact (show ix2 (row t r) (i 1 : Fin 2048) = i by funext a; match a with | ⟨0, _⟩ => exact h.symm | ⟨1, _⟩ => rfl) ▸
    emb13 t r (i 1) ▸ ((cfg0.win 13).blk t).view.emb_mem_set (ix2 r (i 1 : Fin 2048))

theorem covered14 (i : S8192x2048.Idx) : ∃ t : Fin cfg0.N, (cfg0.win 14).flush t = true ∧ i ∈ ((cfg0.win 14).blk t).view.set := by
  obtain ⟨t, r, h⟩ := tile_of (i 0)
  refine ⟨t, flush0_14 t, ?_⟩
  exact (show ix2 (row t r) (i 1 : Fin 2048) = i by funext a; match a with | ⟨0, _⟩ => exact h.symm | ⟨1, _⟩ => rfl) ▸
    emb14 t r (i 1) ▸ ((cfg0.win 14).blk t).view.emb_mem_set (ix2 r (i 1 : Fin 2048))

theorem final13 : (dats m 0 c).arrAt 13 cfg0.N = freshArr m c :=
  (dats m 0 c).arrAt_eq_of_cover 13 (freshArr m c) (fun t _ => flushed13_eq m c t) covered13

theorem final14 : (dats m 0 c).arrAt 14 cfg0.N = normedArr m c :=
  (dats m 0 c).arrAt_eq_of_cover 14 (normedArr m c) (fun t _ => flushed14_eq m c t) covered14

end Cert.Proof.Merge

end
-- ==== Proof.Merge.Claim.lean ====
/- The merge kernel and its reference end with equal results. -/
module

public import proofs.«01_k».proof.Defs
public import proofs.«01_k».proof.Proof.Merge.Final
public import Idealize.ShloMosaic.Lib.Quiescent

@[expose] public section

set_option maxRecDepth 16384

noncomputable section

namespace Cert.Proof.Merge

open Idealize.ShloMosaic Idealize.SL.Sem

/-- An index of a result array is its row and its column. -/
theorem ix_eq (j : Cert.Reference2Ideal.S8192x2048.Idx) : j = ix2 (j 0 : Fin 8192) (j 1 : Fin 2048) := by
  funext a; match a with | ⟨0, _⟩ => rfl | ⟨1, _⟩ => rfl

section
open Cert.Reference2Ideal
variable (m' : (ℓ : Loc nD τ sig) → Buf (Elt Ideal) ℓ) (c : Dev nD)

/-- The reference's first result, as the new stream of its arguments. -/
theorem ref41 : Read.val_main_v41 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))
    = fun j => freshOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (j 0) (j 1) := by
  funext j
  exact (congrArg _ (ix_eq j)).trans (ref_fresh _ _ _ _ _ _ _ _ _ _ (j 0) (j 1))

/-- Its second, as the normed copy. -/
theorem ref55 : Value.res_main_v55 (F := Ideal) m' c = fun j => normedOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (j 0) (j 1) := by
  rw [Read.val_main_v55_eq]
  funext j
  exact (congrArg _ (ix_eq j)).trans (ref_normed _ _ _ _ _ _ _ _ _ _ _ (j 0) (j 1))
end

instance : Cert.Kernel2Ideal.Facts := Cert.Kernel2Ideal.Gen.facts
instance : Cert.Reference2Ideal.Facts := Cert.Reference2Ideal.Gen.facts

/-- The reference ends, its arguments unchanged; it has no semaphores. -/
theorem reference_frame : Cert.quiescent_Reference2Ideal := fun m g _ =>
  (θ_run Cert.Reference2Ideal.defs _ _).mono (fun r h => ⟨fun c => (h c).2.2, sem_eq_zero_of_no_sems (by decide) r.2⟩)
    (Cert.Reference2Ideal.Value.run (F := Ideal) m g)

theorem algebraic : Cert.algebraic_Kernel2Ideal_Reference2Ideal := by
  intro m g m' g' _ hm
  refine ⟨fun c => freshArr m c, fun c => normedArr m c, ?_, ?_⟩
  · refine (θ_run _ _ _).mono (fun r h c => ?_) (Cert.Kernel2Ideal.Value.run_blocks m g)
    exact ⟨(h c).1.trans (final13 m c), (h c).2.1.trans (final14 m c), (h c).2.2⟩
  · refine (θ_run _ _ _).mono (fun r h c => ?_) (Cert.Reference2Ideal.Value.run (F := Ideal) m' g')
    obtain ⟨e0, e1, e2, e3, e4, e5, e6, e7, e8, e9, e10⟩ := hm c
    refine ⟨(h c).1.trans ((ref41 m' c).trans ?_), (h c).2.1.trans ((ref55 m' c).trans ?_), (h c).2.2⟩
    · rw [e0, e1, e2, e3, e4, e5, e6, e7, e8, e9]; rfl
    · rw [e0, e1, e2, e3, e4, e5, e6, e7, e8, e9, e10]; rfl

end Cert.Proof.Merge

end
-- ==== Proof.InProj.Body.lean ====
/- The in-projection's body at one grid point, whatever program it is printed in: at the first row block of a weight
   tile the tile is transposed into the scratch, and every row block is multiplied by the scratch. -/
module

public import proofs.«01_k».proof.Proof.Att.Cells

@[expose] public section

set_option maxRecDepth 16384

noncomputable section

namespace Cert.Proof.InProj

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.Proof.Att (eq_of)

variable {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

section
variable {s : Shape} {e : EltTy} {M : Memref sig .tc .vmem s e} (hM : M.IsWhole) (d : Dev nD)

/-- The whole of a buffer, as a block. -/
abbrev all (off : Fin s.rank → Nat) (inb : ∀ a, off a + s.size a ≤ s.size a) : Rect s := Rect.unit (s := s) off s.size inb

theorem all_emb (off : Fin s.rank → Nat) (inb : ∀ a, off a + s.size a ≤ s.size a) (x : s.Idx) : (all off inb).emb x = x := by
  funext a
  apply Fin.ext
  have := inb a
  show off a + 1 * (x a).val = (x a).val
  omega

include hM in
theorem owns_unread (X : Vec F s e) : (owns (d : Thread nD τ) M fullShare X : sProp 𝕄) = ((M.view.loc (d : Thread nD τ)) ↦{fullShare} hM.unread X) := by
  unfold owns
  rw [hM.set_eq_univ]
  refine eq_of ?_ ?_
  · iintro ⟨%f, %hf, H⟩
    obtain rfl := hM.eq_unread hf
    iexact H
  · iintro H
    iexists _
    isplitr
    · ipureintro; exact hM.read_unread _
    · iexact H

variable {defs : Defs nD τ sig (Elt F) Λ} (𝒱 : Variants) (bd : Option 𝒱.V) {Γ : PendingWaitsCtx sig Ix} (E : Set Name)

local notation "WP" => wp (M := 𝕄) frame (wpE' defs 𝒱 (d : Thread nD τ) bd Γ) E

include hM in
/-- Reading a whole buffer gives its contents. -/
theorem load_all (off : Fin s.rank → Nat) (inb : ∀ a, off a + s.size a ≤ s.size a) {hl} (X : Vec F s e)
    (k : Vec F s e → Prog (TpuEff nD τ sig (Elt F) Λ .tc) PUnit) (Q : PUnit → sProp 𝕄) :
    (owns (d : Thread nD τ) M fullShare X : sProp 𝕄) ⊢ iprop(((owns (d : Thread nD τ) M fullShare X : sProp 𝕄) -∗ WP (k X) Q)
      -∗ WP (.op (.load M (all off inb).toLoadRect hl) k) Q) := by
  have e : (M.access (all off inb)).read (Elt F) (hM.unread X) = X :=
    funext fun x => (hM.readAt_unread X (all off inb).toLoadRect x).trans (congrArg X (all_emb off inb x))
  rw [owns_unread hM d X]
  have h := wp_load_rect (Ix := Ix) (Name := Name) (U := U) (Lvl := Lvl) (defs := defs) 𝒱 (d : Thread nD τ) bd (Γ := Γ) E (m := M) (r := all off inb)
      (hl := hl) (k := k) (Q := Q) (S := Finset.univ) (q := fullShare) (f := hM.unread X) (Finset.subset_univ _)
  rw [e] at h
  exact h

include hM in
/-- Writing a whole buffer replaces its contents. -/
theorem store_all (off : Fin s.rank → Nat) (inb : ∀ a, off a + s.size a ≤ s.size a) {hx hm} (X : Vec F s e) (w : Vec F s e)
    (k : PUnit → Prog (TpuEff nD τ sig (Elt F) Λ .tc) PUnit) (Q : PUnit → sProp 𝕄) :
    (owns (d : Thread nD τ) M fullShare X : sProp 𝕄) ⊢ iprop(((owns (d : Thread nD τ) M fullShare w : sProp 𝕄) -∗ WP (k ⟨⟩) Q)
      -∗ WP (.op (.store M (all off inb) w Finset.univ hx hm) k) Q) := by
  have e : (M.access (all off inb)).write (Elt F) (hM.unread X) w Finset.univ = hM.unread w := hM.eq_unread <| funext fun i => by
    have := View.read_slice_write_emb (Val := Elt F) (v := M.view) (all off inb) (hM.unread X) w (M := Finset.univ) (x := i) (Finset.mem_univ i)
    rwa [all_emb] at this
  rw [owns_unread hM d X, owns_unread hM d w, ← e]
  exact wp_store (Ix := Ix) (Name := Name) (U := U) (Lvl := Lvl) (defs := defs) 𝒱 (d : Thread nD τ) bd (Γ := Γ) E (m := M) (r := all off inb) (w := w) (Mk := Finset.univ)
      (hx := hx) (hm := hm) (k := k) (Q := Q) (S := Finset.univ) (f := hM.unread X) (Finset.subset_univ _)
end

/-- The shape of an `a` by `b` array, and of one such array in a stack. -/
abbrev Mat (a b : Nat) : Shape := ⟨2, ![a, b]⟩
abbrev Slab (a b : Nat) : Shape := ⟨3, ![1, a, b]⟩

variable {oe : EltTy}

/-- Whether a point is the first of its weight tile, as the body asks it. -/
abbrev first (b : BitVec 32) : Prop := Scalar.cmpi .ne (Scalar.extui (Scalar.cmpi .eq b 0#32)) 0#32 = 1#1

/-- The body. -/
def body (h : Memref sig .tc .vmem (Mat 1024 2048) .bf16) (w : Memref sig .tc .vmem (Slab 1024 2048) .f32)
    (o : Memref sig .tc .vmem (Mat 1024 1024) oe) (s : Memref sig .tc .vmem (Mat 2048 1024) .bf16) (hs : s.IsWhole)
    (hp : (all (s := Mat 2048 1024) ![0, 0] (by decide)).PackedRows (EltTy.packing .bf16))
    (ho : (o.access (all (s := Mat 1024 1024) ![0, 0] (by decide))).Stores Finset.univ)
    (b : BitVec 32) (tile : Vec F (Slab 1024 2048) .f32 → Vec F (Mat 2048 1024) .bf16)
    (prod : Vec F (Mat 1024 2048) .bf16 → Vec F (Mat 2048 1024) .bf16 → Vec F (Mat 1024 1024) oe) : Prog (TpuEff nD τ sig (Elt F) Λ .tc) PUnit := do
  if first b then do
    let v ← Prog.lift (.load w (all (s := Slab 1024 2048) ![0, 0, 0] (by decide)).toLoadRect (View.loadsAt_vmem (by decide)))
    let _ ← Prog.lift (.load s (all (s := Mat 2048 1024) ![0, 0] (by decide)).toLoadRect (View.loadsAt_vmem (by decide)))
    Prog.lift (.store s (all (s := Mat 2048 1024) ![0, 0] (by decide)) (tile v) Finset.univ (View.stores_vmem (by decide) (hs.storeExact_slice rfl _ hp) (fun _ => rfl)) (.inl rfl))
    pure ⟨⟩
  else do
    pure ⟨⟩
  let x ← Prog.lift (.load h (all (s := Mat 1024 2048) ![0, 0] (by decide)).toLoadRect (View.loadsAt_vmem (by decide)))
  let y ← Prog.lift (.load s (all (s := Mat 2048 1024) ![0, 0] (by decide)).toLoadRect (View.loadsAt_vmem (by decide)))
  let _ ← Prog.lift (.load o (all (s := Mat 1024 1024) ![0, 0] (by decide)).toLoadRect (View.loadsAt_vmem (by decide)))
  Prog.lift (.store o (all (s := Mat 1024 1024) ![0, 0] (by decide)) (prod x y) Finset.univ ho (.inl rfl))
  pure ⟨⟩

/-- The scratch after a point. -/
def scratch (b : BitVec 32) (tile : Vec F (Slab 1024 2048) .f32 → Vec F (Mat 2048 1024) .bf16) (W : Vec F (Slab 1024 2048) .f32) (S : Vec F (Mat 2048 1024) .bf16) : Vec F (Mat 2048 1024) .bf16 :=
  if first b then tile W else S

section
variable {defs : Defs nD τ sig (Elt F) Λ} (𝒱 : Variants) (bd : Option 𝒱.V) {Γ : PendingWaitsCtx sig Ix} (E : Set Name) (d : Dev nD)

local notation "WP" => wp (M := 𝕄) frame (wpE' defs 𝒱 (d : Thread nD τ) bd Γ) E

variable {h : Memref sig .tc .vmem (Mat 1024 2048) .bf16} (hh : h.IsWhole) {w : Memref sig .tc .vmem (Slab 1024 2048) .f32} (hw : w.IsWhole)
    {o : Memref sig .tc .vmem (Mat 1024 1024) oe} (hO : o.IsWhole) {s : Memref sig .tc .vmem (Mat 2048 1024) .bf16} (hs : s.IsWhole)
    {hp : (all (s := Mat 2048 1024) ![0, 0] (by decide)).PackedRows (EltTy.packing .bf16)}
    {ho : (o.access (all (s := Mat 1024 1024) ![0, 0] (by decide))).Stores Finset.univ}
    (b : BitVec 32) (tile : Vec F (Slab 1024 2048) .f32 → Vec F (Mat 2048 1024) .bf16)
    (prod : Vec F (Mat 1024 2048) .bf16 → Vec F (Mat 2048 1024) .bf16 → Vec F (Mat 1024 1024) oe)
    (H : Vec F (Mat 1024 2048) .bf16) (W : Vec F (Slab 1024 2048) .f32) (O : Vec F (Mat 1024 1024) oe) (S : Vec F (Mat 2048 1024) .bf16)

include hh hO hs in
/-- The product, from the scratch. -/
theorem multiply (Q : PUnit → sProp 𝕄) :
    iprop(owns (d : Thread nD τ) h fullShare H ∗ owns (d : Thread nD τ) s fullShare S ∗ owns (d : Thread nD τ) o fullShare O)
      ⊢ iprop((iprop(owns (d : Thread nD τ) h fullShare H ∗ owns (d : Thread nD τ) s fullShare S ∗ owns (d : Thread nD τ) o fullShare (prod H S)) -∗ WP (pure ⟨⟩) Q) -∗
        WP (do
          let x ← Prog.lift (.load h (all (s := Mat 1024 2048) ![0, 0] (by decide)).toLoadRect (View.loadsAt_vmem (by decide)))
          let y ← Prog.lift (.load s (all (s := Mat 2048 1024) ![0, 0] (by decide)).toLoadRect (View.loadsAt_vmem (by decide)))
          let _ ← Prog.lift (.load o (all (s := Mat 1024 1024) ![0, 0] (by decide)).toLoadRect (View.loadsAt_vmem (by decide)))
          Prog.lift (.store o (all (s := Mat 1024 1024) ![0, 0] (by decide)) (prod x y) Finset.univ ho (.inl rfl))
          pure ⟨⟩) Q) := by
  iintro ⟨Hh, Hs, Ho⟩ HK
  iapply (load_all hh d 𝒱 bd E ![0, 0] (by decide) H _ Q) $$ Hh
  iintro Hh
  iapply (load_all hs d 𝒱 bd E ![0, 0] (by decide) S _ Q) $$ Hs
  iintro Hs
  iapply (load_all hO d 𝒱 bd E ![0, 0] (by decide) O _ Q) $$ Ho
  iintro Ho
  iapply (store_all hO d 𝒱 bd E ![0, 0] (by decide) O (prod H S) _ Q) $$ Ho
  iintro Ho
  iapply HK
  isplitl [Hh]; · iexact Hh
  isplitl [Hs]; · iexact Hs
  iexact Ho

include hh hw hO hs in
/-- The body at a point. -/
theorem body_runs :
    iprop(owns (d : Thread nD τ) s fullShare S ∗ owns (d : Thread nD τ) h fullShare H ∗ owns (d : Thread nD τ) w fullShare W ∗ owns (d : Thread nD τ) o fullShare O)
      ⊢ WP (body (F := F) h w o s hs hp ho b tile prod) fun _ =>
        iprop(owns (d : Thread nD τ) s fullShare (scratch b tile W S) ∗ owns (d : Thread nD τ) h fullShare H ∗ owns (d : Thread nD τ) w fullShare W
          ∗ owns (d : Thread nD τ) o fullShare (prod H (scratch b tile W S))) := by
  unfold scratch
  have done : ∀ (P : sProp 𝕄), P ⊢ WP (pure PUnit.unit : Prog (TpuEff nD τ sig (Elt F) Λ .tc) PUnit) (fun _ => P) := fun P => Idealize.SL.BI.fupd_intro
  by_cases hb : first b
  · unfold body
    dsimp only
    rw [if_pos hb, if_pos hb]
    iintro ⟨Hs, Hh, Hw, Ho⟩
    iapply (load_all hw d 𝒱 bd E ![0, 0, 0] (by decide) W _ _) $$ Hw
    iintro Hw
    iapply (load_all hs d 𝒱 bd E ![0, 0] (by decide) S _ _) $$ Hs
    iintro Hs
    iapply (store_all hs d 𝒱 bd E ![0, 0] (by decide) S (tile W) _ _) $$ Hs
    iintro Hs
    iapply (multiply 𝒱 bd E d hh hO hs prod H O (tile W) _) $$ [Hh Hs Ho]
    · isplitl [Hh]; · iexact Hh
      isplitl [Hs]; · iexact Hs
      iexact Ho
    iintro ⟨Hh, Hs, Ho⟩
    iapply (done _)
    isplitl [Hs]; · iexact Hs
    isplitl [Hh]; · iexact Hh
    isplitl [Hw]; · iexact Hw
    iexact Ho
  · unfold body
    dsimp only
    rw [if_neg hb, if_neg hb]
    iintro ⟨Hs, Hh, Hw, Ho⟩
    iapply (multiply 𝒱 bd E d hh hO hs prod H O S _) $$ [Hh Hs Ho]
    · isplitl [Hh]; · iexact Hh
      isplitl [Hs]; · iexact Hs
      iexact Ho
    iintro ⟨Hh, Hs, Ho⟩
    iapply (done _)
    isplitl [Hs]; · iexact Hs
    isplitl [Hh]; · iexact Hh
    isplitl [Hw]; · iexact Hw
    iexact Ho
end

end Cert.Proof.InProj

end
-- ==== Proof.InProj.LaunchKernel3Ideal.lean ====
/- The launch of the in-projection: the table of the weight tiles, the body at a grid point, the run. -/
module

public import proofs.«01_k».proof.Proof.InProj.Body
public import proofs.«01_k».proof.Proof.Gen.Kernel3Ideal.Skeleton
public import proofs.«01_k».proof.Proof.Gen.Kernel3Ideal.Launch
public import Idealize.ShloMosaic.Lib.Pipeline.FrameBody

@[expose] public section

set_option maxRecDepth 16384

noncomputable section

namespace Cert.Proof.InProj.Kernel3Ideal

open Cert.Kernel3Ideal Cert.Kernel3Ideal.Gen
open Idealize.ShloMosaic Idealize.ShloMosaic.TcCoe
open Idealize.SL Idealize.SL.RA Idealize.SL.Sem Idealize.SL.ProofMode
open Idealize.SL.BI (sProp bigSep bigSep_singleton)
open scoped Idealize.SL.BI
open Idealize.SL.BI.BIBase Idealize.SL.BI.Laws
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The two arguments are found as launched. -/
theorem V_kept (c : Dev nD) (b : Ref sig .tc) (h : b ≠ main_c ∧ b ≠ main_v0) : V m c b = m ((c : Thread nD τ).loc b) := by
  obtain ⟨h0, h1⟩ := h
  refine StableHlo.after_of_forall_not_mem (b := Proc.devRef .tc b) _ _ (List.forall_iff_forall_mem.mp ?_)
  simp only [hostOps0, List.Forall, StableHlo.nullary_writes, StableHlo.unary_writes, Finset.mem_singleton]
  exact ⟨StableHlo.devRef_ne_of_ne h0, StableHlo.devRef_ne_of_ne h1⟩

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The first row of weight tile `j`, as the table gives it. -/
abbrev startWord (j : Fin 7) : BitVec 32 := Scalar.muli (lit0 j) 8#32

theorem startWord_mul : ∀ j : Fin 7, (8 : Int) ∣ (startWord j).toInt := by decide +kernel
theorem startWord_in : ∀ j : Fin 7, (startWord j).toNat + 1024 ≤ 16392 := by decide +kernel

/-- A grid point from its two coordinates. -/
abbrev atPoint (j : Fin 7) (i : Fin 8) : grid0.Coords := fun | 0 => j | 1 => i
theorem eq_at (i : grid0.Coords) : i = atPoint (i 0) (i 1) := funext fun a => match a with | 0 => rfl | 1 => rfl

/-- The index map's stated multiple, and its value. -/
theorem mult_at (i : grid0.Coords) : k0_mult1 (tbl m) i = startWord (i 0) := by
  rw [eq_at i]
  generalize i 0 = j
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨n + 7, h⟩ => exact absurd (show n + 7 < 7 from h) (by omega)

theorem index_at (h1 h2) (i : grid0.Coords) : cc0_transform_1 h1 h2 (tbl m) i = ![0, (startWord (i 0)).toNat, 0] := by
  rw [eq_at i]
  generalize i 0 = j
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨n + 7, h⟩ => exact absurd (show n + 7 < 7 from h) (by omega)

theorem table_ok : ok0 (tbl m) := by
  refine ⟨fun i => by rw [mult_at]; exact startWord_mul _, fun i => ⟨fun a => ?_, .inl rfl⟩⟩
  rw [index_at]
  have := startWord_in (i 0)
  match a with
  | ⟨0, _⟩ => show 0 + 1 ≤ 2; omega
  | ⟨1, _⟩ => exact this
  | ⟨2, _⟩ => show 0 + 2048 ≤ 2048; omega

abbrev adm : (pcfg0 (F := F)).Adm := ⟨tbl m, table_ok m⟩
abbrev cfgM : Pipeline.Cfg sig Λ₀ := cfg0 (adm m)

/-! ### The body at a grid point -/

/-- The row block of point `t`, as the word the body is handed. -/
abbrev rowOf (t : Fin (cfgM m).N) : BitVec 32 := BitVec.ofNat 32 (grid0.coords t 1).val

theorem packed : (all (s := Mat 2048 1024) ![0, 0] (by decide)).PackedRows (EltTy.packing .bf16) := Facts₀.packedbf16_S2048x1024_S2048x1024_0_0

theorem body_eq (i : grid0.Coords) (arg2 : Memref sig .tc .smem S7 .i32) (harg2 : arg2.IsWhole) (arg3 : Memref sig .tc .vmem S1024x2048 .bf16) (harg3 : arg3.IsWhole) (arg4 : Memref sig .tc .vmem S1x1024x2048 .f32) (harg4 : arg4.IsWhole) (arg5 : Memref sig .tc .vmem S1024x1024 .f32) (harg5 : arg5.IsWhole) (arg6 : Memref sig .tc .vmem S2048x1024 .bf16) (harg6 : arg6.IsWhole) :
    cc0_inproj (F := F) i arg2 harg2 arg3 harg3 arg4 harg4 arg5 harg5 arg6 harg6
      = body (F := F) arg3 arg4 arg5 arg6 harg6 packed (View.stores_vmem_bits_univ (by decide) rfl) (BitVec.ofNat 32 (i 1).val) k0_pay1 k0_pay2 := by
  rw [cc0_inproj_eq_skeleton]
  rfl

theorem defs₀_row (t : Fin (cfgM m).N) : defs₀ (F := F) .tc (cfgM m).body ((cfgM m).bodyArgs t ((cfgM m).slots t))
    = body (nD := nD) (τ := τ) (F := F) (Λ := Λ₀) (spec0_0.stage ((cfgM m).slots t 0)) (spec0_1.stage ((cfgM m).slots t 1)) (spec0_2.stage ((cfgM m).slots t 2))
        (Memref.whole cc0_scratch0) (Memref.isWhole_whole _) packed (View.stores_vmem_bits_univ (by decide) rfl) (rowOf m t) k0_pay1 k0_pay2 := by
  unfold defs₀
  rw [Defs.onTc_tc]
  exact body_eq _ _ _ _ _ _ _ _ _ _ _

theorem scr_of_rest (c : Dev nD) : (Pipeline.scopedRest (Ix := Unit) (Name := ℕ) (U := UR sig nD τ) (Lvl := ℕ) (Val := Elt F) spec0 c : sProp 𝕄)
    = iprop(∃ s : Vec F (Mat 2048 1024) .bf16, owns (c : Thread nD τ) (Memref.whole cc0_scratch0) fullShare s) := by
  rw [scopedRest0_eq]
  simp only [owns_whole]
  rfl

/-! ### The proof data -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Weight tile `j`: 1024 rows of the transposed weights. -/
def wtile (c : Dev nD) (j : Fin 7) : Vec F (Slab 1024 2048) .f32 := fun x =>
  V m c main_v0 (ix3 (0 : Fin 2) ⟨(startWord j).toNat + (x 1).val, by have := startWord_in j; have h : (x 1).val < 1024 := (x 1).isLt; omega⟩ (x 2 : Fin 2048))

theorem coords_at : ∀ t : Fin grid0.N, (grid0.coords t 0).val = t.val / 8 ∧ (grid0.coords t 1).val = t.val % 8 := by decide +kernel

/-- The weight tile and the row block of point `t`. -/
abbrev tj (t : Fin (cfgM m).N) : Fin 7 := grid0.coords t 0
abbrev ti (t : Fin (cfgM m).N) : Fin 8 := grid0.coords t 1

theorem blk1 (c : Dev nD) (t : Fin (cfgM m).N) : iblk m c 1 t = wtile m c (tj m t) := by
  refine funext fun (x : (Slab 1024 2048).Idx) => ?_
  show V m c main_v0 ((((cfgM m).win 1).blk t).view.emb x) = V m c main_v0 _
  congr 1
  have e := index_at m Facts₀.k0_off1_inb Facts₀.numel1_S1 (grid0.coords t)
  have h0 : (x 0).val < 1 := (x 0).isLt
  funext a
  apply Fin.ext
  match a with
  | ⟨0, _⟩ => show cc0_transform_1 Facts₀.k0_off1_inb Facts₀.numel1_S1 (tbl m) (grid0.coords t) 0 + 1 * (x 0).val = 0; rw [e]; show 0 + 1 * (x 0).val = 0; omega
  | ⟨1, _⟩ => show cc0_transform_1 Facts₀.k0_off1_inb Facts₀.numel1_S1 (tbl m) (grid0.coords t) 1 + 1 * (x 1).val = _; rw [e]; show (startWord (tj m t)).toNat + 1 * (x 1).val = (startWord (tj m t)).toNat + (x 1).val; omega
  | ⟨2, _⟩ => show cc0_transform_1 Facts₀.k0_off1_inb Facts₀.numel1_S1 (tbl m) (grid0.coords t) 2 + 1 * (x 2).val = (x 2).val; rw [e]; show 0 + 1 * (x 2).val = (x 2).val; omega

/-- What is known of the scratch before point `t`: inside a weight tile it holds the tile, transposed. -/
def Known (c : Dev nD) (t : Fin ((cfgM m).N + 1)) (s : Vec F (Mat 2048 1024) .bf16) : Prop :=
  t.val % 8 ≠ 0 → ∀ j : Fin 7, j.val = t.val / 8 → s = k0_pay1 (wtile m c j)

/-- The block that point `t` stores. -/
def stored (c : Dev nD) (t : Fin (cfgM m).N) : Vec F (Mat 1024 1024) .f32 := k0_pay2 (iblk m c 0 t) (k0_pay1 (wtile m c (tj m t)))

theorem first_iff : ∀ i : Fin 8, first (BitVec.ofNat 32 i.val) ↔ i.val = 0 := by decide +kernel

/-- After a point the scratch holds its tile. -/
theorem scratch_at (c : Dev nD) (t : Fin (cfgM m).N) (s : Vec F (Mat 2048 1024) .bf16) (hs : Known m c t.castSucc s) :
    scratch (rowOf m t) k0_pay1 (iblk m c 1 t) s = k0_pay1 (wtile m c (tj m t)) := by
  unfold scratch
  have e := coords_at t
  rw [blk1]
  split
  · rfl
  · rename_i h
    refine hs (fun h0 => h ((first_iff (ti m t)).mpr (e.2.trans h0))) _ e.1

theorem known_next (c : Dev nD) (t : Fin (cfgM m).N) : Known m c t.succ (k0_pay1 (wtile m c (tj m t))) := by
  intro h j hj
  have e := coords_at t
  have h' : (t.val + 1) % 8 ≠ 0 := h
  have hj' : j.val = (t.val + 1) / 8 := hj
  obtain rfl : j = tj m t := Fin.ext (by rw [hj']; refine Eq.trans ?_ e.1.symm; omega)
  rfl

/-- The proof data: the scratch tracked, the results named. -/
def dat (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => stored m c t
    | ⟨_ + 3, h⟩ => absurd h (Nat.not_lt.2 (Nat.le_add_left _ _))
  Φ t := iprop((∃ s : Vec F (Mat 2048 1024) .bf16, ⌜Known m c t s⌝ ∗ owns (c : Thread nD τ) (Memref.whole cc0_scratch0) fullShare s) ∗ (∃ r, prngReg c r) ∗ Pipeline.ΦT pre0 (tbl m) c)
  q w := Pipeline.shareOf spec0 w
  owed _ := 0

theorem A_eq (c : Dev nD) (w) : (dat m 0 c).A w = V m c (Pipeline.arrRef spec0 w) := by dsimp only [dat]

theorem before_0 (c : Dev nD) (t : Fin (cfgM m).N) (d) : (dat m 0 c).before 0 t d = iblk m c 0 t :=
  ((dat m 0 c).before_in_eq_fetched 0 rfl (fun _ => rfl) (fun _ _ _ => rfl) (fun t => rfl) t d).trans rfl
theorem before_1 (c : Dev nD) (t : Fin (cfgM m).N) (d) : (dat m 0 c).before 1 t d = iblk m c 1 t :=
  ((dat m 0 c).before_in_eq_fetched 1 rfl (fun _ => rfl) (fun _ _ _ => rfl) (fun t => rfl) t d).trans rfl

/-- The body at point `t`, on a scratch of which `Known` holds. -/
theorem point (c : Dev nD) (t : Fin (cfgM m).N) (O : Vec F (Mat 1024 1024) .f32) (s : Vec F (Mat 2048 1024) .bf16) (hs : Known m c t.castSucc s) :
    iprop(owns (c : Thread nD τ) (Memref.whole cc0_scratch0) fullShare s ∗ owns (c : Thread nD τ) (spec0_0.stage ((cfgM m).slots t 0)) fullShare (iblk m c 0 t)
        ∗ owns (c : Thread nD τ) (spec0_1.stage ((cfgM m).slots t 1)) fullShare (iblk m c 1 t) ∗ owns (c : Thread nD τ) (spec0_2.stage ((cfgM m).slots t 2)) fullShare O)
      ⊢ wp frame (wpE (defs₀ (F := F)) Variants.none c none) Set.univ (defs₀ (F := F) .tc (cfgM m).body ((cfgM m).bodyArgs t ((cfgM m).slots t))) fun _ =>
        (iprop(owns (c : Thread nD τ) (Memref.whole cc0_scratch0) fullShare (k0_pay1 (wtile m c (tj m t))) ∗ owns (c : Thread nD τ) (spec0_0.stage ((cfgM m).slots t 0)) fullShare (iblk m c 0 t)
        ∗ owns (c : Thread nD τ) (spec0_1.stage ((cfgM m).slots t 1)) fullShare (iblk m c 1 t) ∗ owns (c : Thread nD τ) (spec0_2.stage ((cfgM m).slots t 2)) fullShare (stored m c t)) : sProp 𝕄) := by
  rw [defs₀_row]
  have run := body_runs (Γ := PendingWaitsCtx.empty) (Ix := Unit) (Name := ℕ) (U := UR sig nD τ) (Lvl := ℕ) (defs := defs₀ (F := F)) Variants.none none Set.univ c
    (hstage0_0 (((cfgM m).slots t 0).cast nbuf0_0)) (hstage0_1 (((cfgM m).slots t 1).cast nbuf0_1)) (hstage0_2 (((cfgM m).slots t 2).cast nbuf0_2))
    (Memref.isWhole_whole cc0_scratch0) (hp := packed) (ho := View.stores_vmem_bits_univ (by decide) rfl) (rowOf m t) k0_pay1 k0_pay2 (iblk m c 0 t) (iblk m c 1 t) O s
  rw [scratch_at m c t s hs] at run
  exact run

/-- The body's obligation. -/
theorem obligation (c : Dev nD) : BodyObligationLoose (dat m 0 c) (defs₀ (F := F)) Variants.none () Set.univ := fun t => by
  rw [bigSep_W0, bigSep_W0]
  show iprop(((∃ s : Vec F (Mat 2048 1024) .bf16, ⌜Known m c t.castSucc s⌝ ∗ owns (c : Thread nD τ) (Memref.whole cc0_scratch0) fullShare s) ∗ (∃ r, prngReg c r) ∗ Pipeline.ΦT pre0 (tbl m) c) ∗ (dat m 0 c).owesAt () t.castSucc
      ∗ (∃ d, owns (c : Thread nD τ) (spec0_0.stage ((cfgM m).slots t 0)) fullShare ((dat m 0 c).before 0 t d))
      ∗ (∃ d, owns (c : Thread nD τ) (spec0_1.stage ((cfgM m).slots t 1)) fullShare ((dat m 0 c).before 1 t d))
      ∗ (∃ d, owns (c : Thread nD τ) (spec0_2.stage ((cfgM m).slots t 2)) fullShare ((dat m 0 c).before 2 t d)))
    ⊢ wp frame (wpE (defs₀ (F := F)) Variants.none c none) Set.univ (defs₀ (F := F) .tc (cfgM m).body ((cfgM m).bodyArgs t ((cfgM m).slots t))) fun _ =>
      (iprop(((∃ s : Vec F (Mat 2048 1024) .bf16, ⌜Known m c t.succ s⌝ ∗ owns (c : Thread nD τ) (Memref.whole cc0_scratch0) fullShare s) ∗ (∃ r, prngReg c r) ∗ Pipeline.ΦT pre0 (tbl m) c) ∗ (dat m 0 c).owesAt () t.succ
      ∗ owns (c : Thread nD τ) (spec0_0.stage ((cfgM m).slots t 0)) fullShare (iblk m c 0 t)
      ∗ owns (c : Thread nD τ) (spec0_1.stage ((cfgM m).slots t 1)) fullShare (iblk m c 1 t)
      ∗ owns (c : Thread nD τ) (spec0_2.stage ((cfgM m).slots t 2)) fullShare (stored m c t)) : sProp 𝕄)
  rw [show (dat m 0 c).owesAt () t.succ = (dat m 0 c).owesAt () t.castSucc from rfl]
  simp only [before_0, before_1]
  iintro ⟨⟨⟨%s, %hs, HS⟩, HR⟩, Ho, ⟨%d0, H0⟩, ⟨%d1, H1⟩, ⟨%d2, H2⟩⟩
  have run := (sep_mono (P := iprop((dat m 0 c).owesAt () t.castSucc ∗ (∃ r, prngReg c r) ∗ Pipeline.ΦT pre0 (tbl m) c)) .rfl (point m c t ((dat m 0 c).before 2 t d2) s hs)).trans (wp_frame_l _ _ _)
  iapply (run.trans (wp_mono _ _ _ fun _ => ?_))
  · iintro ⟨⟨Ho, HR⟩, HS, H0, H1, H2⟩
    isplitl [HS HR]
    · isplitl [HS]
      · iexists _
        isplitr
        · ipureintro; exact known_next m c t
        · iexact HS
      iexact HR
    isplitl [Ho]; · iexact Ho
    isplitl [H0]; · iexact H0
    isplitl [H1]; · iexact H1
    iexact H2
  · isplitl [Ho HR]
    · isplitl [Ho]; · iexact Ho
      iexact HR
    isplitl [HS]; · iexact HS
    isplitl [H0]; · iexact H0
    isplitl [H1]; · iexact H1
    iexact H2

theorem phi_in (c : Dev nD) : iprop(Pipeline.ΦA (Val := Elt F) (U := UR sig nD τ) spec0 c ∗ Pipeline.ΦT pre0 (tbl m) c) ⊢ (dat m 0 c).Φ 0 := by
  show _ ⊢ iprop((∃ s : Vec F (Mat 2048 1024) .bf16, ⌜Known m c 0 s⌝ ∗ owns (c : Thread nD τ) (Memref.whole cc0_scratch0) fullShare s) ∗ (∃ r, prngReg c r) ∗ Pipeline.ΦT pre0 (tbl m) c)
  unfold Pipeline.ΦA
  rw [scr_of_rest]
  iintro ⟨⟨⟨%s, HS⟩, HR⟩, HT⟩
  isplitl [HS]
  · iexists s
    isplitr
    · ipureintro; exact fun h => absurd rfl h
    · iexact HS
  isplitl [HR]; · iexact HR
  iexact HT

theorem phi_out (c : Dev nD) (k) : (dat m 0 c).Φ k ⊢ Pipeline.ΦA (Val := Elt F) (U := UR sig nD τ) spec0 c := by
  show iprop((∃ s : Vec F (Mat 2048 1024) .bf16, ⌜Known m c k s⌝ ∗ owns (c : Thread nD τ) (Memref.whole cc0_scratch0) fullShare s) ∗ (∃ r, prngReg c r) ∗ Pipeline.ΦT pre0 (tbl m) c) ⊢ _
  unfold Pipeline.ΦA
  rw [scr_of_rest]
  iintro ⟨⟨%s, %hs, HS⟩, HR, HT⟩
  isplitl [HS]
  · iexists s
    iexact HS
  · iexact HR

set_option backward.isDefEq.respectTransparency.types false in
/-- The run. -/
theorem run_tracked : θ_run defs (onTc (τ := τ) (main (F := F))) ⟨m, fun _ => 0, ρ⟩
    (fun r => Pipeline.FramePost (Pipeline.pin pcfgs fun _ => adm m) (dat m) 0 (V m) r ∧ r.2.sem = fun _ => 0) :=
  Pipeline.θ_run_frameP_track_shared (Q' := _) pcfgs (fun _ => adm m) (dat m) (0 : Fin 1) launch0.to₀ defs₀ Variants.none m ρ main
    (hbody := fun c => obligation m c) (hq := fun _ _ _ => rfl) (howed := fun _ _ => rfl)
    (V := V m) (hmain := hmain m Variants.none) (hA := A_eq m) (hpf := V_pre m)
    (hin := fun c => phi_in m c) (hout := fun c => phi_out m c _)

/-- The result array after the run, the arguments as launched, every semaphore at zero. -/
theorem run_value : θ_run defs (onTc (τ := τ) (main (F := F))) ⟨m, fun _ => 0, ρ⟩
    (fun r => (∀ c : Dev nD, r.2.mem ((c.tc : Thread nD τ).loc main_v1) = (dat m 0 c).arrAt 2 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c).1 2,
    ((h.1 c).1 0).trans (((dat m 0 c).arrAt_in 0 rfl _).trans ((A_eq m c 0).trans (V_kept m c main_arg0 (by decide)))),
    ((h.1 c).2 main_arg1 (by decide : main_arg1 ∈ Pipeline.restRefs sig spec0)).trans (V_kept m c _ (by decide))⟩, h.2⟩) (run_tracked m ρ)

end Cert.Proof.InProj.Kernel3Ideal

end
-- ==== Proof.InProj.Entry.lean ====
/- One entry of what a grid point stores: a row of activations times a column of the transposed weight tile. -/
module

public import proofs.«01_k».proof.Proof.InProj.LaunchKernel3Ideal
public import proofs.«01_k».proof.Proof.Gen.Reference3Ideal.Read
public import Idealize.ShloMosaic.Lib.Pointwise

@[expose] public section

set_option maxRecDepth 16384

noncomputable section

namespace Cert.Proof.InProj

open Idealize.ShloMosaic

/-- The stored block, entry by entry. -/
theorem stored_entry (H : Vec Ideal (Mat 1024 2048) .bf16) (W : Vec Ideal (Slab 1024 2048) .f32) (r c : Fin 1024) :
    Cert.Kernel3Ideal.Gen.k0_pay2 (F := Ideal) H (Cert.Kernel3Ideal.Gen.k0_pay1 (F := Ideal) W) (ix2 r c) = ∑ k : Fin 2048, (H (ix2 r k) : EReal) * W (ix3 0 c k) := by
  pointwise [Cert.Kernel3Ideal.Gen.k0_pay2, Cert.Kernel3Ideal.Gen.k0_pay1]

/-- One entry of the product of the activations and one layer's weights. -/
def entry (h : Vec Ideal (Mat 8192 2048) .bf16) (w : Vec Ideal ⟨3, ![2, 2048, 16392]⟩ .f32) (r : Fin 8192) (q : Fin 16392) : EReal :=
  ∑ k : Fin 2048, (h (ix2 r k) : EReal) * w (ix3 0 k q)

/-- The column of the weights behind column `q` of the gates. -/
def gateCol (q : Fin 7168) : Fin 16392 := ⟨if q.val < 6144 then 10248 + q.val else 9224 + (q.val - 6144), by split <;> omega⟩

open Cert.Reference3Ideal.Read in
/-- The reference, entry by entry. -/
theorem reference_entry (h : Vec Ideal (Mat 8192 2048) .bf16) (w : Vec Ideal ⟨3, ![2, 2048, 16392]⟩ .f32) (r : Fin 8192) (q : Fin 7168) :
    val_main_v7 (F := Ideal) h w (ix2 r q) = entry h w r (gateCol q) := by
  pointwise [val_main_v7]
  unfold entry
  split
  · rename_i hq
    rw [val_main_v3_apply]
    refine Finset.sum_congr rfl fun k _ => congrArg₂ (· * ·) ?_ ?_
    · pointwise [val_main_v0]
      exact congrArg h (funext fun a => match a with | 0 => rfl | 1 => rfl)
    · pointwise [val_main_v2, val_main_v1]
      exact congrArg (fun j => w (ix3 0 k j)) (Fin.ext (if_pos hq).symm)
  · rename_i hq
    rw [val_main_v6_apply]
    refine Finset.sum_congr rfl fun k _ => congrArg₂ (· * ·) ?_ ?_
    · pointwise [val_main_v0]
      exact congrArg h (funext fun a => match a with | 0 => rfl | 1 => rfl)
    · pointwise [val_main_v5, val_main_v4]
      exact congrArg (fun j => w (ix3 0 k j)) (Fin.ext (if_neg hq).symm)

end Cert.Proof.InProj

end
-- ==== Proof.InProj.Gates.lean ====
/- The gate columns of the in-projection: the tiles cover the result, and it is the reference's. -/
module

public import proofs.«01_k».proof.Defs
public import proofs.«01_k».proof.Proof.InProj.Entry
public import proofs.«01_k».proof.Proof.InProj.LaunchKernel3
public import proofs.«01_k».proof.Proof.Gen.Reference3Ideal.Run
public import proofs.«01_k».proof.Proof.Att.Claim

@[expose] public section

set_option maxRecDepth 16384

noncomputable section

namespace Cert.Proof.InProj.Kernel3Ideal

open Cert.Kernel3Ideal Cert.Kernel3Ideal.Gen
open Idealize.ShloMosaic Idealize.ShloMosaic.TcCoe Idealize.SL.Sem

variable (m : (ℓ : Loc nD τ sig) → Buf (Elt Ideal) ℓ) (ρ : Dev nD → PrngReg) (c : Dev nD) (t : Fin (cfgM m).N)

theorem at0 : ∀ t : Fin grid0.N, cc0_transform_0 (grid0.coords t) (0 : Fin 2) = (grid0.coords t 1).val ∧ cc0_transform_0 (grid0.coords t) (1 : Fin 2) = 0 := by decide +kernel
theorem at2 : ∀ t : Fin grid0.N, cc0_transform_2 (grid0.coords t) (0 : Fin 2) = (grid0.coords t 1).val ∧ cc0_transform_2 (grid0.coords t) (1 : Fin 2) = (grid0.coords t 0).val := by decide +kernel

/-- Row `r` of row block `i`, and column `q` of tile `j`. -/
def row (i : Fin 8) (r : Fin 1024) : Fin 8192 := ⟨1024 * i.val + r.val, by omega⟩
def col (j : Fin 7) (q : Fin 1024) : Fin 7168 := ⟨1024 * j.val + q.val, by omega⟩

theorem blk0 (r : Fin 1024) (k : Fin 2048) : iblk m c 0 t (ix2 r k) = m ((c : Thread nD τ).loc main_arg0) (ix2 (row (ti m t) r) k) := by
  obtain ⟨e0, e1⟩ := at0 t
  rw [← V_kept m c main_arg0 (by decide)]
  show V m c main_arg0 ((((cfgM m).win 0).blk t).view.emb (ix2 r k)) = _
  congr 1; funext a; apply Fin.ext
  match a with
  | ⟨0, _⟩ => show cc0_transform_0 (grid0.coords t) (0 : Fin 2) * 1024 + 1 * r.val = 1024 * (grid0.coords t 1).val + r.val; omega
  | ⟨1, _⟩ => show cc0_transform_0 (grid0.coords t) (1 : Fin 2) * 2048 + 1 * k.val = k.val; omega

theorem V_v0 : V m c main_v0 = transpose S2x16392x2048 [0, 2, 1] (m ((c : Thread nD τ).loc main_arg1)) Facts₀.transposes_S2x2048x16392_S2x16392x2048_0_2_1 := rfl

theorem turned (w : Vec Ideal S2x2048x16392 .f32) (l : Fin 2) (q : Fin 16392) (k : Fin 2048) :
    transpose S2x16392x2048 [0, 2, 1] w Facts₀.transposes_S2x2048x16392_S2x16392x2048_0_2_1 (ix3 l q k) = w (ix3 l k q) := by
  pointwise []

/-- A tile's columns are the gates' columns of the weights. -/
theorem start_at : ∀ j : Fin 7, (startWord j).toNat = if 1024 * j.val < 6144 then 10248 + 1024 * j.val else 9224 + (1024 * j.val - 6144) := by decide +kernel

theorem tile_at (j : Fin 7) (q : Fin 1024) (k : Fin 2048) : wtile m c j (ix3 0 q k) = m ((c : Thread nD τ).loc main_arg1) (ix3 0 k (gateCol (col j q))) := by
  show V m c main_v0 (ix3 (0 : Fin 2) ⟨(startWord j).toNat + q.val, _⟩ k) = _
  rw [V_v0, turned]
  refine congrArg (fun x => m ((c : Thread nD τ).loc main_arg1) (ix3 0 k x)) (Fin.ext ?_)
  show (startWord j).toNat + q.val = if 1024 * j.val + q.val < 6144 then 10248 + (1024 * j.val + q.val) else 9224 + (1024 * j.val + q.val - 6144)
  rw [start_at]
  split <;> split <;> omega

/-- The result array: the reference's, of the same arguments. -/
def resArr : Vec Ideal S8192x7168 .f32 :=
  Cert.Reference3Ideal.Read.val_main_v7 (F := Ideal) (m ((c : Thread nD τ).loc main_arg0)) (m ((c : Thread nD τ).loc main_arg1))

theorem emb2 (r q : Fin 1024) : (((cfgM m).win 2).blk t).view.emb (ix2 r q) = ix2 (row (ti m t) r) (col (tj m t) q) := by
  obtain ⟨e0, e1⟩ := at2 t
  funext a; apply Fin.ext
  match a with
  | ⟨0, _⟩ => show cc0_transform_2 (grid0.coords t) (0 : Fin 2) * 1024 + 1 * r.val = 1024 * (grid0.coords t 1).val + r.val; omega
  | ⟨1, _⟩ => show cc0_transform_2 (grid0.coords t) (1 : Fin 2) * 1024 + 1 * q.val = 1024 * (grid0.coords t 0).val + q.val; omega

theorem flush2 : ((cfgM m).win 2).flush t = true :=
  (by decide +kernel : ∀ t : Fin grid0.N, Pipeline.Window.flushOf grid0 true cc0_transform_2 t = true) t

theorem ix_eq {a b : Nat} (i : (Mat a b).Idx) : i = ix2 (i 0 : Fin a) (i 1 : Fin b) := by funext x; match x with | ⟨0, _⟩ => rfl | ⟨1, _⟩ => rfl

/-- An entry of what a point stores. -/
theorem stored_at (r q : Fin 1024) : stored m c t (ix2 r q) = resArr m c ((((cfgM m).win 2).blk t).view.emb (ix2 r q)) := by
  rw [emb2]
  refine (stored_entry (iblk m c 0 t) (wtile m c (tj m t)) r q).trans (Eq.trans ?_ (reference_entry _ _ _ _).symm)
  exact Finset.sum_congr rfl fun k _ => congrArg₂ (· * ·) (blk0 m c t r k) (tile_at m c (tj m t) q k)

/-- What a point stores is its block of the result. -/
theorem flushed_eq : (dat m 0 c).flushed 2 t = (((cfgM m).win 2).blk t).view.read (Elt Ideal) (resArr m c) := by
  show stored m c t = _
  refine funext fun (i : (Mat 1024 1024).Idx) => ?_
  rw [ix_eq i]
  exact stored_at m c t (i 0) (i 1)

theorem covered (i : S8192x7168.Idx) : ∃ t : Fin (cfgM m).N, ((cfgM m).win 2).flush t = true ∧ i ∈ (((cfgM m).win 2).blk t).view.set := by
  have h0 : (i 0).val < 8192 := (i 0).isLt
  have h1 : (i 1).val < 7168 := (i 1).isLt
  let t : Fin (cfgM m).N := ⟨8 * ((i 1).val / 1024) + (i 0).val / 1024, by show _ < 56; omega⟩
  have e := coords_at t
  have ht : t.val = 8 * ((i 1).val / 1024) + (i 0).val / 1024 := rfl
  refine ⟨t, flush2 m t, ?_⟩
  have e' : (((cfgM m).win 2).blk t).view.emb (ix2 (⟨(i 0).val % 1024, by omega⟩ : Fin 1024) (⟨(i 1).val % 1024, by omega⟩ : Fin 1024)) = i := by
    refine (emb2 m t _ _).trans ?_
    funext a; apply Fin.ext
    match a with
    | ⟨0, _⟩ => show 1024 * (grid0.coords t 1).val + (i 0).val % 1024 = (i 0).val; omega
    | ⟨1, _⟩ => show 1024 * (grid0.coords t 0).val + (i 1).val % 1024 = (i 1).val; omega
  rw [← e']
  exact (((cfgM m).win 2).blk t).view.emb_mem_set _

theorem final : (dat m 0 c).arrAt 2 (cfgM m).N = resArr m c :=
  (dat m 0 c).arrAt_eq_of_cover 2 (resArr m c) (fun t _ => flushed_eq m c t) (covered m)

end Cert.Proof.InProj.Kernel3Ideal

namespace Cert.Proof.InProj

open Idealize.ShloMosaic Idealize.SL.Sem

instance gatesFactsKernel3 : Cert.Kernel3.Facts := Cert.Kernel3.Gen.facts
instance gatesFactsKernel3Ideal : Cert.Kernel3Ideal.Facts := Cert.Kernel3Ideal.Gen.facts
instance gatesFactsReference3Ideal : Cert.Reference3Ideal.Facts := Cert.Reference3Ideal.Gen.facts

theorem gates_frame : Cert.quiescent_Kernel3 := fun m ρ _ =>
  (θ_run _ _ _).mono (fun r h => ⟨fun c => (h.1 c).2, h.2⟩) (Kernel3.run_value m ρ)

theorem gates_ideal_frame : Cert.quiescent_Kernel3Ideal := fun m ρ _ =>
  (θ_run _ _ _).mono (fun r h => ⟨fun c => (h.1 c).2, h.2⟩) (Kernel3Ideal.run_value m ρ)

/-- The reference ends, its arguments unchanged; it has no semaphores. -/
theorem gates_reference_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem gates_algebraic : Cert.algebraic_Kernel3Ideal_Reference3Ideal := by
  intro m g m' g' _ hm
  refine ⟨fun c => Kernel3Ideal.resArr m c, ?_, ?_⟩
  · exact (θ_run _ _ _).mono (fun r h c => ⟨(h.1 c).1.trans (Kernel3Ideal.final m c), (h.1 c).2⟩) (Kernel3Ideal.run_value m g)
  · refine (θ_run _ _ _).mono (fun r h c => ?_) (Cert.Reference3Ideal.Value.run (F := Ideal) m' g')
    obtain ⟨e0, e1⟩ := hm c
    refine ⟨(h c).1.trans ((Cert.Reference3Ideal.Read.val_main_v7_eq _ _).trans ?_), (h c).2⟩
    rw [e0, e1]
    rfl

end Cert.Proof.InProj

end
-- ==== Proof.InProj.LaunchKernel4Ideal.lean ====
/- The launch of the in-projection: the table of the weight tiles, the body at a grid point, the run. -/
module

public import proofs.«01_k».proof.Proof.InProj.Body
public import proofs.«01_k».proof.Proof.Gen.Kernel4Ideal.Skeleton
public import proofs.«01_k».proof.Proof.Gen.Kernel4Ideal.Launch
public import Idealize.ShloMosaic.Lib.Pipeline.FrameBody

@[expose] public section

set_option maxRecDepth 16384

noncomputable section

namespace Cert.Proof.InProj.Kernel4Ideal

open Cert.Kernel4Ideal Cert.Kernel4Ideal.Gen
open Idealize.ShloMosaic Idealize.ShloMosaic.TcCoe
open Idealize.SL Idealize.SL.RA Idealize.SL.Sem Idealize.SL.ProofMode
open Idealize.SL.BI (sProp bigSep bigSep_singleton)
open scoped Idealize.SL.BI
open Idealize.SL.BI.BIBase Idealize.SL.BI.Laws
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The two arguments are found as launched. -/
theorem V_kept (c : Dev nD) (b : Ref sig .tc) (h : b ≠ main_c ∧ b ≠ main_v0) : V m c b = m ((c : Thread nD τ).loc b) := by
  obtain ⟨h0, h1⟩ := h
  refine StableHlo.after_of_forall_not_mem (b := Proc.devRef .tc b) _ _ (List.forall_iff_forall_mem.mp ?_)
  simp only [hostOps0, List.Forall, StableHlo.nullary_writes, StableHlo.unary_writes, Finset.mem_singleton]
  exact ⟨StableHlo.devRef_ne_of_ne h0, StableHlo.devRef_ne_of_ne h1⟩

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The first row of weight tile `j`, as the table gives it. -/
abbrev startWord (j : Fin 6) : BitVec 32 := Scalar.muli (lit0 j) 8#32

theorem startWord_mul : ∀ j : Fin 6, (8 : Int) ∣ (startWord j).toInt := by decide +kernel
theorem startWord_in : ∀ j : Fin 6, (startWord j).toNat + 1024 ≤ 16392 := by decide +kernel

/-- A grid point from its two coordinates. -/
abbrev atPoint (j : Fin 6) (i : Fin 8) : grid0.Coords := fun | 0 => j | 1 => i
theorem eq_at (i : grid0.Coords) : i = atPoint (i 0) (i 1) := funext fun a => match a with | 0 => rfl | 1 => rfl

/-- The index map's stated multiple, and its value. -/
theorem mult_at (i : grid0.Coords) : k0_mult1 (tbl m) i = startWord (i 0) := by
  rw [eq_at i]
  generalize i 0 = j
  match j with
  | ⟨0, _⟩ => rfl
  | ⟨1, _⟩ => rfl
  | ⟨2, _⟩ => rfl
  | ⟨3, _⟩ => rfl
  | ⟨4, _⟩ => rfl
  | ⟨5, _⟩ => rfl
  | ⟨n + 6, h⟩ => exact absurd (show n + 6 < 6 from h) (by omega)

theorem index_at (h1 h2) (i : grid0.Coords) : cc0_transform_1 h1 h2 (tbl m) i = ![0, (startWord (i 0)).toNat, 0] := by
  rw [eq_at i]
  generalize i 0 = j
  match j with
  | ⟨0, _⟩ => rfl
  | ⟨1, _⟩ => rfl
  | ⟨2, _⟩ => rfl
  | ⟨3, _⟩ => rfl
  | ⟨4, _⟩ => rfl
  | ⟨5, _⟩ => rfl
  | ⟨n + 6, h⟩ => exact absurd (show n + 6 < 6 from h) (by omega)

theorem table_ok : ok0 (tbl m) := by
  refine ⟨fun i => by rw [mult_at]; exact startWord_mul _, fun i => ⟨fun a => ?_, .inl rfl⟩⟩
  rw [index_at]
  have := startWord_in (i 0)
  match a with
  | ⟨0, _⟩ => show 0 + 1 ≤ 2; omega
  | ⟨1, _⟩ => exact this
  | ⟨2, _⟩ => show 0 + 2048 ≤ 2048; omega

abbrev adm : (pcfg0 (F := F)).Adm := ⟨tbl m, table_ok m⟩
abbrev cfgM : Pipeline.Cfg sig Λ₀ := cfg0 (adm m)

/-! ### The body at a grid point -/

/-- The row block of point `t`, as the word the body is handed. -/
abbrev rowOf (t : Fin (cfgM m).N) : BitVec 32 := BitVec.ofNat 32 (grid0.coords t 1).val

theorem packed : (all (s := Mat 2048 1024) ![0, 0] (by decide)).PackedRows (EltTy.packing .bf16) := Facts₀.packedbf16_S2048x1024_S2048x1024_0_0

theorem body_eq (i : grid0.Coords) (arg2 : Memref sig .tc .smem S6 .i32) (harg2 : arg2.IsWhole) (arg3 : Memref sig .tc .vmem S1024x2048 .bf16) (harg3 : arg3.IsWhole) (arg4 : Memref sig .tc .vmem S1x1024x2048 .f32) (harg4 : arg4.IsWhole) (arg5 : Memref sig .tc .vmem S1024x1024 .f32) (harg5 : arg5.IsWhole) (arg6 : Memref sig .tc .vmem S2048x1024 .bf16) (harg6 : arg6.IsWhole) :
    cc0_inproj (F := F) i arg2 harg2 arg3 harg3 arg4 harg4 arg5 harg5 arg6 harg6
      = body (F := F) arg3 arg4 arg5 arg6 harg6 packed (View.stores_vmem_bits_univ (by decide) rfl) (BitVec.ofNat 32 (i 1).val) k0_pay1 k0_pay2 := by
  rw [cc0_inproj_eq_skeleton]
  rfl

theorem defs₀_row (t : Fin (cfgM m).N) : defs₀ (F := F) .tc (cfgM m).body ((cfgM m).bodyArgs t ((cfgM m).slots t))
    = body (nD := nD) (τ := τ) (F := F) (Λ := Λ₀) (spec0_0.stage ((cfgM m).slots t 0)) (spec0_1.stage ((cfgM m).slots t 1)) (spec0_2.stage ((cfgM m).slots t 2))
        (Memref.whole cc0_scratch0) (Memref.isWhole_whole _) packed (View.stores_vmem_bits_univ (by decide) rfl) (rowOf m t) k0_pay1 k0_pay2 := by
  unfold defs₀
  rw [Defs.onTc_tc]
  exact body_eq _ _ _ _ _ _ _ _ _ _ _

theorem scr_of_rest (c : Dev nD) : (Pipeline.scopedRest (Ix := Unit) (Name := ℕ) (U := UR sig nD τ) (Lvl := ℕ) (Val := Elt F) spec0 c : sProp 𝕄)
    = iprop(∃ s : Vec F (Mat 2048 1024) .bf16, owns (c : Thread nD τ) (Memref.whole cc0_scratch0) fullShare s) := by
  rw [scopedRest0_eq]
  simp only [owns_whole]
  rfl

/-! ### The proof data -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Weight tile `j`: 1024 rows of the transposed weights. -/
def wtile (c : Dev nD) (j : Fin 6) : Vec F (Slab 1024 2048) .f32 := fun x =>
  V m c main_v0 (ix3 (0 : Fin 2) ⟨(startWord j).toNat + (x 1).val, by have := startWord_in j; have h : (x 1).val < 1024 := (x 1).isLt; omega⟩ (x 2 : Fin 2048))

theorem coords_at : ∀ t : Fin grid0.N, (grid0.coords t 0).val = t.val / 8 ∧ (grid0.coords t 1).val = t.val % 8 := by decide +kernel

/-- The weight tile and the row block of point `t`. -/
abbrev tj (t : Fin (cfgM m).N) : Fin 6 := grid0.coords t 0
abbrev ti (t : Fin (cfgM m).N) : Fin 8 := grid0.coords t 1

theorem blk1 (c : Dev nD) (t : Fin (cfgM m).N) : iblk m c 1 t = wtile m c (tj m t) := by
  refine funext fun (x : (Slab 1024 2048).Idx) => ?_
  show V m c main_v0 ((((cfgM m).win 1).blk t).view.emb x) = V m c main_v0 _
  congr 1
  have e := index_at m Facts₀.k0_off1_inb Facts₀.numel1_S1 (grid0.coords t)
  have h0 : (x 0).val < 1 := (x 0).isLt
  funext a
  apply Fin.ext
  match a with
  | ⟨0, _⟩ => show cc0_transform_1 Facts₀.k0_off1_inb Facts₀.numel1_S1 (tbl m) (grid0.coords t) 0 + 1 * (x 0).val = 0; rw [e]; show 0 + 1 * (x 0).val = 0; omega
  | ⟨1, _⟩ => show cc0_transform_1 Facts₀.k0_off1_inb Facts₀.numel1_S1 (tbl m) (grid0.coords t) 1 + 1 * (x 1).val = _; rw [e]; show (startWord (tj m t)).toNat + 1 * (x 1).val = (startWord (tj m t)).toNat + (x 1).val; omega
  | ⟨2, _⟩ => show cc0_transform_1 Facts₀.k0_off1_inb Facts₀.numel1_S1 (tbl m) (grid0.coords t) 2 + 1 * (x 2).val = (x 2).val; rw [e]; show 0 + 1 * (x 2).val = (x 2).val; omega

/-- What is known of the scratch before point `t`: inside a weight tile it holds the tile, transposed. -/
def Known (c : Dev nD) (t : Fin ((cfgM m).N + 1)) (s : Vec F (Mat 2048 1024) .bf16) : Prop :=
  t.val % 8 ≠ 0 → ∀ j : Fin 6, j.val = t.val / 8 → s = k0_pay1 (wtile m c j)

/-- The block that point `t` stores. -/
def stored (c : Dev nD) (t : Fin (cfgM m).N) : Vec F (Mat 1024 1024) .f32 := k0_pay2 (iblk m c 0 t) (k0_pay1 (wtile m c (tj m t)))

theorem first_iff : ∀ i : Fin 8, first (BitVec.ofNat 32 i.val) ↔ i.val = 0 := by decide +kernel

/-- After a point the scratch holds its tile. -/
theorem scratch_at (c : Dev nD) (t : Fin (cfgM m).N) (s : Vec F (Mat 2048 1024) .bf16) (hs : Known m c t.castSucc s) :
    scratch (rowOf m t) k0_pay1 (iblk m c 1 t) s = k0_pay1 (wtile m c (tj m t)) := by
  unfold scratch
  have e := coords_at t
  rw [blk1]
  split
  · rfl
  · rename_i h
    refine hs (fun h0 => h ((first_iff (ti m t)).mpr (e.2.trans h0))) _ e.1

theorem known_next (c : Dev nD) (t : Fin (cfgM m).N) : Known m c t.succ (k0_pay1 (wtile m c (tj m t))) := by
  intro h j hj
  have e := coords_at t
  have h' : (t.val + 1) % 8 ≠ 0 := h
  have hj' : j.val = (t.val + 1) / 8 := hj
  obtain rfl : j = tj m t := Fin.ext (by rw [hj']; refine Eq.trans ?_ e.1.symm; omega)
  rfl

/-- The proof data: the scratch tracked, the results named. -/
def dat (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => stored m c t
    | ⟨_ + 3, h⟩ => absurd h (Nat.not_lt.2 (Nat.le_add_left _ _))
  Φ t := iprop((∃ s : Vec F (Mat 2048 1024) .bf16, ⌜Known m c t s⌝ ∗ owns (c : Thread nD τ) (Memref.whole cc0_scratch0) fullShare s) ∗ (∃ r, prngReg c r) ∗ Pipeline.ΦT pre0 (tbl m) c)
  q w := Pipeline.shareOf spec0 w
  owed _ := 0

theorem A_eq (c : Dev nD) (w) : (dat m 0 c).A w = V m c (Pipeline.arrRef spec0 w) := by dsimp only [dat]

theorem before_0 (c : Dev nD) (t : Fin (cfgM m).N) (d) : (dat m 0 c).before 0 t d = iblk m c 0 t :=
  ((dat m 0 c).before_in_eq_fetched 0 rfl (fun _ => rfl) (fun _ _ _ => rfl) (fun t => rfl) t d).trans rfl
theorem before_1 (c : Dev nD) (t : Fin (cfgM m).N) (d) : (dat m 0 c).before 1 t d = iblk m c 1 t :=
  ((dat m 0 c).before_in_eq_fetched 1 rfl (fun _ => rfl) (fun _ _ _ => rfl) (fun t => rfl) t d).trans rfl

/-- The body at point `t`, on a scratch of which `Known` holds. -/
theorem point (c : Dev nD) (t : Fin (cfgM m).N) (O : Vec F (Mat 1024 1024) .f32) (s : Vec F (Mat 2048 1024) .bf16) (hs : Known m c t.castSucc s) :
    iprop(owns (c : Thread nD τ) (Memref.whole cc0_scratch0) fullShare s ∗ owns (c : Thread nD τ) (spec0_0.stage ((cfgM m).slots t 0)) fullShare (iblk m c 0 t)
        ∗ owns (c : Thread nD τ) (spec0_1.stage ((cfgM m).slots t 1)) fullShare (iblk m c 1 t) ∗ owns (c : Thread nD τ) (spec0_2.stage ((cfgM m).slots t 2)) fullShare O)
      ⊢ wp frame (wpE (defs₀ (F := F)) Variants.none c none) Set.univ (defs₀ (F := F) .tc (cfgM m).body ((cfgM m).bodyArgs t ((cfgM m).slots t))) fun _ =>
        (iprop(owns (c : Thread nD τ) (Memref.whole cc0_scratch0) fullShare (k0_pay1 (wtile m c (tj m t))) ∗ owns (c : Thread nD τ) (spec0_0.stage ((cfgM m).slots t 0)) fullShare (iblk m c 0 t)
        ∗ owns (c : Thread nD τ) (spec0_1.stage ((cfgM m).slots t 1)) fullShare (iblk m c 1 t) ∗ owns (c : Thread nD τ) (spec0_2.stage ((cfgM m).slots t 2)) fullShare (stored m c t)) : sProp 𝕄) := by
  rw [defs₀_row]
  have run := body_runs (Γ := PendingWaitsCtx.empty) (Ix := Unit) (Name := ℕ) (U := UR sig nD τ) (Lvl := ℕ) (defs := defs₀ (F := F)) Variants.none none Set.univ c
    (hstage0_0 (((cfgM m).slots t 0).cast nbuf0_0)) (hstage0_1 (((cfgM m).slots t 1).cast nbuf0_1)) (hstage0_2 (((cfgM m).slots t 2).cast nbuf0_2))
    (Memref.isWhole_whole cc0_scratch0) (hp := packed) (ho := View.stores_vmem_bits_univ (by decide) rfl) (rowOf m t) k0_pay1 k0_pay2 (iblk m c 0 t) (iblk m c 1 t) O s
  rw [scratch_at m c t s hs] at run
  exact run

/-- The body's obligation. -/
theorem obligation (c : Dev nD) : BodyObligationLoose (dat m 0 c) (defs₀ (F := F)) Variants.none () Set.univ := fun t => by
  rw [bigSep_W0, bigSep_W0]
  show iprop(((∃ s : Vec F (Mat 2048 1024) .bf16, ⌜Known m c t.castSucc s⌝ ∗ owns (c : Thread nD τ) (Memref.whole cc0_scratch0) fullShare s) ∗ (∃ r, prngReg c r) ∗ Pipeline.ΦT pre0 (tbl m) c) ∗ (dat m 0 c).owesAt () t.castSucc
      ∗ (∃ d, owns (c : Thread nD τ) (spec0_0.stage ((cfgM m).slots t 0)) fullShare ((dat m 0 c).before 0 t d))
      ∗ (∃ d, owns (c : Thread nD τ) (spec0_1.stage ((cfgM m).slots t 1)) fullShare ((dat m 0 c).before 1 t d))
      ∗ (∃ d, owns (c : Thread nD τ) (spec0_2.stage ((cfgM m).slots t 2)) fullShare ((dat m 0 c).before 2 t d)))
    ⊢ wp frame (wpE (defs₀ (F := F)) Variants.none c none) Set.univ (defs₀ (F := F) .tc (cfgM m).body ((cfgM m).bodyArgs t ((cfgM m).slots t))) fun _ =>
      (iprop(((∃ s : Vec F (Mat 2048 1024) .bf16, ⌜Known m c t.succ s⌝ ∗ owns (c : Thread nD τ) (Memref.whole cc0_scratch0) fullShare s) ∗ (∃ r, prngReg c r) ∗ Pipeline.ΦT pre0 (tbl m) c) ∗ (dat m 0 c).owesAt () t.succ
      ∗ owns (c : Thread nD τ) (spec0_0.stage ((cfgM m).slots t 0)) fullShare (iblk m c 0 t)
      ∗ owns (c : Thread nD τ) (spec0_1.stage ((cfgM m).slots t 1)) fullShare (iblk m c 1 t)
      ∗ owns (c : Thread nD τ) (spec0_2.stage ((cfgM m).slots t 2)) fullShare (stored m c t)) : sProp 𝕄)
  rw [show (dat m 0 c).owesAt () t.succ = (dat m 0 c).owesAt () t.castSucc from rfl]
  simp only [before_0, before_1]
  iintro ⟨⟨⟨%s, %hs, HS⟩, HR⟩, Ho, ⟨%d0, H0⟩, ⟨%d1, H1⟩, ⟨%d2, H2⟩⟩
  have run := (sep_mono (P := iprop((dat m 0 c).owesAt () t.castSucc ∗ (∃ r, prngReg c r) ∗ Pipeline.ΦT pre0 (tbl m) c)) .rfl (point m c t ((dat m 0 c).before 2 t d2) s hs)).trans (wp_frame_l _ _ _)
  iapply (run.trans (wp_mono _ _ _ fun _ => ?_))
  · iintro ⟨⟨Ho, HR⟩, HS, H0, H1, H2⟩
    isplitl [HS HR]
    · isplitl [HS]
      · iexists _
        isplitr
        · ipureintro; exact known_next m c t
        · iexact HS
      iexact HR
    isplitl [Ho]; · iexact Ho
    isplitl [H0]; · iexact H0
    isplitl [H1]; · iexact H1
    iexact H2
  · isplitl [Ho HR]
    · isplitl [Ho]; · iexact Ho
      iexact HR
    isplitl [HS]; · iexact HS
    isplitl [H0]; · iexact H0
    isplitl [H1]; · iexact H1
    iexact H2

theorem phi_in (c : Dev nD) : iprop(Pipeline.ΦA (Val := Elt F) (U := UR sig nD τ) spec0 c ∗ Pipeline.ΦT pre0 (tbl m) c) ⊢ (dat m 0 c).Φ 0 := by
  show _ ⊢ iprop((∃ s : Vec F (Mat 2048 1024) .bf16, ⌜Known m c 0 s⌝ ∗ owns (c : Thread nD τ) (Memref.whole cc0_scratch0) fullShare s) ∗ (∃ r, prngReg c r) ∗ Pipeline.ΦT pre0 (tbl m) c)
  unfold Pipeline.ΦA
  rw [scr_of_rest]
  iintro ⟨⟨⟨%s, HS⟩, HR⟩, HT⟩
  isplitl [HS]
  · iexists s
    isplitr
    · ipureintro; exact fun h => absurd rfl h
    · iexact HS
  isplitl [HR]; · iexact HR
  iexact HT

theorem phi_out (c : Dev nD) (k) : (dat m 0 c).Φ k ⊢ Pipeline.ΦA (Val := Elt F) (U := UR sig nD τ) spec0 c := by
  show iprop((∃ s : Vec F (Mat 2048 1024) .bf16, ⌜Known m c k s⌝ ∗ owns (c : Thread nD τ) (Memref.whole cc0_scratch0) fullShare s) ∗ (∃ r, prngReg c r) ∗ Pipeline.ΦT pre0 (tbl m) c) ⊢ _
  unfold Pipeline.ΦA
  rw [scr_of_rest]
  iintro ⟨⟨%s, %hs, HS⟩, HR, HT⟩
  isplitl [HS]
  · iexists s
    iexact HS
  · iexact HR

set_option backward.isDefEq.respectTransparency.types false in
/-- The run. -/
theorem run_tracked : θ_run defs (onTc (τ := τ) (main (F := F))) ⟨m, fun _ => 0, ρ⟩
    (fun r => Pipeline.FramePost (Pipeline.pin pcfgs fun _ => adm m) (dat m) 0 (V m) r ∧ r.2.sem = fun _ => 0) :=
  Pipeline.θ_run_frameP_track_shared (Q' := _) pcfgs (fun _ => adm m) (dat m) (0 : Fin 1) launch0.to₀ defs₀ Variants.none m ρ main
    (hbody := fun c => obligation m c) (hq := fun _ _ _ => rfl) (howed := fun _ _ => rfl)
    (V := V m) (hmain := hmain m Variants.none) (hA := A_eq m) (hpf := V_pre m)
    (hin := fun c => phi_in m c) (hout := fun c => phi_out m c _)

/-- The result array after the run, the arguments as launched, every semaphore at zero. -/
theorem run_value : θ_run defs (onTc (τ := τ) (main (F := F))) ⟨m, fun _ => 0, ρ⟩
    (fun r => (∀ c : Dev nD, r.2.mem ((c.tc : Thread nD τ).loc main_v1) = (dat m 0 c).arrAt 2 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c).1 2,
    ((h.1 c).1 0).trans (((dat m 0 c).arrAt_in 0 rfl _).trans ((A_eq m c 0).trans (V_kept m c main_arg0 (by decide)))),
    ((h.1 c).2 main_arg1 (by decide : main_arg1 ∈ Pipeline.restRefs sig spec0)).trans (V_kept m c _ (by decide))⟩, h.2⟩) (run_tracked m ρ)

end Cert.Proof.InProj.Kernel4Ideal

end
-- ==== Proof.InProj.Streams.lean ====
/- The first columns of the in-projection (those behind the two recurrences): the tiles cover the result, and it is the reference's. -/
module

public import proofs.«01_k».proof.Defs
public import proofs.«01_k».proof.Proof.InProj.Entry
public import proofs.«01_k».proof.Proof.InProj.LaunchKernel4
public import proofs.«01_k».proof.Proof.InProj.LaunchKernel4Ideal
public import proofs.«01_k».proof.Proof.Gen.Reference4Ideal.Read
public import proofs.«01_k».proof.Proof.Gen.Reference4Ideal.Run
public import proofs.«01_k».proof.Proof.Att.Claim

@[expose] public section

set_option maxRecDepth 16384

noncomputable section

namespace Cert.Proof.InProj.Kernel4Ideal

open Cert.Kernel4Ideal Cert.Kernel4Ideal.Gen
open Idealize.ShloMosaic Idealize.ShloMosaic.TcCoe Idealize.SL.Sem

variable (m : (ℓ : Loc nD τ sig) → Buf (Elt Ideal) ℓ) (ρ : Dev nD → PrngReg) (c : Dev nD) (t : Fin (cfgM m).N)

theorem at0 : ∀ t : Fin grid0.N, cc0_transform_0 (grid0.coords t) (0 : Fin 2) = (grid0.coords t 1).val ∧ cc0_transform_0 (grid0.coords t) (1 : Fin 2) = 0 := by decide +kernel
theorem at2 : ∀ t : Fin grid0.N, cc0_transform_2 (grid0.coords t) (0 : Fin 2) = (grid0.coords t 1).val ∧ cc0_transform_2 (grid0.coords t) (1 : Fin 2) = (grid0.coords t 0).val := by decide +kernel

/-- The stored block, entry by entry: the payloads are those of the gates' call. -/
theorem stored_entry (H : Vec Ideal (Mat 1024 2048) .bf16) (W : Vec Ideal (Slab 1024 2048) .f32) (r c : Fin 1024) :
    k0_pay2 (F := Ideal) H (k0_pay1 (F := Ideal) W) (ix2 r c) = ∑ k : Fin 2048, (H (ix2 r k) : EReal) * W (ix3 0 c k) :=
  InProj.stored_entry H W r c

/-- The column of the weights behind column `q`. -/
def streamCol (q : Fin 6144) : Fin 16392 := ⟨q.val, by omega⟩

open Cert.Reference4Ideal.Read in
/-- The reference, entry by entry. -/
theorem reference_entry (h : Vec Ideal (Mat 8192 2048) .bf16) (w : Vec Ideal ⟨3, ![2, 2048, 16392]⟩ .f32) (r : Fin 8192) (q : Fin 6144) :
    val_main_v3 (F := Ideal) h w (ix2 r q) = entry h w r (streamCol q) := by
  unfold entry
  rw [val_main_v3_apply]
  refine Finset.sum_congr rfl fun k _ => congrArg₂ (· * ·) ?_ ?_
  · pointwise [val_main_v0]
    exact congrArg h (funext fun a => match a with | 0 => rfl | 1 => rfl)
  · pointwise [val_main_v2, val_main_v1]
    rfl

/-- Row `r` of row block `i`, and column `q` of tile `j`. -/
def row (i : Fin 8) (r : Fin 1024) : Fin 8192 := ⟨1024 * i.val + r.val, by omega⟩
def col (j : Fin 6) (q : Fin 1024) : Fin 6144 := ⟨1024 * j.val + q.val, by omega⟩

theorem blk0 (r : Fin 1024) (k : Fin 2048) : iblk m c 0 t (ix2 r k) = m ((c : Thread nD τ).loc main_arg0) (ix2 (row (ti m t) r) k) := by
  obtain ⟨e0, e1⟩ := at0 t
  rw [← V_kept m c main_arg0 (by decide)]
  show V m c main_arg0 ((((cfgM m).win 0).blk t).view.emb (ix2 r k)) = _
  congr 1; funext a; apply Fin.ext
  match a with
  | ⟨0, _⟩ => show cc0_transform_0 (grid0.coords t) (0 : Fin 2) * 1024 + 1 * r.val = 1024 * (grid0.coords t 1).val + r.val; omega
  | ⟨1, _⟩ => show cc0_transform_0 (grid0.coords t) (1 : Fin 2) * 2048 + 1 * k.val = k.val; omega

theorem V_v0 : V m c main_v0 = transpose S2x16392x2048 [0, 2, 1] (m ((c : Thread nD τ).loc main_arg1)) Facts₀.transposes_S2x2048x16392_S2x16392x2048_0_2_1 := rfl

theorem turned (w : Vec Ideal S2x2048x16392 .f32) (l : Fin 2) (q : Fin 16392) (k : Fin 2048) :
    transpose S2x16392x2048 [0, 2, 1] w Facts₀.transposes_S2x2048x16392_S2x16392x2048_0_2_1 (ix3 l q k) = w (ix3 l k q) := by
  pointwise []

/-- A tile's columns are the first columns of the weights. -/
theorem start_at : ∀ j : Fin 6, (startWord j).toNat = 1024 * j.val := by decide +kernel

theorem tile_at (j : Fin 6) (q : Fin 1024) (k : Fin 2048) : wtile m c j (ix3 0 q k) = m ((c : Thread nD τ).loc main_arg1) (ix3 0 k (streamCol (col j q))) := by
  show V m c main_v0 (ix3 (0 : Fin 2) ⟨(startWord j).toNat + q.val, _⟩ k) = _
  rw [V_v0, turned]
  refine congrArg (fun x => m ((c : Thread nD τ).loc main_arg1) (ix3 0 k x)) (Fin.ext ?_)
  show (startWord j).toNat + q.val = 1024 * j.val + q.val
  rw [start_at]

/-- The result array: the reference's, of the same arguments. -/
def resArr : Vec Ideal S8192x6144 .f32 :=
  Cert.Reference4Ideal.Read.val_main_v3 (F := Ideal) (m ((c : Thread nD τ).loc main_arg0)) (m ((c : Thread nD τ).loc main_arg1))

theorem emb2 (r q : Fin 1024) : (((cfgM m).win 2).blk t).view.emb (ix2 r q) = ix2 (row (ti m t) r) (col (tj m t) q) := by
  obtain ⟨e0, e1⟩ := at2 t
  funext a; apply Fin.ext
  match a with
  | ⟨0, _⟩ => show cc0_transform_2 (grid0.coords t) (0 : Fin 2) * 1024 + 1 * r.val = 1024 * (grid0.coords t 1).val + r.val; omega
  | ⟨1, _⟩ => show cc0_transform_2 (grid0.coords t) (1 : Fin 2) * 1024 + 1 * q.val = 1024 * (grid0.coords t 0).val + q.val; omega

theorem flush2 : ((cfgM m).win 2).flush t = true :=
  (by decide +kernel : ∀ t : Fin grid0.N, Pipeline.Window.flushOf grid0 true cc0_transform_2 t = true) t

theorem ix_eq {a b : Nat} (i : (Mat a b).Idx) : i = ix2 (i 0 : Fin a) (i 1 : Fin b) := by funext x; match x with | ⟨0, _⟩ => rfl | ⟨1, _⟩ => rfl

/-- An entry of what a point stores. -/
theorem stored_at (r q : Fin 1024) : stored m c t (ix2 r q) = resArr m c ((((cfgM m).win 2).blk t).view.emb (ix2 r q)) := by
  rw [emb2]
  refine (stored_entry (iblk m c 0 t) (wtile m c (tj m t)) r q).trans (Eq.trans ?_ (reference_entry _ _ _ _).symm)
  exact Finset.sum_congr rfl fun k _ => congrArg₂ (· * ·) (blk0 m c t r k) (tile_at m c (tj m t) q k)

/-- What a point stores is its block of the result. -/
theorem flushed_eq : (dat m 0 c).flushed 2 t = (((cfgM m).win 2).blk t).view.read (Elt Ideal) (resArr m c) := by
  show stored m c t = _
  refine funext fun (i : (Mat 1024 1024).Idx) => ?_
  rw [ix_eq i]
  exact stored_at m c t (i 0) (i 1)

theorem covered (i : S8192x6144.Idx) : ∃ t : Fin (cfgM m).N, ((cfgM m).win 2).flush t = true ∧ i ∈ (((cfgM m).win 2).blk t).view.set := by
  have h0 : (i 0).val < 8192 := (i 0).isLt
  have h1 : (i 1).val < 6144 := (i 1).isLt
  let t : Fin (cfgM m).N := ⟨8 * ((i 1).val / 1024) + (i 0).val / 1024, by show _ < 48; omega⟩
  have e := coords_at t
  have ht : t.val = 8 * ((i 1).val / 1024) + (i 0).val / 1024 := rfl
  refine ⟨t, flush2 m t, ?_⟩
  have e' : (((cfgM m).win 2).blk t).view.emb (ix2 (⟨(i 0).val % 1024, by omega⟩ : Fin 1024) (⟨(i 1).val % 1024, by omega⟩ : Fin 1024)) = i := by
    refine (emb2 m t _ _).trans ?_
    funext a; apply Fin.ext
    match a with
    | ⟨0, _⟩ => show 1024 * (grid0.coords t 1).val + (i 0).val % 1024 = (i 0).val; omega
    | ⟨1, _⟩ => show 1024 * (grid0.coords t 0).val + (i 1).val % 1024 = (i 1).val; omega
  rw [← e']
  exact (((cfgM m).win 2).blk t).view.emb_mem_set _

theorem final : (dat m 0 c).arrAt 2 (cfgM m).N = resArr m c :=
  (dat m 0 c).arrAt_eq_of_cover 2 (resArr m c) (fun t _ => flushed_eq m c t) (covered m)

end Cert.Proof.InProj.Kernel4Ideal

namespace Cert.Proof.InProj

open Idealize.ShloMosaic Idealize.SL.Sem

instance streamsFactsKernel4 : Cert.Kernel4.Facts := Cert.Kernel4.Gen.facts
instance streamsFactsKernel4Ideal : Cert.Kernel4Ideal.Facts := Cert.Kernel4Ideal.Gen.facts
instance streamsFactsReference4Ideal : Cert.Reference4Ideal.Facts := Cert.Reference4Ideal.Gen.facts

theorem streams_frame : Cert.quiescent_Kernel4 := fun m ρ _ =>
  (θ_run _ _ _).mono (fun r h => ⟨fun c => (h.1 c).2, h.2⟩) (Kernel4.run_value m ρ)

theorem streams_ideal_frame : Cert.quiescent_Kernel4Ideal := fun m ρ _ =>
  (θ_run _ _ _).mono (fun r h => ⟨fun c => (h.1 c).2, h.2⟩) (Kernel4Ideal.run_value m ρ)

/-- The reference ends, its arguments unchanged; it has no semaphores. -/
theorem streams_reference_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem streams_algebraic : Cert.algebraic_Kernel4Ideal_Reference4Ideal := by
  intro m g m' g' _ hm
  refine ⟨fun c => Kernel4Ideal.resArr m c, ?_, ?_⟩
  · exact (θ_run _ _ _).mono (fun r h c => ⟨(h.1 c).1.trans (Kernel4Ideal.final m c), (h.1 c).2⟩) (Kernel4Ideal.run_value m g)
  · refine (θ_run _ _ _).mono (fun r h c => ?_) (Cert.Reference4Ideal.Value.run (F := Ideal) m' g')
    obtain ⟨e0, e1⟩ := hm c
    refine ⟨(h c).1.trans ((Cert.Reference4Ideal.Read.val_main_v3_eq _ _).trans ?_), (h c).2⟩
    rw [e0, e1]
    rfl

end Cert.Proof.InProj

end
-- ==== Proof.InProj.LaunchKernel5Ideal.lean ====
/- The launch of the in-projection: the table of the weight tiles, the body at a grid point, the run. -/
module

public import proofs.«01_k».proof.Proof.InProj.Body
public import proofs.«01_k».proof.Proof.Gen.Kernel5Ideal.Skeleton
public import proofs.«01_k».proof.Proof.Gen.Kernel5Ideal.Launch
public import Idealize.ShloMosaic.Lib.Pipeline.FrameBody

@[expose] public section

set_option maxRecDepth 16384

noncomputable section

namespace Cert.Proof.InProj.Kernel5Ideal

open Cert.Kernel5Ideal Cert.Kernel5Ideal.Gen
open Idealize.ShloMosaic Idealize.ShloMosaic.TcCoe
open Idealize.SL Idealize.SL.RA Idealize.SL.Sem Idealize.SL.ProofMode
open Idealize.SL.BI (sProp bigSep bigSep_singleton)
open scoped Idealize.SL.BI
open Idealize.SL.BI.BIBase Idealize.SL.BI.Laws
open Idealize.ShloMosaic.Pipeline (Dat Cfg Window BodyObligation BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The two arguments are found as launched. -/
theorem V_kept (c : Dev nD) (b : Ref sig .tc) (h : b ≠ main_c ∧ b ≠ main_v0) : V m c b = m ((c : Thread nD τ).loc b) := by
  obtain ⟨h0, h1⟩ := h
  refine StableHlo.after_of_forall_not_mem (b := Proc.devRef .tc b) _ _ (List.forall_iff_forall_mem.mp ?_)
  simp only [hostOps0, List.Forall, StableHlo.nullary_writes, StableHlo.unary_writes, Finset.mem_singleton]
  exact ⟨StableHlo.devRef_ne_of_ne h0, StableHlo.devRef_ne_of_ne h1⟩

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The first row of weight tile `j`, as the table gives it. -/
abbrev startWord (j : Fin 3) : BitVec 32 := Scalar.muli (lit0 j) 8#32

theorem startWord_mul : ∀ j : Fin 3, (8 : Int) ∣ (startWord j).toInt := by decide +kernel
theorem startWord_in : ∀ j : Fin 3, (startWord j).toNat + 1024 ≤ 16392 := by decide +kernel

/-- A grid point from its two coordinates. -/
abbrev atPoint (j : Fin 3) (i : Fin 8) : grid0.Coords := fun | 0 => j | 1 => i
theorem eq_at (i : grid0.Coords) : i = atPoint (i 0) (i 1) := funext fun a => match a with | 0 => rfl | 1 => rfl

/-- The index map's stated multiple, and its value. -/
theorem mult_at (i : grid0.Coords) : k0_mult1 (tbl m) i = startWord (i 0) := by
  rw [eq_at i]
  generalize i 0 = j
  match j with
  | ⟨0, _⟩ => rfl
  | ⟨1, _⟩ => rfl
  | ⟨2, _⟩ => rfl
  | ⟨n + 3, h⟩ => exact absurd (show n + 3 < 3 from h) (by omega)

theorem index_at (h1 h2) (i : grid0.Coords) : cc0_transform_1 h1 h2 (tbl m) i = ![0, (startWord (i 0)).toNat, 0] := by
  rw [eq_at i]
  generalize i 0 = j
  match j with
  | ⟨0, _⟩ => rfl
  | ⟨1, _⟩ => rfl
  | ⟨2, _⟩ => rfl
  | ⟨n + 3, h⟩ => exact absurd (show n + 3 < 3 from h) (by omega)

theorem table_ok : ok0 (tbl m) := by
  refine ⟨fun i => by rw [mult_at]; exact startWord_mul _, fun i => ⟨fun a => ?_, .inl rfl⟩⟩
  rw [index_at]
  have := startWord_in (i 0)
  match a with
  | ⟨0, _⟩ => show 0 + 1 ≤ 2; omega
  | ⟨1, _⟩ => exact this
  | ⟨2, _⟩ => show 0 + 2048 ≤ 2048; omega

abbrev adm : (pcfg0 (F := F)).Adm := ⟨tbl m, table_ok m⟩
abbrev cfgM : Pipeline.Cfg sig Λ₀ := cfg0 (adm m)

/-! ### The body at a grid point -/

/-- The row block of point `t`, as the word the body is handed. -/
abbrev rowOf (t : Fin (cfgM m).N) : BitVec 32 := BitVec.ofNat 32 (grid0.coords t 1).val

theorem packed : (all (s := Mat 2048 1024) ![0, 0] (by decide)).PackedRows (EltTy.packing .bf16) := Facts₀.packedbf16_S2048x1024_S2048x1024_0_0

/-- A whole block of the result can be stored. -/
theorem storable {o : Memref sig .tc .vmem (Mat 1024 1024) .bf16} (h : o.IsWhole) : (o.access (all (s := Mat 1024 1024) ![0, 0] (by decide))).Stores Finset.univ :=
  View.stores_vmem (by decide) (h.storeExact_slice rfl _ Facts₀.packedbf16_S1024x1024_S1024x1024_0_0) (fun _ => rfl)

theorem body_eq (i : grid0.Coords) (arg2 : Memref sig .tc .smem S3 .i32) (harg2 : arg2.IsWhole) (arg3 : Memref sig .tc .vmem S1024x2048 .bf16) (harg3 : arg3.IsWhole) (arg4 : Memref sig .tc .vmem S1x1024x2048 .f32) (harg4 : arg4.IsWhole) (arg5 : Memref sig .tc .vmem S1024x1024 .bf16) (harg5 : arg5.IsWhole) (arg6 : Memref sig .tc .vmem S2048x1024 .bf16) (harg6 : arg6.IsWhole) :
    cc0_inproj (F := F) i arg2 harg2 arg3 harg3 arg4 harg4 arg5 harg5 arg6 harg6
      = body (F := F) arg3 arg4 arg5 arg6 harg6 packed (storable harg5) (BitVec.ofNat 32 (i 1).val) k0_pay1 (k0_pay2 i) := by
  rw [cc0_inproj_eq_skeleton]
  rfl

theorem defs₀_row (t : Fin (cfgM m).N) : defs₀ (F := F) .tc (cfgM m).body ((cfgM m).bodyArgs t ((cfgM m).slots t))
    = body (nD := nD) (τ := τ) (F := F) (Λ := Λ₀) (spec0_0.stage ((cfgM m).slots t 0)) (spec0_1.stage ((cfgM m).slots t 1)) (spec0_2.stage ((cfgM m).slots t 2))
        (Memref.whole cc0_scratch0) (Memref.isWhole_whole _) packed (storable (hstage0_2 (((cfgM m).slots t 2).cast nbuf0_2))) (rowOf m t) k0_pay1 (k0_pay2 (grid0.coords t)) := by
  unfold defs₀
  rw [Defs.onTc_tc]
  exact body_eq _ _ _ _ _ _ _ _ _ _ _

theorem scr_of_rest (c : Dev nD) : (Pipeline.scopedRest (Ix := Unit) (Name := ℕ) (U := UR sig nD τ) (Lvl := ℕ) (Val := Elt F) spec0 c : sProp 𝕄)
    = iprop(∃ s : Vec F (Mat 2048 1024) .bf16, owns (c : Thread nD τ) (Memref.whole cc0_scratch0) fullShare s) := by
  rw [scopedRest0_eq]
  simp only [owns_whole]
  rfl

/-! ### The proof data -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Weight tile `j`: 1024 rows of the transposed weights. -/
def wtile (c : Dev nD) (j : Fin 3) : Vec F (Slab 1024 2048) .f32 := fun x =>
  V m c main_v0 (ix3 (0 : Fin 2) ⟨(startWord j).toNat + (x 1).val, by have := startWord_in j; have h : (x 1).val < 1024 := (x 1).isLt; omega⟩ (x 2 : Fin 2048))

theorem coords_at : ∀ t : Fin grid0.N, (grid0.coords t 0).val = t.val / 8 ∧ (grid0.coords t 1).val = t.val % 8 := by decide +kernel

/-- The weight tile and the row block of point `t`. -/
abbrev tj (t : Fin (cfgM m).N) : Fin 3 := grid0.coords t 0
abbrev ti (t : Fin (cfgM m).N) : Fin 8 := grid0.coords t 1

theorem blk1 (c : Dev nD) (t : Fin (cfgM m).N) : iblk m c 1 t = wtile m c (tj m t) := by
  refine funext fun (x : (Slab 1024 2048).Idx) => ?_
  show V m c main_v0 ((((cfgM m).win 1).blk t).view.emb x) = V m c main_v0 _
  congr 1
  have e := index_at m Facts₀.k0_off1_inb Facts₀.numel1_S1 (grid0.coords t)
  have h0 : (x 0).val < 1 := (x 0).isLt
  funext a
  apply Fin.ext
  match a with
  | ⟨0, _⟩ => show cc0_transform_1 Facts₀.k0_off1_inb Facts₀.numel1_S1 (tbl m) (grid0.coords t) 0 + 1 * (x 0).val = 0; rw [e]; show 0 + 1 * (x 0).val = 0; omega
  | ⟨1, _⟩ => show cc0_transform_1 Facts₀.k0_off1_inb Facts₀.numel1_S1 (tbl m) (grid0.coords t) 1 + 1 * (x 1).val = _; rw [e]; show (startWord (tj m t)).toNat + 1 * (x 1).val = (startWord (tj m t)).toNat + (x 1).val; omega
  | ⟨2, _⟩ => show cc0_transform_1 Facts₀.k0_off1_inb Facts₀.numel1_S1 (tbl m) (grid0.coords t) 2 + 1 * (x 2).val = (x 2).val; rw [e]; show 0 + 1 * (x 2).val = (x 2).val; omega

/-- What is known of the scratch before point `t`: inside a weight tile it holds the tile, transposed. -/
def Known (c : Dev nD) (t : Fin ((cfgM m).N + 1)) (s : Vec F (Mat 2048 1024) .bf16) : Prop :=
  t.val % 8 ≠ 0 → ∀ j : Fin 3, j.val = t.val / 8 → s = k0_pay1 (wtile m c j)

/-- The block that point `t` stores. -/
def stored (c : Dev nD) (t : Fin (cfgM m).N) : Vec F (Mat 1024 1024) .bf16 := k0_pay2 (grid0.coords t) (iblk m c 0 t) (k0_pay1 (wtile m c (tj m t)))

theorem first_iff : ∀ i : Fin 8, first (BitVec.ofNat 32 i.val) ↔ i.val = 0 := by decide +kernel

/-- After a point the scratch holds its tile. -/
theorem scratch_at (c : Dev nD) (t : Fin (cfgM m).N) (s : Vec F (Mat 2048 1024) .bf16) (hs : Known m c t.castSucc s) :
    scratch (rowOf m t) k0_pay1 (iblk m c 1 t) s = k0_pay1 (wtile m c (tj m t)) := by
  unfold scratch
  have e := coords_at t
  rw [blk1]
  split
  · rfl
  · rename_i h
    refine hs (fun h0 => h ((first_iff (ti m t)).mpr (e.2.trans h0))) _ e.1

theorem known_next (c : Dev nD) (t : Fin (cfgM m).N) : Known m c t.succ (k0_pay1 (wtile m c (tj m t))) := by
  intro h j hj
  have e := coords_at t
  have h' : (t.val + 1) % 8 ≠ 0 := h
  have hj' : j.val = (t.val + 1) / 8 := hj
  obtain rfl : j = tj m t := Fin.ext (by rw [hj']; refine Eq.trans ?_ e.1.symm; omega)
  rfl

/-- The proof data: the scratch tracked, the results named. -/
def dat (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => stored m c t
    | ⟨_ + 3, h⟩ => absurd h (Nat.not_lt.2 (Nat.le_add_left _ _))
  Φ t := iprop((∃ s : Vec F (Mat 2048 1024) .bf16, ⌜Known m c t s⌝ ∗ owns (c : Thread nD τ) (Memref.whole cc0_scratch0) fullShare s) ∗ (∃ r, prngReg c r) ∗ Pipeline.ΦT pre0 (tbl m) c)
  q w := Pipeline.shareOf spec0 w
  owed _ := 0

theorem A_eq (c : Dev nD) (w) : (dat m 0 c).A w = V m c (Pipeline.arrRef spec0 w) := by dsimp only [dat]

theorem before_0 (c : Dev nD) (t : Fin (cfgM m).N) (d) : (dat m 0 c).before 0 t d = iblk m c 0 t :=
  ((dat m 0 c).before_in_eq_fetched 0 rfl (fun _ => rfl) (fun _ _ _ => rfl) (fun t => rfl) t d).trans rfl
theorem before_1 (c : Dev nD) (t : Fin (cfgM m).N) (d) : (dat m 0 c).before 1 t d = iblk m c 1 t :=
  ((dat m 0 c).before_in_eq_fetched 1 rfl (fun _ => rfl) (fun _ _ _ => rfl) (fun t => rfl) t d).trans rfl

/-- The body at point `t`, on a scratch of which `Known` holds. -/
theorem point (c : Dev nD) (t : Fin (cfgM m).N) (O : Vec F (Mat 1024 1024) .bf16) (s : Vec F (Mat 2048 1024) .bf16) (hs : Known m c t.castSucc s) :
    iprop(owns (c : Thread nD τ) (Memref.whole cc0_scratch0) fullShare s ∗ owns (c : Thread nD τ) (spec0_0.stage ((cfgM m).slots t 0)) fullShare (iblk m c 0 t)
        ∗ owns (c : Thread nD τ) (spec0_1.stage ((cfgM m).slots t 1)) fullShare (iblk m c 1 t) ∗ owns (c : Thread nD τ) (spec0_2.stage ((cfgM m).slots t 2)) fullShare O)
      ⊢ wp frame (wpE (defs₀ (F := F)) Variants.none c none) Set.univ (defs₀ (F := F) .tc (cfgM m).body ((cfgM m).bodyArgs t ((cfgM m).slots t))) fun _ =>
        (iprop(owns (c : Thread nD τ) (Memref.whole cc0_scratch0) fullShare (k0_pay1 (wtile m c (tj m t))) ∗ owns (c : Thread nD τ) (spec0_0.stage ((cfgM m).slots t 0)) fullShare (iblk m c 0 t)
        ∗ owns (c : Thread nD τ) (spec0_1.stage ((cfgM m).slots t 1)) fullShare (iblk m c 1 t) ∗ owns (c : Thread nD τ) (spec0_2.stage ((cfgM m).slots t 2)) fullShare (stored m c t)) : sProp 𝕄) := by
  rw [defs₀_row]
  have run := body_runs (Γ := PendingWaitsCtx.empty) (Ix := Unit) (Name := ℕ) (U := UR sig nD τ) (Lvl := ℕ) (defs := defs₀ (F := F)) Variants.none none Set.univ c
    (hstage0_0 (((cfgM m).slots t 0).cast nbuf0_0)) (hstage0_1 (((cfgM m).slots t 1).cast nbuf0_1)) (hstage0_2 (((cfgM m).slots t 2).cast nbuf0_2))
    (Memref.isWhole_whole cc0_scratch0) (hp := packed) (ho := storable (hstage0_2 (((cfgM m).slots t 2).cast nbuf0_2))) (rowOf m t) k0_pay1 (k0_pay2 (grid0.coords t)) (iblk m c 0 t) (iblk m c 1 t) O s
  rw [scratch_at m c t s hs] at run
  exact run

/-- The body's obligation. -/
theorem obligation (c : Dev nD) : BodyObligationLoose (dat m 0 c) (defs₀ (F := F)) Variants.none () Set.univ := fun t => by
  rw [bigSep_W0, bigSep_W0]
  show iprop(((∃ s : Vec F (Mat 2048 1024) .bf16, ⌜Known m c t.castSucc s⌝ ∗ owns (c : Thread nD τ) (Memref.whole cc0_scratch0) fullShare s) ∗ (∃ r, prngReg c r) ∗ Pipeline.ΦT pre0 (tbl m) c) ∗ (dat m 0 c).owesAt () t.castSucc
      ∗ (∃ d, owns (c : Thread nD τ) (spec0_0.stage ((cfgM m).slots t 0)) fullShare ((dat m 0 c).before 0 t d))
      ∗ (∃ d, owns (c : Thread nD τ) (spec0_1.stage ((cfgM m).slots t 1)) fullShare ((dat m 0 c).before 1 t d))
      ∗ (∃ d, owns (c : Thread nD τ) (spec0_2.stage ((cfgM m).slots t 2)) fullShare ((dat m 0 c).before 2 t d)))
    ⊢ wp frame (wpE (defs₀ (F := F)) Variants.none c none) Set.univ (defs₀ (F := F) .tc (cfgM m).body ((cfgM m).bodyArgs t ((cfgM m).slots t))) fun _ =>
      (iprop(((∃ s : Vec F (Mat 2048 1024) .bf16, ⌜Known m c t.succ s⌝ ∗ owns (c : Thread nD τ) (Memref.whole cc0_scratch0) fullShare s) ∗ (∃ r, prngReg c r) ∗ Pipeline.ΦT pre0 (tbl m) c) ∗ (dat m 0 c).owesAt () t.succ
      ∗ owns (c : Thread nD τ) (spec0_0.stage ((cfgM m).slots t 0)) fullShare (iblk m c 0 t)
      ∗ owns (c : Thread nD τ) (spec0_1.stage ((cfgM m).slots t 1)) fullShare (iblk m c 1 t)
      ∗ owns (c : Thread nD τ) (spec0_2.stage ((cfgM m).slots t 2)) fullShare (stored m c t)) : sProp 𝕄)
  rw [show (dat m 0 c).owesAt () t.succ = (dat m 0 c).owesAt () t.castSucc from rfl]
  simp only [before_0, before_1]
  iintro ⟨⟨⟨%s, %hs, HS⟩, HR⟩, Ho, ⟨%d0, H0⟩, ⟨%d1, H1⟩, ⟨%d2, H2⟩⟩
  have run := (sep_mono (P := iprop((dat m 0 c).owesAt () t.castSucc ∗ (∃ r, prngReg c r) ∗ Pipeline.ΦT pre0 (tbl m) c)) .rfl (point m c t ((dat m 0 c).before 2 t d2) s hs)).trans (wp_frame_l _ _ _)
  iapply (run.trans (wp_mono _ _ _ fun _ => ?_))
  · iintro ⟨⟨Ho, HR⟩, HS, H0, H1, H2⟩
    isplitl [HS HR]
    · isplitl [HS]
      · iexists _
        isplitr
        · ipureintro; exact known_next m c t
        · iexact HS
      iexact HR
    isplitl [Ho]; · iexact Ho
    isplitl [H0]; · iexact H0
    isplitl [H1]; · iexact H1
    iexact H2
  · isplitl [Ho HR]
    · isplitl [Ho]; · iexact Ho
      iexact HR
    isplitl [HS]; · iexact HS
    isplitl [H0]; · iexact H0
    isplitl [H1]; · iexact H1
    iexact H2

theorem phi_in (c : Dev nD) : iprop(Pipeline.ΦA (Val := Elt F) (U := UR sig nD τ) spec0 c ∗ Pipeline.ΦT pre0 (tbl m) c) ⊢ (dat m 0 c).Φ 0 := by
  show _ ⊢ iprop((∃ s : Vec F (Mat 2048 1024) .bf16, ⌜Known m c 0 s⌝ ∗ owns (c : Thread nD τ) (Memref.whole cc0_scratch0) fullShare s) ∗ (∃ r, prngReg c r) ∗ Pipeline.ΦT pre0 (tbl m) c)
  unfold Pipeline.ΦA
  rw [scr_of_rest]
  iintro ⟨⟨⟨%s, HS⟩, HR⟩, HT⟩
  isplitl [HS]
  · iexists s
    isplitr
    · ipureintro; exact fun h => absurd rfl h
    · iexact HS
  isplitl [HR]; · iexact HR
  iexact HT

theorem phi_out (c : Dev nD) (k) : (dat m 0 c).Φ k ⊢ Pipeline.ΦA (Val := Elt F) (U := UR sig nD τ) spec0 c := by
  show iprop((∃ s : Vec F (Mat 2048 1024) .bf16, ⌜Known m c k s⌝ ∗ owns (c : Thread nD τ) (Memref.whole cc0_scratch0) fullShare s) ∗ (∃ r, prngReg c r) ∗ Pipeline.ΦT pre0 (tbl m) c) ⊢ _
  unfold Pipeline.ΦA
  rw [scr_of_rest]
  iintro ⟨⟨%s, %hs, HS⟩, HR, HT⟩
  isplitl [HS]
  · iexists s
    iexact HS
  · iexact HR

set_option backward.isDefEq.respectTransparency.types false in
/-- The run. -/
theorem run_tracked : θ_run defs (onTc (τ := τ) (main (F := F))) ⟨m, fun _ => 0, ρ⟩
    (fun r => Pipeline.FramePost (Pipeline.pin pcfgs fun _ => adm m) (dat m) 0 (V m) r ∧ r.2.sem = fun _ => 0) :=
  Pipeline.θ_run_frameP_track_shared (Q' := _) pcfgs (fun _ => adm m) (dat m) (0 : Fin 1) launch0.to₀ defs₀ Variants.none m ρ main
    (hbody := fun c => obligation m c) (hq := fun _ _ _ => rfl) (howed := fun _ _ => rfl)
    (V := V m) (hmain := hmain m Variants.none) (hA := A_eq m) (hpf := V_pre m)
    (hin := fun c => phi_in m c) (hout := fun c => phi_out m c _)

/-- The result array after the run, the arguments as launched, every semaphore at zero. -/
theorem run_value : θ_run defs (onTc (τ := τ) (main (F := F))) ⟨m, fun _ => 0, ρ⟩
    (fun r => (∀ c : Dev nD, r.2.mem ((c.tc : Thread nD τ).loc main_v1) = (dat m 0 c).arrAt 2 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c).1 2,
    ((h.1 c).1 0).trans (((dat m 0 c).arrAt_in 0 rfl _).trans ((A_eq m c 0).trans (V_kept m c main_arg0 (by decide)))),
    ((h.1 c).2 main_arg1 (by decide : main_arg1 ∈ Pipeline.restRefs sig spec0)).trans (V_kept m c _ (by decide))⟩, h.2⟩) (run_tracked m ρ)

end Cert.Proof.InProj.Kernel5Ideal

end
-- ==== Proof.InProj.Qkv.lean ====
/- The queries, keys and values of the in-projection: the tiles cover the result, and it is the reference's. -/
module

public import proofs.«01_k».proof.Defs
public import proofs.«01_k».proof.Proof.InProj.Entry
public import proofs.«01_k».proof.Proof.InProj.LaunchKernel5
public import proofs.«01_k».proof.Proof.InProj.LaunchKernel5Ideal
public import proofs.«01_k».proof.Proof.Att.Same
public import proofs.«01_k».proof.Proof.Gen.Reference5Ideal.Read
public import proofs.«01_k».proof.Proof.Gen.Reference5Ideal.Run
public import proofs.«01_k».proof.Proof.Att.Claim

@[expose] public section

set_option maxRecDepth 16384

noncomputable section

namespace Cert.Proof.InProj.Kernel5Ideal

open Cert.Kernel5Ideal Cert.Kernel5Ideal.Gen
open Idealize.ShloMosaic Idealize.ShloMosaic.TcCoe Idealize.SL.Sem

variable (m : (ℓ : Loc nD τ sig) → Buf (Elt Ideal) ℓ) (ρ : Dev nD → PrngReg) (c : Dev nD) (t : Fin (cfgM m).N)

theorem at0 : ∀ t : Fin grid0.N, cc0_transform_0 (grid0.coords t) (0 : Fin 2) = (grid0.coords t 1).val ∧ cc0_transform_0 (grid0.coords t) (1 : Fin 2) = 0 := by decide +kernel
theorem at2 : ∀ t : Fin grid0.N, cc0_transform_2 (grid0.coords t) (0 : Fin 2) = (grid0.coords t 1).val ∧ cc0_transform_2 (grid0.coords t) (1 : Fin 2) = (grid0.coords t 0).val := by decide +kernel

/-- The scale of tile `j`: the first tile holds the queries. -/
def scaleOf (j : Fin 3) : EReal := if j.val = 0 then (((Real.sqrt 128 * Real.log 2)⁻¹ : ℝ) : EReal) else 1

theorem qscale_is : (Named.named κ "qscale" 0x3E0293EE#32 : Ideal .f32) = (((Real.sqrt 128 * Real.log 2)⁻¹ : ℝ) : EReal) := by
  simp only [Named.named, κ]; rfl

theorem one_is : Scalar.ofBits (F := Ideal) .f32 0x3F800000#32 = (1 : EReal) := by
  simp [Scalar.ofBits, FloatOps.ofBits, Ideal.ofBits, Ideal.ieee, -EReal.coe_mul]; norm_num

/-- The scale as the body chooses it. -/
theorem chosen (j : Fin 3) : Scalar.select (Scalar.cmpi .eq (BitVec.ofNat 32 j.val) 0#32) (Named.named κ "qscale" 0x3E0293EE#32 : Ideal .f32) (Scalar.ofBits .f32 0x3F800000#32 : Ideal .f32) = scaleOf j := by
  rw [qscale_is, one_is]
  match j with
  | ⟨0, _⟩ => rfl
  | ⟨1, _⟩ => rfl
  | ⟨2, _⟩ => rfl

/-- The stored block, entry by entry: the products are those of the gates' call. -/
theorem stored_entry (i : grid0.Coords) (H : Vec Ideal (Mat 1024 2048) .bf16) (W : Vec Ideal (Slab 1024 2048) .f32) (r c : Fin 1024) :
    k0_pay2 (F := Ideal) i H (k0_pay1 (F := Ideal) W) (ix2 r c) = (∑ k : Fin 2048, (H (ix2 r k) : EReal) * W (ix3 0 c k)) * scaleOf (i 0) := by
  refine Eq.trans ?_ (congrArg₂ (fun a b : EReal => a * b) (InProj.stored_entry H W r c) (chosen (i 0)))
  rfl

/-- The column of the weights behind column `q`. -/
def qkvCol (q : Fin 3072) : Fin 16392 := ⟨6144 + q.val, by omega⟩

open Cert.Reference5Ideal.Read in
/-- What the reference divides the queries by. -/
theorem unit_is (i) : val_main_v6 (F := Ideal) i = ((Real.sqrt 128 * Real.log 2 : ℝ) : EReal) := by
  show Ideal.sqrt (Ideal.ofBits FTy.f32 0x43000000#32) * Ideal.log (Ideal.ofBits FTy.f32 0x40000000#32) = _
  rw [Att.Ref.sqrt_128, Att.Ref.log_2, ← EReal.coe_mul]

open Cert.Reference5Ideal.Read in
/-- The reference, entry by entry. -/
theorem reference_entry (h : Vec Ideal (Mat 8192 2048) .bf16) (w : Vec Ideal ⟨3, ![2, 2048, 16392]⟩ .f32) (r : Fin 8192) (j : Fin 3) (q : Fin 1024) :
    val_main_v13 (F := Ideal) h w (ix2 r (⟨1024 * j.val + q.val, by omega⟩ : Fin 3072)) = entry h w r (qkvCol ⟨1024 * j.val + q.val, by omega⟩) * scaleOf j := by
  pointwise [val_main_v13, val_main_v12]
  unfold entry scaleOf
  split
  · rename_i hq
    rw [if_pos (by omega : j.val = 0), val_main_v8_apply, val_main_v7_apply, unit_is, val_main_v3_apply]
    refine (Att.div_real _ (mul_pos Att.Ref.sqrt_pos Att.Ref.log_pos)).trans ((mul_comm _ _).trans (congrArg (fun x : EReal => x * _) ?_))
    refine Finset.sum_congr rfl fun k _ => congrArg₂ (· * ·) ?_ ?_
    · pointwise [val_main_v0]
      exact congrArg h (funext fun a => match a with | 0 => rfl | 1 => rfl)
    · pointwise [val_main_v2, val_main_v1]
      rfl
  · rename_i hq
    rw [if_neg (by omega : ¬j.val = 0), mul_one, val_main_v11_apply]
    refine Finset.sum_congr rfl fun k _ => congrArg₂ (· * ·) ?_ ?_
    · pointwise [val_main_v0]
      exact congrArg h (funext fun a => match a with | 0 => rfl | 1 => rfl)
    · pointwise [val_main_v10, val_main_v9]
      exact congrArg (fun x => w (ix3 0 k x)) (Fin.ext (by show 7168 + (1024 * j.val + q.val - 1024) = 6144 + (1024 * j.val + q.val); omega))

/-- Row `r` of row block `i`, and column `q` of tile `j`. -/
def row (i : Fin 8) (r : Fin 1024) : Fin 8192 := ⟨1024 * i.val + r.val, by omega⟩
def col (j : Fin 3) (q : Fin 1024) : Fin 3072 := ⟨1024 * j.val + q.val, by omega⟩

theorem blk0 (r : Fin 1024) (k : Fin 2048) : iblk m c 0 t (ix2 r k) = m ((c : Thread nD τ).loc main_arg0) (ix2 (row (ti m t) r) k) := by
  obtain ⟨e0, e1⟩ := at0 t
  rw [← V_kept m c main_arg0 (by decide)]
  show V m c main_arg0 ((((cfgM m).win 0).blk t).view.emb (ix2 r k)) = _
  congr 1; funext a; apply Fin.ext
  match a with
  | ⟨0, _⟩ => show cc0_transform_0 (grid0.coords t) (0 : Fin 2) * 1024 + 1 * r.val = 1024 * (grid0.coords t 1).val + r.val; omega
  | ⟨1, _⟩ => show cc0_transform_0 (grid0.coords t) (1 : Fin 2) * 2048 + 1 * k.val = k.val; omega

theorem V_v0 : V m c main_v0 = transpose S2x16392x2048 [0, 2, 1] (m ((c : Thread nD τ).loc main_arg1)) Facts₀.transposes_S2x2048x16392_S2x16392x2048_0_2_1 := rfl

theorem turned (w : Vec Ideal S2x2048x16392 .f32) (l : Fin 2) (q : Fin 16392) (k : Fin 2048) :
    transpose S2x16392x2048 [0, 2, 1] w Facts₀.transposes_S2x2048x16392_S2x16392x2048_0_2_1 (ix3 l q k) = w (ix3 l k q) := by
  pointwise []

/-- A tile's columns are the columns of the queries, keys and values of the weights. -/
theorem start_at : ∀ j : Fin 3, (startWord j).toNat = 6144 + 1024 * j.val := by decide +kernel

theorem tile_at (j : Fin 3) (q : Fin 1024) (k : Fin 2048) : wtile m c j (ix3 0 q k) = m ((c : Thread nD τ).loc main_arg1) (ix3 0 k (qkvCol (col j q))) := by
  show V m c main_v0 (ix3 (0 : Fin 2) ⟨(startWord j).toNat + q.val, _⟩ k) = _
  rw [V_v0, turned]
  refine congrArg (fun x => m ((c : Thread nD τ).loc main_arg1) (ix3 0 k x)) (Fin.ext ?_)
  show (startWord j).toNat + q.val = 6144 + (1024 * j.val + q.val)
  rw [start_at]
  omega

/-- The result array: the reference's, of the same arguments. -/
def resArr : Vec Ideal S8192x3072 .bf16 :=
  Cert.Reference5Ideal.Read.val_main_v13 (F := Ideal) (m ((c : Thread nD τ).loc main_arg0)) (m ((c : Thread nD τ).loc main_arg1))

theorem emb2 (r q : Fin 1024) : (((cfgM m).win 2).blk t).view.emb (ix2 r q) = ix2 (row (ti m t) r) (col (tj m t) q) := by
  obtain ⟨e0, e1⟩ := at2 t
  funext a; apply Fin.ext
  match a with
  | ⟨0, _⟩ => show cc0_transform_2 (grid0.coords t) (0 : Fin 2) * 1024 + 1 * r.val = 1024 * (grid0.coords t 1).val + r.val; omega
  | ⟨1, _⟩ => show cc0_transform_2 (grid0.coords t) (1 : Fin 2) * 1024 + 1 * q.val = 1024 * (grid0.coords t 0).val + q.val; omega

theorem flush2 : ((cfgM m).win 2).flush t = true :=
  (by decide +kernel : ∀ t : Fin grid0.N, Pipeline.Window.flushOf grid0 true cc0_transform_2 t = true) t

theorem ix_eq {a b : Nat} (i : (Mat a b).Idx) : i = ix2 (i 0 : Fin a) (i 1 : Fin b) := by funext x; match x with | ⟨0, _⟩ => rfl | ⟨1, _⟩ => rfl

/-- An entry of what a point stores. -/
theorem stored_at (r q : Fin 1024) : stored m c t (ix2 r q) = resArr m c ((((cfgM m).win 2).blk t).view.emb (ix2 r q)) := by
  rw [emb2]
  refine (stored_entry (grid0.coords t) (iblk m c 0 t) (wtile m c (tj m t)) r q).trans (Eq.trans ?_ (reference_entry _ _ _ (tj m t) q).symm)
  exact congrArg (· * _) (Finset.sum_congr rfl fun k _ => congrArg₂ (· * ·) (blk0 m c t r k) (tile_at m c (tj m t) q k))

/-- What a point stores is its block of the result. -/
theorem flushed_eq : (dat m 0 c).flushed 2 t = (((cfgM m).win 2).blk t).view.read (Elt Ideal) (resArr m c) := by
  show stored m c t = _
  refine funext fun (i : (Mat 1024 1024).Idx) => ?_
  rw [ix_eq i]
  exact stored_at m c t (i 0) (i 1)

theorem covered (i : S8192x3072.Idx) : ∃ t : Fin (cfgM m).N, ((cfgM m).win 2).flush t = true ∧ i ∈ (((cfgM m).win 2).blk t).view.set := by
  have h0 : (i 0).val < 8192 := (i 0).isLt
  have h1 : (i 1).val < 3072 := (i 1).isLt
  let t : Fin (cfgM m).N := ⟨8 * ((i 1).val / 1024) + (i 0).val / 1024, by show _ < 24; omega⟩
  have e := coords_at t
  have ht : t.val = 8 * ((i 1).val / 1024) + (i 0).val / 1024 := rfl
  refine ⟨t, flush2 m t, ?_⟩
  have e' : (((cfgM m).win 2).blk t).view.emb (ix2 (⟨(i 0).val % 1024, by omega⟩ : Fin 1024) (⟨(i 1).val % 1024, by omega⟩ : Fin 1024)) = i := by
    refine (emb2 m t _ _).trans ?_
    funext a; apply Fin.ext
    match a with
    | ⟨0, _⟩ => show 1024 * (grid0.coords t 1).val + (i 0).val % 1024 = (i 0).val; omega
    | ⟨1, _⟩ => show 1024 * (grid0.coords t 0).val + (i 1).val % 1024 = (i 1).val; omega
  rw [← e']
  exact (((cfgM m).win 2).blk t).view.emb_mem_set _

theorem final : (dat m 0 c).arrAt 2 (cfgM m).N = resArr m c :=
  (dat m 0 c).arrAt_eq_of_cover 2 (resArr m c) (fun t _ => flushed_eq m c t) (covered m)

end Cert.Proof.InProj.Kernel5Ideal

namespace Cert.Proof.InProj

open Idealize.ShloMosaic Idealize.SL.Sem

instance qkvFactsKernel5 : Cert.Kernel5.Facts := Cert.Kernel5.Gen.facts
instance qkvFactsKernel5Ideal : Cert.Kernel5Ideal.Facts := Cert.Kernel5Ideal.Gen.facts
instance qkvFactsReference5Ideal : Cert.Reference5Ideal.Facts := Cert.Reference5Ideal.Gen.facts

theorem qkv_frame : Cert.quiescent_Kernel5 := fun m ρ _ =>
  (θ_run _ _ _).mono (fun r h => ⟨fun c => (h.1 c).2, h.2⟩) (Kernel5.run_value m ρ)

theorem qkv_ideal_frame : Cert.quiescent_Kernel5Ideal := fun m ρ _ =>
  (θ_run _ _ _).mono (fun r h => ⟨fun c => (h.1 c).2, h.2⟩) (Kernel5Ideal.run_value m ρ)

/-- The reference ends, its arguments unchanged; it has no semaphores. -/
theorem qkv_reference_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem qkv_preserves : Cert.preserves_Kernel5_Kernel5Ideal :=
  IdealRules.named_const.statement Cert.Kernel5Ideal.κ "qscale" .f32 _ _ rfl

theorem qkv_algebraic : Cert.algebraic_Kernel5Ideal_Reference5Ideal := by
  intro m g m' g' _ hm
  refine ⟨fun c => Kernel5Ideal.resArr m c, ?_, ?_⟩
  · exact (θ_run _ _ _).mono (fun r h c => ⟨(h.1 c).1.trans (Kernel5Ideal.final m c), (h.1 c).2⟩) (Kernel5Ideal.run_value m g)
  · refine (θ_run _ _ _).mono (fun r h c => ?_) (Cert.Reference5Ideal.Value.run (F := Ideal) m' g')
    obtain ⟨e0, e1⟩ := hm c
    refine ⟨(h c).1.trans ((Cert.Reference5Ideal.Read.val_main_v13_eq _ _).trans ?_), (h c).2⟩
    rw [e0, e1]
    rfl

end Cert.Proof.InProj

end
-- ==== Proof.Rows.Glu.lean ====
/- The gated linear unit of the second branch: each row block of its result, and the reference's run read the same way. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Quiescent

@[expose] public section

set_option maxRecDepth 16384

noncomputable section

namespace Cert.Proof.Glu

open Idealize.ShloMosaic Idealize.ShloMosaic.TcCoe Idealize.SL.Sem
open scoped BigOperators

/-- The logistic function. -/
def sig (z : EReal) : EReal := Ideal.div (Ideal.ofBits .f32 0x3F800000#32) (Ideal.ofBits .f32 0x3F800000#32 + Ideal.exp (-z))

/-- One element: half of the product gated by the other half, and by the branch's gate `z`. -/
def unit (a b z : EReal) : EReal := a * sig b * (z * sig z)

/-- The two halves of the product, and the gate's columns. -/
def left (k : Fin 1024) : Fin 2048 := ⟨k.val, by omega⟩
def right (k : Fin 1024) : Fin 2048 := ⟨1024 + k.val, by omega⟩
def gcol (k : Fin 1024) : Fin 6144 := ⟨5120 + k.val, by omega⟩

/-- The result at row `r`, column `j`. -/
def unitOf (y : Vec Ideal ⟨2, ![8192, 1024]⟩ .bf16) (w : Vec Ideal ⟨3, ![2, 1024, 2048]⟩ .bf16) (z : Vec Ideal ⟨2, ![8192, 6144]⟩ .f32) (r : Fin 8192) (j : Fin 1024) : EReal :=
  unit (∑ k : Fin 1024, (y (ix2 r k) : EReal) * w (ix3 0 k (left j))) (∑ k : Fin 1024, (y (ix2 r k) : EReal) * w (ix3 0 k (right j))) (z (ix2 r (gcol j)))

section
open Cert.Reference6Ideal Cert.Reference6Ideal.Read
/-- The reference's result. -/
theorem reference_entry (y : Vec Ideal ⟨2, ![8192, 1024]⟩ .bf16) (w : Vec Ideal ⟨3, ![2, 1024, 2048]⟩ .bf16) (z : Vec Ideal ⟨2, ![8192, 6144]⟩ .f32) (r : Fin 8192) (j : Fin 1024) :
    val_main_v17 (F := Ideal) y w z (ix2 r j) = unitOf y w z r j := by
  pointwise [val_main_v17, val_main_v16, val_main_v15, val_main_call0_v5, val_main_call0_v4, val_main_call0_cst_0, val_main_call0_v3, val_main_call0_v2,
    val_main_call0_cst, val_main_call0_v1, val_main_call0_v0, val_main_v14, val_main_v13, val_main_v12, val_main_v11, val_main_cst_0, val_main_v10, val_main_v9,
    val_main_cst, val_main_v8, val_main_v7, val_main_v6, val_main_v5, val_main_v4, val_main_v3, val_main_v2, val_main_v1, val_main_v0, unitOf, unit, sig, left, right, gcol]
end

open Cert.Kernel6Ideal Cert.Kernel6Ideal.Gen

/-- The stored block. -/
theorem pay_entry (y : Vec Ideal S1024x1024 .bf16) (w : Vec Ideal S1x1024x2048 .bf16) (z : Vec Ideal S1024x1024 .f32) (r j : Fin 1024) :
    k0_pay1 (F := Ideal) y w z (ix2 r j)
      = unit (∑ k : Fin 1024, (y (ix2 r k) : EReal) * w (ix3 0 k (left j))) (∑ k : Fin 1024, (y (ix2 r k) : EReal) * w (ix3 0 k (right j))) (z (ix2 r j)) := by
  pointwise [k0_pay1, unit, sig, left, right]
  simp only [zero_sub]

variable (m : (ℓ : Loc nD τ Cert.Kernel6Ideal.sig) → Buf (Elt Ideal) ℓ) (ρ : Dev nD → PrngReg) (c : Dev nD) (t : Fin cfg0.N)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 3) = 0 ∧ win0_1.index t (1 : Fin 3) = 0 ∧ win0_1.index t (2 : Fin 3) = 0 := (by decide +kernel : ∀ t : Fin grid0.N, _)
theorem at2 : ∀ t : Fin cfg0.N, win0_2.index t (0 : Fin 2) = t.val ∧ win0_2.index t (1 : Fin 2) = 5 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)

/-- Row `r` of row block `t`. -/
def row (t : Fin cfg0.N) (r : Fin 1024) : Fin 8192 := ⟨1024 * t.val + r.val, by have : t.val < 8 := t.isLt; omega⟩

theorem blk0 (r k : Fin 1024) : iblk m c 0 t (ix2 r k) = m ((c : Thread nD τ).loc main_arg0) (ix2 (row t r) k) := by
  obtain ⟨e0, e1⟩ := at0 t
  show m ((c : Thread nD τ).loc main_arg0) (((cfg0.win 0).blk t).view.emb (ix2 r k)) = _
  congr 1; funext a; apply Fin.ext
  match a with
  | ⟨0, _⟩ => show win0_0.index t (0 : Fin 2) * 1024 + 1 * r.val = 1024 * t.val + r.val; omega
  | ⟨1, _⟩ => show win0_0.index t (1 : Fin 2) * 1024 + 1 * k.val = k.val; omega

theorem blk1 (k : Fin 1024) (j : Fin 2048) : iblk m c 1 t (ix3 0 k j) = m ((c : Thread nD τ).loc main_arg1) (ix3 0 k j) := by
  obtain ⟨e0, e1, e2⟩ := at1 t
  show m ((c : Thread nD τ).loc main_arg1) (((cfg0.win 1).blk t).view.emb (ix3 0 k j)) = _
  congr 1; funext a; apply Fin.ext
  match a with
  | ⟨0, _⟩ => show win0_1.index t (0 : Fin 3) * 1 + 1 * 0 = 0; omega
  | ⟨1, _⟩ => show win0_1.index t (1 : Fin 3) * 1024 + 1 * k.val = k.val; omega
  | ⟨2, _⟩ => show win0_1.index t (2 : Fin 3) * 2048 + 1 * j.val = j.val; omega

theorem blk2 (r k : Fin 1024) : iblk m c 2 t (ix2 r k) = m ((c : Thread nD τ).loc main_arg2) (ix2 (row t r) (gcol k)) := by
  obtain ⟨e0, e1⟩ := at2 t
  show m ((c : Thread nD τ).loc main_arg2) (((cfg0.win 2).blk t).view.emb (ix2 r k)) = _
  congr 1; funext a; apply Fin.ext
  match a with
  | ⟨0, _⟩ => show win0_2.index t (0 : Fin 2) * 1024 + 1 * r.val = 1024 * t.val + r.val; omega
  | ⟨1, _⟩ => show win0_2.index t (1 : Fin 2) * 1024 + 1 * k.val = 5120 + k.val; omega

theorem emb3 (r k : Fin 1024) : ((cfg0.win 3).blk t).view.emb (ix2 r k) = ix2 (row t r) k := by
  obtain ⟨e0, e1⟩ := at3 t
  funext a; apply Fin.ext
  match a with
  | ⟨0, _⟩ => show win0_3.index t (0 : Fin 2) * 1024 + 1 * r.val = 1024 * t.val + r.val; omega
  | ⟨1, _⟩ => show win0_3.index t (1 : Fin 2) * 1024 + 1 * k.val = k.val; omega

theorem hz2 : (![0, 0] : Fin 2 → Nat) = fun _ => 0 := funext fun a => by fin_cases a <;> rfl
theorem hz3 : (![0, 0, 0] : Fin 3 → Nat) = fun _ => 0 := funext fun a => by fin_cases a <;> rfl

theorem out_eq (x0 : Vec Ideal S1024x1024 .bf16) (x1 : Vec Ideal S1x1024x2048 .bf16) (x2 : Vec Ideal S1024x1024 .f32) : out0_3 (F := Ideal) x0 x1 x2 = k0_pay1 x0 x1 x2 := by
  unfold out0_3
  refine (View.canon_unit_zero hz2 _ _).trans ?_
  simp only [View.ld_unit_zero (S := S1024x1024) hz2, View.ld_unit_zero (S := S1x1024x2048) hz3]

/-- The result array. -/
def resArr : Vec Ideal ⟨2, ![8192, 1024]⟩ .bf16 := fun i =>
  unitOf (m ((c : Thread nD τ).loc main_arg0)) (m ((c : Thread nD τ).loc main_arg1)) (m ((c : Thread nD τ).loc main_arg2)) (i 0) (i 1)

theorem stored_at (r j : Fin 1024) : k0_pay1 (F := Ideal) (iblk m c 0 t) (iblk m c 1 t) (iblk m c 2 t) (ix2 r j) = resArr m c (ix2 (row t r) j) := by
  refine (pay_entry _ _ _ r j).trans ?_
  show _ = unitOf _ _ _ (row t r) j
  unfold unitOf
  simp only [blk0, blk1, blk2]

theorem flushed_eq : (dats m 0 c).flushed 3 t = ((cfg0.win 3).blk t).view.read (Elt Ideal) (resArr m c) := by
  rw [Value.flushed3, out_eq]
  refine funext fun (i : S1024x1024.Idx) => ?_
  obtain ⟨r, k, rfl⟩ : ∃ (r k : Fin 1024), i = ix2 r k := ⟨i 0, i 1, by funext a; match a with | ⟨0, _⟩ => rfl | ⟨1, _⟩ => rfl⟩
  show k0_pay1 (F := Ideal) _ _ _ (ix2 r k) = resArr m c (((cfg0.win 3).blk t).view.emb (ix2 r k))
  rw [emb3]
  exact stored_at m c t r k

theorem covered (i : S8192x1024.Idx) : ∃ t : Fin cfg0.N, (cfg0.win 3).flush t = true ∧ i ∈ ((cfg0.win 3).blk t).view.set := by
  have h0 : (i 0).val < 8192 := (i 0).isLt
  let t : Fin cfg0.N := ⟨(i 0).val / 1024, by show _ < 8; omega⟩
  refine ⟨t, flush0_3 t, ?_⟩
  have e : ((cfg0.win 3).blk t).view.emb (ix2 (⟨(i 0).val % 1024, by omega⟩ : Fin 1024) (i 1 : Fin 1024)) = i := by
    refine (emb3 t _ _).trans ?_
    funext a; apply Fin.ext
    match a with
    | ⟨0, _⟩ => show 1024 * ((i 0).val / 1024) + (i 0).val % 1024 = (i 0).val; omega
    | ⟨1, _⟩ => rfl
  rw [← e]
  exact ((cfg0.win 3).blk t).view.emb_mem_set _

theorem final : (dats m 0 c).arrAt 3 cfg0.N = resArr m c :=
  (dats m 0 c).arrAt_eq_of_cover 3 (resArr m c) (fun t _ => flushed_eq m c t) covered

instance kernelFacts : Cert.Kernel6Ideal.Facts := Cert.Kernel6Ideal.Gen.facts
instance referenceFacts : Cert.Reference6Ideal.Facts := Cert.Reference6Ideal.Gen.facts

/-- The reference ends, its arguments unchanged; it has no semaphores. -/
theorem reference_frame : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem algebraic : Cert.algebraic_Kernel6Ideal_Reference6Ideal := by
  intro m g m' g' _ hm
  refine ⟨fun c => resArr m c, ?_, ?_⟩
  · refine (θ_run _ _ _).mono (fun r h c => ?_) (Cert.Kernel6Ideal.Value.run_blocks m g)
    exact ⟨(h c).1.trans (final m c), (h c).2⟩
  · refine (θ_run _ _ _).mono (fun r h c => ?_) (Cert.Reference6Ideal.Value.run (F := Ideal) m' g')
    obtain ⟨e0, e1, e2⟩ := hm c
    refine ⟨(h c).1.trans ((Cert.Reference6Ideal.Read.val_main_v17_eq _ _ _).trans ?_), (h c).2⟩
    rw [e0, e1, e2]
    refine funext fun (i : S8192x1024.Idx) => ?_
    obtain ⟨r, k, rfl⟩ : ∃ (r : Fin 8192) (k : Fin 1024), i = ix2 r k := ⟨i 0, i 1, by funext a; match a with | ⟨0, _⟩ => rfl | ⟨1, _⟩ => rfl⟩
    exact reference_entry _ _ _ r k

end Cert.Proof.Glu

end
-- ==== Proof.Rows.Norm.lean ====
/- The first norm: each row block of its result, and the reference's run read the same way. -/
module

public import proofs.«01_k».proof.Defs
public import proofs.«01_k».proof.Proof.Merge.Rows
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Quiescent

@[expose] public section

set_option maxRecDepth 16384

noncomputable section

namespace Cert.Proof.Norm

open Idealize.ShloMosaic Idealize.ShloMosaic.TcCoe Idealize.SL.Sem
open Cert.Proof.Merge (normedAt)
open scoped BigOperators

section
open Cert.Reference7Ideal Cert.Reference7Ideal.Read
/-- The reference's result. -/
theorem reference_entry (x : Vec Ideal ⟨2, ![8192, 2048]⟩ .f32) (g : Vec Ideal ⟨1, ![2048]⟩ .f32) (r : Fin 8192) (j : Fin 2048) :
    val_main_v13 (F := Ideal) x g (ix2 r j) = normedAt (fun k => x (ix2 r k)) (x (ix2 r j)) (g (ix1 j)) := by
  pointwise [val_main_v13, val_main_v12, val_main_v11, val_main_v10, val_main_v9, val_main_v8, val_main_v7, val_main_v6, val_main_v5, val_main_cst_1,
    val_main_v4, val_main_v3, val_main_cst_0, val_main_v2, val_main_v1, val_main_cst, val_main_v0, normedAt]
end

open Cert.Kernel7Ideal Cert.Kernel7Ideal.Gen

/-- The stored block. -/
theorem pay_entry (x : Vec Ideal S1024x2048 .f32) (g : Vec Ideal S1x2048 .f32) (r : Fin 1024) (j : Fin 2048) :
    k0_pay1 (F := Ideal) x g (ix2 r j) = normedAt (fun k => x (ix2 r k)) (x (ix2 r j)) (g (ix2 0 j)) := by
  pointwise [k0_pay1, normedAt]

variable (m : (ℓ : Loc nD τ Cert.Kernel7Ideal.sig) → Buf (Elt Ideal) ℓ) (ρ : Dev nD → PrngReg) (c : Dev nD) (t : Fin cfg0.N)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)

/-- Row `r` of row block `t`. -/
def row (t : Fin cfg0.N) (r : Fin 1024) : Fin 8192 := ⟨1024 * t.val + r.val, by have : t.val < 8 := t.isLt; omega⟩

theorem blk0 (r : Fin 1024) (k : Fin 2048) : iblk m c 0 t (ix2 r k) = m ((c : Thread nD τ).loc main_arg0) (ix2 (row t r) k) := by
  obtain ⟨e0, e1⟩ := at0 t
  rw [← V_main_arg0 m c]
  show V m c main_arg0 (((cfg0.win 0).blk t).view.emb (ix2 r k)) = _
  congr 1; funext a; apply Fin.ext
  match a with
  | ⟨0, _⟩ => show win0_0.index t (0 : Fin 2) * 1024 + 1 * r.val = 1024 * t.val + r.val; omega
  | ⟨1, _⟩ => show win0_0.index t (1 : Fin 2) * 2048 + 1 * k.val = k.val; omega

/-- The host lays the gain out as one row before the call. -/
theorem V_v0 : V m c main_v0 = shapeCast S1x2048 (m ((c : Thread nD τ).loc main_arg1)) Facts₀.shapeCasts_S2048_S1x2048 := rfl

theorem gain_row (y : Vec Ideal S2048 .f32) (k : Fin 2048) : shapeCast S1x2048 y Facts₀.shapeCasts_S2048_S1x2048 (ix2 0 k) = y (ix1 k) := by
  pointwise []

theorem blk1 (k : Fin 2048) : iblk m c 1 t (ix2 0 k) = m ((c : Thread nD τ).loc main_arg1) (ix1 k) := by
  obtain ⟨e0, e1⟩ := at1 t
  refine Eq.trans ?_ ((congrFun (V_v0 m c) (ix2 0 k)).trans (gain_row _ k))
  show V m c main_v0 (((cfg0.win 1).blk t).view.emb (ix2 0 k)) = V m c main_v0 (ix2 0 k)
  congr 1; funext a; apply Fin.ext
  match a with
  | ⟨0, _⟩ => show win0_1.index t (0 : Fin 2) * 1 + 1 * 0 = 0; omega
  | ⟨1, _⟩ => show win0_1.index t (1 : Fin 2) * 2048 + 1 * k.val = k.val; omega

theorem emb2 (r : Fin 1024) (k : Fin 2048) : ((cfg0.win 2).blk t).view.emb (ix2 r k) = ix2 (row t r) k := by
  obtain ⟨e0, e1⟩ := at2 t
  funext a; apply Fin.ext
  match a with
  | ⟨0, _⟩ => show win0_2.index t (0 : Fin 2) * 1024 + 1 * r.val = 1024 * t.val + r.val; omega
  | ⟨1, _⟩ => show win0_2.index t (1 : Fin 2) * 2048 + 1 * k.val = k.val; omega

theorem hz2 : (![0, 0] : Fin 2 → Nat) = fun _ => 0 := funext fun a => by fin_cases a <;> rfl

theorem out_eq (x0 : Vec Ideal S1024x2048 .f32) (x1 : Vec Ideal S1x2048 .f32) : out0_2 (F := Ideal) x0 x1 = k0_pay1 x0 x1 := by
  unfold out0_2
  refine (View.canon_unit_zero hz2 _ _).trans ?_
  simp only [View.ld_unit_zero (S := S1024x2048) hz2, View.ld_unit_zero (S := S1x2048) hz2]

/-- The result array. -/
def resArr : Vec Ideal ⟨2, ![8192, 2048]⟩ .bf16 := fun i =>
  normedAt (fun k => m ((c : Thread nD τ).loc main_arg0) (ix2 (i 0) k)) (m ((c : Thread nD τ).loc main_arg0) (ix2 (i 0 : Fin 8192) (i 1 : Fin 2048))) (m ((c : Thread nD τ).loc main_arg1) (ix1 (i 1)))

theorem stored_at (r : Fin 1024) (j : Fin 2048) : k0_pay1 (F := Ideal) (iblk m c 0 t) (iblk m c 1 t) (ix2 r j) = resArr m c (ix2 (row t r) j) := by
  refine (pay_entry _ _ r j).trans ?_
  simp only [blk0, blk1]
  rfl

theorem flushed_eq : (dats m 0 c).flushed 2 t = ((cfg0.win 2).blk t).view.read (Elt Ideal) (resArr m c) := by
  rw [Value.flushed2, out_eq]
  refine funext fun (i : S1024x2048.Idx) => ?_
  obtain ⟨r, k, rfl⟩ : ∃ (r : Fin 1024) (k : Fin 2048), i = ix2 r k := ⟨i 0, i 1, by funext a; match a with | ⟨0, _⟩ => rfl | ⟨1, _⟩ => rfl⟩
  show k0_pay1 (F := Ideal) _ _ (ix2 r k) = resArr m c (((cfg0.win 2).blk t).view.emb (ix2 r k))
  rw [emb2]
  exact stored_at m c t r k

theorem covered (i : S8192x2048.Idx) : ∃ t : Fin cfg0.N, (cfg0.win 2).flush t = true ∧ i ∈ ((cfg0.win 2).blk t).view.set := by
  have h0 : (i 0).val < 8192 := (i 0).isLt
  let t : Fin cfg0.N := ⟨(i 0).val / 1024, by show _ < 8; omega⟩
  refine ⟨t, flush0_2 t, ?_⟩
  have e : ((cfg0.win 2).blk t).view.emb (ix2 (⟨(i 0).val % 1024, by omega⟩ : Fin 1024) (i 1 : Fin 2048)) = i := by
    refine (emb2 t _ _).trans ?_
    funext a; apply Fin.ext
    match a with
    | ⟨0, _⟩ => show 1024 * ((i 0).val / 1024) + (i 0).val % 1024 = (i 0).val; omega
    | ⟨1, _⟩ => rfl
  rw [← e]
  exact ((cfg0.win 2).blk t).view.emb_mem_set _

theorem final : (dats m 0 c).arrAt 2 cfg0.N = resArr m c :=
  (dats m 0 c).arrAt_eq_of_cover 2 (resArr m c) (fun t _ => flushed_eq m c t) covered

instance kernelFacts : Cert.Kernel7Ideal.Facts := Cert.Kernel7Ideal.Gen.facts
instance referenceFacts : Cert.Reference7Ideal.Facts := Cert.Reference7Ideal.Gen.facts

/-- The reference ends, its arguments unchanged; it has no semaphores. -/
theorem reference_frame : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem algebraic : Cert.algebraic_Kernel7Ideal_Reference7Ideal := by
  intro m g m' g' _ hm
  refine ⟨fun c => resArr m c, ?_, ?_⟩
  · refine (θ_run _ _ _).mono (fun r h c => ?_) (Cert.Kernel7Ideal.Value.run_blocks m g)
    exact ⟨(h c).1.trans (final m c), (h c).2⟩
  · refine (θ_run _ _ _).mono (fun r h c => ?_) (Cert.Reference7Ideal.Value.run (F := Ideal) m' g')
    obtain ⟨e0, e1⟩ := hm c
    refine ⟨(h c).1.trans ((Cert.Reference7Ideal.Read.val_main_v13_eq _ _).trans ?_), (h c).2⟩
    rw [e0, e1]
    refine funext fun (i : S8192x2048.Idx) => ?_
    obtain ⟨r, k, rfl⟩ : ∃ (r : Fin 8192) (k : Fin 2048), i = ix2 r k := ⟨i 0, i 1, by funext a; match a with | ⟨0, _⟩ => rfl | ⟨1, _⟩ => rfl⟩
    exact reference_entry _ _ r k

end Cert.Proof.Norm

end
-- ==== Proof.Cumlog.Sums.lean ====
/- The logarithm of the logistic function over the extended reals, its three parts, and running sums. -/
module

public import Idealize.ShloMosaic.PureOps.Ideal.Laws
public import Idealize.ShloMosaic.Lib.ValueIdx

@[expose] public section

noncomputable section

namespace Cert.Proof.Cumlog

open Idealize.ShloMosaic
open scoped BigOperators

/-- The correction: the logarithm of one plus the exponential of minus the absolute value. -/
def corr (z : EReal) : EReal := Ideal.log1p (Ideal.exp (-(max z (-z))))

/-- The logarithm of the logistic function. -/
def logsig (z : EReal) : EReal := min z 0 - corr z

theorem log1p_real (a : ℝ) (h : 0 ≤ a) : ∃ l : ℝ, Ideal.log1p (a : EReal) = l := by
  refine ⟨Real.log (1 + a), ?_⟩
  show Ideal.log (((1 : ℝ) : EReal) + (a : EReal)) = _
  rw [← EReal.coe_add]
  show (if 1 + a ≤ 0 then (⊥ : EReal) else (Real.log (1 + a) : EReal)) = _
  rw [if_neg (by linarith)]

/-- The correction is a real number, whatever its argument. -/
theorem corr_real (z : EReal) : ∃ l : ℝ, corr z = l := by
  unfold corr
  induction z using EReal.rec with
  | bot => exact log1p_real 0 le_rfl
  | top => exact log1p_real 0 le_rfl
  | coe r =>
    have e : Ideal.exp (-(max (r : EReal) (-(r : EReal)))) = (Real.exp (-(max r (-r))) : EReal) := by
      rw [← EReal.coe_neg, ← EReal.coe_strictMono.monotone.map_max, ← EReal.coe_neg]
      rfl
    rw [e]
    exact log1p_real _ (Real.exp_pos _).le

theorem corr_neg (z : EReal) : corr (-z) = corr z := by
  unfold corr
  rw [neg_neg, max_comm]

/-- The reference's way: minus the softplus of minus the argument. -/
theorem logsig_eq (z : EReal) : -(max (-z) 0 + corr (-z)) = logsig z := by
  rw [corr_neg]
  unfold logsig
  obtain ⟨l, hl⟩ := corr_real z
  rw [hl, EReal.neg_add (.inr (EReal.coe_ne_top l)) (.inr (EReal.coe_ne_bot l))]
  congr 1
  rcases le_total z 0 with h | h
  · rw [max_eq_left (by simpa using EReal.neg_le_neg_iff.mpr h), min_eq_left h, neg_neg]
  · rw [max_eq_right (by simpa using EReal.neg_le_neg_iff.mpr h), min_eq_right h, neg_zero]

theorem logsig_ne_top (z : EReal) : logsig z ≠ ⊤ := by
  unfold logsig
  obtain ⟨l, hl⟩ := corr_real z
  rw [hl]
  intro h
  have h1 : min z 0 - (l : EReal) ≤ 0 - (l : EReal) := EReal.sub_le_sub (min_le_right _ _) le_rfl
  rw [h, zero_sub, ← EReal.coe_neg] at h1
  exact EReal.coe_ne_top (-l) (top_le_iff.mp h1)

/-- The middle part and the low part of a number taken apart exactly. -/
def mid (x : EReal) : EReal := x - x
def low (x : EReal) : EReal := (x - x) - (x - x)

/-- Anything below plus infinity is the sum of its three parts. -/
theorem parts (x : EReal) (h : x ≠ ⊤) : x + mid x + low x = x := by
  unfold mid low
  induction x using EReal.rec with
  | bot => rfl
  | top => exact absurd rfl h
  | coe r => rw [← EReal.coe_sub, ← EReal.coe_sub, ← EReal.coe_add, ← EReal.coe_add]; congr 1; ring

/-- One or zero: whether key `k` is not after `j`. -/
def upto (k j : Nat) : EReal := if k ≤ j then 1 else 0

/-- The three products with the triangle add up to the product of the number taken apart. -/
theorem three_sums {n : Nat} (x : Fin n → EReal) (hx : ∀ k, x k ≠ ⊤) (j : Nat) :
    (∑ k : Fin n, x k * upto k.val j) + (∑ k : Fin n, mid (x k) * upto k.val j) + (∑ k : Fin n, low (x k) * upto k.val j)
      = ∑ k : Fin n, if k.val ≤ j then x k else 0 := by
  rw [← Finset.sum_add_distrib, ← Finset.sum_add_distrib]
  refine Finset.sum_congr rfl fun k _ => ?_
  unfold upto
  split
  · simp only [mul_one]; exact parts _ (hx k)
  · simp only [mul_zero, add_zero]

/-- The sum of the first `n` of a sequence. -/
def run (g : Nat → EReal) (n : Nat) : EReal := ∑ s ∈ Finset.range n, g s

theorem masked_run (g : Nat → EReal) (n j : Nat) (hj : j < n) : (∑ k : Fin n, if k.val ≤ j then g k.val else 0) = run g (j + 1) := by
  rw [Fin.sum_univ_eq_sum_range (fun k => if k ≤ j then g k else 0) n]
  obtain ⟨d, rfl⟩ : ∃ d, n = (j + 1) + d := ⟨n - (j + 1), by omega⟩
  rw [Finset.sum_range_add]
  have e : (∑ x ∈ Finset.range d, if j + 1 + x ≤ j then g (j + 1 + x) else 0) = 0 :=
    Finset.sum_eq_zero fun x _ => if_neg (by omega)
  rw [e, add_zero]
  exact Finset.sum_congr rfl fun x hx => if_pos (by have := Finset.mem_range.mp hx; omega)

/-- A run is continued by the next block's run. -/
theorem run_add (g : Nat → EReal) (a b : Nat) : run (fun s => g (a + s)) b + run g a = run g (a + b) := by
  unfold run
  rw [Finset.sum_range_add, add_comm]

/-- A window that ends at `t` sums the sequence up to `t`. -/
theorem window_run (g : Nat → EReal) (n t : Nat) (ht : t < n) :
    (∑ k : Fin n, if n - 1 ≤ t + k.val then g (t + k.val - (n - 1)) else 0) = run g (t + 1) := by
  rw [Fin.sum_univ_eq_sum_range (fun k => if n - 1 ≤ t + k then g (t + k - (n - 1)) else 0) n]
  have en : n = (n - 1 - t) + (t + 1) := by omega
  conv_lhs => rw [en]
  rw [Finset.sum_range_add]
  have e : ∀ m : Nat, m = n → (∑ x ∈ Finset.range (n - 1 - t), if m - 1 ≤ t + x then g (t + x - (m - 1)) else 0) = 0 := fun m hm =>
    Finset.sum_eq_zero fun x hx => if_neg (by have := Finset.mem_range.mp hx; omega)
  rw [e _ en.symm, zero_add]
  refine Finset.sum_congr rfl fun x hx => ?_
  rw [← en, if_pos (by omega)]
  congr 1; omega

end Cert.Proof.Cumlog

end
-- ==== Proof.Cumlog.Reference.lean ====
/- The reference of the cumulated forget gates: each entry is a running sum of the logarithms of the gates. -/
module

public import proofs.«01_k».proof.Defs
public import proofs.«01_k».proof.Proof.Cumlog.Sums
public import proofs.«01_k».proof.Proof.Gen.Reference8Ideal.Run
public import proofs.«01_k».proof.Proof.Gen.Reference8Ideal.Read
public import Idealize.ShloMosaic.Lib.Pointwise

@[expose] public section

set_option maxRecDepth 16384

noncomputable section

namespace Cert.Proof.Cumlog

open Idealize.ShloMosaic
open scoped BigOperators

/-- A left fold that adds is the sum added to its start. -/
theorem foldl_sum {n : Nat} (f : Fin n → EReal) (v : EReal) : (List.finRange n).foldl (fun r k => r + f k) v = v + ∑ k : Fin n, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, ← List.ofFn_eq_map, List.sum_ofFn]

/-- The gate of head `p` at row `r`: one entry of the product, and the bias. -/
def gate (h : Vec Ideal ⟨2, ![8192, 2048]⟩ .bf16) (w : Vec Ideal ⟨3, ![2, 2048, 16392]⟩ .f32) (b : Vec Ideal ⟨1, ![8]⟩ .f32) (p : Fin 8) (r : Fin 8192) : EReal :=
  (∑ k : Fin 2048, (h (ix2 r k) : EReal) * w (ix3 0 k ⟨9216 + p.val, by omega⟩)) + b (ix1 p)

/-- The logarithms of head `p`'s gates, as a sequence. -/
def seq (h : Vec Ideal ⟨2, ![8192, 2048]⟩ .bf16) (w : Vec Ideal ⟨3, ![2, 2048, 16392]⟩ .f32) (b : Vec Ideal ⟨1, ![8]⟩ .f32) (p : Fin 8) (s : Nat) : EReal :=
  if hs : s < 8192 then logsig (gate h w b p ⟨s, hs⟩) else 0

/-- The positions of a column of `n`. -/
def column (n : Nat) : Fin n ≃ (⟨2, ![n, 1]⟩ : Shape).Idx where
  toFun k := ix2 k 0
  invFun i := i 0
  left_inv _ := rfl
  right_inv i := by
    funext a
    match a with
    | ⟨0, _⟩ => rfl
    | ⟨1, _⟩ => exact Subsingleton.elim (α := Fin 1) _ _

open Cert.Reference8Ideal Cert.Reference8Ideal.Gen Cert.Reference8Ideal.Read

variable (h : Vec Ideal ⟨2, ![8192, 2048]⟩ .bf16) (w : Vec Ideal ⟨3, ![2, 2048, 16392]⟩ .f32) (b : Vec Ideal ⟨1, ![8]⟩ .f32)

theorem gate_entry (r : Fin 8192) (p : Fin 8) : val_main_v6 (F := Ideal) h w b (ix2 r p) = gate h w b p r := by
  pointwise [val_main_v6, val_main_v5, val_main_v4, val_main_v3, val_main_v2, val_main_v1, val_main_v0, gate]

theorem log_entry (r : Fin 8192) (p : Fin 8) : val_main_v7 (F := Ideal) h w b (ix2 r p) = logsig (gate h w b p r) := by
  rw [← logsig_eq, ← gate_entry]
  pointwise [val_main_v7, val_main_call0_v1, val_main_call0_call0_v11, val_main_call0_call0_v10, val_main_call0_call0_v9, val_main_call0_call0_v8,
    val_main_call0_call0_v7, val_main_call0_call0_v6, val_main_call0_call0_v5, val_main_call0_call0_v4, val_main_call0_call0_v3, val_main_call0_call0_v2,
    val_main_call0_call0_v1, val_main_call0_call0_v0, val_main_call0_call0_cst, val_main_call0_v0, corr]
  rw [if_neg (fun hne => hne rfl)]
  rfl

/-- The windowed sum at row `r`. -/
theorem window_entry (x : Vec Ideal ⟨2, ![8192, 8]⟩ .f32) (v : EReal) (hv : v = 0) (g : Nat → EReal) (p : Fin 8) (hg : ∀ s (hs : s < 8192), x (ix2 ⟨s, hs⟩ p) = g s) (r : Fin 8192) (hw) :
    Ideal.hostReduceWindowAdd (s := ⟨2, ![8192, 8]⟩) (t := ⟨2, ![8192, 8]⟩) ![8192, 1] ![1, 1] ![8191, 0] ![0, 0] hw x v (ix2 r p) = run g (r.val + 1) := by
  unfold Ideal.hostReduceWindowAdd Host.reduceWindow
  dsimp only
  rw [foldl_sum, hv, zero_add, ← (Shape.rowMajor (⟨2, ![8192, 1]⟩ : Shape)).sum_comp, ← (column 8192).sum_comp, ← window_run g 8192 r.val r.isLt]
  refine Finset.sum_congr rfl fun k _ => ?_
  simp only [Equiv.symm_apply_apply]
  by_cases hk : 8192 - 1 ≤ r.val + k.val
  · rw [if_pos hk, dif_pos, ← hg (r.val + k.val - (8192 - 1)) (by omega)]
    · congr 1
      funext a
      apply Fin.ext
      match a with
      | ⟨0, _⟩ => show r.val * 1 + k.val - 8191 = r.val + k.val - (8192 - 1); omega
      | ⟨1, _⟩ => show p.val * 1 + 0 - 0 = p.val; omega
    · intro a
      match a with
      | ⟨0, _⟩ => show 8191 ≤ r.val * 1 + k.val ∧ r.val * 1 + k.val - 8191 < 8192; omega
      | ⟨1, _⟩ => show 0 ≤ p.val * 1 + 0 ∧ p.val * 1 + 0 - 0 < 8; omega
  · rw [if_neg hk, dif_neg]
    intro hin
    have : 8191 ≤ r.val * 1 + k.val := (hin 0).1
    omega

/-- The reference's result. -/
theorem reference_entry (p : Fin 8) (r : Fin 8192) : val_main_v9 (F := Ideal) h w b (ix2 p r) = run (seq h w b p) (r.val + 1) := by
  rw [val_main_v9_apply]
  have e : idx_main_v9 (ix2 p r) = ix2 r p := by funext a; match a with | ⟨0, _⟩ => rfl | ⟨1, _⟩ => rfl
  rw [e]
  unfold val_main_v8 Host.reduceWindowAdd
  rw [Ideal.hostReduceWindowAdd_def]
  refine window_entry _ _ ?_ _ p (fun s hs => ?_) r _
  · pointwise [val_main_call1_call0_v0, val_main_call1_call0_cst]
  · rw [log_entry]; unfold seq; rw [dif_pos hs]

end Cert.Proof.Cumlog

end
-- ==== Proof.Cumlog.Cases.lean ====
/- What one grid point of the cumulated forget gates leaves in its block and in the carried scratch, in both cases of its body. -/
module

public import proofs.«01_k».proof.Defs
public import proofs.«01_k».proof.Proof.Gen.Kernel8Ideal.Value
public import Idealize.ShloMosaic.Lib.Pointwise

@[expose] public section

set_option maxRecDepth 16384

noncomputable section

namespace Cert.Proof.Cumlog

open Idealize.ShloMosaic Idealize.ShloMosaic.TcCoe Idealize.SL.Sem
open Cert.Kernel8Ideal Cert.Kernel8Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The first column of a scratch. -/
def first (xs : Vec Ideal S8x128 .f32) : Vec Ideal S8x1 .f32 := fun i => xs (ix2 (i 0) 0)

theorem ld_first (xs : Vec Ideal S8x128 .f32) (inb) : View.ld (Val := Elt Ideal) (e' := .f32) xs (Rect.unit (s := S8x128) ![0, 0] S8x1.size inb) = first xs := by
  refine funext fun (i : S8x1.Idx) => ?_
  show xs _ = xs _
  congr 1; funext a; apply Fin.ext
  match a with
  | ⟨0, _⟩ => show 0 + 1 * (i 0).val = (i 0).val; omega
  | ⟨1, _⟩ => have : (i 1).val < 1 := (i 1).isLt; show 0 + 1 * (i 1).val = 0; omega

/-- Reading the first column of a scratch stored whole. -/
theorem readCov_first (a6 : Memref sig .tc .vmem S8x128 .f32) (xs : FVec Ideal S8x128 .f32) (inb : ∀ a, (![0, 0] : Fin 2 → Nat) a + S8x128.size a ≤ S8x128.size a) (inb' : ∀ a, (![0, 0] : Fin 2 → Nat) a + S8x1.size a ≤ S8x128.size a) :
    a6.view.readCov [(⟨Rect.unit (s := S8x128) ![0, 0] S8x128.size inb, xs⟩ : View.Piece (Elt Ideal) S8x128 .f32)] (Rect.unit (s := S8x128) ![0, 0] S8x1.size inb').toLoadRect = first xs := by
  refine (View.readCov_eq_canon' _ _ _).trans ?_
  rw [View.canon_unit_zero (S := S8x128) hz2]
  exact ld_first xs _

section
variable (c : Dev nD) (i : grid0.Coords) (a1 : Memref sig .tc .vmem S512x2048 .bf16) (h1 : a1.IsWhole) (a2 : Memref sig .tc .vmem S1x8x2048 .f32) (h2 : a2.IsWhole)
  (a3 : Memref sig .tc .vmem S8x1 .f32) (h3 : a3.IsWhole) (a4 : Memref sig .tc .vmem S512x512 .bf16) (h4 : a4.IsWhole) (a5 : Memref sig .tc .vmem S8x512 .f32) (h5 : a5.IsWhole)
  (a6 : Memref sig .tc .vmem S8x128 .f32) (h6 : a6.IsWhole)
  (x0 : Vec Ideal S512x2048 .bf16) (x1 : Vec Ideal S1x8x2048 .f32) (x2 : Vec Ideal S8x1 .f32) (x3 : Vec Ideal S512x512 .bf16) (xs : Vec Ideal S8x128 .f32)

/-- A later point's block: over the first column of what the point before left. -/
theorem out_B (hc : ¬cond0_0 i) : out0_B_4 (F := Ideal) c i a1 h1 a2 h2 a3 h3 a4 h4 a5 h5 a6 h6 hc x0 x1 x2 x3 xs = k0_pay3 x1 x0 x2 x3 (first xs) := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  rw [View.canon_cons_unit_zero (S := S8x512) hz2]
  simp only [View.readAt_eq_ld, h1.read_unread, h2.read_unread, h3.read_unread, h4.read_unread, h6.read_unread, View.ld_unit_zero (S := S512x2048) hz2,
    View.ld_unit_zero (S := S1x8x2048) hz3, View.ld_unit_zero (S := S8x1) hz2, View.ld_unit_zero (S := S512x512) hz2]
  exact congrArg (k0_pay3 x1 x0 x2 x3) (ld_first xs _)

/-- … and the scratch it leaves: the block's last column, repeated. -/
theorem scratch_B (hc : ¬cond0_0 i) : sout0_B_0 (F := Ideal) c i a1 h1 a2 h2 a3 h3 a4 h4 a5 h5 a6 h6 hc x0 x1 x2 x3 xs = k0_pay1 (k0_pay3 x1 x0 x2 x3 (first xs)) := by
  unfold sout0_B_0
  rw [View.read_writes_eq_canon _ _ _ (scover0_B_0 c i a1 h1 a2 h2 a3 h3 a4 h4 a5 h5 a6 h6 hc x0 x1 x2 x3 xs)]
  unfold kernelRun0_B
  dsimp only
  sl_unfold_words
  rw [View.canon_cons_unit_zero (S := S8x128) hz2]
  simp only [View.readAt_eq_ld, h1.read_unread, h2.read_unread, h3.read_unread, h4.read_unread, h6.read_unread, View.ld_unit_zero (S := S512x2048) hz2,
    View.ld_unit_zero (S := S1x8x2048) hz3, View.ld_unit_zero (S := S8x1) hz2, View.ld_unit_zero (S := S512x512) hz2]
  exact congrArg (fun z => k0_pay1 (k0_pay3 x1 x0 x2 x3 z)) (ld_first xs _)

/-- The first point's block: over zeros. -/
theorem out_A (hc : cond0_0 i) : out0_A_4 (F := Ideal) c i a1 h1 a2 h2 a3 h3 a4 h4 a5 h5 a6 h6 hc x0 x1 x2 x3 = k0_pay3 x1 x0 x2 x3 (first (k0_pay2 (F := Ideal))) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_cons_unit_zero (S := S8x512) hz2]
  rw [readCov_first]
  simp only [View.readAt_eq_ld, h1.read_unread, h2.read_unread, h3.read_unread, h4.read_unread, h6.read_unread, View.ld_unit_zero (S := S512x2048) hz2,
    View.ld_unit_zero (S := S1x8x2048) hz3, View.ld_unit_zero (S := S8x1) hz2, View.ld_unit_zero (S := S512x512) hz2]

/-- … and the scratch it leaves. -/
theorem scratch_A (hc : cond0_0 i) : sout0_A_0 (F := Ideal) c i a1 h1 a2 h2 a3 h3 a4 h4 a5 h5 a6 h6 hc x0 x1 x2 x3 = k0_pay1 (k0_pay3 x1 x0 x2 x3 (first (k0_pay2 (F := Ideal)))) := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_cons_unit_zero (S := S8x128) hz2]
  rw [readCov_first]
  simp only [View.readAt_eq_ld, h1.read_unread, h2.read_unread, h3.read_unread, h4.read_unread, h6.read_unread, View.ld_unit_zero (S := S512x2048) hz2,
    View.ld_unit_zero (S := S1x8x2048) hz3, View.ld_unit_zero (S := S8x1) hz2, View.ld_unit_zero (S := S512x512) hz2]
end

end Cert.Proof.Cumlog

end
-- ==== Proof.Cumlog.Kernel.lean ====
/- The cumulated forget gates: what the grid points leave, one after another, and the claims about the call. -/
module

public import proofs.«01_k».proof.Defs
public import proofs.«01_k».proof.Proof.Cumlog.Reference
public import proofs.«01_k».proof.Proof.Cumlog.Cases
public import Idealize.ShloMosaic.Lib.Quiescent

@[expose] public section

set_option maxRecDepth 16384

noncomputable section

namespace Cert.Proof.Cumlog

open Idealize.ShloMosaic Idealize.ShloMosaic.TcCoe Idealize.SL.Sem
open scoped BigOperators
open Cert.Kernel8Ideal Cert.Kernel8Ideal.Gen

/-- One entry of the product of a block, and its bias. -/
def local1 (x0 : Vec Ideal S512x2048 .bf16) (x1 : Vec Ideal S1x8x2048 .f32) (x2 : Vec Ideal S8x1 .f32) (p : Fin 8) (k : Fin 512) : EReal :=
  (∑ q : Fin 2048, (x1 (ix3 0 p q) : EReal) * x0 (ix2 k q)) + x2 (ix2 p 0)

/-- The stored block: three products with the triangle, and the carried column. -/
theorem pay_entry (x0 : Vec Ideal S512x2048 .bf16) (x1 : Vec Ideal S1x8x2048 .f32) (x2 : Vec Ideal S8x1 .f32) (x3 : Vec Ideal S512x512 .bf16) (v : Vec Ideal S8x1 .f32) (p : Fin 8) (j : Fin 512) :
    k0_pay3 (F := Ideal) x1 x0 x2 x3 v (ix2 p j)
      = (∑ k : Fin 512, logsig (local1 x0 x1 x2 p k) * x3 (ix2 k j)) + (∑ k : Fin 512, mid (logsig (local1 x0 x1 x2 p k)) * x3 (ix2 k j))
        + (∑ k : Fin 512, low (logsig (local1 x0 x1 x2 p k)) * x3 (ix2 k j)) + v (ix2 p 0) := by
  pointwise [k0_pay3, logsig, corr, mid, low, local1]
  simp only [zero_sub]
  rfl

/-- The scratch: the block's last column, repeated. -/
theorem last_entry (y : Vec Ideal S8x512 .f32) (p : Fin 8) (q : Fin 128) : k0_pay1 (F := Ideal) y (ix2 p q) = y (ix2 p 511) := by
  pointwise [k0_pay1]

theorem zero_entry (p : Fin 8) (q : Fin 128) : k0_pay2 (F := Ideal) (ix2 p q) = 0 := by
  pointwise [k0_pay2]

variable (m : (ℓ : Loc nD τ Cert.Kernel8Ideal.sig) → Buf (Elt Ideal) ℓ) (ρ : Dev nD → PrngReg) (c : Dev nD) (t : Fin cfg0.N)

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 3) = 0 ∧ win0_1.index t (1 : Fin 3) = 1152 ∧ win0_1.index t (2 : Fin 3) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = t.val := (by decide +kernel : ∀ t : Fin grid0.N, _)

/-- Row `r` of row block `t`. -/
def row (t : Fin cfg0.N) (r : Fin 512) : Fin 8192 := ⟨512 * t.val + r.val, by have : t.val < 16 := t.isLt; omega⟩

theorem V_v0 : V m c main_v0 = transpose S2x16392x2048 [0, 2, 1] (m ((c : Thread nD τ).loc main_arg1)) Facts₀.transposes_S2x2048x16392_S2x16392x2048_0_2_1 := rfl
theorem V_v9 : V m c main_v9 = shapeCast S8x1 (m ((c : Thread nD τ).loc main_arg2)) Facts₀.shapeCasts_S8_S8x1 := rfl

theorem turned (w : Vec Ideal S2x2048x16392 .f32) (l : Fin 2) (q : Fin 16392) (k : Fin 2048) :
    transpose S2x16392x2048 [0, 2, 1] w Facts₀.transposes_S2x2048x16392_S2x16392x2048_0_2_1 (ix3 l q k) = w (ix3 l k q) := by
  pointwise []

theorem column_entry (b : Vec Ideal S8 .f32) (p : Fin 8) : shapeCast S8x1 b Facts₀.shapeCasts_S8_S8x1 (ix2 p 0) = b (ix1 p) := by
  pointwise []

/-- The triangle the host prepares. -/
def tri : Vec Ideal S512x512 .bf16 :=
  uitofp (F := Ideal) .bf16 (cmpi .sle (broadcastInDim S512x512 ![0, 1] Facts₀.bcast_S512x1_S512x512_0_1 (broadcastInDim S512x1 ![0] Facts₀.bcast_S512_S512x1_0 (iotaInDim S512 32 0)))
    (broadcastInDim S512x512 ![0, 1] Facts₀.bcast_S1x512_S512x512_0_1 (broadcastInDim S1x512 ![1] Facts₀.bcast_S512_S1x512_1 (iotaInDim S512 32 0))))

theorem V_v8 : V m c main_v8 = tri := rfl

theorem tri_entry (k j : Fin 512) : tri (ix2 k j) = upto k.val j.val := by
  have h : IntOp.cmpi CmpIPredicate.sle (BitVec.ofNat 32 k.val) (BitVec.ofNat 32 j.val) = 1#1 ↔ k.val ≤ j.val := WordCmp.cmpi_sle_ofNat_eq_one_iff (by omega) (by omega)
  pointwise [tri, upto]
  show (((IntOp.cmpi CmpIPredicate.sle (BitVec.ofNat 32 k.val) (BitVec.ofNat 32 j.val)).toNat : ℝ) : EReal) = _
  by_cases hk : k.val ≤ j.val
  · rw [if_pos hk, h.2 hk]; simp
  · rw [if_neg hk, (BitVec.eq_zero_or_eq_one _).resolve_right (fun e => hk (h.1 e))]; simp

theorem blk0 (r : Fin 512) (k : Fin 2048) : iblk m c 0 t (ix2 r k) = m ((c : Thread nD τ).loc main_arg0) (ix2 (row t r) k) := by
  obtain ⟨e0, e1⟩ := at0 t
  show m ((c : Thread nD τ).loc main_arg0) (((cfg0.win 0).blk t).view.emb (ix2 r k)) = _
  congr 1; funext a; apply Fin.ext
  match a with
  | ⟨0, _⟩ => show win0_0.index t (0 : Fin 2) * 512 + 1 * r.val = 512 * t.val + r.val; omega
  | ⟨1, _⟩ => show win0_0.index t (1 : Fin 2) * 2048 + 1 * k.val = k.val; omega

theorem blk1 (p : Fin 8) (k : Fin 2048) : iblk m c 1 t (ix3 0 p k) = m ((c : Thread nD τ).loc main_arg1) (ix3 0 k ⟨9216 + p.val, by omega⟩) := by
  obtain ⟨e0, e1, e2⟩ := at1 t
  refine Eq.trans ?_ (turned (m ((c : Thread nD τ).loc main_arg1)) 0 ⟨9216 + p.val, by omega⟩ k)
  rw [← V_v0]
  show V m c main_v0 (((cfg0.win 1).blk t).view.emb (ix3 0 p k)) = _
  congr 1; funext a; apply Fin.ext
  match a with
  | ⟨0, _⟩ => show win0_1.index t (0 : Fin 3) * 1 + 1 * 0 = 0; omega
  | ⟨1, _⟩ => show win0_1.index t (1 : Fin 3) * 8 + 1 * p.val = 9216 + p.val; omega
  | ⟨2, _⟩ => show win0_1.index t (2 : Fin 3) * 2048 + 1 * k.val = k.val; omega

theorem blk2 (p : Fin 8) : iblk m c 2 t (ix2 p 0) = m ((c : Thread nD τ).loc main_arg2) (ix1 p) := by
  obtain ⟨e0, e1⟩ := at2 t
  refine Eq.trans ?_ (column_entry (m ((c : Thread nD τ).loc main_arg2)) p)
  rw [← V_v9]
  show V m c main_v9 (((cfg0.win 2).blk t).view.emb (ix2 p 0)) = _
  congr 1; funext a; apply Fin.ext
  match a with
  | ⟨0, _⟩ => show win0_2.index t (0 : Fin 2) * 8 + 1 * p.val = p.val; omega
  | ⟨1, _⟩ => show win0_2.index t (1 : Fin 2) * 1 + 1 * 0 = 0; omega

theorem blk3 (k j : Fin 512) : iblk m c 3 t (ix2 k j) = upto k.val j.val := by
  obtain ⟨e0, e1⟩ := at3 t
  rw [← tri_entry, ← V_v8 m c]
  show V m c main_v8 (((cfg0.win 3).blk t).view.emb (ix2 k j)) = _
  congr 1; funext a; apply Fin.ext
  match a with
  | ⟨0, _⟩ => show win0_3.index t (0 : Fin 2) * 512 + 1 * k.val = k.val; omega
  | ⟨1, _⟩ => show win0_3.index t (1 : Fin 2) * 512 + 1 * j.val = j.val; omega

theorem emb4 (p : Fin 8) (j : Fin 512) : ((cfg0.win 4).blk t).view.emb (ix2 p j) = ix2 p (row t j) := by
  obtain ⟨e0, e1⟩ := at4 t
  funext a; apply Fin.ext
  match a with
  | ⟨0, _⟩ => show win0_4.index t (0 : Fin 2) * 8 + 1 * p.val = p.val; omega
  | ⟨1, _⟩ => show win0_4.index t (1 : Fin 2) * 512 + 1 * j.val = 512 * t.val + j.val; omega

/-- The logarithms of head `p`'s gates, from the call's own arguments. -/
def logs (p : Fin 8) : Nat → EReal :=
  seq (m ((c : Thread nD τ).loc main_arg0)) (m ((c : Thread nD τ).loc main_arg1)) (m ((c : Thread nD τ).loc main_arg2)) p

theorem local_eq (p : Fin 8) (k : Fin 512) : logsig (local1 (iblk m c 0 t) (iblk m c 1 t) (iblk m c 2 t) p k) = logs m c p (512 * t.val + k.val) := by
  have hs : 512 * t.val + k.val < 8192 := (row t k).isLt
  unfold logs seq local1 gate
  rw [dif_pos hs, blk2]
  refine congrArg (fun x => logsig (x + m ((c : Thread nD τ).loc main_arg2) (ix1 p))) (Finset.sum_congr rfl fun q _ => ?_)
  rw [blk0, blk1]
  exact mul_comm _ _

theorem logs_ne_top (p : Fin 8) (s : Nat) : logs m c p s ≠ ⊤ := by
  unfold logs seq
  split
  · exact logsig_ne_top _
  · exact EReal.zero_ne_top

/-- One point's block, if the column it adds is the sum of all rows before it. -/
theorem step (v : Vec Ideal S8x1 .f32) (p : Fin 8) (hv : v (ix2 p 0) = run (logs m c p) (512 * t.val)) (j : Fin 512) :
    k0_pay3 (F := Ideal) (iblk m c 1 t) (iblk m c 0 t) (iblk m c 2 t) (iblk m c 3 t) v (ix2 p j) = run (logs m c p) (512 * t.val + j.val + 1) := by
  refine (pay_entry _ _ _ _ v p j).trans ?_
  simp only [local_eq, blk3]
  rw [three_sums (fun k : Fin 512 => logs m c p (512 * t.val + k.val)) (fun k => logs_ne_top m c p _) j.val,
    masked_run (fun s => logs m c p (512 * t.val + s)) 512 j.val j.isLt, hv, run_add, Nat.add_assoc]

theorem first_entry (xs : Vec Ideal S8x128 .f32) (p : Fin 8) : first xs (ix2 p 0) = xs (ix2 p 0) := rfl

/-- What every point leaves: its block of running sums, and in the scratch the sum of all rows so far. -/
theorem left_by : ∀ (n : Nat) (hn : n < cfg0.N),
    (∀ (p : Fin 8) (j : Fin 512), (outsAt0 m c n hn).1 (ix2 p j) = run (logs m c p) (512 * n + j.val + 1))
      ∧ ∀ (p : Fin 8) (q : Fin 128), (outsAt0 m c n hn).2 (ix2 p q) = run (logs m c p) (512 * (n + 1))
  | 0, hn => by
    have hv : ∀ p : Fin 8, first (k0_pay2 (F := Ideal)) (ix2 p 0) = run (logs m c p) (512 * (⟨0, hn⟩ : Fin cfg0.N).val) := fun p => (zero_entry p 0).trans (by simp [run])
    rw [outsAt0_A m c ⟨0, hn⟩ rfl]
    dsimp only
    rw [out_A, scratch_A]
    refine ⟨fun p j => step m c ⟨0, hn⟩ _ p (hv p) j, fun p q => ?_⟩
    exact (last_entry _ p q).trans (step m c ⟨0, hn⟩ _ p (hv p) 511)
  | n + 1, hn => by
    have ih := (left_by n (by omega)).2
    have hN : n + 1 < 16 := hn
    have hv : ∀ p : Fin 8, first (outsAt0 m c n (by omega)).2 (ix2 p 0) = run (logs m c p) (512 * (⟨n + 1, hn⟩ : Fin cfg0.N).val) := fun p => ih p 0
    rw [outsAt0_B m c ⟨n + 1, hn⟩ (by show ¬ (n + 1) % 16 = 0; omega)]
    dsimp only
    rw [out_B, scratch_B]
    refine ⟨fun p j => step m c ⟨n + 1, hn⟩ _ p (hv p) j, fun p q => ?_⟩
    exact (last_entry _ p q).trans (step m c ⟨n + 1, hn⟩ _ p (hv p) 511)

/-- The result array. -/
def resArr : Vec Ideal ⟨2, ![8, 8192]⟩ .f32 := fun i => run (logs m c (i 0)) ((i 1).val + 1)

theorem flushed_eq : (dats m 0 c).flushed 4 t = ((cfg0.win 4).blk t).view.read (Elt Ideal) (resArr m c) := by
  rw [Value.flushed4]
  refine funext fun (i : S8x512.Idx) => ?_
  obtain ⟨p, j, rfl⟩ : ∃ (p : Fin 8) (j : Fin 512), i = ix2 p j := ⟨i 0, i 1, by funext a; match a with | ⟨0, _⟩ => rfl | ⟨1, _⟩ => rfl⟩
  show (outsAt0 m c t.val t.isLt).1 (ix2 p j) = resArr m c (((cfg0.win 4).blk t).view.emb (ix2 p j))
  rw [emb4]
  exact (left_by m c t.val t.isLt).1 p j

theorem covered (i : S8x8192.Idx) : ∃ t : Fin cfg0.N, (cfg0.win 4).flush t = true ∧ i ∈ ((cfg0.win 4).blk t).view.set := by
  have h1 : (i 1).val < 8192 := (i 1).isLt
  let t : Fin cfg0.N := ⟨(i 1).val / 512, by show _ < 16; omega⟩
  refine ⟨t, flush0_4 t, ?_⟩
  have e : ((cfg0.win 4).blk t).view.emb (ix2 (i 0 : Fin 8) (⟨(i 1).val % 512, by omega⟩ : Fin 512)) = i := by
    refine (emb4 t _ _).trans ?_
    funext a; apply Fin.ext
    match a with
    | ⟨0, _⟩ => rfl
    | ⟨1, _⟩ => show 512 * ((i 1).val / 512) + (i 1).val % 512 = (i 1).val; omega
  rw [← e]
  exact ((cfg0.win 4).blk t).view.emb_mem_set _

theorem final : (dats m 0 c).arrAt 4 cfg0.N = resArr m c :=
  (dats m 0 c).arrAt_eq_of_cover 4 (resArr m c) (fun t _ => flushed_eq m c t) covered

instance kernelFacts : Cert.Kernel8Ideal.Facts := Cert.Kernel8Ideal.Gen.facts
instance referenceFacts : Cert.Reference8Ideal.Facts := Cert.Reference8Ideal.Gen.facts

/-- The reference ends, its arguments unchanged; it has no semaphores. -/
theorem reference_frame : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem algebraic : Cert.algebraic_Kernel8Ideal_Reference8Ideal := by
  intro m g m' g' _ hm
  refine ⟨fun c => resArr m c, ?_, ?_⟩
  · refine (θ_run _ _ _).mono (fun r h c => ?_) (Cert.Kernel8Ideal.Value.run_blocks m g)
    exact ⟨(h c).1.trans (final m c), (h c).2⟩
  · refine (θ_run _ _ _).mono (fun r h c => ?_) (Cert.Reference8Ideal.Value.run (F := Ideal) m' g')
    obtain ⟨e0, e1, e2⟩ := hm c
    refine ⟨(h c).1.trans ((Cert.Reference8Ideal.Read.val_main_v9_eq _ _ _).trans ?_), (h c).2⟩
    rw [e0, e1, e2]
    refine funext fun (i : S8x8192.Idx) => ?_
    obtain ⟨p, r, rfl⟩ : ∃ (p : Fin 8) (r : Fin 8192), i = ix2 p r := ⟨i 0, i 1, by funext a; match a with | ⟨0, _⟩ => rfl | ⟨1, _⟩ => rfl⟩
    exact reference_entry _ _ _ p r

end Cert.Proof.Cumlog

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel8
public import proofs.«01_k».proof.Proof.Gen.Kernel8.Skeleton
public import proofs.«01_k».proof.Proof.Gen.Kernel8.Launch
public import proofs.«01_k».proof.Proof.Gen.Kernel8.Value
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Att.LaunchKernel
public import proofs.«01_k».proof.Proof.Att.LaunchKernelIdeal
public import proofs.«01_k».proof.Proof.Att.Claim
public import proofs.«01_k».proof.Proof.Att.Algebraic
public import proofs.«01_k».proof.Proof.Gen.Pre_finite_logits
public import proofs.«01_k».proof.Proof.Merge.Claim
public import proofs.«01_k».proof.Proof.InProj.Gates
public import proofs.«01_k».proof.Proof.InProj.Streams
public import proofs.«01_k».proof.Proof.InProj.Qkv
public import proofs.«01_k».proof.Proof.Rows.Glu
public import proofs.«01_k».proof.Proof.Rows.Norm
public import proofs.«01_k».proof.Proof.Cumlog.Kernel
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite_logits.Gen.facts,
  fun m ρ _ => Cert.Proof.Att.Kernel.frame_all m ρ, fun m ρ _ => Cert.Proof.Att.KernelIdeal.frame_all m ρ,
  fun m ρ _ => Cert.Proof.Att.KernelIdeal.frame_all m ρ, Cert.Proof.Att.reference_frame, fun m ρ _ => Cert.Proof.Att.reference_frame m ρ trivial,
  fun m ρ _ => Cert.Kernel2.Gen.frame m ρ, fun m ρ _ => Cert.Kernel2Ideal.Gen.frame m ρ, Cert.Proof.Merge.reference_frame,
  Cert.Proof.InProj.gates_frame, Cert.Proof.InProj.gates_ideal_frame, Cert.Proof.InProj.gates_reference_frame,
  Cert.Proof.InProj.streams_frame, Cert.Proof.InProj.streams_ideal_frame, Cert.Proof.InProj.streams_reference_frame,
  Cert.Proof.InProj.qkv_frame, Cert.Proof.InProj.qkv_ideal_frame, Cert.Proof.InProj.qkv_reference_frame,
  fun m ρ _ => Cert.Kernel6.Gen.frame m ρ, fun m ρ _ => Cert.Kernel6Ideal.Gen.frame m ρ, Cert.Proof.Glu.reference_frame,
  fun m ρ _ => Cert.Kernel7.Gen.frame m ρ, fun m ρ _ => Cert.Kernel7Ideal.Gen.frame m ρ, Cert.Proof.Norm.reference_frame,
  fun m ρ _ => Cert.Kernel8.Gen.frame m ρ, fun m ρ _ => Cert.Kernel8Ideal.Gen.frame m ρ, Cert.Proof.Cumlog.reference_frame,
  Cert.Proof.Att.preserves, Cert.Proof.Att.algebraic, trivial, Cert.Proof.Merge.algebraic,
  trivial, Cert.Proof.InProj.gates_algebraic, trivial, Cert.Proof.InProj.streams_algebraic,
  Cert.Proof.InProj.qkv_preserves, Cert.Proof.InProj.qkv_algebraic,
  trivial, Cert.Proof.Glu.algebraic, trivial, Cert.Proof.Norm.algebraic, trivial, Cert.Proof.Cumlog.algebraic⟩

end Cert.Proof

end
